-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v5)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v5) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v23) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Kernel_KernelIdeal : Prop :=
  IdealRules.named_const.Statement Cert.KernelIdeal.κ "neg_log2e" .f32 0xBFB8AA3B#32 ((-((Real.log 2)⁻¹) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)) (v2 : (c : Dev Cert.KernelIdeal.nD) → Buf (Elt Ideal) ((c.tc : Thread Cert.KernelIdeal.nD Cert.KernelIdeal.τ).loc Cert.KernelIdeal.main_v25_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_v25_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v215) = v0 c
          ∧ r.2.mem ((c.tc : Thread Cert.ReferenceIdeal.nD Cert.ReferenceIdeal.τ).loc Cert.ReferenceIdeal.main_v217) = v1 c
          ∧ r.2.mem ((c.tc : Thread Cert.ReferenceIdeal.nD Cert.ReferenceIdeal.τ).loc Cert.ReferenceIdeal.main_v219) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hMlp : Cert.Mlp.Facts) (hMlpIdeal : Cert.MlpIdeal.Facts) (hMlpRefIdeal : Cert.MlpRefIdeal.Facts) (hKernel : Cert.Kernel.Facts) (hKernelIdeal : Cert.KernelIdeal.Facts) (hReferenceIdeal : Cert.ReferenceIdeal.Facts) (hPre_finite : Cert.Pre_finite.Facts),
    quiescent_Mlp (hMlp := hMlp)
    ∧ quiescent_MlpIdeal (hMlpIdeal := hMlpIdeal)
    ∧ quiescent_MlpRefIdeal (hMlpRefIdeal := hMlpRefIdeal)
    ∧ quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Mlp_MlpIdeal
    ∧ algebraic_MlpIdeal_MlpRefIdeal (hMlpIdeal := hMlpIdeal) (hMlpRefIdeal := hMlpRefIdeal)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x2048x2048 : Shape := ⟨3, ![4, 2048, 2048]⟩
abbrev S4x2048x1024 : Shape := ⟨3, ![4, 2048, 1024]⟩
abbrev S4x2048x16 : Shape := ⟨3, ![4, 2048, 16]⟩
abbrev S1x4x2048 : Shape := ⟨3, ![1, 4, 2048]⟩
abbrev S1x2048 : Shape := ⟨2, ![1, 2048]⟩
abbrev S1x16 : Shape := ⟨2, ![1, 16]⟩
abbrev S1x1024 : Shape := ⟨2, ![1, 1024]⟩
abbrev S1x2048x2048 : Shape := ⟨3, ![1, 2048, 2048]⟩
abbrev S1x8192x2048 : Shape := ⟨3, ![1, 8192, 2048]⟩
abbrev S_ : Shape := ⟨0, ![]⟩

class Facts : Prop where
  bitsLt_bf16_f32 : FTy.bits .bf16 < FTy.bits .f32
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x2048x2048 : S_.BroadcastsInDim S4x2048x2048 (![] : Fin 0 → Fin S4x2048x2048.rank)
  reducesTo_S4x2048x2048_S_d0_1_2 : S4x2048x2048.ReducesTo [0, 1, 2] S_
  bcast_S_S4x2048x16 : S_.BroadcastsInDim S4x2048x16 (![] : Fin 0 → Fin S4x2048x16.rank)
  reducesTo_S4x2048x16_S_d0_1_2 : S4x2048x16.ReducesTo [0, 1, 2] S_
  bcast_S_S1x4x2048 : S_.BroadcastsInDim S1x4x2048 (![] : Fin 0 → Fin S1x4x2048.rank)
  reducesTo_S1x4x2048_S_d0_1_2 : S1x4x2048.ReducesTo [0, 1, 2] S_
  bcast_S_S1x2048 : S_.BroadcastsInDim S1x2048 (![] : Fin 0 → Fin S1x2048.rank)
  reducesTo_S1x2048_S_d0_1 : S1x2048.ReducesTo [0, 1] S_
  bcast_S_S1x16 : S_.BroadcastsInDim S1x16 (![] : Fin 0 → Fin S1x16.rank)
  reducesTo_S1x16_S_d0_1 : S1x16.ReducesTo [0, 1] S_

variable [Facts]

def fn_part2 {F : FTy → Type} [FloatOps F] (main_v30 : IVec S_ 1) (main_v33 : IVec S1x16 1) (main_c_11 : IVec S_ 1) : IVec S_ 1 :=
  let main_v34 : IVec S_ 1 := (fun x v => Host.reduce IntOp.andi x v reducesTo_S1x16_S_d0_1 h_S_) main_v33 main_c_11
  let main_v35 : IVec S_ 1 := andi main_v30 main_v34
  main_v35

def fn_part1 {F : FTy → Type} [FloatOps F] (main_arg5 : FVec F S1x2048 .f32) (main_arg6 : FVec F S1x16 .f32) (main_arg7 : FVec F S1x16 .f32) (main_v15 : IVec S_ 1) (main_v16 : FVec F S1x4x2048 .f32) (main_cst_4 : FVec F S_ .f32) : IVec S_ 1 :=
  let main_v17 : FVec F S1x4x2048 .f32 := broadcastInDim S1x4x2048 ![] bcast_S_S1x4x2048 main_cst_4
  let main_v18 : IVec S1x4x2048 1 := cmpf .olt main_v16 main_v17
  let main_c_5 : IVec S_ 1 := constantI S_ 1 1#1
  let main_v19 : IVec S_ 1 := (fun x v => Host.reduce IntOp.andi x v reducesTo_S1x4x2048_S_d0_1_2 h_S_) main_v18 main_c_5
  let main_v20 : IVec S_ 1 := andi main_v15 main_v19
  let main_v21 : FVec F S1x2048 .f32 := Host.absf main_arg5
  let main_cst_6 : FVec F S_ .f32 := constant S_ .f32 0x7F800000#32
  let main_v22 : FVec F S1x2048 .f32 := broadcastInDim S1x2048 ![] bcast_S_S1x2048 main_cst_6
  let main_v23 : IVec S1x2048 1 := cmpf .olt main_v21 main_v22
  let main_c_7 : IVec S_ 1 := constantI S_ 1 1#1
  let main_v24 : IVec S_ 1 := (fun x v => Host.reduce IntOp.andi x v reducesTo_S1x2048_S_d0_1 h_S_) main_v23 main_c_7
  let main_v25 : IVec S_ 1 := andi main_v20 main_v24
  let main_v26 : FVec F S1x16 .f32 := Host.absf main_arg6
  let main_cst_8 : FVec F S_ .f32 := constant S_ .f32 0x7F800000#32
  let main_v27 : FVec F S1x16 .f32 := broadcastInDim S1x16 ![] bcast_S_S1x16 main_cst_8
  let main_v28 : IVec S1x16 1 := cmpf .olt main_v26 main_v27
  let main_c_9 : IVec S_ 1 := constantI S_ 1 1#1
  let main_v29 : IVec S_ 1 := (fun x v => Host.reduce IntOp.andi x v reducesTo_S1x16_S_d0_1 h_S_) main_v28 main_c_9
  let main_v30 : IVec S_ 1 := andi main_v25 main_v29
  let main_v31 : FVec F S1x16 .f32 := Host.absf main_arg7
  let main_cst_10 : FVec F S_ .f32 := constant S_ .f32 0x7F800000#32
  let main_v32 : FVec F S1x16 .f32 := broadcastInDim S1x16 ![] bcast_S_S1x16 main_cst_10
  let main_v33 : IVec S1x16 1 := cmpf .olt main_v31 main_v32
  let main_c_11 : IVec S_ 1 := constantI S_ 1 1#1
  fn_part2 (F := F) main_v30 main_v33 main_c_11

def fn {F : FTy → Type} [FloatOps F] (main_arg0 : FVec F S4x2048x2048 .f32) (main_arg1 : FVec F S4x2048x1024 .bf16) (main_arg2 : FVec F S4x2048x2048 .bf16) (main_arg3 : FVec F S4x2048x16 .f32) (main_arg4 : FVec F S1x4x2048 .f32) (main_arg5 : FVec F S1x2048 .f32) (main_arg6 : FVec F S1x16 .f32) (main_arg7 : FVec F S1x16 .f32) (main_arg8 : FVec F S1x16 .f32) (main_arg9 : FVec F S1x1024 .f32) (main_arg10 : FVec F S4x2048x1024 .bf16) (main_arg11 : FVec F S1x2048x2048 .bf16) (main_arg12 : FVec F S1x2048 .f32) (main_arg13 : FVec F S1x8192x2048 .f32) : IVec S_ 1 :=
  let main_v0 : FVec F S4x2048x1024 .f32 := (extf .f32 · bitsLt_bf16_f32) main_arg1
  let main_v1 : FVec F S4x2048x1024 .f32 := Host.absf main_v0
  let main_cst : FVec F S_ .f32 := constant S_ .f32 0x7F800000#32
  let main_v2 : FVec F S4x2048x1024 .f32 := broadcastInDim S4x2048x1024 ![] bcast_S_S4x2048x1024 main_cst
  let main_v3 : IVec S4x2048x1024 1 := cmpf .olt main_v1 main_v2
  let main_c : IVec S_ 1 := constantI S_ 1 1#1
  let main_v4 : IVec S_ 1 := (fun x v => Host.reduce IntOp.andi x v reducesTo_S4x2048x1024_S_d0_1_2 h_S_) main_v3 main_c
  let main_v5 : FVec F S4x2048x2048 .f32 := (extf .f32 · bitsLt_bf16_f32) main_arg2
  let main_v6 : FVec F S4x2048x2048 .f32 := Host.absf main_v5
  let main_cst_0 : FVec F S_ .f32 := constant S_ .f32 0x7F800000#32
  let main_v7 : FVec F S4x2048x2048 .f32 := broadcastInDim S4x2048x2048 ![] bcast_S_S4x2048x2048 main_cst_0
  let main_v8 : IVec S4x2048x2048 1 := cmpf .olt main_v6 main_v7
  let main_c_1 : IVec S_ 1 := constantI S_ 1 1#1
  let main_v9 : IVec S_ 1 := (fun x v => Host.reduce IntOp.andi x v reducesTo_S4x2048x2048_S_d0_1_2 h_S_) main_v8 main_c_1
  let main_v10 : IVec S_ 1 := andi main_v4 main_v9
  let main_v11 : FVec F S4x2048x16 .f32 := Host.absf main_arg3
  let main_cst_2 : FVec F S_ .f32 := constant S_ .f32 0x7F800000#32
  let main_v12 : FVec F S4x2048x16 .f32 := broadcastInDim S4x2048x16 ![] bcast_S_S4x2048x16 main_cst_2
  let main_v13 : IVec S4x2048x16 1 := cmpf .olt main_v11 main_v12
  let main_c_3 : IVec S_ 1 := constantI S_ 1 1#1
  let main_v14 : IVec S_ 1 := (fun x v => Host.reduce IntOp.andi x v reducesTo_S4x2048x16_S_d0_1_2 h_S_) main_v13 main_c_3
  let main_v15 : IVec S_ 1 := andi main_v10 main_v14
  let main_v16 : FVec F S1x4x2048 .f32 := Host.absf main_arg4
  let main_cst_4 : FVec F S_ .f32 := constant S_ .f32 0x7F800000#32
  fn_part1 (F := F) main_arg5 main_arg6 main_arg7 main_v15 main_v16 main_cst_4
-- ==== Mlp.lean ====
abbrev S4x2048x2048 : Shape := ⟨3, ![4, 2048, 2048]⟩
abbrev S1x2048x8192 : Shape := ⟨3, ![1, 2048, 8192]⟩
abbrev S1x8192x2048 : Shape := ⟨3, ![1, 8192, 2048]⟩
abbrev S2048 : Shape := ⟨1, ![2048]⟩
abbrev S8192x2048 : Shape := ⟨2, ![8192, 2048]⟩
abbrev S2048x8192 : Shape := ⟨2, ![2048, 8192]⟩
abbrev S1x2048 : Shape := ⟨2, ![1, 2048]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .bf16⟩
  | .hbm, ⟨2, _⟩ => ⟨S1x2048x8192, .bf16⟩
  | .hbm, ⟨3, _⟩ => ⟨S1x8192x2048, .bf16⟩
  | .hbm, ⟨4, _⟩ => ⟨S2048, .f32⟩
  | .hbm, ⟨5, _⟩ => ⟨S8192x2048, .f32⟩
  | .hbm, ⟨6, _⟩ => ⟨S8192x2048, .bf16⟩
  | .hbm, ⟨7, _⟩ => ⟨S2048x8192, .bf16⟩
  | .hbm, ⟨8, _⟩ => ⟨S8192x2048, .bf16⟩
  | .hbm, ⟨9, _⟩ => ⟨S1x2048, .f32⟩
  | .hbm, ⟨10, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S2048x2048, .bf16⟩
  | .local _ .vmem, ⟨6, _⟩ => ⟨S2048x2048, .bf16⟩
  | .local _ .vmem, ⟨7, _⟩ => ⟨S2048x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c3_i32 : BitVec 32 := 3#32
  let v4 : BitVec 1 := Scalar.cmpi .slt arg1 c3_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c3_i32_3 : BitVec 32 := 3#32
  let v8 : BitVec 1 := Scalar.cmpi .eq arg1 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpRefIdeal.lean ====
abbrev S4x2048x2048 : Shape := ⟨3, ![4, 2048, 2048]⟩
abbrev S1x2048x8192 : Shape := ⟨3, ![1, 2048, 8192]⟩
abbrev S1x8192x2048 : Shape := ⟨3, ![1, 8192, 2048]⟩
abbrev S2048 : Shape := ⟨1, ![2048]⟩
abbrev S2048x8192 : Shape := ⟨2, ![2048, 8192]⟩
abbrev S4x2048x8192 : Shape := ⟨3, ![4, 2048, 8192]⟩
abbrev S_ : Shape := ⟨0, ![]⟩
abbrev S8192x2048 : Shape := ⟨2, ![8192, 2048]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .bf16⟩
  | .hbm, ⟨2, _⟩ => ⟨S1x2048x8192, .bf16⟩
  | .hbm, ⟨3, _⟩ => ⟨S1x8192x2048, .bf16⟩
  | .hbm, ⟨4, _⟩ => ⟨S2048, .f32⟩
  | .hbm, ⟨5, _⟩ => ⟨S4x2048x2048, .f32⟩
  | .hbm, ⟨6, _⟩ => ⟨S2048x8192, .bf16⟩
  | .hbm, ⟨7, _⟩ => ⟨S2048x8192, .f32⟩
  | .hbm, ⟨8, _⟩ => ⟨S4x2048x8192, .f32⟩
  | .hbm, ⟨9, _⟩ => ⟨S_, .f32⟩
  | .hbm, ⟨10, _⟩ => ⟨S4x2048x8192, .f32⟩
  | .hbm, ⟨11, _⟩ => ⟨S4x2048x8192, .f32⟩
  | .hbm, ⟨12, _⟩ => ⟨S4x2048x8192, .f32⟩
  | .hbm, ⟨13, _⟩ => ⟨S8192x2048, .bf16⟩
  | .hbm, ⟨14, _⟩ => ⟨S8192x2048, .f32⟩
  | .hbm, ⟨15, _⟩ => ⟨S4x2048x2048, .f32⟩
  | .hbm, ⟨16, _⟩ => ⟨S4x2048x2048, .f32⟩
  | .hbm, ⟨17, _⟩ => ⟨S4x2048x2048, .f32⟩
  | .hbm, ⟨18, _⟩ => ⟨S_, .f32⟩
  | .hbm, ⟨19, _⟩ => ⟨S4x2048, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x1, .f32⟩
  | .hbm, ⟨28, _⟩ => ⟨S4x2048x2048, .f32⟩
  | .hbm, ⟨29, _⟩ => ⟨S4x2048x2048, .f32⟩
  | .hbm, ⟨30, _⟩ => ⟨S1x1x2048, .f32⟩
  | .hbm, ⟨31, _⟩ => ⟨S4x2048x2048, .f32⟩
  | .hbm, ⟨32, _⟩ => ⟨S4x2048x2048, .f32⟩
  | .hbm, ⟨33, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Kernel.lean ====
abbrev S4x2048x2048 : Shape := ⟨3, ![4, 2048, 2048]⟩
abbrev S4x2048x1024 : Shape := ⟨3, ![4, 2048, 1024]⟩
abbrev S4x2048x16 : Shape := ⟨3, ![4, 2048, 16]⟩
abbrev S1x4x2048 : Shape := ⟨3, ![1, 4, 2048]⟩
abbrev S1x2048 : Shape := ⟨2, ![1, 2048]⟩
abbrev S1x16 : Shape := ⟨2, ![1, 16]⟩
abbrev S1x1024 : Shape := ⟨2, ![1, 1024]⟩
abbrev S1x2048x2048 : Shape := ⟨3, ![1, 2048, 2048]⟩
abbrev S1x8192x2048 : Shape := ⟨3, ![1, 8192, 2048]⟩
abbrev S8192x2048 : Shape := ⟨2, ![8192, 2048]⟩
abbrev S8192x16 : Shape := ⟨2, ![8192, 16]⟩
abbrev S_ : Shape := ⟨0, ![]⟩
abbrev S8192x128 : Shape := ⟨2, ![8192, 128]⟩
abbrev S8192x1024 : Shape := ⟨2, ![8192, 1024]⟩
abbrev S4x2048 : Shape := ⟨2, ![4, 2048]⟩
abbrev S2048 : Shape := ⟨1, ![2048]⟩
abbrev S16 : Shape := ⟨1, ![16]⟩
abbrev S1x128 : Shape := ⟨2, ![1, 128]⟩
abbrev S16x64 : Shape := ⟨2, ![16, 64]⟩
abbrev S1024 : Shape := ⟨1, ![1024]⟩
abbrev S2048x2048 : Shape := ⟨2, ![2048, 2048]⟩
abbrev S256x2048 : Shape := ⟨2, ![256, 2048]⟩
abbrev S256x1024 : Shape := ⟨2, ![256, 1024]⟩
abbrev S256x128 : Shape := ⟨2, ![256, 128]⟩
abbrev S136x2048 : Shape := ⟨2, ![136, 2048]⟩
abbrev S128x1024 : Shape := ⟨2, ![128, 1024]⟩
abbrev S8x2048 : Shape := ⟨2, ![8, 2048]⟩
abbrev S128x2048 : Shape := ⟨2, ![128, 2048]⟩
abbrev S128x128 : Shape := ⟨2, ![128, 128]⟩
abbrev S128x256 : Shape := ⟨2, ![128, 256]⟩
abbrev S1x256 : Shape := ⟨2, ![1, 256]⟩
abbrev S128x1 : Shape := ⟨2, ![128, 1]⟩
abbrev S128 : Shape := ⟨1, ![128]⟩
abbrev S256x256 : Shape := ⟨2, ![256, 256]⟩
abbrev S2048x256 : Shape := ⟨2, ![2048, 256]⟩
abbrev S256 : Shape := ⟨1, ![256]⟩
abbrev S256x1 : Shape := ⟨2, ![256, 1]⟩

abbrev nBuf : Space → Nat
  | .hbm => 48
  | .vmem => 30
  | .smem => 0
  | _ => 0

abbrev bufTy : (tb : Table) → Fin (tcTables nBuf tb) → BufTy
  | .hbm, ⟨0, _⟩ => ⟨S4x2048x2048, .f32⟩
  | .hbm, ⟨1, _⟩ => ⟨S4x2048x1024, .bf16⟩
  | .hbm, ⟨2, _⟩ => ⟨S4x2048x2048, .bf16⟩
  | .hbm, ⟨3, _⟩ => ⟨S4x2048x16, .f32⟩
  | .hbm, ⟨4, _⟩ => ⟨S1x4x2048, .f32⟩
  | .hbm, ⟨5, _⟩ => ⟨S1x2048, .f32⟩
  | .hbm, ⟨6, _⟩ => ⟨S1x16, .f32⟩
  | .hbm, ⟨7, _⟩ => ⟨S1x16, .f32⟩
  | .hbm, ⟨8, _⟩ => ⟨S1x16, .f32⟩
  | .hbm, ⟨9, _⟩ => ⟨S1x1024, .f32⟩
  | .hbm, ⟨10, _⟩ => ⟨S4x2048x1024, .bf16⟩
  | .hbm, ⟨11, _⟩ => ⟨S1x2048x2048, .bf16⟩
  | .hbm, ⟨12, _⟩ => ⟨S1x2048, .f32⟩
  | .hbm, ⟨13, _⟩ => ⟨S1x8192x2048, .f32⟩
  | .hbm, ⟨14, _⟩ => ⟨S8192x2048, .f32⟩
  | .hbm, ⟨15, _⟩ => ⟨S8192x16, .f32⟩
  | .hbm, ⟨16, _⟩ => ⟨S_, .i32⟩
  | .hbm, ⟨17, _⟩ => ⟨S_, .f32⟩
  | .hbm, ⟨18, _⟩ => ⟨S8192x128, .f32⟩
  | .hbm, ⟨19, _⟩ => ⟨S8192x2048, .bf16⟩
  | .hbm, ⟨20, _⟩ => ⟨S8192x1024, .bf16⟩
  | .hbm, ⟨21, _⟩ => ⟨S8192x1024, .bf16⟩
  | .hbm, ⟨22, _⟩ => ⟨S4x2048, .f32⟩
  | .hbm, ⟨23, _⟩ => ⟨S2048, .f32⟩
  | .hbm, ⟨24, _⟩ => ⟨S1x2048, .f32⟩
  | .hbm, ⟨25, _⟩ => ⟨S16, .f32⟩
  | .hbm, ⟨26, _⟩ => ⟨S1x16, .f32⟩
  | .hbm, ⟨27, _⟩ => ⟨S_, .i32⟩
  | .hbm, ⟨28, _⟩ => ⟨S_, .f32⟩
  | .hbm, ⟨29, _⟩ => ⟨S1x128, .f32⟩
  | .hbm, ⟨30, _⟩ => ⟨S16, .f32⟩
  | .hbm, ⟨31, _⟩ => ⟨S1x16, .f32⟩
  | .hbm, ⟨32, _⟩ => ⟨S_, .i32⟩
  | .hbm, ⟨33, _⟩ => ⟨S_, .f32⟩
  | .hbm, ⟨34, _⟩ => ⟨S1x128, .f32⟩
  | .hbm, ⟨35, _⟩ => ⟨S16, .f32⟩
  | .hbm, ⟨36, _⟩ => ⟨S16x64, .f32⟩
  | .hbm, ⟨37, _⟩ => ⟨S1024, .f32⟩
  | .hbm, ⟨38, _⟩ => ⟨S1x1024, .f32⟩
  | .hbm, ⟨39, _⟩ => ⟨S1024, .f32⟩
  | .hbm, ⟨40, _⟩ => ⟨S1x1024, .f32⟩
  | .hbm, ⟨41, _⟩ => ⟨S2048x2048, .bf16⟩
  | .hbm, ⟨42, _⟩ => ⟨S2048, .f32⟩
  | .hbm, ⟨43, _⟩ => ⟨S1x2048, .f32⟩
  | .hbm, ⟨44, _⟩ => ⟨S8192x2048, .f32⟩
  | .hbm, ⟨45, _⟩ => ⟨S8192x2048, .f32⟩
  | .hbm, ⟨46, _⟩ => ⟨S8192x2048, .bf16⟩
  | .hbm, ⟨47, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S256x1024, .bf16⟩
  | .local _ .vmem, ⟨3, _⟩ => ⟨S256x1024, .bf16⟩
  | .local _ .vmem, ⟨4, _⟩ => ⟨S256x128, .f32⟩
  | .local _ .vmem, ⟨5, _⟩ => ⟨S256x128, .f32⟩
  | .local _ .vmem, ⟨6, _⟩ => ⟨S4x2048, .f32⟩
  | .local _ .vmem, ⟨7, _⟩ => ⟨S1x2048, .f32⟩
  | .local _ .vmem, ⟨8, _⟩ => ⟨S1x128, .f32⟩
  | .local _ .vmem, ⟨9, _⟩ => ⟨S1x128, .f32⟩
  | .local _ .vmem, ⟨10, _⟩ => ⟨S1x1024, .f32⟩
  | .local _ .vmem, ⟨11, _⟩ => ⟨S1x1024, .f32⟩
  | .local _ .vmem, ⟨12, _⟩ => ⟨S256x2048, .f32⟩
  | .local _ .vmem, ⟨13, _⟩ => ⟨S256x2048, .f32⟩
  | .local _ .vmem, ⟨14, _⟩ => ⟨S256x1024, .bf16⟩
  | .local _ .vmem, ⟨15, _⟩ => ⟨S256x1024, .bf16⟩
  | .local _ .vmem, ⟨16, _⟩ => ⟨S2048x2048, .bf16⟩
  | .local _ .vmem, ⟨17, _⟩ => ⟨S1x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .f32⟩
  | .local _ .vmem, ⟨22, _⟩ => ⟨S256x2048, .bf16⟩
  | .local _ .vmem, ⟨23, _⟩ => ⟨S256x2048, .bf16⟩
  | .local _ .vmem, ⟨24, _⟩ => ⟨S256x2048, .bf16⟩
  | .local _ .vmem, ⟨25, _⟩ => ⟨S256x2048, .bf16⟩
  | .local _ .vmem, ⟨26, _⟩ => ⟨S136x2048, .f32⟩
  | .local _ .vmem, ⟨27, _⟩ => ⟨S128x1024, .f32⟩
  | .local _ .vmem, ⟨28, _⟩ => ⟨S256x1024, .bf16⟩
  | .local _ .vmem, ⟨29, _⟩ => ⟨S256x1024, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_call0_v0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_0 : Ref sig .tc := ⟨.hbm, 27, rfl⟩
abbrev main_call1_v0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_1 : Ref sig .tc := ⟨.hbm, 32, rfl⟩
abbrev main_call2_v0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25_0 : Ref sig .tc := ⟨.hbm, 45, rfl⟩
abbrev main_v25_1 : Ref sig .tc := ⟨.hbm, 46, rfl⟩
abbrev main_v25_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![33], ![false]⟩

def k0_cond3 (i : grid0.Coords) : BitVec 1 :=
  let arg0 : BitVec 32 := BitVec.ofNat 32 (i 0).val
  let c0_i32_7 : BitVec 32 := 0#32
  let v16 : BitVec 1 := Scalar.cmpi .sgt arg0 c0_i32_7
  let c32_i32 : BitVec 32 := 32#32
  let v17 : BitVec 1 := Scalar.cmpi .slt arg0 c32_i32
  let v18 : BitVec 1 := Scalar.andi v16 v17
  let v19 : BitVec 32 := Scalar.extui v18
  let c0_i32_8 : BitVec 32 := 0#32
  let v20 : BitVec 1 := Scalar.cmpi .ne v19 c0_i32_8
  v20

def k0_cond4 (i : grid0.Coords) : BitVec 1 :=
  let arg0 : BitVec 32 := BitVec.ofNat 32 (i 0).val
  let c32_i32_9 : BitVec 32 := 32#32
  let v21 : BitVec 1 := Scalar.cmpi .eq arg0 c32_i32_9
  let v22 : BitVec 32 := Scalar.extui v21
  let c0_i32_10 : BitVec 32 := 0#32
  let v23 : BitVec 1 := Scalar.cmpi .ne v22 c0_i32_10
  v23

def k0_cond2 (i : grid0.Coords) : BitVec 1 :=
  let arg0 : BitVec 32 := BitVec.ofNat 32 (i 0).val
  let c0_i32_5 : BitVec 32 := 0#32
  let v13 : BitVec 1 := Scalar.cmpi .eq arg0 c0_i32_5
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_15 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_16 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== KernelIdeal.lean ====
variable {F : FTy → Type} [FloatOps F] [Named F]
def κ : String → Option EReal := fun
  | "neg_log2e" => some ((-((Real.log 2)⁻¹) : ℝ) : EReal)
  | _ => none
-- ==== ReferenceIdeal.lean ====
abbrev S4x2048x2048 : Shape := ⟨3, ![4, 2048, 2048]⟩
abbrev S4x2048x1024 : Shape := ⟨3, ![4, 2048, 1024]⟩
abbrev S4x2048x16 : Shape := ⟨3, ![4, 2048, 16]⟩
abbrev S1x4x2048 : Shape := ⟨3, ![1, 4, 2048]⟩
abbrev S1x2048 : Shape := ⟨2, ![1, 2048]⟩
abbrev S1x16 : Shape := ⟨2, ![1, 16]⟩
abbrev S1x1024 : Shape := ⟨2, ![1, 1024]⟩
abbrev S1x2048x2048 : Shape := ⟨3, ![1, 2048, 2048]⟩
abbrev S1x8192x2048 : Shape := ⟨3, ![1, 8192, 2048]⟩
abbrev S4x2048 : Shape := ⟨2, ![4, 2048]⟩
abbrev S2048 : Shape := ⟨1, ![2048]⟩
abbrev S16 : Shape := ⟨1, ![16]⟩
abbrev S1024 : Shape := ⟨1, ![1024]⟩
abbrev S_ : Shape := ⟨0, ![]⟩
abbrev S4x2051x2048 : Shape := ⟨3, ![4, 2051, 2048]⟩
abbrev S1x1x2048 : Shape := ⟨3, ![1, 1, 2048]⟩
abbrev S4x2048x16x64 : Shape := ⟨4, ![4, 2048, 16, 64]⟩
abbrev S4x2048x512 : Shape := ⟨3, ![4, 2048, 512]⟩
abbrev S4x2048x4x128 : Shape := ⟨4, ![4, 2048, 4, 128]⟩
abbrev S1x1x16 : Shape := ⟨3, ![1, 1, 16]⟩
abbrev S4x2048x16x1 : Shape := ⟨4, ![4, 2048, 16, 1]⟩
abbrev S4x16x128x4x4x64 : Shape := ⟨6, ![4, 16, 128, 4, 4, 64]⟩
abbrev S4x16x128x4x4 : Shape := ⟨5, ![4, 16, 128, 4, 4]⟩
abbrev S4x16x4x4x128 : Shape := ⟨5, ![4, 16, 4, 4, 128]⟩
abbrev S4x16x128x4x128 : Shape := ⟨5, ![4, 16, 128, 4, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x16x4x4x128x1 : Shape := ⟨6, ![4, 16, 4, 4, 128, 1]⟩
abbrev S4x16x4x4x1x128 : Shape := ⟨6, ![4, 16, 4, 4, 1, 128]⟩
abbrev S4x16x4x4x128x128 : Shape := ⟨6, ![4, 16, 4, 4, 128, 128]⟩
abbrev S4x16x4x128x128 : Shape := ⟨5, ![4, 16, 4, 128, 128]⟩
abbrev S4x16x4x1x128x128 : Shape := ⟨6, ![4, 16, 4, 1, 128, 128]⟩
abbrev S4x16x4x4x64x128 : Shape := ⟨6, ![4, 16, 4, 4, 64, 128]⟩
abbrev S4x16x4x4x1 : Shape := ⟨5, ![4, 16, 4, 4, 1]⟩
abbrev S4x16x128x4x4x1 : Shape := ⟨6, ![4, 16, 128, 4, 4, 1]⟩
abbrev S4x16x4x4 : Shape := ⟨4, ![4, 16, 4, 4]⟩
abbrev S4x16x4x4x1x1 : Shape := ⟨6, ![4, 16, 4, 4, 1, 1]⟩
abbrev S4x1x4x4x64x128 : Shape := ⟨6, ![4, 1, 4, 4, 64, 128]⟩
abbrev S16x1 : Shape := ⟨2, ![16, 1]⟩
abbrev S1x1x16x1 : Shape := ⟨4, ![1, 1, 16, 1]⟩
abbrev S4x2048x4x256 : Shape := ⟨4, ![4, 2048, 4, 256]⟩
abbrev S4x2048x4 : Shape := ⟨3, ![4, 2048, 4]⟩
abbrev S4x2048x4x1 : Shape := ⟨4, ![4, 2048, 4, 1]⟩
abbrev S1x1x1024 : Shape := ⟨3, ![1, 1, 1024]⟩
abbrev S2048x2048 : Shape := ⟨2, ![2048, 2048]⟩
abbrev S4x2048x1 : Shape := ⟨3, ![4, 2048, 1]⟩
abbrev S8192x2048 : Shape := ⟨2, ![8192, 2048]⟩

abbrev nBuf : Space → Nat
  | .hbm => 278
  | .vmem => 0
  | .smem => 0
  | _ => 0

abbrev hbmTy0_0 (i : Nat) : BufTy := match i % 128 with
  | 0 => ⟨S4x2048x2048, .f32⟩
  | 1 => ⟨S4x2048x1024, .bf16⟩
  | 2 => ⟨S4x2048x2048, .bf16⟩
  | 3 => ⟨S4x2048x16, .f32⟩
  | 4 => ⟨S1x4x2048, .f32⟩
  | 5 => ⟨S1x2048, .f32⟩
  | 6 => ⟨S1x16, .f32⟩
  | 7 => ⟨S1x16, .f32⟩
  | 8 => ⟨S1x16, .f32⟩
  | 9 => ⟨S1x1024, .f32⟩
  | 10 => ⟨S4x2048x1024, .bf16⟩
  | 11 => ⟨S1x2048x2048, .bf16⟩
  | 12 => ⟨S1x2048, .f32⟩
  | 13 => ⟨S1x8192x2048, .f32⟩
  | 14 => ⟨S4x2048x1024, .f32⟩
  | 15 => ⟨S4x2048x2048, .f32⟩
  | 16 => ⟨S4x2048, .f32⟩
  | 17 => ⟨S2048, .f32⟩
  | 18 => ⟨S16, .f32⟩
  | 19 => ⟨S16, .f32⟩
  | 20 => ⟨S16, .f32⟩
  | 21 => ⟨S1024, .f32⟩
  | 22 => ⟨S_, .i32⟩
  | 23 => ⟨S_, .f32⟩
  | 24 => ⟨S4x2051x2048, .f32⟩
  | 25 => ⟨S4x2048x2048, .f32⟩
  | 26 => ⟨S1x2048, .f32⟩
  | 27 => ⟨S2048, .f32⟩
  | 28 => ⟨S1x1x2048, .f32⟩
  | 29 => ⟨S4x2048x2048, .f32⟩
  | 30 => ⟨S4x2048x2048, .f32⟩
  | 31 => ⟨S4x2048x2048, .f32⟩
  | 32 => ⟨S1x2048, .f32⟩
  | 33 => ⟨S2048, .f32⟩
  | 34 => ⟨S1x1x2048, .f32⟩
  | 35 => ⟨S4x2048x2048, .f32⟩
  | 36 => ⟨S4x2048x2048, .f32⟩
  | 37 => ⟨S4x2048x2048, .f32⟩
  | 38 => ⟨S4x2048x2048, .f32⟩
  | 39 => ⟨S1x2048, .f32⟩
  | 40 => ⟨S2048, .f32⟩
  | 41 => ⟨S1x1x2048, .f32⟩
  | 42 => ⟨S4x2048x2048, .f32⟩
  | 43 => ⟨S4x2048x2048, .f32⟩
  | 44 => ⟨S4x2048x2048, .f32⟩
  | 45 => ⟨S4x2048x2048, .f32⟩
  | 46 => ⟨S1x2048, .f32⟩
  | 47 => ⟨S2048, .f32⟩
  | 48 => ⟨S1x1x2048, .f32⟩
  | 49 => ⟨S4x2048x2048, .f32⟩
  | 50 => ⟨S4x2048x2048, .f32⟩
  | 51 => ⟨S4x2048x2048, .f32⟩
  | 52 => ⟨S1x1x2048, .f32⟩
  | 53 => ⟨S4x2048x2048, .f32⟩
  | 54 => ⟨S4x2048x2048, .f32⟩
  | 55 => ⟨S4x2048x2048, .f32⟩
  | 56 => ⟨S4x2048x2048, .f32⟩
  | 57 => ⟨S_, .f32⟩
  | 58 => ⟨S4x2048x2048, .f32⟩
  | 59 => ⟨S4x2048x2048, .f32⟩
  | 60 => ⟨S_, .f32⟩
  | 61 => ⟨S4x2048x2048, .f32⟩
  | 62 => ⟨S4x2048x2048, .f32⟩
  | 63 => ⟨S4x2048x2048, .f32⟩
  | 64 => ⟨S4x2048x1024, .f32⟩
  | 65 => ⟨S4x2048x16x64, .f32⟩
  | 66 => ⟨S4x2048x512, .f32⟩
  | 67 => ⟨S4x2048x4x128, .f32⟩
  | 68 => ⟨S4x2048x512, .f32⟩
  | 69 => ⟨S4x2048x4x128, .f32⟩
  | 70 => ⟨S1x1x16, .f32⟩
  | 71 => ⟨S4x2048x16, .f32⟩
  | 72 => ⟨S4x2048x16, .f32⟩
  | 73 => ⟨S_, .f32⟩
  | 74 => ⟨S4x2048x16, .f32⟩
  | 75 => ⟨S4x2048x16, .f32⟩
  | 76 => ⟨S4x2048x16, .f32⟩
  | 77 => ⟨S4x2048x16, .f32⟩
  | 78 => ⟨S4x2048x16, .i1⟩
  | 79 => ⟨S4x2048x16, .f32⟩
  | 80 => ⟨S4x2048x16, .f32⟩
  | 81 => ⟨S4x2048x16, .f32⟩
  | 82 => ⟨S4x2048x16, .f32⟩
  | 83 => ⟨S4x2048x16, .f32⟩
  | 84 => ⟨S4x2048x16, .f32⟩
  | 85 => ⟨S4x2048x16, .f32⟩
  | 86 => ⟨S4x2048x16, .f32⟩
  | 87 => ⟨S16, .f32⟩
  | 88 => ⟨S16, .f32⟩
  | 89 => ⟨S4x2048x16x1, .f32⟩
  | 90 => ⟨S4x2048x16x64, .f32⟩
  | 91 => ⟨S4x2048x16x64, .f32⟩
  | 92 => ⟨S4x16x128x4x4x64, .f32⟩
  | 93 => ⟨S1x1x16, .f32⟩
  | 94 => ⟨S4x2048x16, .f32⟩
  | 95 => ⟨S4x2048x16, .f32⟩
  | 96 => ⟨S4x16x128x4x4, .f32⟩
  | 97 => ⟨S4x16x4x4x128, .f32⟩
  | 98 => ⟨S_, .f32⟩
  | 99 => ⟨S_, .f32⟩
  | 100 => ⟨S4x16x4x4x128, .f32⟩
  | 101 => ⟨S4x16x128x4x128, .f32⟩
  | 102 => ⟨S4x16x128x4x128, .f32⟩
  | 103 => ⟨S128, .i32⟩
  | 104 => ⟨S128x1, .i32⟩
  | 105 => ⟨S1x128, .i32⟩
  | 106 => ⟨S128x128, .i32⟩
  | 107 => ⟨S128x128, .i32⟩
  | 108 => ⟨S128x128, .i1⟩
  | 109 => ⟨S4x16x4x4x128x1, .f32⟩
  | 110 => ⟨S4x16x4x4x1x128, .f32⟩
  | 111 => ⟨S4x16x4x4x128x128, .f32⟩
  | 112 => ⟨S4x16x4x4x128x128, .f32⟩
  | 113 => ⟨S4x16x4x4x128x128, .f32⟩
  | 114 => ⟨S_, .f32⟩
  | 115 => ⟨S_, .f32⟩
  | 116 => ⟨S4x16x4x4x128x128, .i1⟩
  | 117 => ⟨S4x16x4x4x128x128, .f32⟩
  | 118 => ⟨S4x16x4x4x128x128, .f32⟩
  | 119 => ⟨S4x16x4x4x128x128, .f32⟩
  | 120 => ⟨S4x16x4x128x128, .f32⟩
  | 121 => ⟨S4x16x4x1x128x128, .f32⟩
  | 122 => ⟨S4x16x4x4x128x128, .f32⟩
  | 123 => ⟨S4x16x4x4x128x128, .f32⟩
  | 124 => ⟨S4x16x4x4x64x128, .f32⟩
  | 125 => ⟨S4x16x128x4x4x64, .f32⟩
  | 126 => ⟨S4x16x4x4x1, .f32⟩
  | 127 => ⟨S4x16x4x4x128, .f32⟩
  | _ => ⟨S4x2048x2048, .f32⟩

abbrev hbmTy0_1 (i : Nat) : BufTy := match i % 128 with
  | 0 => ⟨S4x16x4x4x128, .f32⟩
  | 1 => ⟨S4x16x4x4x128, .f32⟩
  | 2 => ⟨S4x16x128x4x4, .f32⟩
  | 3 => ⟨S4x16x128x4x4x1, .f32⟩
  | 4 => ⟨S4x16x128x4x4x64, .f32⟩
  | 5 => ⟨S4x16x128x4x4x64, .f32⟩
  | 6 => ⟨S4x16x4x4x64x128, .f32⟩
  | 7 => ⟨S4x16x4x4x1, .f32⟩
  | 8 => ⟨S4x16x4x4, .f32⟩
  | 9 => ⟨S4x16x4x4, .f32⟩
  | 10 => ⟨S4x16x4x4x1x1, .f32⟩
  | 11 => ⟨S4x16x4x4x64x128, .f32⟩
  | 12 => ⟨S_, .f32⟩
  | 13 => ⟨S4x1x4x4x64x128, .f32⟩
  | 14 => ⟨S4x1x4x4x64x128, .f32⟩
  | 15 => ⟨S4x1x4x4x64x128, .f32⟩
  | 16 => ⟨S4x1x4x4x64x128, .f32⟩
  | 17 => ⟨S4x1x4x4x64x128, .f32⟩
  | 18 => ⟨S4x1x4x4x64x128, .f32⟩
  | 19 => ⟨S4x1x4x4x64x128, .f32⟩
  | 20 => ⟨S4x1x4x4x64x128, .f32⟩
  | 21 => ⟨S4x1x4x4x64x128, .f32⟩
  | 22 => ⟨S4x1x4x4x64x128, .f32⟩
  | 23 => ⟨S4x1x4x4x64x128, .f32⟩
  | 24 => ⟨S4x1x4x4x64x128, .f32⟩
  | 25 => ⟨S4x1x4x4x64x128, .f32⟩
  | 26 => ⟨S4x1x4x4x64x128, .f32⟩
  | 27 => ⟨S4x1x4x4x64x128, .f32⟩
  | 28 => ⟨S4x1x4x4x64x128, .f32⟩
  | 29 => ⟨S4x1x4x4x64x128, .f32⟩
  | 30 => ⟨S4x1x4x4x64x128, .f32⟩
  | 31 => ⟨S4x1x4x4x64x128, .f32⟩
  | 32 => ⟨S4x1x4x4x64x128, .f32⟩
  | 33 => ⟨S4x1x4x4x64x128, .f32⟩
  | 34 => ⟨S4x1x4x4x64x128, .f32⟩
  | 35 => ⟨S4x1x4x4x64x128, .f32⟩
  | 36 => ⟨S4x1x4x4x64x128, .f32⟩
  | 37 => ⟨S4x1x4x4x64x128, .f32⟩
  | 38 => ⟨S4x1x4x4x64x128, .f32⟩
  | 39 => ⟨S4x1x4x4x64x128, .f32⟩
  | 40 => ⟨S4x1x4x4x64x128, .f32⟩
  | 41 => ⟨S4x1x4x4x64x128, .f32⟩
  | 42 => ⟨S4x1x4x4x64x128, .f32⟩
  | 43 => ⟨S4x1x4x4x64x128, .f32⟩
  | 44 => ⟨S4x1x4x4x64x128, .f32⟩
  | 45 => ⟨S4x1x4x4x64x128, .f32⟩
  | 46 => ⟨S4x1x4x4x64x128, .f32⟩
  | 47 => ⟨S4x1x4x4x64x128, .f32⟩
  | 48 => ⟨S4x1x4x4x64x128, .f32⟩
  | 49 => ⟨S4x1x4x4x64x128, .f32⟩
  | 50 => ⟨S4x1x4x4x64x128, .f32⟩
  | 51 => ⟨S4x1x4x4x64x128, .f32⟩
  | 52 => ⟨S4x1x4x4x64x128, .f32⟩
  | 53 => ⟨S4x1x4x4x64x128, .f32⟩
  | 54 => ⟨S4x1x4x4x64x128, .f32⟩
  | 55 => ⟨S4x1x4x4x64x128, .f32⟩
  | 56 => ⟨S4x1x4x4x64x128, .f32⟩
  | 57 => ⟨S4x1x4x4x64x128, .f32⟩
  | 58 => ⟨S4x1x4x4x64x128, .f32⟩
  | 59 => ⟨S4x1x4x4x64x128, .f32⟩
  | 60 => ⟨S4x1x4x4x64x128, .f32⟩
  | 61 => ⟨S4x1x4x4x64x128, .f32⟩
  | 62 => ⟨S4x1x4x4x64x128, .f32⟩
  | 63 => ⟨S4x1x4x4x64x128, .f32⟩
  | 64 => ⟨S4x1x4x4x64x128, .f32⟩
  | 65 => ⟨S4x1x4x4x64x128, .f32⟩
  | 66 => ⟨S4x1x4x4x64x128, .f32⟩
  | 67 => ⟨S4x1x4x4x64x128, .f32⟩
  | 68 => ⟨S4x1x4x4x64x128, .f32⟩
  | 69 => ⟨S4x1x4x4x64x128, .f32⟩
  | 70 => ⟨S4x1x4x4x64x128, .f32⟩
  | 71 => ⟨S4x1x4x4x64x128, .f32⟩
  | 72 => ⟨S4x1x4x4x64x128, .f32⟩
  | 73 => ⟨S4x1x4x4x64x128, .f32⟩
  | 74 => ⟨S4x1x4x4x64x128, .f32⟩
  | 75 => ⟨S4x1x4x4x64x128, .f32⟩
  | 76 => ⟨S4x1x4x4x64x128, .f32⟩
  | 77 => ⟨S4x1x4x4x64x128, .f32⟩
  | 78 => ⟨S4x16x4x4x64x128, .f32⟩
  | 79 => ⟨S4x16x4x4x64x128, .f32⟩
  | 80 => ⟨S4x16x128x4x4x64, .f32⟩
  | 81 => ⟨S4x16x4x4x128, .f32⟩
  | 82 => ⟨S4x16x128x4x4, .f32⟩
  | 83 => ⟨S4x16x128x4x4x1, .f32⟩
  | 84 => ⟨S4x16x128x4x4x64, .f32⟩
  | 85 => ⟨S4x16x128x4x4x64, .f32⟩
  | 86 => ⟨S4x16x128x4x4x64, .f32⟩
  | 87 => ⟨S4x2048x16x64, .f32⟩
  | 88 => ⟨S16x1, .f32⟩
  | 89 => ⟨S1x1x16x1, .f32⟩
  | 90 => ⟨S4x2048x16x64, .f32⟩
  | 91 => ⟨S4x2048x16x64, .f32⟩
  | 92 => ⟨S4x2048x16x64, .f32⟩
  | 93 => ⟨S4x2048x1024, .f32⟩
  | 94 => ⟨S4x2048x1024, .f32⟩
  | 95 => ⟨S4x2048x1024, .f32⟩
  | 96 => ⟨S_, .f32⟩
  | 97 => ⟨S4x2048x1024, .f32⟩
  | 98 => ⟨S4x2048x1024, .f32⟩
  | 99 => ⟨S_, .f32⟩
  | 100 => ⟨S4x2048x1024, .f32⟩
  | 101 => ⟨S4x2048x1024, .f32⟩
  | 102 => ⟨S4x2048x1024, .f32⟩
  | 103 => ⟨S4x2048x1024, .f32⟩
  | 104 => ⟨S4x2048x4x256, .f32⟩
  | 105 => ⟨S4x2048x4x256, .f32⟩
  | 106 => ⟨S_, .f32⟩
  | 107 => ⟨S4x2048x4, .f32⟩
  | 108 => ⟨S4x2048x4x1, .f32⟩
  | 109 => ⟨S_, .f32⟩
  | 110 => ⟨S4x2048x4x1, .f32⟩
  | 111 => ⟨S4x2048x4x1, .f32⟩
  | 112 => ⟨S_, .f32⟩
  | 113 => ⟨S4x2048x4x1, .f32⟩
  | 114 => ⟨S4x2048x4x1, .f32⟩
  | 115 => ⟨S4x2048x4x1, .f32⟩
  | 116 => ⟨S4x2048x4x256, .f32⟩
  | 117 => ⟨S4x2048x4x256, .f32⟩
  | 118 => ⟨S4x2048x1024, .f32⟩
  | 119 => ⟨S1x1x1024, .f32⟩
  | 120 => ⟨S4x2048x1024, .f32⟩
  | 121 => ⟨S4x2048x1024, .f32⟩
  | 122 => ⟨S4x2048x1024, .f32⟩
  | 123 => ⟨S4x2048x2048, .f32⟩
  | 124 => ⟨S2048x2048, .bf16⟩
  | 125 => ⟨S2048x2048, .f32⟩
  | 126 => ⟨S4x2048x2048, .f32⟩
  | 127 => ⟨S4x2048x2048, .f32⟩
  | _ => ⟨S4x2048x2048, .f32⟩

abbrev hbmTy0_2 (i : Nat) : BufTy := match i % 128 with
  | 0 => ⟨S2048, .f32⟩
  | 1 => ⟨S4x2048x2048, .f32⟩
  | 2 => ⟨S_, .f32⟩
  | 3 => ⟨S4x2048, .f32⟩
  | 4 => ⟨S4x2048x1, .f32⟩
  | 5 => ⟨S_, .f32⟩
  | 6 => ⟨S4x2048x1, .f32⟩
  | 7 => ⟨S4x2048x1, .f32⟩
  | 8 => ⟨S_, .f32⟩
  | 9 => ⟨S4x2048x1, .f32⟩
  | 10 => ⟨S4x2048x1, .f32⟩
  | 11 => ⟨S4x2048x1, .f32⟩
  | 12 => ⟨S4x2048x2048, .f32⟩
  | 13 => ⟨S4x2048x2048, .f32⟩
  | 14 => ⟨S1x1x2048, .f32⟩
  | 15 => ⟨S4x2048x2048, .f32⟩
  | 16 => ⟨S4x2048x2048, .f32⟩
  | 17 => ⟨S8192x2048, .f32⟩
  | 18 => ⟨S8192x2048, .f32⟩
  | 19 => ⟨S8192x2048, .bf16⟩
  | 20 => ⟨S8192x2048, .f32⟩
  | 21 => ⟨S8192x2048, .bf16⟩
  | _ => ⟨S4x2048x2048, .f32⟩

abbrev hbmTy (i : Nat) : BufTy := match i / 128 with
  | 0 => hbmTy0_0 i
  | 1 => hbmTy0_1 i
  | 2 => hbmTy0_2 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_call0_v0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call2_cst : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_v6 : Ref sig .tc := ⟨.hbm, 80, rfl⟩
abbrev main_call2_v7 : Ref sig .tc := ⟨.hbm, 81, rfl⟩
abbrev main_call2_v8 : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_call3_call0_cst : Ref sig .tc := ⟨.hbm, 98, rfl⟩
abbrev main_call3_call0_v0 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst : Ref sig .tc := ⟨.hbm, 114, rfl⟩
abbrev main_call4_v0 : Ref sig .tc := ⟨.hbm, 115, rfl⟩
abbrev main_call4_v1 : Ref sig .tc := ⟨.hbm, 116, rfl⟩
abbrev main_call4_v2 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_0 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_call5_v0 : Ref sig .tc := ⟨.hbm, 222, rfl⟩
abbrev main_call5_v1 : Ref sig .tc := ⟨.hbm, 223, rfl⟩
abbrev main_call5_cst : Ref sig .tc := ⟨.hbm, 224, rfl⟩
abbrev main_call5_v2 : Ref sig .tc := ⟨.hbm, 225, rfl⟩
abbrev main_call5_v3 : Ref sig .tc := ⟨.hbm, 226, rfl⟩
abbrev main_call5_cst_0 : Ref sig .tc := ⟨.hbm, 227, rfl⟩
abbrev main_call5_v4 : Ref sig .tc := ⟨.hbm, 228, rfl⟩
abbrev main_call5_v5 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_cst_1 : Ref sig .tc := ⟨.hbm, 234, rfl⟩
abbrev main_v182 : Ref sig .tc := ⟨.hbm, 235, rfl⟩
abbrev main_v183 : Ref sig .tc := ⟨.hbm, 236, rfl⟩
abbrev main_cst_2 : Ref sig .tc := ⟨.hbm, 237, rfl⟩
abbrev main_v184 : Ref sig .tc := ⟨.hbm, 238, rfl⟩
abbrev main_v185 : Ref sig .tc := ⟨.hbm, 239, rfl⟩
abbrev main_cst_3 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_cst_4 : Ref sig .tc := ⟨.hbm, 258, rfl⟩
abbrev main_v203 : Ref sig .tc := ⟨.hbm, 259, rfl⟩
abbrev main_v204 : Ref sig .tc := ⟨.hbm, 260, rfl⟩
abbrev main_cst_5 : Ref sig .tc := ⟨.hbm, 261, rfl⟩
abbrev main_v205 : Ref sig .tc := ⟨.hbm, 262, rfl⟩
abbrev main_v206 : Ref sig .tc := ⟨.hbm, 263, rfl⟩
abbrev main_cst_6 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩

abbrev nD : Nat := 1
abbrev τ : Topo := Topo.v7x

variable {F : FTy → Type} [FloatOps F]
-- ==== Proof.MlpValue.lean ====
/- The channel mixer's kernel at the ideal instance: its result array, read at an index.

   Each of the 16 row tiles runs over the four blocks of the hidden width: the first block starts from the residual
   row, the next ones add their block's part, and the last one normalises. So row `R` of the result is the residual
   plus the four partial sums, normalised by its own mean square. -/
module

public import proofs.«01_k».proof.Proof.Gen.MlpIdeal.Value
public import Idealize.ShloMosaic.Lib.Pipeline.Value
public import Idealize.ShloMosaic.Lib.Pointwise
public import Idealize.ShloMosaic.Lib.Tactic
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MlpIdeal.Mixer

open Cert.MlpIdeal Cert.MlpIdeal.Gen

theorem hz : (![0, 0] : Fin 2 → Nat) = fun _ => 0 := funext fun a => by fin_cases a <;> rfl

section Cases
variable {F : FTy → Type} [FloatOps F]

theorem out_A (c : Dev nD) (i : grid0.Coords) (a2 : Memref sig .tc .vmem S512x2048 .f32) (h2 : a2.IsWhole)
    (a3 : Memref sig .tc .vmem S512x2048 .bf16) (h3 : a3.IsWhole) (a4 : Memref sig .tc .vmem S2048x2048 .bf16) (h4 : a4.IsWhole)
    (a5 : Memref sig .tc .vmem S2048x2048 .bf16) (h5 : a5.IsWhole) (a6 : Memref sig .tc .vmem S1x2048 .f32) (h6 : a6.IsWhole)
    (a7 : Memref sig .tc .vmem S512x2048 .f32) (h7 : a7.IsWhole) (hc0 : cond0_0 i) (hc1 : ¬cond0_1 i) (hc2 : ¬cond0_2 i)
    (x0 : Vec F S512x2048 .f32) (x1 : Vec F S512x2048 .bf16) (x2 : Vec F S2048x2048 .bf16) (x3 : Vec F S2048x2048 .bf16)
    (x4 : Vec F S1x2048 .f32) :
    out0_A_5 c i a2 h2 a3 h3 a4 h4 a5 h5 a6 h6 a7 h7 hc0 hc1 hc2 x0 x1 x2 x3 x4 = k0_pay1 x1 x2 x0 x3 := by
  unfold out0_A_5
  rw [View.read_writes_eq_canon _ _ _ (cover0_A_5 c i a2 h2 a3 h3 a4 h4 a5 h5 a6 h6 a7 h7 hc0 hc1 hc2 x0 x1 x2 x3 x4)]
  unfold kernelRun0_A
  dsimp only
  sl_unfold_words
  rw [View.canon_unit_zero hz]
  simp only [View.readAt_eq_ld, h2.read_unread, h3.read_unread, h4.read_unread, h5.read_unread, h6.read_unread, View.ld_unit_zero (S := S512x2048) hz, View.ld_unit_zero (S := S2048x2048) hz, View.ld_unit_zero (S := S1x2048) hz]

theorem out_B (c : Dev nD) (i : grid0.Coords) (a2 : Memref sig .tc .vmem S512x2048 .f32) (h2 : a2.IsWhole)
    (a3 : Memref sig .tc .vmem S512x2048 .bf16) (h3 : a3.IsWhole) (a4 : Memref sig .tc .vmem S2048x2048 .bf16) (h4 : a4.IsWhole)
    (a5 : Memref sig .tc .vmem S2048x2048 .bf16) (h5 : a5.IsWhole) (a6 : Memref sig .tc .vmem S1x2048 .f32) (h6 : a6.IsWhole)
    (a7 : Memref sig .tc .vmem S512x2048 .f32) (h7 : a7.IsWhole) (hc0 : ¬cond0_0 i) (hc1 : cond0_1 i) (hc2 : ¬cond0_2 i)
    (x0 : Vec F S512x2048 .f32) (x1 : Vec F S512x2048 .bf16) (x2 : Vec F S2048x2048 .bf16) (x3 : Vec F S2048x2048 .bf16)
    (x4 : Vec F S1x2048 .f32) (x5 : Vec F S512x2048 .f32) :
    out0_B_5 c i a2 h2 a3 h3 a4 h4 a5 h5 a6 h6 a7 h7 hc0 hc1 hc2 x0 x1 x2 x3 x4 x5 = k0_pay2 x1 x2 x5 x3 := by
  unfold out0_B_5
  rw [View.read_writes_eq_canon _ _ _ (cover0_B_5 c i a2 h2 a3 h3 a4 h4 a5 h5 a6 h6 a7 h7 hc0 hc1 hc2 x0 x1 x2 x3 x4 x5)]
  unfold kernelRun0_B
  dsimp only
  sl_unfold_words
  rw [View.canon_unit_zero hz]
  simp only [View.readAt_eq_ld, h2.read_unread, h3.read_unread, h4.read_unread, h5.read_unread, h6.read_unread, h7.read_unread, View.ld_unit_zero (S := S512x2048) hz, View.ld_unit_zero (S := S2048x2048) hz, View.ld_unit_zero (S := S1x2048) hz]

theorem out_C (c : Dev nD) (i : grid0.Coords) (a2 : Memref sig .tc .vmem S512x2048 .f32) (h2 : a2.IsWhole)
    (a3 : Memref sig .tc .vmem S512x2048 .bf16) (h3 : a3.IsWhole) (a4 : Memref sig .tc .vmem S2048x2048 .bf16) (h4 : a4.IsWhole)
    (a5 : Memref sig .tc .vmem S2048x2048 .bf16) (h5 : a5.IsWhole) (a6 : Memref sig .tc .vmem S1x2048 .f32) (h6 : a6.IsWhole)
    (a7 : Memref sig .tc .vmem S512x2048 .f32) (h7 : a7.IsWhole) (hc0 : ¬cond0_0 i) (hc1 : ¬cond0_1 i) (hc2 : cond0_2 i)
    (x0 : Vec F S512x2048 .f32) (x1 : Vec F S512x2048 .bf16) (x2 : Vec F S2048x2048 .bf16) (x3 : Vec F S2048x2048 .bf16)
    (x4 : Vec F S1x2048 .f32) (x5 : Vec F S512x2048 .f32) :
    out0_C_5 c i a2 h2 a3 h3 a4 h4 a5 h5 a6 h6 a7 h7 hc0 hc1 hc2 x0 x1 x2 x3 x4 x5 = k0_pay3 x1 x2 x5 x3 x4 := by
  unfold out0_C_5
  rw [View.read_writes_eq_canon _ _ _ (cover0_C_5 c i a2 h2 a3 h3 a4 h4 a5 h5 a6 h6 a7 h7 hc0 hc1 hc2 x0 x1 x2 x3 x4 x5)]
  unfold kernelRun0_C
  dsimp only
  sl_unfold_words
  rw [View.canon_unit_zero hz]
  simp only [View.readAt_eq_ld, h2.read_unread, h3.read_unread, h4.read_unread, h5.read_unread, h6.read_unread, h7.read_unread, View.ld_unit_zero (S := S512x2048) hz, View.ld_unit_zero (S := S2048x2048) hz, View.ld_unit_zero (S := S1x2048) hz]

end Cases

/-- The squared rectifier of one hidden unit. -/
abbrev reluSq (a : Ideal .f32) : Ideal .f32 := max a 0 * max a 0

theorem pay1_apply (h : Vec Ideal S512x2048 .bf16) (u : Vec Ideal S2048x2048 .bf16) (x : Vec Ideal S512x2048 .f32)
    (w : Vec Ideal S2048x2048 .bf16) (r : Fin 512) (n : Fin 2048) :
    k0_pay1 h u x w (ix2 r n) = x (ix2 r n) + ∑ k : Fin 2048, reluSq (∑ d : Fin 2048, h (ix2 r d) * u (ix2 d k)) * w (ix2 k n) := by
  unfold k0_pay1
  pointwise [dot_S512x2048_S2048x2048_S512x2048_1_0_0_1_n_n]

theorem pay2_apply (h : Vec Ideal S512x2048 .bf16) (u : Vec Ideal S2048x2048 .bf16) (x : Vec Ideal S512x2048 .f32)
    (w : Vec Ideal S2048x2048 .bf16) (r : Fin 512) (n : Fin 2048) :
    k0_pay2 h u x w (ix2 r n) = x (ix2 r n) + ∑ k : Fin 2048, reluSq (∑ d : Fin 2048, h (ix2 r d) * u (ix2 d k)) * w (ix2 k n) :=
  pay1_apply h u x w r n

/-- A row normalised by its mean square, then scaled. -/
def rmsRow (y : Fin 2048 → Ideal .f32) (g : Ideal .f32) (n : Fin 2048) : Ideal .f32 :=
  y n * Ideal.rsqrt (Ideal.div (∑ k : Fin 2048, y k * y k) (Ideal.ofBits .f32 0x45000000#32) + Ideal.ofBits .f32 0x3727C5AC#32) * g

theorem pay3_apply (h : Vec Ideal S512x2048 .bf16) (u : Vec Ideal S2048x2048 .bf16) (x : Vec Ideal S512x2048 .f32)
    (w : Vec Ideal S2048x2048 .bf16) (g : Vec Ideal S1x2048 .f32) (r : Fin 512) (n : Fin 2048) :
    k0_pay3 h u x w g (ix2 r n) = rmsRow (fun q => k0_pay1 h u x w (ix2 r q)) (g (ix2 0 n)) n := by
  have e : k0_pay3 h u x w g = mulf (mulf (k0_pay1 h u x w) (broadcastTo S512x2048 (rsqrt (addf (divf (shapeCast S512x1 (multiReduction .add [1] S512 (mulf (k0_pay1 h u x w) (k0_pay1 h u x w)) 0x00000000#32 reduces_S512x2048_S512 (.inl rfl) rfl) shapeCasts_S512_S512x1) (broadcast S512x1 (Scalar.ofBits .f32 0x45000000#32))) (broadcast S512x1 (Scalar.ofBits .f32 0x3727C5AC#32)))) broadcasts_S512x1_S512x2048)) (broadcastTo S512x2048 (shapeCast S1x2048 g shapeCasts_S1x2048_S1x2048) broadcasts_S1x2048_S512x2048) := rfl
  rw [e]
  generalize k0_pay1 h u x w = y
  unfold rmsRow
  pointwise

/-! ## The windows' blocks -/

variable (m : (ℓ : Loc nD τ sig) → Buf (Elt Ideal) ℓ)

/-- The five operands of the call, as the region finds them. -/
abbrev X (c : Dev nD) : Vec Ideal S8192x2048 .f32 := V m c main_v0
abbrev H (c : Dev nD) : Vec Ideal S8192x2048 .bf16 := V m c main_v1
abbrev U (c : Dev nD) : Vec Ideal S2048x8192 .bf16 := V m c main_v2
abbrev W (c : Dev nD) : Vec Ideal S8192x2048 .bf16 := V m c main_v3
abbrev G (c : Dev nD) : Vec Ideal S1x2048 .f32 := V m c main_v4

/-- Row `r` of the row tile that point `t` works on. -/
abbrev row (t : Fin cfg0.N) (r : Fin 512) : Fin 8192 :=
  ⟨t.val / 4 * 512 + r.val, by have : t.val < 64 := lt_of_lt_of_eq t.isLt N_0; omega⟩
/-- Hidden unit `k` of the block that point `t` works on. -/
abbrev hid (t : Fin cfg0.N) (k : Fin 2048) : Fin 8192 := ⟨t.val % 4 * 2048 + k.val, by omega⟩

theorem idx_facts : ∀ t : Fin grid0.N, win0_0.index t 0 = t.val / 4 ∧ win0_0.index t 1 = 0 ∧ win0_1.index t 0 = t.val / 4 ∧ win0_1.index t 1 = 0
    ∧ win0_2.index t 0 = 0 ∧ win0_2.index t 1 = t.val % 4 ∧ win0_3.index t 0 = t.val % 4 ∧ win0_3.index t 1 = 0
    ∧ win0_4.index t 0 = 0 ∧ win0_4.index t 1 = 0 ∧ win0_5.index t 0 = t.val / 4 ∧ win0_5.index t 1 = 0 := by decide +kernel

theorem blk_x (c : Dev nD) (t : Fin cfg0.N) (r : Fin 512) (n : Fin 2048) :
    (iblk m c 0 t : Vec Ideal S512x2048 .f32) (ix2 r n) = X m c (ix2 (row t r) n) := by
  unfold iblk
  rw [View.read_apply]
  show V m c main_v0 _ = V m c main_v0 _
  congr 1
  funext a
  apply Fin.ext
  have e := idx_facts t
  match a with
  | ⟨0, _⟩ => show win0_0.index t 0 * 512 + 1 * r.val = _; rw [e.1]; show _ = t.val / 4 * 512 + r.val; omega
  | ⟨1, _⟩ => show win0_0.index t 1 * 2048 + 1 * n.val = _; rw [e.2.1]; show _ = n.val; omega

theorem blk_h (c : Dev nD) (t : Fin cfg0.N) (r : Fin 512) (n : Fin 2048) :
    (iblk m c 1 t : Vec Ideal S512x2048 .bf16) (ix2 r n) = H m c (ix2 (row t r) n) := by
  unfold iblk
  rw [View.read_apply]
  show V m c main_v1 _ = V m c main_v1 _
  congr 1
  funext a
  apply Fin.ext
  have e := idx_facts t
  match a with
  | ⟨0, _⟩ => show win0_1.index t 0 * 512 + 1 * r.val = _; rw [e.2.2.1]; show _ = t.val / 4 * 512 + r.val; omega
  | ⟨1, _⟩ => show win0_1.index t 1 * 2048 + 1 * n.val = _; rw [e.2.2.2.1]; show _ = n.val; omega

theorem blk_u (c : Dev nD) (t : Fin cfg0.N) (d k : Fin 2048) :
    (iblk m c 2 t : Vec Ideal S2048x2048 .bf16) (ix2 d k) = U m c (ix2 d (hid t k)) := by
  unfold iblk
  rw [View.read_apply]
  show V m c main_v2 _ = V m c main_v2 _
  congr 1
  funext a
  apply Fin.ext
  have e := idx_facts t
  match a with
  | ⟨0, _⟩ => show win0_2.index t 0 * 2048 + 1 * d.val = _; rw [e.2.2.2.2.1]; show _ = d.val; omega
  | ⟨1, _⟩ => show win0_2.index t 1 * 2048 + 1 * k.val = _; rw [e.2.2.2.2.2.1]; show _ = t.val % 4 * 2048 + k.val; omega

theorem blk_w (c : Dev nD) (t : Fin cfg0.N) (k n : Fin 2048) :
    (iblk m c 3 t : Vec Ideal S2048x2048 .bf16) (ix2 k n) = W m c (ix2 (hid t k) n) := by
  unfold iblk
  rw [View.read_apply]
  show V m c main_v3 _ = V m c main_v3 _
  congr 1
  funext a
  apply Fin.ext
  have e := idx_facts t
  match a with
  | ⟨0, _⟩ => show win0_3.index t 0 * 2048 + 1 * k.val = _; rw [e.2.2.2.2.2.2.1]; show _ = t.val % 4 * 2048 + k.val; omega
  | ⟨1, _⟩ => show win0_3.index t 1 * 2048 + 1 * n.val = _; rw [e.2.2.2.2.2.2.2.1]; show _ = n.val; omega

theorem blk_g (c : Dev nD) (t : Fin cfg0.N) (n : Fin 2048) :
    (iblk m c 4 t : Vec Ideal S1x2048 .f32) (ix2 0 n) = G m c (ix2 0 n) := by
  unfold iblk
  rw [View.read_apply]
  show V m c main_v4 _ = V m c main_v4 _
  congr 1
  funext a
  apply Fin.ext
  have e := idx_facts t
  match a with
  | ⟨0, _⟩ => show win0_4.index t 0 * 1 + 1 * 0 = _; rw [e.2.2.2.2.2.2.2.2.1]; rfl
  | ⟨1, _⟩ => show win0_4.index t 1 * 2048 + 1 * n.val = _; rw [e.2.2.2.2.2.2.2.2.2.1]; show _ = n.val; omega

/-! ## The accumulation over the hidden blocks -/

/-- The part of row `R`, column `n`, that hidden block `j` adds. -/
def part (c : Dev nD) (R : Fin 8192) (n : Fin 2048) (j : ℕ) : Ideal .f32 :=
  ∑ k : Fin 2048, reluSq (∑ d : Fin 2048, H m c (ix2 R d) * U m c (ix2 d ⟨j % 4 * 2048 + k.val, by omega⟩)) * W m c (ix2 ⟨j % 4 * 2048 + k.val, by omega⟩ n)

/-- The residual plus the parts of the hidden blocks up to `j`. -/
def upto (c : Dev nD) (R : Fin 8192) (n : Fin 2048) : ℕ → Ideal .f32
  | 0 => X m c (ix2 R n) + part m c R n 0
  | j + 1 => upto c R n j + part m c R n (j + 1)

theorem part_eq (c : Dev nD) (t : Fin cfg0.N) (r : Fin 512) (n : Fin 2048) (h : Vec Ideal S512x2048 .bf16) (u w : Vec Ideal S2048x2048 .bf16)
    (eh : h = iblk m c 1 t) (eu : u = iblk m c 2 t) (ew : w = iblk m c 3 t) :
    ∑ k : Fin 2048, reluSq (∑ d : Fin 2048, h (ix2 r d) * u (ix2 d k)) * w (ix2 k n) = part m c (row t r) n (t.val % 4) := by
  have hh : ∀ d, h (ix2 r d) = H m c (ix2 (row t r) d) := fun d => by rw [eh]; exact blk_h m c t r d
  have hu : ∀ d k, u (ix2 d k) = U m c (ix2 d (hid t k)) := fun d k => by rw [eu]; exact blk_u m c t d k
  have hw : ∀ k, w (ix2 k n) = W m c (ix2 (hid t k) n) := fun k => by rw [ew]; exact blk_w m c t k n
  unfold part
  refine Finset.sum_congr rfl fun k _ => ?_
  have hk : hid t k = ⟨t.val % 4 % 4 * 2048 + k.val, by omega⟩ := Fin.ext (by show t.val % 4 * 2048 + k.val = _; simp)
  simp only [hh, hu, hw, ← hk]

/-- The output's staging buffer after point `t`. -/
theorem outsAt_eq (c : Dev nD) : ∀ (n : ℕ) (hn : n < cfg0.N) (r : Fin 512) (q : Fin 2048),
    outsAt0 m c n hn (ix2 r q) = if n % 4 = 3 then rmsRow (fun k => upto m c (row ⟨n, hn⟩ r) k 3) (G m c (ix2 0 q)) q
      else upto m c (row ⟨n, hn⟩ r) q (n % 4) := by
  intro n
  induction n with
  | zero =>
    intro hn r q
    rw [outsAt0_A m c ⟨0, hn⟩ rfl (by dsimp only; omega) (by dsimp only; omega), out_A, pay1_apply, part_eq m c _ _ _ _ _ _ rfl rfl rfl, blk_x, if_neg (by decide)]
    rfl
  | succ n ih =>
    intro hn r q
    have hN : cfg0.N = 64 := N_0
    have hrow : ∀ h, (n + 1) % 4 ≠ 0 → row ⟨n, h⟩ r = row ⟨n + 1, hn⟩ r := fun h h0 => Fin.ext (by
      show n / 4 * 512 + r.val = (n + 1) / 4 * 512 + r.val
      have : n / 4 = (n + 1) / 4 := by omega
      rw [this])
    by_cases h0 : (n + 1) % 4 = 0
    · rw [outsAt0_A m c ⟨n + 1, hn⟩ h0 (by dsimp only; omega) (by dsimp only; omega), out_A, pay1_apply, part_eq m c _ _ _ _ _ _ rfl rfl rfl, blk_x, if_neg (by omega)]
      dsimp only
      rw [h0]
      rfl
    · by_cases h3 : (n + 1) % 4 = 3
      · rw [outsAt0_C m c ⟨n + 1, hn⟩ h0 (by dsimp only; omega) h3, out_C, pay3_apply, if_pos h3, blk_g]
        congr 1
        funext k
        rw [pay1_apply, part_eq m c _ _ _ _ _ _ rfl rfl rfl]
        show outsAt0 m c n _ (ix2 r k) + _ = _
        rw [ih (by omega) r k, if_neg (by omega), hrow _ h0]
        dsimp only
        rw [h3, show n % 4 = 2 by omega]
        rfl
      · rw [outsAt0_B m c ⟨n + 1, hn⟩ h0 (by dsimp only; omega) h3, out_B, pay2_apply, part_eq m c _ _ _ _ _ _ rfl rfl rfl, if_neg h3]
        show outsAt0 m c n _ (ix2 r q) + _ = _
        rw [ih (by omega) r q, if_neg (by omega), hrow _ h0]
        dsimp only
        rw [show (n + 1) % 4 = n % 4 + 1 by omega]
        rfl

/-! ## The result array -/

/-- The result array, index by index. -/
def result (c : Dev nD) : Buf (Elt Ideal) ((c : Thread nD τ).loc main_v5) :=
  fun i : S8192x2048.Idx => rmsRow (fun k => upto m c (i 0) k 3) (G m c (ix2 0 (i 1))) (i 1)

theorem flushed_eq (c : Dev nD) (t : Fin cfg0.N) (hf : (cfg0.win 5).flush t = true) :
    (dats m 0 c).flushed 5 t = ((cfg0.win 5).blk t).view.read (Elt Ideal) (result m c) := by
  rw [Value.flushed5]
  have h3 := (flush0_5 t).mp hf
  funext j
  rw [View.read_apply]
  obtain ⟨r, q, rfl⟩ : ∃ (r : Fin 512) (q : Fin 2048), j = ix2 r q := ⟨j 0, j 1, by funext a; match a with | ⟨0, _⟩ => rfl | ⟨1, _⟩ => rfl⟩
  show outsAt0 m c t.val t.isLt (ix2 r q) = _
  rw [outsAt_eq, if_pos h3]
  have e := idx_facts t
  have hi : ((cfg0.win 5).blk t).view.emb (ix2 r q) = (ix2 (row t r) q : S8192x2048.Idx) := by
    funext a
    apply Fin.ext
    match a with
    | ⟨0, _⟩ => show win0_5.index t 0 * 512 + 1 * r.val = t.val / 4 * 512 + r.val; rw [e.2.2.2.2.2.2.2.2.2.2.1]; omega
    | ⟨1, _⟩ => show win0_5.index t 1 * 2048 + 1 * q.val = q.val; rw [e.2.2.2.2.2.2.2.2.2.2.2]; omega
  exact (congrArg (result m c) hi).symm

theorem mem_blk (t : Fin cfg0.N) (i : S8192x2048.Idx) (h : (i 0).val / 512 = t.val / 4) : i ∈ ((cfg0.win 5).blk t).view.set := by
  show i ∈ ((View.whole main_v5).slice (win0_5.rect t)).set
  rw [View.set_slice_whole, Rect.mem_set_unit]
  have h0 : (i 0).val < 8192 := (i 0).isLt
  have h1 : (i 1).val < 2048 := (i 1).isLt
  have e := idx_facts t
  intro a
  match a with
  | ⟨0, _⟩ => show win0_5.index t 0 * 512 ≤ (i 0).val ∧ (i 0).val < win0_5.index t 0 * 512 + 512; rw [e.2.2.2.2.2.2.2.2.2.2.1]; omega
  | ⟨1, _⟩ => show win0_5.index t 1 * 2048 ≤ (i 1).val ∧ (i 1).val < win0_5.index t 1 * 2048 + 2048; rw [e.2.2.2.2.2.2.2.2.2.2.2]; omega

theorem final (c : Dev nD) : (dats m 0 c).arrAt 5 cfg0.N = result m c :=
  (dats m 0 c).arrAt_eq_of_cover 5 (result m c) (flushed_eq m c) fun i => by
    have h0 : (i 0).val < 8192 := (i 0).isLt
    have hN : cfg0.N = 64 := N_0
    refine ⟨⟨(i 0).val / 512 * 4 + 3, by omega⟩, (flush0_5 _).mpr (by dsimp only; omega), mem_blk _ i (by dsimp only; omega)⟩

end Cert.MlpIdeal.Mixer

end
-- ==== Proof.MlpClaim.lean ====
/- The channel mixer: its kernel's result is the reference's, index by index.

   The only law needed is that a sum over the 8192 hidden units is the sum of the sums over its four blocks. -/
module

public import proofs.«01_k».proof.Defs
public import proofs.«01_k».proof.Proof.MlpValue
public import proofs.«01_k».proof.Proof.Gen.Mlp.Frame
public import proofs.«01_k».proof.Proof.Gen.MlpRefIdeal
public import proofs.«01_k».proof.Proof.Gen.MlpRefIdeal.Run
public import proofs.«01_k».proof.Proof.Gen.MlpRefIdeal.Read
public import Idealize.ShloMosaic.Lib.Quiescent

@[expose] public section

set_option maxRecDepth 16384

noncomputable section

open Idealize.ShloMosaic Idealize.ShloMosaic.TcCoe Idealize.SL.Sem

namespace Cert.MlpIdeal.Mixer

open Cert.MlpIdeal Cert.MlpIdeal.Gen

/-- A sum over 8192 is the sum of the sums over its four blocks of 2048. -/
theorem sum_blocks (f : Fin 8192 → Ideal .f32) (g : ℕ → Fin 2048 → Ideal .f32)
    (h : ∀ (j : Fin 4) (k : Fin 2048), g j.val k = f ⟨j.val * 2048 + k.val, by omega⟩) :
    ∑ k, f k = ∑ k, g 0 k + ∑ k, g 1 k + ∑ k, g 2 k + ∑ k, g 3 k := by
  have e := (Equiv.sum_comp (finProdFinEquiv (m := 4) (n := 2048)) f).symm
  rw [Fintype.sum_prod_type, Fin.sum_univ_four] at e
  refine e.trans ?_
  have hj : ∀ j : Fin 4, ∑ k : Fin 2048, f (finProdFinEquiv (j, k)) = ∑ k, g j.val k := fun j =>
    Finset.sum_congr rfl fun k _ => by
      rw [h]
      exact congrArg f (Fin.ext (by show k.val + 2048 * j.val = j.val * 2048 + k.val; omega))
  rw [hj 0, hj 1, hj 2, hj 3]
  rfl

variable (m : (ℓ : Loc nD τ sig) → Buf (Elt Ideal) ℓ)

abbrev bt (R : Fin 8192) : Fin 4 := ⟨R.val / 2048, by omega⟩
abbrev tk (R : Fin 8192) : Fin 2048 := ⟨R.val % 2048, by omega⟩

theorem X_apply (c : Dev nD) (R : Fin 8192) (n : Fin 2048) :
    X m c (ix2 R n) = m ((c : Thread nD τ).loc main_arg0) (ix3 (bt R) (tk R) n) := by
  unfold X; entry_read; pointwise
theorem H_apply (c : Dev nD) (R : Fin 8192) (n : Fin 2048) :
    H m c (ix2 R n) = m ((c : Thread nD τ).loc main_arg1) (ix3 (bt R) (tk R) n) := by
  unfold H; entry_read; pointwise
theorem U_apply (c : Dev nD) (d : Fin 2048) (f : Fin 8192) :
    U m c (ix2 d f) = m ((c : Thread nD τ).loc main_arg2) (ix3 0 d f) := by
  unfold U; entry_read; pointwise
theorem W_apply (c : Dev nD) (f : Fin 8192) (n : Fin 2048) :
    W m c (ix2 f n) = m ((c : Thread nD τ).loc main_arg3) (ix3 0 f n) := by
  unfold W; entry_read; pointwise
theorem G_apply (c : Dev nD) (n : Fin 2048) :
    G m c (ix2 0 n) = m ((c : Thread nD τ).loc main_arg4) (ix1 n) := by
  unfold G; entry_read; pointwise

end Cert.MlpIdeal.Mixer

namespace Cert.MlpRefIdeal.Mixer

open Cert.MlpRefIdeal Cert.MlpRefIdeal.Gen Cert.MlpRefIdeal.Read Cert.MlpIdeal.Mixer

variable (x0 : (⟨S4x2048x2048, .f32⟩ : BufTy).Contents (Elt Ideal)) (x1 : (⟨S4x2048x2048, .bf16⟩ : BufTy).Contents (Elt Ideal))
  (x2 : (⟨S1x2048x8192, .bf16⟩ : BufTy).Contents (Elt Ideal)) (x3 : (⟨S1x8192x2048, .bf16⟩ : BufTy).Contents (Elt Ideal))
  (x4 : (⟨S2048, .f32⟩ : BufTy).Contents (Elt Ideal))

/-- The residual stream after the mixer, at an index. -/
theorem mixed_apply (b : Fin 4) (l n : Fin 2048) : val_main_v9 (F := Ideal) x0 x1 x2 x3 (ix3 b l n)
    = x0 (ix3 b l n) + ∑ f : Fin 8192, reluSq (∑ d : Fin 2048, x1 (ix3 b l d) * x2 (ix3 0 d f)) * x3 (ix3 0 f n) := by
  unfold val_main_v9 val_main_v8 val_main_v7 val_main_v6 val_main_v5 val_main_v4 val_main_call0_v0 val_main_call0_cst val_main_v3 val_main_v2 val_main_v1 val_main_v0
  pointwise [dot_S4x2048x2048_S2048x8192_S4x2048x8192_2_0_01_1_n_n, dot_S4x2048x8192_S8192x2048_S4x2048x2048_2_0_01_1_n_n]

/-- The result, at an index: the row normalised. -/
theorem out_apply (R : Fin 8192) (n : Fin 2048) : val_main_v23 (F := Ideal) x0 x1 x2 x3 x4 (ix2 R n)
    = rmsRow (fun k => val_main_v9 (F := Ideal) x0 x1 x2 x3 (ix3 (bt R) (tk R) k)) (x4 (ix1 n)) n := by
  unfold rmsRow val_main_v23 val_main_v22 val_main_v21 val_main_v20 val_main_v19 val_main_v18 val_main_v17 val_main_v16 val_main_v15 val_main_v14 val_main_v13 val_main_v12 val_main_v11 val_main_v10 val_main_cst val_main_cst_0 val_main_cst_1
  generalize val_main_v9 (F := Ideal) x0 x1 x2 x3 = y
  pointwise

end Cert.MlpRefIdeal.Mixer

namespace Cert.Proof.Mixer

open Cert.MlpIdeal.Mixer

theorem frame_bits : Cert.quiescent_Mlp := fun m ρ _ => Cert.Mlp.Gen.frame m ρ
theorem frame_ideal : Cert.quiescent_MlpIdeal := fun m ρ _ => Cert.MlpIdeal.Gen.frame m ρ
theorem frame_reference : Cert.quiescent_MlpRefIdeal := fun m ρ _ =>
  (θ_run Cert.MlpRefIdeal.defs _ _).mono (fun r h => ⟨fun c => (h c).2, Idealize.ShloMosaic.sem_eq_zero_of_no_sems (by decide) r.2⟩)
    (Cert.MlpRefIdeal.Value.run (F := Ideal) m ρ)
theorem preserves : Cert.preserves_Mlp_MlpIdeal := trivial

/-- The kernel's accumulated row is the reference's. -/
theorem upto_eq (m : (ℓ : Loc Cert.MlpIdeal.nD Cert.MlpIdeal.τ Cert.MlpIdeal.sig) → Buf (Elt Ideal) ℓ) (c : Dev Cert.MlpIdeal.nD)
    (R : Fin 8192) (n : Fin 2048) : upto m c R n 3 = Cert.MlpRefIdeal.Read.val_main_v9 (F := Ideal)
      (m ((c : Thread Cert.MlpIdeal.nD Cert.MlpIdeal.τ).loc Cert.MlpIdeal.main_arg0)) (m ((c : Thread Cert.MlpIdeal.nD Cert.MlpIdeal.τ).loc Cert.MlpIdeal.main_arg1))
      (m ((c : Thread Cert.MlpIdeal.nD Cert.MlpIdeal.τ).loc Cert.MlpIdeal.main_arg2)) (m ((c : Thread Cert.MlpIdeal.nD Cert.MlpIdeal.τ).loc Cert.MlpIdeal.main_arg3))
      (ix3 (bt R) (tk R) n) := by
  rw [Cert.MlpRefIdeal.Mixer.mixed_apply]
  rw [sum_blocks _ (fun j k => reluSq (∑ d : Fin 2048, H m c (ix2 R d) * U m c (ix2 d ⟨j % 4 * 2048 + k.val, by omega⟩)) * W m c (ix2 ⟨j % 4 * 2048 + k.val, by omega⟩ n))]
  · show X m c (ix2 R n) + part m c R n 0 + part m c R n 1 + part m c R n 2 + part m c R n 3 = _
    rw [X_apply]
    unfold part
    simp only [add_assoc]
  · intro j k
    have hj : j.val % 4 = j.val := Nat.mod_eq_of_lt j.isLt
    simp only [hj]
    exact congrArg₂ (fun a b : EReal => a * b) (congrArg reluSq (Finset.sum_congr rfl fun d _ => congrArg₂ (fun a b : EReal => a * b) (H_apply m c R d) (U_apply m c d _)))
      (W_apply m c _ n)

theorem result_eq (m : (ℓ : Loc Cert.MlpIdeal.nD Cert.MlpIdeal.τ Cert.MlpIdeal.sig) → Buf (Elt Ideal) ℓ) (c : Dev Cert.MlpIdeal.nD) :
    result m c = Cert.MlpRefIdeal.Read.val_main_v23 (F := Ideal)
      (m ((c : Thread Cert.MlpIdeal.nD Cert.MlpIdeal.τ).loc Cert.MlpIdeal.main_arg0)) (m ((c : Thread Cert.MlpIdeal.nD Cert.MlpIdeal.τ).loc Cert.MlpIdeal.main_arg1))
      (m ((c : Thread Cert.MlpIdeal.nD Cert.MlpIdeal.τ).loc Cert.MlpIdeal.main_arg2)) (m ((c : Thread Cert.MlpIdeal.nD Cert.MlpIdeal.τ).loc Cert.MlpIdeal.main_arg3))
      (m ((c : Thread Cert.MlpIdeal.nD Cert.MlpIdeal.τ).loc Cert.MlpIdeal.main_arg4)) := by
  funext i
  obtain ⟨R, n, rfl⟩ : ∃ (R : Fin 8192) (n : Fin 2048), i = ix2 R n := ⟨i 0, i 1, by funext a; match a with | ⟨0, _⟩ => rfl | ⟨1, _⟩ => rfl⟩
  rw [Cert.MlpRefIdeal.Mixer.out_apply]
  show rmsRow (fun k => upto m c R k 3) (G m c (ix2 0 n)) n = _
  rw [G_apply]
  congr 1
  funext k
  exact upto_eq m c R k

theorem algebraic : Cert.algebraic_MlpIdeal_MlpRefIdeal := by
  intro m ρ m' ρ' _ hagree
  refine ⟨fun c => result m c, ?_, ?_⟩
  · exact (θ_run Cert.MlpIdeal.defs _ _).mono (fun _ h c => ⟨(h c).1.trans (final m c), (h c).2⟩)
      (Cert.MlpIdeal.Value.run_blocks (F := Ideal) m ρ)
  · refine (θ_run Cert.MlpRefIdeal.defs _ _).mono (fun _ h c => ⟨(h c).1.trans ?_, (h c).2⟩) (Cert.MlpRefIdeal.Value.run (F := Ideal) m' ρ')
    obtain ⟨e0, e1, e2, e3, e4⟩ := hagree c
    rw [Cert.MlpRefIdeal.Read.val_main_v23_eq, e0, e1, e2, e3, e4]
    exact (result_eq m c).symm

end Cert.Proof.Mixer

end
-- ==== Proof.SsdRuns.lean ====
/- What the runs of the mixer kernel share: the branch conditions over the grid, where the windows are idle, the
   staging and scratch memrefs. -/
module

public import proofs.«01_k».proof.Proof.Gen.KernelIdeal.Frame
public import proofs.«01_k».proof.Proof.Gen.KernelIdeal.Skeleton

@[expose] public section

set_option maxRecDepth 16384

noncomputable section

namespace Cert.KernelIdeal.Ssd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 (i 0).val) (Scalar.select (Scalar.cmpi .eq 8#32 0#32) 1#32 8#32)) 0#32)) (Scalar.addi (Scalar.remsi (BitVec.ofNat 32 (i 0).val) (Scalar.select (Scalar.cmpi .eq 8#32 0#32) 1#32 8#32)) (Scalar.select (Scalar.cmpi .eq 8#32 0#32) 1#32 8#32)) (Scalar.remsi (BitVec.ofNat 32 (i 0).val) (Scalar.select (Scalar.cmpi .eq 8#32 0#32) 1#32 8#32))) 0#32)) 0#32) = 1#1
/-- It holds at the points ≡ 0 (mod 8) — decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the first point only — by arithmetic of the point. -/
theorem hcond0_1 : ∀ t : Fin cfg0.N, cond0_1 (grid0.coords t) ↔ t.val % 33 = 0 :=
  (fun t => by
    have ht : t.val < 33 := Nat.lt_of_lt_of_eq t.isLt N_0
    have e0 : (grid0.coords t 0).val = t.val / 1 % 33 := Pipeline.Grid.coords_val t 0 (by decide) rfl
    simp only [cond0_1, k0_cond2, e0]
    word_cmp
   : ∀ t : Fin grid0.N, cond0_1 (grid0.coords t) ↔ t.val % 33 = 0)

/-- The condition of the body's `scf.if` 2 (`k0_h3`), from the grid coordinates (the skeleton's scalar
    chain substituted). -/
abbrev cond0_2 (i : grid0.Coords) : Prop := k0_cond3 i = 1#1
/-- It holds at the points whose coordinates have 1 ≤ i0 and i0 ≤ 31 — decided over the grid. -/
theorem hcond0_2 : ∀ t : Fin cfg0.N, cond0_2 (grid0.coords t) ↔ (1 ≤ t.val % 33 ∧ t.val % 33 ≤ 31) :=
  (by decide +kernel : ∀ t : Fin grid0.N, cond0_2 (grid0.coords t) ↔ (1 ≤ t.val % 33 ∧ t.val % 33 ≤ 31))

/-- The condition of the body's `scf.if` 3 (`k0_h4`), from the grid coordinates (the skeleton's scalar
    chain substituted). -/
abbrev cond0_3 (i : grid0.Coords) : Prop := k0_cond4 i = 1#1
/-- It holds at the last point only — by arithmetic of the point. -/
theorem hcond0_3 : ∀ t : Fin cfg0.N, cond0_3 (grid0.coords t) ↔ t.val % 33 = 32 :=
  (fun t => by
    have ht : t.val < 33 := Nat.lt_of_lt_of_eq t.isLt N_0
    have e0 : (grid0.coords t 0).val = t.val / 1 % 33 := Pipeline.Grid.coords_val t 0 (by decide) rfl
    simp only [cond0_3, k0_cond4, e0]
    word_cmp
   : ∀ t : Fin grid0.N, cond0_3 (grid0.coords t) ↔ t.val % 33 = 32)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ cond0_1 i ∧ ¬cond0_2 i ∧ ¬cond0_3 i
instance conds0_A.dec (i : grid0.Coords) : Decidable (conds0_A i) :=
  @instDecidableAnd _ _ inferInstance (@instDecidableAnd _ _ inferInstance (@instDecidableAnd _ _ inferInstance inferInstance))
/-- Case B's branch conditions on the grid, as one proposition. -/
abbrev conds0_B (i : grid0.Coords) : Prop := ¬cond0_0 i ∧ ¬cond0_1 i ∧ cond0_2 i ∧ ¬cond0_3 i
instance conds0_B.dec (i : grid0.Coords) : Decidable (conds0_B i) :=
  @instDecidableAnd _ _ inferInstance (@instDecidableAnd _ _ inferInstance (@instDecidableAnd _ _ inferInstance inferInstance))
/-- Case C's branch conditions on the grid, as one proposition. -/
abbrev conds0_C (i : grid0.Coords) : Prop := cond0_0 i ∧ ¬cond0_1 i ∧ cond0_2 i ∧ ¬cond0_3 i
instance conds0_C.dec (i : grid0.Coords) : Decidable (conds0_C i) :=
  @instDecidableAnd _ _ inferInstance (@instDecidableAnd _ _ inferInstance (@instDecidableAnd _ _ inferInstance inferInstance))
/-- Case D's branch conditions on the grid, as one proposition. -/
abbrev conds0_D (i : grid0.Coords) : Prop := cond0_0 i ∧ ¬cond0_1 i ∧ ¬cond0_2 i ∧ cond0_3 i
instance conds0_D.dec (i : grid0.Coords) : Decidable (conds0_D i) :=
  @instDecidableAnd _ _ inferInstance (@instDecidableAnd _ _ inferInstance (@instDecidableAnd _ _ inferInstance inferInstance))
/-- At the points of case A the printed configuration (`Cfg.idle`) calls output 14 idle: the case stores nothing into it. -/
theorem idleAt0_14_A : ∀ t : Fin cfg0.N, cond0_0 (grid0.coords t) → cond0_1 (grid0.coords t) → ¬cond0_2 (grid0.coords t) → ¬cond0_3 (grid0.coords t) → cfg0.idle 14 (grid0.coords t) = true :=
  fun t h0 h1 h2 h3 => (by decide +kernel : ∀ t : Fin cfg0.N, conds0_A (grid0.coords t) → cfg0.idle 14 (grid0.coords t) = true) t ⟨h0, h1, h2, h3⟩
/-- At the points of case A the pipeline does not write output 14's block back. -/
theorem noFlush0_14_A : ∀ t : Fin cfg0.N, cond0_0 (grid0.coords t) → cond0_1 (grid0.coords t) → ¬cond0_2 (grid0.coords t) → ¬cond0_3 (grid0.coords t) → (cfg0.win 14).flush t = false :=
  fun t h0 h1 h2 h3 => (by decide +kernel : ∀ t : Fin cfg0.N, conds0_A (grid0.coords t) → (cfg0.win 14).flush t = false) t ⟨h0, h1, h2, h3⟩
/-- At the points of case B the printed configuration (`Cfg.idle`) calls output 14 live: the case stores into it. -/
theorem liveAt0_14_B : ∀ t : Fin cfg0.N, ¬cond0_0 (grid0.coords t) → ¬cond0_1 (grid0.coords t) → cond0_2 (grid0.coords t) → ¬cond0_3 (grid0.coords t) → cfg0.idle 14 (grid0.coords t) = false :=
  fun t h0 h1 h2 h3 => (by decide +kernel : ∀ t : Fin cfg0.N, conds0_B (grid0.coords t) → cfg0.idle 14 (grid0.coords t) = false) t ⟨h0, h1, h2, h3⟩
/-- At the points of case C the printed configuration (`Cfg.idle`) calls output 14 live: the case stores into it. -/
theorem liveAt0_14_C : ∀ t : Fin cfg0.N, cond0_0 (grid0.coords t) → ¬cond0_1 (grid0.coords t) → cond0_2 (grid0.coords t) → ¬cond0_3 (grid0.coords t) → cfg0.idle 14 (grid0.coords t) = false :=
  fun t h0 h1 h2 h3 => (by decide +kernel : ∀ t : Fin cfg0.N, conds0_C (grid0.coords t) → cfg0.idle 14 (grid0.coords t) = false) t ⟨h0, h1, h2, h3⟩
/-- At the points of case D the printed configuration (`Cfg.idle`) calls output 14 live: the case stores into it. -/
theorem liveAt0_14_D : ∀ t : Fin cfg0.N, cond0_0 (grid0.coords t) → ¬cond0_1 (grid0.coords t) → ¬cond0_2 (grid0.coords t) → cond0_3 (grid0.coords t) → cfg0.idle 14 (grid0.coords t) = false :=
  fun t h0 h1 h2 h3 => (by decide +kernel : ∀ t : Fin cfg0.N, conds0_D (grid0.coords t) → cfg0.idle 14 (grid0.coords t) = false) t ⟨h0, h1, h2, h3⟩
/-- At the points of case A the printed configuration (`Cfg.idle`) calls output 15 idle: the case stores nothing into it. -/
theorem idleAt0_15_A : ∀ t : Fin cfg0.N, cond0_0 (grid0.coords t) → cond0_1 (grid0.coords t) → ¬cond0_2 (grid0.coords t) → ¬cond0_3 (grid0.coords t) → cfg0.idle 15 (grid0.coords t) = true :=
  fun t h0 h1 h2 h3 => (by decide +kernel : ∀ t : Fin cfg0.N, conds0_A (grid0.coords t) → cfg0.idle 15 (grid0.coords t) = true) t ⟨h0, h1, h2, h3⟩
/-- At the points of case A the pipeline does not write output 15's block back. -/
theorem noFlush0_15_A : ∀ t : Fin cfg0.N, cond0_0 (grid0.coords t) → cond0_1 (grid0.coords t) → ¬cond0_2 (grid0.coords t) → ¬cond0_3 (grid0.coords t) → (cfg0.win 15).flush t = false :=
  fun t h0 h1 h2 h3 => (by decide +kernel : ∀ t : Fin cfg0.N, conds0_A (grid0.coords t) → (cfg0.win 15).flush t = false) t ⟨h0, h1, h2, h3⟩
/-- At the points of case B the printed configuration (`Cfg.idle`) calls output 15 live: the case stores into it. -/
theorem liveAt0_15_B : ∀ t : Fin cfg0.N, ¬cond0_0 (grid0.coords t) → ¬cond0_1 (grid0.coords t) → cond0_2 (grid0.coords t) → ¬cond0_3 (grid0.coords t) → cfg0.idle 15 (grid0.coords t) = false :=
  fun t h0 h1 h2 h3 => (by decide +kernel : ∀ t : Fin cfg0.N, conds0_B (grid0.coords t) → cfg0.idle 15 (grid0.coords t) = false) t ⟨h0, h1, h2, h3⟩
/-- At the points of case C the printed configuration (`Cfg.idle`) calls output 15 live: the case stores into it. -/
theorem liveAt0_15_C : ∀ t : Fin cfg0.N, cond0_0 (grid0.coords t) → ¬cond0_1 (grid0.coords t) → cond0_2 (grid0.coords t) → ¬cond0_3 (grid0.coords t) → cfg0.idle 15 (grid0.coords t) = false :=
  fun t h0 h1 h2 h3 => (by decide +kernel : ∀ t : Fin cfg0.N, conds0_C (grid0.coords t) → cfg0.idle 15 (grid0.coords t) = false) t ⟨h0, h1, h2, h3⟩
/-- At the points of case D the printed configuration (`Cfg.idle`) calls output 15 live: the case stores into it. -/
theorem liveAt0_15_D : ∀ t : Fin cfg0.N, cond0_0 (grid0.coords t) → ¬cond0_1 (grid0.coords t) → ¬cond0_2 (grid0.coords t) → cond0_3 (grid0.coords t) → cfg0.idle 15 (grid0.coords t) = false :=
  fun t h0 h1 h2 h3 => (by decide +kernel : ∀ t : Fin cfg0.N, conds0_D (grid0.coords t) → cfg0.idle 15 (grid0.coords t) = false) t ⟨h0, h1, h2, h3⟩
/-- At the points of case A the printed configuration (`Cfg.idle`) calls output 16 live: the case stores into it. -/
theorem liveAt0_16_A : ∀ t : Fin cfg0.N, cond0_0 (grid0.coords t) → cond0_1 (grid0.coords t) → ¬cond0_2 (grid0.coords t) → ¬cond0_3 (grid0.coords t) → cfg0.idle 16 (grid0.coords t) = false :=
  fun t h0 h1 h2 h3 => (by decide +kernel : ∀ t : Fin cfg0.N, conds0_A (grid0.coords t) → cfg0.idle 16 (grid0.coords t) = false) t ⟨h0, h1, h2, h3⟩
/-- At the points of case B the printed configuration (`Cfg.idle`) calls output 16 live: the case stores into it. -/
theorem liveAt0_16_B : ∀ t : Fin cfg0.N, ¬cond0_0 (grid0.coords t) → ¬cond0_1 (grid0.coords t) → cond0_2 (grid0.coords t) → ¬cond0_3 (grid0.coords t) → cfg0.idle 16 (grid0.coords t) = false :=
  fun t h0 h1 h2 h3 => (by decide +kernel : ∀ t : Fin cfg0.N, conds0_B (grid0.coords t) → cfg0.idle 16 (grid0.coords t) = false) t ⟨h0, h1, h2, h3⟩
/-- At the points of case C the printed configuration (`Cfg.idle`) calls output 16 live: the case stores into it. -/
theorem liveAt0_16_C : ∀ t : Fin cfg0.N, cond0_0 (grid0.coords t) → ¬cond0_1 (grid0.coords t) → cond0_2 (grid0.coords t) → ¬cond0_3 (grid0.coords t) → cfg0.idle 16 (grid0.coords t) = false :=
  fun t h0 h1 h2 h3 => (by decide +kernel : ∀ t : Fin cfg0.N, conds0_C (grid0.coords t) → cfg0.idle 16 (grid0.coords t) = false) t ⟨h0, h1, h2, h3⟩
/-- At the points of case D the printed configuration (`Cfg.idle`) calls output 16 idle: the case stores nothing into it. -/
theorem idleAt0_16_D : ∀ t : Fin cfg0.N, cond0_0 (grid0.coords t) → ¬cond0_1 (grid0.coords t) → ¬cond0_2 (grid0.coords t) → cond0_3 (grid0.coords t) → cfg0.idle 16 (grid0.coords t) = true :=
  fun t h0 h1 h2 h3 => (by decide +kernel : ∀ t : Fin cfg0.N, conds0_D (grid0.coords t) → cfg0.idle 16 (grid0.coords t) = true) t ⟨h0, h1, h2, h3⟩
/-- Output 16's last block is written back at the last point, -/
theorem flush0_16_D : ∀ t : Fin cfg0.N, t.val % 33 = 32 → (cfg0.win 16).flush t = true :=
  (by decide +kernel : ∀ t : Fin cfg0.N, t.val % 33 = 32 → (cfg0.win 16).flush t = true)
/-- and not at the point before, -/
theorem noFlush0_16_prev : ∀ t : Fin cfg0.N, t.val % 33 = 31 → (cfg0.win 16).flush t = false :=
  (by decide +kernel : ∀ t : Fin cfg0.N, t.val % 33 = 31 → (cfg0.win 16).flush t = false)
/-- where it is live. -/
theorem live0_16_prev : ∀ t : Fin cfg0.N, t.val % 33 = 31 → cfg0.idle 16 (grid0.coords t) = false :=
  (by decide +kernel : ∀ t : Fin cfg0.N, t.val % 33 = 31 → cfg0.idle 16 (grid0.coords t) = false)

/-! ## The kernel body on any staging memrefs: a subtype the run finds -/

/-- One staging buffer of output window 14, through which its contents are stated (`View.read_writes_of_cover`: the
    choice does not matter). -/
abbrev VO0_14 : View sig .tc .vmem S256x2048 .f32 := (Memref.whole cc0_stg14_0 : Memref sig .tc .vmem S256x2048 .f32).view
/-- One staging buffer of output window 15, through which its contents are stated (`View.read_writes_of_cover`: the
    choice does not matter). -/
abbrev VO0_15 : View sig .tc .vmem S256x2048 .bf16 := (Memref.whole cc0_stg15_0 : Memref sig .tc .vmem S256x2048 .bf16).view
/-- One staging buffer of output window 16, through which its contents are stated (`View.read_writes_of_cover`: the
    choice does not matter). -/
abbrev VO0_16 : View sig .tc .vmem S256x2048 .bf16 := (Memref.whole cc0_stg16_0 : Memref sig .tc .vmem S256x2048 .bf16).view
/-- Each window's current staging memref at point `t`, spelled as the pipeline passes it (`bodyAt0`), and its wholeness. -/
abbrev ms0_0 (t : Fin cfg0.N) : Memref sig .tc .vmem S256x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x2048 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2048x2048 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x2048 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x2048 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S256x2048 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S256x2048 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S256x2048 .bf16 := win0_16.stage (cfg0.slots t 16)
abbrev hs0_16 (t : Fin cfg0.N) : (ms0_16 t).IsWhole := hstage0_16 ((cfg0.slots t 16).cast nbuf0_16)
/-- The scratch operands: whole scoped buffers of the kernel's own, passed beside the windows. -/
abbrev scM0_0 : Memref sig .tc .vmem S136x2048 .f32 := Memref.whole cc0_scratch0
abbrev scM0_1 : Memref sig .tc .vmem S128x1024 .f32 := Memref.whole cc0_scratch1
abbrev scM0_2 : Memref sig .tc .vmem S256x1024 .bf16 := Memref.whole cc0_scratch2
abbrev scM0_3 : Memref sig .tc .vmem S256x1024 .bf16 := Memref.whole cc0_scratch3
/-- The scratch `arg18` the kernel carries between points, as a view: what it holds is stated through it. -/
abbrev VS0_0 : View sig .tc .vmem S136x2048 .f32 := scM0_0.view
/-- The scratch `arg19` the kernel carries between points, as a view: what it holds is stated through it. -/
abbrev VS0_1 : View sig .tc .vmem S128x1024 .f32 := scM0_1.view
/-- The scratch `arg20` the kernel carries between points, as a view: what it holds is stated through it. -/
abbrev VS0_2 : View sig .tc .vmem S256x1024 .bf16 := scM0_2.view

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Ssd

end
-- ==== Proof.SsdRunA.lean ====
/- The mixer kernel's body run in case A. -/
module

public import proofs.«01_k».proof.Proof.SsdRuns

@[expose] public section

set_option maxRecDepth 16384

noncomputable section

namespace Cert.KernelIdeal.Ssd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 not taken, `scf.if` 3 not taken: points 0), WITH the
    proof that on whole staging memrefs — the inputs' at their contents, the outputs it leaves idle (14, 15: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x2048 .bf16) (harg1 : arg1.IsWhole) (arg2 : Memref sig .tc .vmem S256x1024 .bf16) (harg2 : arg2.IsWhole) (arg3 : Memref sig .tc .vmem S256x128 .f32) (harg3 : arg3.IsWhole) (arg4 : Memref sig .tc .vmem S4x2048 .f32) (harg4 : arg4.IsWhole) (arg5 : Memref sig .tc .vmem S1x2048 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S256x2048 .f32) (harg10 : arg10.IsWhole) (arg11 : Memref sig .tc .vmem S256x1024 .bf16) (harg11 : arg11.IsWhole) (arg12 : Memref sig .tc .vmem S2048x2048 .bf16) (harg12 : arg12.IsWhole) (arg13 : Memref sig .tc .vmem S1x2048 .f32) (harg13 : arg13.IsWhole) (arg14 : Memref sig .tc .vmem S256x2048 .f32) (harg14 : arg14.IsWhole) (arg15 : Memref sig .tc .vmem S256x2048 .f32) (harg15 : arg15.IsWhole) (arg16 : Memref sig .tc .vmem S256x2048 .bf16) (harg16 : arg16.IsWhole) (arg17 : Memref sig .tc .vmem S256x2048 .bf16) (harg17 : arg17.IsWhole) (arg18 : Memref sig .tc .vmem S136x2048 .f32) (harg18 : arg18.IsWhole) (arg19 : Memref sig .tc .vmem S128x1024 .f32) (harg19 : arg19.IsWhole) (arg20 : Memref sig .tc .vmem S256x1024 .bf16) (harg20 : arg20.IsWhole) (arg21 : Memref sig .tc .vmem S256x1024 .bf16) (harg21 : arg21.IsWhole) (hc0 : cond0_0 i) (hc1 : cond0_1 i) (hc2 : ¬cond0_2 i) (hc3 : ¬cond0_3 i)
    (x0 : Vec F S256x2048 .bf16) (x1 : Vec F S256x1024 .bf16) (x2 : Vec F S256x128 .f32) (x3 : Vec F S4x2048 .f32) (x4 : Vec F S1x2048 .f32) (x5 : Vec F S1x128 .f32) (x6 : Vec F S1x128 .f32) (x7 : Vec F S1x1024 .f32) (x8 : Vec F S1x1024 .f32) (x9 : Vec F S256x2048 .f32) (x10 : Vec F S256x1024 .bf16) (x11 : Vec F S2048x2048 .bf16) (x12 : Vec F S1x2048 .f32) (x13 : Vec F S256x2048 .f32) :
    Σ' (L14 : List (View.Piece (Elt F) S256x2048 .f32)), Σ' (L15 : List (View.Piece (Elt F) S256x2048 .bf16)), Σ' (L16 : List (View.Piece (Elt F) S256x2048 .bf16)), Σ' (LS0 : List (View.Piece (Elt F) S136x2048 .f32)), Σ' (LS1 : List (View.Piece (Elt F) S128x1024 .f32)), Σ' (LS2 : List (View.Piece (Elt F) S256x1024 .bf16)), { LT3 : List (View.Piece (Elt F) S256x1024 .bf16) //
      ∀ (xi14 : Vec F S256x2048 .f32) (xi15 : Vec F S256x2048 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare xi14 ∗ owns (c : Thread nD τ) arg16 fullShare xi15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare xi14 ∗ owns (c : Thread nD τ) arg16 fullShare xi15 ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1) ∗ (∃ f, arg20.view.loc (c : Thread nD τ) ↦[arg20.view.set]{fullShare} arg20.view.writes (Elt F) f LS2) ∗ (∃ d, owns (c : Thread nD τ) arg21 fullShare d)) -∗ K ⟨⟩))
          ⊢ wp frame (wpE (defs₀ (F := F)) Variants.none c none) E (cc0_ssd_outproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨[], [], ?_, ?_, ?_, ?_, [], fun xi14 xi15 E K => ?run⟩
  case run =>
    simp only [cc0_ssd_outproj_eq_skeleton]; unfold cc0_ssd_outproj_skel
    simp only [k0_part21_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]; · iexists _; iexact H16
    isplitl [HS0]; · iexists _; iexact HS0
    isplitl [HS1]; · iexists _; iexact HS1
    isplitl [HS2]; · iexists _; iexact HS2
    iexists _, _; isplitr; swap; · iexact HS3
    ipureintro; rfl

end Cert.KernelIdeal.Ssd

end
-- ==== Proof.SsdRunB.lean ====
/- The mixer kernel's body run in case B. -/
module

public import proofs.«01_k».proof.Proof.SsdRunA

@[expose] public section

set_option maxRecDepth 16384

noncomputable section

namespace Cert.KernelIdeal.Ssd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE B (`scf.if` 0 not taken, `scf.if` 1 not taken, `scf.if` 2 taken, `scf.if` 3 not taken: points 1, 2, … 31: 28 of 33), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x2048 .bf16) (harg1 : arg1.IsWhole) (arg2 : Memref sig .tc .vmem S256x1024 .bf16) (harg2 : arg2.IsWhole) (arg3 : Memref sig .tc .vmem S256x128 .f32) (harg3 : arg3.IsWhole) (arg4 : Memref sig .tc .vmem S4x2048 .f32) (harg4 : arg4.IsWhole) (arg5 : Memref sig .tc .vmem S1x2048 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S256x2048 .f32) (harg10 : arg10.IsWhole) (arg11 : Memref sig .tc .vmem S256x1024 .bf16) (harg11 : arg11.IsWhole) (arg12 : Memref sig .tc .vmem S2048x2048 .bf16) (harg12 : arg12.IsWhole) (arg13 : Memref sig .tc .vmem S1x2048 .f32) (harg13 : arg13.IsWhole) (arg14 : Memref sig .tc .vmem S256x2048 .f32) (harg14 : arg14.IsWhole) (arg15 : Memref sig .tc .vmem S256x2048 .f32) (harg15 : arg15.IsWhole) (arg16 : Memref sig .tc .vmem S256x2048 .bf16) (harg16 : arg16.IsWhole) (arg17 : Memref sig .tc .vmem S256x2048 .bf16) (harg17 : arg17.IsWhole) (arg18 : Memref sig .tc .vmem S136x2048 .f32) (harg18 : arg18.IsWhole) (arg19 : Memref sig .tc .vmem S128x1024 .f32) (harg19 : arg19.IsWhole) (arg20 : Memref sig .tc .vmem S256x1024 .bf16) (harg20 : arg20.IsWhole) (arg21 : Memref sig .tc .vmem S256x1024 .bf16) (harg21 : arg21.IsWhole) (hc0 : ¬cond0_0 i) (hc1 : ¬cond0_1 i) (hc2 : cond0_2 i) (hc3 : ¬cond0_3 i)
    (x0 : Vec F S256x2048 .bf16) (x1 : Vec F S256x1024 .bf16) (x2 : Vec F S256x128 .f32) (x3 : Vec F S4x2048 .f32) (x4 : Vec F S1x2048 .f32) (x5 : Vec F S1x128 .f32) (x6 : Vec F S1x128 .f32) (x7 : Vec F S1x1024 .f32) (x8 : Vec F S1x1024 .f32) (x9 : Vec F S256x2048 .f32) (x10 : Vec F S256x1024 .bf16) (x11 : Vec F S2048x2048 .bf16) (x12 : Vec F S1x2048 .f32) (x13 : Vec F S256x2048 .f32) (xs0 : Vec F S136x2048 .f32) (xs1 : Vec F S128x1024 .f32) (xs2 : Vec F S256x1024 .bf16) :
    Σ' (L14 : List (View.Piece (Elt F) S256x2048 .f32)), Σ' (L15 : List (View.Piece (Elt F) S256x2048 .bf16)), Σ' (L16 : List (View.Piece (Elt F) S256x2048 .bf16)), Σ' (LS0 : List (View.Piece (Elt F) S136x2048 .f32)), Σ' (LS1 : List (View.Piece (Elt F) S128x1024 .f32)), Σ' (LS2 : List (View.Piece (Elt F) S256x1024 .bf16)), { LT3 : List (View.Piece (Elt F) S256x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xs0 ∗ owns (c : Thread nD τ) arg19 fullShare xs1 ∗ owns (c : Thread nD τ) arg20 fullShare xs2 ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1) ∗ (∃ f, arg20.view.loc (c : Thread nD τ) ↦[arg20.view.set]{fullShare} arg20.view.writes (Elt F) f LS2) ∗ (∃ f, arg21.view.loc (c : Thread nD τ) ↦[arg21.view.set]{fullShare} arg21.view.writes (Elt F) f LT3)) -∗ K ⟨⟩))
          ⊢ wp frame (wpE (defs₀ (F := F)) Variants.none c none) E (cc0_ssd_outproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, fun E K => ?run⟩
  case run =>
    simp only [cc0_ssd_outproj_eq_skeleton]; unfold cc0_ssd_outproj_skel
    simp only [k0_part45_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%fs0, %hfs0, HS0⟩, ⟨%fs1, %hfs1, HS1⟩, ⟨%fs2, %hfs2, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg18.eq_unread hfs0; obtain rfl := harg19.eq_unread hfs1; obtain rfl := harg20.eq_unread hfs2
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]; · iexists _; iexact H15
    isplitl [H16]; · iexists _; iexact H16
    isplitl [HS0]; · iexists _; iexact HS0
    isplitl [HS1]; · iexists _; iexact HS1
    isplitl [HS2]; · iexists _; iexact HS2
    iexists _; iexact HS3

end Cert.KernelIdeal.Ssd

end
-- ==== Proof.SsdRunC.lean ====
/- The mixer kernel's body run in case C. -/
module

public import proofs.«01_k».proof.Proof.SsdRunB

@[expose] public section

set_option maxRecDepth 16384

noncomputable section

namespace Cert.KernelIdeal.Ssd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 taken, `scf.if` 1 not taken, `scf.if` 2 taken, `scf.if` 3 not taken: points 8, 16, 24), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S256x2048 .bf16) (harg1 : arg1.IsWhole) (arg2 : Memref sig .tc .vmem S256x1024 .bf16) (harg2 : arg2.IsWhole) (arg3 : Memref sig .tc .vmem S256x128 .f32) (harg3 : arg3.IsWhole) (arg4 : Memref sig .tc .vmem S4x2048 .f32) (harg4 : arg4.IsWhole) (arg5 : Memref sig .tc .vmem S1x2048 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S256x2048 .f32) (harg10 : arg10.IsWhole) (arg11 : Memref sig .tc .vmem S256x1024 .bf16) (harg11 : arg11.IsWhole) (arg12 : Memref sig .tc .vmem S2048x2048 .bf16) (harg12 : arg12.IsWhole) (arg13 : Memref sig .tc .vmem S1x2048 .f32) (harg13 : arg13.IsWhole) (arg14 : Memref sig .tc .vmem S256x2048 .f32) (harg14 : arg14.IsWhole) (arg15 : Memref sig .tc .vmem S256x2048 .f32) (harg15 : arg15.IsWhole) (arg16 : Memref sig .tc .vmem S256x2048 .bf16) (harg16 : arg16.IsWhole) (arg17 : Memref sig .tc .vmem S256x2048 .bf16) (harg17 : arg17.IsWhole) (arg18 : Memref sig .tc .vmem S136x2048 .f32) (harg18 : arg18.IsWhole) (arg19 : Memref sig .tc .vmem S128x1024 .f32) (harg19 : arg19.IsWhole) (arg20 : Memref sig .tc .vmem S256x1024 .bf16) (harg20 : arg20.IsWhole) (arg21 : Memref sig .tc .vmem S256x1024 .bf16) (harg21 : arg21.IsWhole) (hc0 : cond0_0 i) (hc1 : ¬cond0_1 i) (hc2 : cond0_2 i) (hc3 : ¬cond0_3 i)
    (x0 : Vec F S256x2048 .bf16) (x1 : Vec F S256x1024 .bf16) (x2 : Vec F S256x128 .f32) (x3 : Vec F S4x2048 .f32) (x4 : Vec F S1x2048 .f32) (x5 : Vec F S1x128 .f32) (x6 : Vec F S1x128 .f32) (x7 : Vec F S1x1024 .f32) (x8 : Vec F S1x1024 .f32) (x9 : Vec F S256x2048 .f32) (x10 : Vec F S256x1024 .bf16) (x11 : Vec F S2048x2048 .bf16) (x12 : Vec F S1x2048 .f32) (x13 : Vec F S256x2048 .f32) (xs2 : Vec F S256x1024 .bf16) :
    Σ' (L14 : List (View.Piece (Elt F) S256x2048 .f32)), Σ' (L15 : List (View.Piece (Elt F) S256x2048 .bf16)), Σ' (L16 : List (View.Piece (Elt F) S256x2048 .bf16)), Σ' (LS0 : List (View.Piece (Elt F) S136x2048 .f32)), Σ' (LS1 : List (View.Piece (Elt F) S128x1024 .f32)), Σ' (LS2 : List (View.Piece (Elt F) S256x1024 .bf16)), { LT3 : List (View.Piece (Elt F) S256x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xs2 ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1) ∗ (∃ f, arg20.view.loc (c : Thread nD τ) ↦[arg20.view.set]{fullShare} arg20.view.writes (Elt F) f LS2) ∗ (∃ f, arg21.view.loc (c : Thread nD τ) ↦[arg21.view.set]{fullShare} arg21.view.writes (Elt F) f LT3)) -∗ K ⟨⟩))
          ⊢ wp frame (wpE (defs₀ (F := F)) Variants.none c none) E (cc0_ssd_outproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, fun E K => ?run⟩
  case run =>
    simp only [cc0_ssd_outproj_eq_skeleton]; unfold cc0_ssd_outproj_skel
    simp only [k0_part45_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%ds0, %fs0, -, HS0⟩, ⟨%ds1, %fs1, -, HS1⟩, ⟨%fs2, %hfs2, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg20.eq_unread hfs2
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]; · iexists _; iexact H15
    isplitl [H16]; · iexists _; iexact H16
    isplitl [HS0]; · iexists _; iexact HS0
    isplitl [HS1]; · iexists _; iexact HS1
    isplitl [HS2]; · iexists _; iexact HS2
    iexists _; iexact HS3

end Cert.KernelIdeal.Ssd

end
-- ==== Proof.SsdRunD.lean ====
/- The mixer kernel's body run in case D. -/
module

public import proofs.«01_k».proof.Proof.SsdRunC

@[expose] public section

set_option maxRecDepth 16384

noncomputable section

namespace Cert.KernelIdeal.Ssd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE D (`scf.if` 0 taken, `scf.if` 1 not taken, `scf.if` 2 not taken, `scf.if` 3 taken: points 32), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_D (c : Dev nD) (i : grid0.Coords) (arg1 : Memref sig .tc .vmem S256x2048 .bf16) (harg1 : arg1.IsWhole) (arg2 : Memref sig .tc .vmem S256x1024 .bf16) (harg2 : arg2.IsWhole) (arg3 : Memref sig .tc .vmem S256x128 .f32) (harg3 : arg3.IsWhole) (arg4 : Memref sig .tc .vmem S4x2048 .f32) (harg4 : arg4.IsWhole) (arg5 : Memref sig .tc .vmem S1x2048 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S256x2048 .f32) (harg10 : arg10.IsWhole) (arg11 : Memref sig .tc .vmem S256x1024 .bf16) (harg11 : arg11.IsWhole) (arg12 : Memref sig .tc .vmem S2048x2048 .bf16) (harg12 : arg12.IsWhole) (arg13 : Memref sig .tc .vmem S1x2048 .f32) (harg13 : arg13.IsWhole) (arg14 : Memref sig .tc .vmem S256x2048 .f32) (harg14 : arg14.IsWhole) (arg15 : Memref sig .tc .vmem S256x2048 .f32) (harg15 : arg15.IsWhole) (arg16 : Memref sig .tc .vmem S256x2048 .bf16) (harg16 : arg16.IsWhole) (arg17 : Memref sig .tc .vmem S256x2048 .bf16) (harg17 : arg17.IsWhole) (arg18 : Memref sig .tc .vmem S136x2048 .f32) (harg18 : arg18.IsWhole) (arg19 : Memref sig .tc .vmem S128x1024 .f32) (harg19 : arg19.IsWhole) (arg20 : Memref sig .tc .vmem S256x1024 .bf16) (harg20 : arg20.IsWhole) (arg21 : Memref sig .tc .vmem S256x1024 .bf16) (harg21 : arg21.IsWhole) (hc0 : cond0_0 i) (hc1 : ¬cond0_1 i) (hc2 : ¬cond0_2 i) (hc3 : cond0_3 i)
    (x0 : Vec F S256x2048 .bf16) (x1 : Vec F S256x1024 .bf16) (x2 : Vec F S256x128 .f32) (x3 : Vec F S4x2048 .f32) (x4 : Vec F S1x2048 .f32) (x5 : Vec F S1x128 .f32) (x6 : Vec F S1x128 .f32) (x7 : Vec F S1x1024 .f32) (x8 : Vec F S1x1024 .f32) (x9 : Vec F S256x2048 .f32) (x10 : Vec F S256x1024 .bf16) (x11 : Vec F S2048x2048 .bf16) (x12 : Vec F S1x2048 .f32) (x13 : Vec F S256x2048 .f32) (xs2 : Vec F S256x1024 .bf16) :
    Σ' (L14 : List (View.Piece (Elt F) S256x2048 .f32)), Σ' (L15 : List (View.Piece (Elt F) S256x2048 .bf16)), Σ' (L16 : List (View.Piece (Elt F) S256x2048 .bf16)), Σ' (LS0 : List (View.Piece (Elt F) S136x2048 .f32)), Σ' (LS1 : List (View.Piece (Elt F) S128x1024 .f32)), Σ' (LS2 : List (View.Piece (Elt F) S256x1024 .bf16)), { LT3 : List (View.Piece (Elt F) S256x1024 .bf16) //
      ∀ (xi16 : Vec F S256x2048 .bf16) (xs0 : Vec F S136x2048 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ owns (c : Thread nD τ) arg17 fullShare xi16 ∗ owns (c : Thread nD τ) arg18 fullShare xs0 ∗ (∃ d, owns (c : Thread nD τ) arg19 fullShare d) ∗ owns (c : Thread nD τ) arg20 fullShare xs2 ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ owns (c : Thread nD τ) arg17 fullShare xi16 ∗ (arg18.view.loc (c : Thread nD τ) ↦[arg18.view.set]{fullShare} arg18.view.writes (Elt F) (harg18.unread xs0) LS0) ∗ (∃ f, arg19.view.loc (c : Thread nD τ) ↦[arg19.view.set]{fullShare} arg19.view.writes (Elt F) f LS1) ∗ owns (c : Thread nD τ) arg20 fullShare xs2 ∗ (∃ f, arg21.view.loc (c : Thread nD τ) ↦[arg21.view.set]{fullShare} arg21.view.writes (Elt F) f LT3)) -∗ K ⟨⟩))
          ⊢ wp frame (wpE (defs₀ (F := F)) Variants.none c none) E (cc0_ssd_outproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, [], ?_, ?_, [], ?_, fun xi16 xs0 E K => ?run⟩
  case run =>
    simp only [cc0_ssd_outproj_eq_skeleton]; unfold cc0_ssd_outproj_skel
    simp only [k0_part46_eq_skeleton, k0_part47_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%f16, %hf16, H16⟩, ⟨%fs0, %hfs0, HS0⟩, ⟨%ds1, %fs1, -, HS1⟩, ⟨%fs2, %hfs2, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg17.eq_unread hf16; obtain rfl := harg18.eq_unread hfs0; obtain rfl := harg20.eq_unread hfs2
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]; · iexists _; iexact H15
    isplitl [H16]
    · iexists _; isplitr; · ipureintro; exact harg17.read_unread _
      iexact H16
    isplitl [HS0]; · iexact HS0
    isplitl [HS1]; · iexists _; iexact HS1
    isplitl [HS2]
    · iexists _; isplitr; · ipureintro; exact harg20.read_unread _
      iexact HS2
    iexists _; iexact HS3

end Cert.KernelIdeal.Ssd

end
-- ==== Proof.SsdOuts.lean ====
/- What each case of the mixer kernel leaves in its outputs and its carried scratch. -/
module

public import proofs.«01_k».proof.Proof.SsdRunD
public import Idealize.ShloMosaic.Lib.Claim

@[expose] public section

set_option maxRecDepth 16384

noncomputable section

namespace Cert.KernelIdeal.Ssd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

variable (c : Dev nD) (i : grid0.Coords) (b1 : Memref sig .tc .vmem S256x2048 .bf16) (g1 : b1.IsWhole) (b2 : Memref sig .tc .vmem S256x1024 .bf16) (g2 : b2.IsWhole) (b3 : Memref sig .tc .vmem S256x128 .f32) (g3 : b3.IsWhole) (b4 : Memref sig .tc .vmem S4x2048 .f32) (g4 : b4.IsWhole) (b5 : Memref sig .tc .vmem S1x2048 .f32) (g5 : b5.IsWhole) (b6 : Memref sig .tc .vmem S1x128 .f32) (g6 : b6.IsWhole) (b7 : Memref sig .tc .vmem S1x128 .f32) (g7 : b7.IsWhole) (b8 : Memref sig .tc .vmem S1x1024 .f32) (g8 : b8.IsWhole) (b9 : Memref sig .tc .vmem S1x1024 .f32) (g9 : b9.IsWhole) (b10 : Memref sig .tc .vmem S256x2048 .f32) (g10 : b10.IsWhole) (b11 : Memref sig .tc .vmem S256x1024 .bf16) (g11 : b11.IsWhole) (b12 : Memref sig .tc .vmem S2048x2048 .bf16) (g12 : b12.IsWhole) (b13 : Memref sig .tc .vmem S1x2048 .f32) (g13 : b13.IsWhole) (b14 : Memref sig .tc .vmem S256x2048 .f32) (g14 : b14.IsWhole) (b15 : Memref sig .tc .vmem S256x2048 .f32) (g15 : b15.IsWhole) (b16 : Memref sig .tc .vmem S256x2048 .bf16) (g16 : b16.IsWhole) (b17 : Memref sig .tc .vmem S256x2048 .bf16) (g17 : b17.IsWhole) (b18 : Memref sig .tc .vmem S136x2048 .f32) (g18 : b18.IsWhole) (b19 : Memref sig .tc .vmem S128x1024 .f32) (g19 : b19.IsWhole) (b20 : Memref sig .tc .vmem S256x1024 .bf16) (g20 : b20.IsWhole) (b21 : Memref sig .tc .vmem S256x1024 .bf16) (g21 : b21.IsWhole)

section
variable (hc0 : cond0_0 i) (hc1 : cond0_1 i) (hc2 : ¬cond0_2 i) (hc3 : ¬cond0_3 i)
    (x0 : Vec F S256x2048 .bf16) (x1 : Vec F S256x1024 .bf16) (x2 : Vec F S256x128 .f32) (x3 : Vec F S4x2048 .f32) (x4 : Vec F S1x2048 .f32) (x5 : Vec F S1x128 .f32) (x6 : Vec F S1x128 .f32) (x7 : Vec F S1x1024 .f32) (x8 : Vec F S1x1024 .f32) (x9 : Vec F S256x2048 .f32) (x10 : Vec F S256x1024 .bf16) (x11 : Vec F S2048x2048 .bf16) (x12 : Vec F S1x2048 .f32) (x13 : Vec F S256x2048 .f32)

/-- Case A stores nothing into output 14 (the window is idle at its points and not written back there):
    no pieces — a placeholder (junk read back) that nothing consults, since at these points the window is neither
    written back nor read at the next point (Lib/Pipeline.lean "Idle points"). -/
def out0_A_14 : Vec F S256x2048 .f32 :=
  VO0_14.read (Elt F) (VO0_14.writes (Elt F) VO0_14.junk (kernelRun0_A c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13).1)

/-- Case A stores nothing into output 15 (the window is idle at its points and not written back there):
    no pieces — a placeholder (junk read back) that nothing consults, since at these points the window is neither
    written back nor read at the next point (Lib/Pipeline.lean "Idle points"). -/
def out0_A_15 : Vec F S256x2048 .bf16 :=
  VO0_15.read (Elt F) (VO0_15.writes (Elt F) VO0_15.junk (kernelRun0_A c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13).2.1)

/-- Case A's pieces for output 16 tile its block (1 store of `S256x2048`), so they cover it. -/
theorem cover0_A_16 (y : S256x2048.Idx) :
    ∃ pc ∈ (kernelRun0_A c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13).2.2.1, y ∈ pc.1.set :=
  View.cover_of_tiledL _ S256x2048.size (by sl_kernel_rfl) y

/-- What case A leaves in output 16's staging buffer: its pieces read back over junk. -/
def out0_A_16 : Vec F S256x2048 .bf16 :=
  VO0_16.read (Elt F) (VO0_16.writes (Elt F) VO0_16.junk (kernelRun0_A c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13).2.2.1)

/-- Case A's pieces for scratch `b18`, which the kernel carries between points, cover it: 5 pieces (stores and landed copies) of several sizes (`S128x2048`, `S8x2048`) tiling it when cut into blocks of `![8, 2048]` (Lib/Ring.lean `Piece.tiledBy`). -/
theorem scover0_A_0 (y : S136x2048.Idx) :
    ∃ pc ∈ (kernelRun0_A c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13).2.2.2.1, y ∈ pc.1.set :=
  View.cover_of_tiledBy _ ![8, 2048] (by sl_kernel_rfl) y

/-- What case A leaves in scratch `b18`: its pieces read back over junk. -/
def sout0_A_0 : Vec F S136x2048 .f32 :=
  VS0_0.read (Elt F) (VS0_0.writes (Elt F) VS0_0.junk (kernelRun0_A c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13).2.2.2.1)

/-- Case A's pieces for scratch `b19`, which the kernel carries between points, cover it: one of them a store of the WHOLE buffer (Lib/Ring.lean `sl_whole_mem`). -/
theorem scover0_A_1 (y : S128x1024.Idx) :
    ∃ pc ∈ (kernelRun0_A c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13).2.2.2.2.1, y ∈ pc.1.set :=
  View.cover_of_wholeMem _ (by sl_whole_mem) y

/-- What case A leaves in scratch `b19`: its pieces read back over junk. -/
def sout0_A_1 : Vec F S128x1024 .f32 :=
  VS0_1.read (Elt F) (VS0_1.writes (Elt F) VS0_1.junk (kernelRun0_A c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13).2.2.2.2.1)

/-- Case A's pieces for scratch `b20`, which the kernel carries between points, cover it: 2 pieces of `S128x1024` tiling it (Lib/Ring.lean `Piece.tiledL`). -/
theorem scover0_A_2 (y : S256x1024.Idx) :
    ∃ pc ∈ (kernelRun0_A c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13).2.2.2.2.2.1, y ∈ pc.1.set :=
  View.cover_of_tiledL (kernelRun0_A c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13).2.2.2.2.2.1 S128x1024.size (by sl_kernel_rfl) y

/-- What case A leaves in scratch `b20`: its pieces read back over junk. -/
def sout0_A_2 : Vec F S256x1024 .bf16 :=
  VS0_2.read (Elt F) (VS0_2.writes (Elt F) VS0_2.junk (kernelRun0_A c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13).2.2.2.2.2.1)

/-- What case A leaves: the three outputs, then the carried scratch. -/
def outs_A : Vec F S256x2048 .f32 × Vec F S256x2048 .bf16 × Vec F S256x2048 .bf16 × Vec F S136x2048 .f32 × Vec F S128x1024 .f32 × Vec F S256x1024 .bf16 :=
  (out0_A_14 c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13,
    out0_A_15 c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13,
    out0_A_16 c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13,
    sout0_A_0 c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13,
    sout0_A_1 c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13,
    sout0_A_2 c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13)

end

section
variable (hc0 : ¬cond0_0 i) (hc1 : ¬cond0_1 i) (hc2 : cond0_2 i) (hc3 : ¬cond0_3 i)
    (x0 : Vec F S256x2048 .bf16) (x1 : Vec F S256x1024 .bf16) (x2 : Vec F S256x128 .f32) (x3 : Vec F S4x2048 .f32) (x4 : Vec F S1x2048 .f32) (x5 : Vec F S1x128 .f32) (x6 : Vec F S1x128 .f32) (x7 : Vec F S1x1024 .f32) (x8 : Vec F S1x1024 .f32) (x9 : Vec F S256x2048 .f32) (x10 : Vec F S256x1024 .bf16) (x11 : Vec F S2048x2048 .bf16) (x12 : Vec F S1x2048 .f32) (x13 : Vec F S256x2048 .f32) (xs0 : Vec F S136x2048 .f32) (xs1 : Vec F S128x1024 .f32) (xs2 : Vec F S256x1024 .bf16)

/-- Case B's pieces for output 14 tile its block (8 stores of `S256x256`), so they cover it. -/
theorem cover0_B_14 (y : S256x2048.Idx) :
    ∃ pc ∈ (kernelRun0_B c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs0 xs1 xs2).1, y ∈ pc.1.set :=
  View.cover_of_tiledL (kernelRun0_B c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs0 xs1 xs2).1 S256x256.size (by sl_kernel_rfl) y

/-- What case B leaves in output 14's staging buffer: its pieces read back over junk. -/
def out0_B_14 : Vec F S256x2048 .f32 :=
  VO0_14.read (Elt F) (VO0_14.writes (Elt F) VO0_14.junk (kernelRun0_B c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs0 xs1 xs2).1)

/-- Case B's pieces for output 15 tile its block (1 store of `S256x2048`), so they cover it. -/
theorem cover0_B_15 (y : S256x2048.Idx) :
    ∃ pc ∈ (kernelRun0_B c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs0 xs1 xs2).2.1, y ∈ pc.1.set :=
  View.cover_of_tiledL _ S256x2048.size (by sl_kernel_rfl) y

/-- What case B leaves in output 15's staging buffer: its pieces read back over junk. -/
def out0_B_15 : Vec F S256x2048 .bf16 :=
  VO0_15.read (Elt F) (VO0_15.writes (Elt F) VO0_15.junk (kernelRun0_B c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs0 xs1 xs2).2.1)

/-- Case B's pieces for output 16 tile its block (1 store of `S256x2048`), so they cover it. -/
theorem cover0_B_16 (y : S256x2048.Idx) :
    ∃ pc ∈ (kernelRun0_B c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs0 xs1 xs2).2.2.1, y ∈ pc.1.set :=
  View.cover_of_tiledL _ S256x2048.size (by sl_kernel_rfl) y

/-- What case B leaves in output 16's staging buffer: its pieces read back over junk. -/
def out0_B_16 : Vec F S256x2048 .bf16 :=
  VO0_16.read (Elt F) (VO0_16.writes (Elt F) VO0_16.junk (kernelRun0_B c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs0 xs1 xs2).2.2.1)

/-- Case B's pieces for scratch `b18`, which the kernel carries between points, cover it: 4 pieces (stores and landed copies) of several sizes (`S128x2048`, `S8x2048`) tiling it when cut into blocks of `![8, 2048]` (Lib/Ring.lean `Piece.tiledBy`). -/
theorem scover0_B_0 (y : S136x2048.Idx) :
    ∃ pc ∈ (kernelRun0_B c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs0 xs1 xs2).2.2.2.1, y ∈ pc.1.set :=
  View.cover_of_tiledBy _ ![8, 2048] (by sl_kernel_rfl) y

/-- What case B leaves in scratch `b18`: its pieces read back over junk. -/
def sout0_B_0 : Vec F S136x2048 .f32 :=
  VS0_0.read (Elt F) (VS0_0.writes (Elt F) VS0_0.junk (kernelRun0_B c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs0 xs1 xs2).2.2.2.1)

/-- Case B's pieces for scratch `b19`, which the kernel carries between points, cover it: 8 pieces of `S128x256` tiling it (Lib/Ring.lean `Piece.tiledL`). -/
theorem scover0_B_1 (y : S128x1024.Idx) :
    ∃ pc ∈ (kernelRun0_B c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs0 xs1 xs2).2.2.2.2.1, y ∈ pc.1.set :=
  View.cover_of_tiledL (kernelRun0_B c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs0 xs1 xs2).2.2.2.2.1 S128x256.size (by sl_kernel_rfl) y

/-- What case B leaves in scratch `b19`: its pieces read back over junk. -/
def sout0_B_1 : Vec F S128x1024 .f32 :=
  VS0_1.read (Elt F) (VS0_1.writes (Elt F) VS0_1.junk (kernelRun0_B c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs0 xs1 xs2).2.2.2.2.1)

/-- Case B's pieces for scratch `b20`, which the kernel carries between points, cover it: 2 pieces of `S128x1024` tiling it (Lib/Ring.lean `Piece.tiledL`). -/
theorem scover0_B_2 (y : S256x1024.Idx) :
    ∃ pc ∈ (kernelRun0_B c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs0 xs1 xs2).2.2.2.2.2.1, y ∈ pc.1.set :=
  View.cover_of_tiledL (kernelRun0_B c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs0 xs1 xs2).2.2.2.2.2.1 S128x1024.size (by sl_kernel_rfl) y

/-- What case B leaves in scratch `b20`: its pieces read back over junk. -/
def sout0_B_2 : Vec F S256x1024 .bf16 :=
  VS0_2.read (Elt F) (VS0_2.writes (Elt F) VS0_2.junk (kernelRun0_B c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs0 xs1 xs2).2.2.2.2.2.1)

/-- What case B leaves: the three outputs, then the carried scratch. -/
def outs_B : Vec F S256x2048 .f32 × Vec F S256x2048 .bf16 × Vec F S256x2048 .bf16 × Vec F S136x2048 .f32 × Vec F S128x1024 .f32 × Vec F S256x1024 .bf16 :=
  (out0_B_14 c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs0 xs1 xs2,
    out0_B_15 c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs0 xs1 xs2,
    out0_B_16 c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs0 xs1 xs2,
    sout0_B_0 c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs0 xs1 xs2,
    sout0_B_1 c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs0 xs1 xs2,
    sout0_B_2 c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs0 xs1 xs2)

end

section
variable (hc0 : cond0_0 i) (hc1 : ¬cond0_1 i) (hc2 : cond0_2 i) (hc3 : ¬cond0_3 i)
    (x0 : Vec F S256x2048 .bf16) (x1 : Vec F S256x1024 .bf16) (x2 : Vec F S256x128 .f32) (x3 : Vec F S4x2048 .f32) (x4 : Vec F S1x2048 .f32) (x5 : Vec F S1x128 .f32) (x6 : Vec F S1x128 .f32) (x7 : Vec F S1x1024 .f32) (x8 : Vec F S1x1024 .f32) (x9 : Vec F S256x2048 .f32) (x10 : Vec F S256x1024 .bf16) (x11 : Vec F S2048x2048 .bf16) (x12 : Vec F S1x2048 .f32) (x13 : Vec F S256x2048 .f32) (xs2 : Vec F S256x1024 .bf16)

/-- Case C's pieces for output 14 tile its block (8 stores of `S256x256`), so they cover it. -/
theorem cover0_C_14 (y : S256x2048.Idx) :
    ∃ pc ∈ (kernelRun0_C c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs2).1, y ∈ pc.1.set :=
  View.cover_of_tiledL (kernelRun0_C c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs2).1 S256x256.size (by sl_kernel_rfl) y

/-- What case C leaves in output 14's staging buffer: its pieces read back over junk. -/
def out0_C_14 : Vec F S256x2048 .f32 :=
  VO0_14.read (Elt F) (VO0_14.writes (Elt F) VO0_14.junk (kernelRun0_C c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs2).1)

/-- Case C's pieces for output 15 tile its block (1 store of `S256x2048`), so they cover it. -/
theorem cover0_C_15 (y : S256x2048.Idx) :
    ∃ pc ∈ (kernelRun0_C c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs2).2.1, y ∈ pc.1.set :=
  View.cover_of_tiledL _ S256x2048.size (by sl_kernel_rfl) y

/-- What case C leaves in output 15's staging buffer: its pieces read back over junk. -/
def out0_C_15 : Vec F S256x2048 .bf16 :=
  VO0_15.read (Elt F) (VO0_15.writes (Elt F) VO0_15.junk (kernelRun0_C c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs2).2.1)

/-- Case C's pieces for output 16 tile its block (1 store of `S256x2048`), so they cover it. -/
theorem cover0_C_16 (y : S256x2048.Idx) :
    ∃ pc ∈ (kernelRun0_C c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs2).2.2.1, y ∈ pc.1.set :=
  View.cover_of_tiledL _ S256x2048.size (by sl_kernel_rfl) y

/-- What case C leaves in output 16's staging buffer: its pieces read back over junk. -/
def out0_C_16 : Vec F S256x2048 .bf16 :=
  VO0_16.read (Elt F) (VO0_16.writes (Elt F) VO0_16.junk (kernelRun0_C c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs2).2.2.1)

/-- Case C's pieces for scratch `b18`, which the kernel carries between points, cover it: 5 pieces (stores and landed copies) of several sizes (`S128x2048`, `S8x2048`) tiling it when cut into blocks of `![8, 2048]` (Lib/Ring.lean `Piece.tiledBy`). -/
theorem scover0_C_0 (y : S136x2048.Idx) :
    ∃ pc ∈ (kernelRun0_C c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs2).2.2.2.1, y ∈ pc.1.set :=
  View.cover_of_tiledBy _ ![8, 2048] (by sl_kernel_rfl) y

/-- What case C leaves in scratch `b18`: its pieces read back over junk. -/
def sout0_C_0 : Vec F S136x2048 .f32 :=
  VS0_0.read (Elt F) (VS0_0.writes (Elt F) VS0_0.junk (kernelRun0_C c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs2).2.2.2.1)

/-- Case C's pieces for scratch `b19`, which the kernel carries between points, cover it: one of them a store of the WHOLE buffer (Lib/Ring.lean `sl_whole_mem`). -/
theorem scover0_C_1 (y : S128x1024.Idx) :
    ∃ pc ∈ (kernelRun0_C c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs2).2.2.2.2.1, y ∈ pc.1.set :=
  View.cover_of_wholeMem _ (by sl_whole_mem) y

/-- What case C leaves in scratch `b19`: its pieces read back over junk. -/
def sout0_C_1 : Vec F S128x1024 .f32 :=
  VS0_1.read (Elt F) (VS0_1.writes (Elt F) VS0_1.junk (kernelRun0_C c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs2).2.2.2.2.1)

/-- Case C's pieces for scratch `b20`, which the kernel carries between points, cover it: 2 pieces of `S128x1024` tiling it (Lib/Ring.lean `Piece.tiledL`). -/
theorem scover0_C_2 (y : S256x1024.Idx) :
    ∃ pc ∈ (kernelRun0_C c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs2).2.2.2.2.2.1, y ∈ pc.1.set :=
  View.cover_of_tiledL (kernelRun0_C c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs2).2.2.2.2.2.1 S128x1024.size (by sl_kernel_rfl) y

/-- What case C leaves in scratch `b20`: its pieces read back over junk. -/
def sout0_C_2 : Vec F S256x1024 .bf16 :=
  VS0_2.read (Elt F) (VS0_2.writes (Elt F) VS0_2.junk (kernelRun0_C c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs2).2.2.2.2.2.1)

/-- What case C leaves: the three outputs, then the carried scratch. -/
def outs_C : Vec F S256x2048 .f32 × Vec F S256x2048 .bf16 × Vec F S256x2048 .bf16 × Vec F S136x2048 .f32 × Vec F S128x1024 .f32 × Vec F S256x1024 .bf16 :=
  (out0_C_14 c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs2,
    out0_C_15 c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs2,
    out0_C_16 c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs2,
    sout0_C_0 c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs2,
    sout0_C_1 c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs2,
    sout0_C_2 c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs2)

end

section
variable (hc0 : cond0_0 i) (hc1 : ¬cond0_1 i) (hc2 : ¬cond0_2 i) (hc3 : cond0_3 i)
    (x0 : Vec F S256x2048 .bf16) (x1 : Vec F S256x1024 .bf16) (x2 : Vec F S256x128 .f32) (x3 : Vec F S4x2048 .f32) (x4 : Vec F S1x2048 .f32) (x5 : Vec F S1x128 .f32) (x6 : Vec F S1x128 .f32) (x7 : Vec F S1x1024 .f32) (x8 : Vec F S1x1024 .f32) (x9 : Vec F S256x2048 .f32) (x10 : Vec F S256x1024 .bf16) (x11 : Vec F S2048x2048 .bf16) (x12 : Vec F S1x2048 .f32) (x13 : Vec F S256x2048 .f32) (xs2 : Vec F S256x1024 .bf16)

/-- Case D's pieces for output 14 tile its block (8 stores of `S256x256`), so they cover it. -/
theorem cover0_D_14 (y : S256x2048.Idx) :
    ∃ pc ∈ (kernelRun0_D c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs2).1, y ∈ pc.1.set :=
  View.cover_of_tiledL (kernelRun0_D c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs2).1 S256x256.size (by sl_kernel_rfl) y

/-- What case D leaves in output 14's staging buffer: its pieces read back over junk. -/
def out0_D_14 : Vec F S256x2048 .f32 :=
  VO0_14.read (Elt F) (VO0_14.writes (Elt F) VO0_14.junk (kernelRun0_D c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs2).1)

/-- Case D's pieces for output 15 tile its block (1 store of `S256x2048`), so they cover it. -/
theorem cover0_D_15 (y : S256x2048.Idx) :
    ∃ pc ∈ (kernelRun0_D c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs2).2.1, y ∈ pc.1.set :=
  View.cover_of_tiledL _ S256x2048.size (by sl_kernel_rfl) y

/-- What case D leaves in output 15's staging buffer: its pieces read back over junk. -/
def out0_D_15 : Vec F S256x2048 .bf16 :=
  VO0_15.read (Elt F) (VO0_15.writes (Elt F) VO0_15.junk (kernelRun0_D c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs2).2.1)

/-- What case D leaves in scratch `b18`: its pieces (stores, a counted loop's segment) read back over the contents it was handed (`xs0`: what the point before left, or at the first point what the scratch held before it). -/
def sout0_D_0 (xs0 : Vec F S136x2048 .f32) : Vec F S136x2048 .f32 :=
  b18.view.read (Elt F) (b18.view.writes (Elt F) (g18.unread xs0) (kernelRun0_D c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs2).2.2.2.1)

/-- Case D's pieces for scratch `b19`, which the kernel carries between points, cover it: 1 piece of `S128x1024` tiling it (Lib/Ring.lean `Piece.tiledL`). -/
theorem scover0_D_1 (y : S128x1024.Idx) :
    ∃ pc ∈ (kernelRun0_D c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs2).2.2.2.2.1, y ∈ pc.1.set :=
  View.cover_of_tiledL _ S128x1024.size (by sl_kernel_rfl) y

/-- What case D leaves in scratch `b19`: its pieces read back over junk. -/
def sout0_D_1 : Vec F S128x1024 .f32 :=
  VS0_1.read (Elt F) (VS0_1.writes (Elt F) VS0_1.junk (kernelRun0_D c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs2).2.2.2.2.1)

/-- Case D stores nothing into scratch `b20`: it holds what the point before left. -/
def sout0_D_2 (c : Dev nD) (i : grid0.Coords) (b1 : Memref sig .tc .vmem S256x2048 .bf16) (g1 : b1.IsWhole) (b2 : Memref sig .tc .vmem S256x1024 .bf16) (g2 : b2.IsWhole) (b3 : Memref sig .tc .vmem S256x128 .f32) (g3 : b3.IsWhole) (b4 : Memref sig .tc .vmem S4x2048 .f32) (g4 : b4.IsWhole) (b5 : Memref sig .tc .vmem S1x2048 .f32) (g5 : b5.IsWhole) (b6 : Memref sig .tc .vmem S1x128 .f32) (g6 : b6.IsWhole) (b7 : Memref sig .tc .vmem S1x128 .f32) (g7 : b7.IsWhole) (b8 : Memref sig .tc .vmem S1x1024 .f32) (g8 : b8.IsWhole) (b9 : Memref sig .tc .vmem S1x1024 .f32) (g9 : b9.IsWhole) (b10 : Memref sig .tc .vmem S256x2048 .f32) (g10 : b10.IsWhole) (b11 : Memref sig .tc .vmem S256x1024 .bf16) (g11 : b11.IsWhole) (b12 : Memref sig .tc .vmem S2048x2048 .bf16) (g12 : b12.IsWhole) (b13 : Memref sig .tc .vmem S1x2048 .f32) (g13 : b13.IsWhole) (b14 : Memref sig .tc .vmem S256x2048 .f32) (g14 : b14.IsWhole) (b15 : Memref sig .tc .vmem S256x2048 .f32) (g15 : b15.IsWhole) (b16 : Memref sig .tc .vmem S256x2048 .bf16) (g16 : b16.IsWhole) (b17 : Memref sig .tc .vmem S256x2048 .bf16) (g17 : b17.IsWhole) (b18 : Memref sig .tc .vmem S136x2048 .f32) (g18 : b18.IsWhole) (b19 : Memref sig .tc .vmem S128x1024 .f32) (g19 : b19.IsWhole) (b20 : Memref sig .tc .vmem S256x1024 .bf16) (g20 : b20.IsWhole) (b21 : Memref sig .tc .vmem S256x1024 .bf16) (g21 : b21.IsWhole) (hc0 : cond0_0 i) (hc1 : ¬cond0_1 i) (hc2 : ¬cond0_2 i) (hc3 : cond0_3 i)
    (x0 : Vec F S256x2048 .bf16) (x1 : Vec F S256x1024 .bf16) (x2 : Vec F S256x128 .f32) (x3 : Vec F S4x2048 .f32) (x4 : Vec F S1x2048 .f32) (x5 : Vec F S1x128 .f32) (x6 : Vec F S1x128 .f32) (x7 : Vec F S1x1024 .f32) (x8 : Vec F S1x1024 .f32) (x9 : Vec F S256x2048 .f32) (x10 : Vec F S256x1024 .bf16) (x11 : Vec F S2048x2048 .bf16) (x12 : Vec F S1x2048 .f32) (x13 : Vec F S256x2048 .f32) (xs2 : Vec F S256x1024 .bf16) : Vec F S256x1024 .bf16 := xs2

/-- What case D leaves, the weight's block being what the point before left: the three outputs, then the carried scratch. -/
def outs_D (xs0 : Vec F S136x2048 .f32) (w : Vec F S256x2048 .bf16) : Vec F S256x2048 .f32 × Vec F S256x2048 .bf16 × Vec F S256x2048 .bf16 × Vec F S136x2048 .f32 × Vec F S128x1024 .f32 × Vec F S256x1024 .bf16 :=
  (out0_D_14 c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs2,
    out0_D_15 c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs2,
    w,
    sout0_D_0 c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs2 xs0,
    sout0_D_1 c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs2,
    sout0_D_2 c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs2)

end

end Cert.KernelIdeal.Ssd

end
-- ==== Proof.SsdStep.lean ====
/- The mixer kernel's outputs and carried scratch point by point, and the pipeline's proof data. -/
module

public import proofs.«01_k».proof.Proof.SsdOuts

@[expose] public section

set_option maxRecDepth 16384

noncomputable section

namespace Cert.KernelIdeal.Ssd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the outputs hold after each point -/

/-- Case A run at point `t`. -/
def atA (c : Dev nD) (t : Fin cfg0.N) (h0 : t.val % 8 = 0) (h1 : t.val % 33 = 0) (h2 : ¬(1 ≤ t.val % 33 ∧ t.val % 33 ≤ 31)) (h3 : ¬t.val % 33 = 32) : Vec F S256x2048 .f32 × Vec F S256x2048 .bf16 × Vec F S256x2048 .bf16 × Vec F S136x2048 .f32 × Vec F S128x1024 .f32 × Vec F S256x1024 .bf16 :=
  outs_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- Case B run at point `t`, over what the point before left, `p`. -/
def atB (c : Dev nD) (t : Fin cfg0.N) (h0 : ¬t.val % 8 = 0) (h1 : ¬t.val % 33 = 0) (h2 : (1 ≤ t.val % 33 ∧ t.val % 33 ≤ 31)) (h3 : ¬t.val % 33 = 32) (p : Vec F S256x2048 .f32 × Vec F S256x2048 .bf16 × Vec F S256x2048 .bf16 × Vec F S136x2048 .f32 × Vec F S128x1024 .f32 × Vec F S256x1024 .bf16) : Vec F S256x2048 .f32 × Vec F S256x2048 .bf16 × Vec F S256x2048 .bf16 × Vec F S136x2048 .f32 × Vec F S128x1024 .f32 × Vec F S256x1024 .bf16 :=
  outs_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p.2.2.2.1 p.2.2.2.2.1 p.2.2.2.2.2

/-- Case C run at point `t`, over what the point before left, `p`. -/
def atC (c : Dev nD) (t : Fin cfg0.N) (h0 : t.val % 8 = 0) (h1 : ¬t.val % 33 = 0) (h2 : (1 ≤ t.val % 33 ∧ t.val % 33 ≤ 31)) (h3 : ¬t.val % 33 = 32) (p : Vec F S256x2048 .f32 × Vec F S256x2048 .bf16 × Vec F S256x2048 .bf16 × Vec F S136x2048 .f32 × Vec F S128x1024 .f32 × Vec F S256x1024 .bf16) : Vec F S256x2048 .f32 × Vec F S256x2048 .bf16 × Vec F S256x2048 .bf16 × Vec F S136x2048 .f32 × Vec F S128x1024 .f32 × Vec F S256x1024 .bf16 :=
  outs_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) ((hcond0_0 t).mpr h0) (fun h => h1 ((hcond0_1 t).mp h)) ((hcond0_2 t).mpr h2) (fun h => h3 ((hcond0_3 t).mp h))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p.2.2.2.2.2

/-- Case D run at point `t`, over what the point before left, `p`. -/
def atD (c : Dev nD) (t : Fin cfg0.N) (h0 : t.val % 8 = 0) (h1 : ¬t.val % 33 = 0) (h2 : ¬(1 ≤ t.val % 33 ∧ t.val % 33 ≤ 31)) (h3 : t.val % 33 = 32) (p : Vec F S256x2048 .f32 × Vec F S256x2048 .bf16 × Vec F S256x2048 .bf16 × Vec F S136x2048 .f32 × Vec F S128x1024 .f32 × Vec F S256x1024 .bf16) : Vec F S256x2048 .f32 × Vec F S256x2048 .bf16 × Vec F S256x2048 .bf16 × Vec F S136x2048 .f32 × Vec F S128x1024 .f32 × Vec F S256x1024 .bf16 :=
  outs_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (fun h => h2 ((hcond0_2 t).mp h)) ((hcond0_3 t).mpr h3)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p.2.2.2.2.2 p.2.2.2.1 p.2.2.1

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x2048 .f32 × Vec F S256x2048 .bf16 × Vec F S256x2048 .bf16 × Vec F S136x2048 .f32 × Vec F S128x1024 .f32 × Vec F S256x1024 .bf16
  | 0, hn => atA m c ⟨0, hn⟩ (Nat.zero_mod _) (Nat.zero_mod _) (fun h => by (try dsimp only at h); omega) (fun h => by (try dsimp only at h); omega)
  | n + 1, hn =>
    if h0 : (n + 1) % 8 = 0 then
      if h1 : (n + 1) % 33 = 0 then
        if h2 : (1 ≤ (n + 1) % 33 ∧ (n + 1) % 33 ≤ 31) then
          False.elim (by have hN : n + 1 < 33 := lt_of_lt_of_eq hn (show cfg0.N = 33 from N_0); omega)
        else
          if h3 : (n + 1) % 33 = 32 then
            False.elim (by have hN : n + 1 < 33 := lt_of_lt_of_eq hn (show cfg0.N = 33 from N_0); omega)
          else
            atA m c ⟨n + 1, hn⟩ h0 h1 h2 h3
      else
        if h2 : (1 ≤ (n + 1) % 33 ∧ (n + 1) % 33 ≤ 31) then
          if h3 : (n + 1) % 33 = 32 then
            False.elim (by have hN : n + 1 < 33 := lt_of_lt_of_eq hn (show cfg0.N = 33 from N_0); omega)
          else
            atC m c ⟨n + 1, hn⟩ h0 h1 h2 h3 (outsAt0 c n (Nat.lt_of_succ_lt hn))
        else
          if h3 : (n + 1) % 33 = 32 then
            atD m c ⟨n + 1, hn⟩ h0 h1 h2 h3 (outsAt0 c n (Nat.lt_of_succ_lt hn))
          else
            False.elim (by have hN : n + 1 < 33 := lt_of_lt_of_eq hn (show cfg0.N = 33 from N_0); omega)
    else
      if h1 : (n + 1) % 33 = 0 then
        False.elim (by have hN : n + 1 < 33 := lt_of_lt_of_eq hn (show cfg0.N = 33 from N_0); omega)
      else
        if h2 : (1 ≤ (n + 1) % 33 ∧ (n + 1) % 33 ≤ 31) then
          if h3 : (n + 1) % 33 = 32 then
            False.elim (by have hN : n + 1 < 33 := lt_of_lt_of_eq hn (show cfg0.N = 33 from N_0); omega)
          else
            atB m c ⟨n + 1, hn⟩ h0 h1 h2 h3 (outsAt0 c n (Nat.lt_of_succ_lt hn))
        else
          False.elim (by have hN : n + 1 < 33 := lt_of_lt_of_eq hn (show cfg0.N = 33 from N_0); omega)

/-- `outsAt0` at a point of case A: that case's contents. -/
theorem outsAt0_A (c : Dev nD) (t : Fin cfg0.N) (h0 : t.val % 8 = 0) (h1 : t.val % 33 = 0) (h2 : ¬(1 ≤ t.val % 33 ∧ t.val % 33 ≤ 31)) (h3 : ¬t.val % 33 = 32) :
    outsAt0 m c t.val t.isLt = atA m c t h0 h1 h2 h3 := by
  obtain ⟨n, hn⟩ := t
  cases n with
  | zero => exact rfl
  | succ n => exact (dif_pos h0).trans ((dif_pos h1).trans ((dif_neg h2).trans ((dif_neg h3).trans rfl)))

/-- `outsAt0` at a point of case B: that case's contents, over what the point before left. -/
theorem outsAt0_B (c : Dev nD) (t : Fin cfg0.N) (h0 : ¬t.val % 8 = 0) (h1 : ¬t.val % 33 = 0) (h2 : (1 ≤ t.val % 33 ∧ t.val % 33 ≤ 31)) (h3 : ¬t.val % 33 = 32) :
    outsAt0 m c t.val t.isLt = atB m c t h0 h1 h2 h3 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

/-- `outsAt0` at a point of case C: that case's contents, over what the point before left. -/
theorem outsAt0_C (c : Dev nD) (t : Fin cfg0.N) (h0 : t.val % 8 = 0) (h1 : ¬t.val % 33 = 0) (h2 : (1 ≤ t.val % 33 ∧ t.val % 33 ≤ 31)) (h3 : ¬t.val % 33 = 32) :
    outsAt0 m c t.val t.isLt = atC m c t h0 h1 h2 h3 (outsAt0 m c (t.val - 1) (Nat.lt_of_le_of_lt (Nat.sub_le _ _) t.isLt)) := by
  obtain ⟨n, hn⟩ := t
  cases n with
  | zero => exact (by exfalso; (try dsimp only at h1); exact absurd (Nat.zero_mod _) h1)
  | succ n => exact (dif_pos h0).trans ((dif_neg h1).trans ((dif_pos h2).trans ((dif_neg h3).trans rfl)))

/-- `outsAt0` at a point of case D: that case's contents, over what the point before left. -/
theorem outsAt0_D (c : Dev nD) (t : Fin cfg0.N) (h0 : t.val % 8 = 0) (h1 : ¬t.val % 33 = 0) (h2 : ¬(1 ≤ t.val % 33 ∧ t.val % 33 ≤ 31)) (h3 : t.val % 33 = 32) :
    outsAt0 m c t.val t.isLt = atD m c t h0 h1 h2 h3 (outsAt0 m c (t.val - 1) (Nat.lt_of_le_of_lt (Nat.sub_le _ _) t.isLt)) := by
  obtain ⟨n, hn⟩ := t
  cases n with
  | zero => exact (by exfalso; (try dsimp only at h1); exact absurd (Nat.zero_mod _) h1)
  | succ n => exact (dif_pos h0).trans ((dif_neg h1).trans ((dif_neg h2).trans ((dif_pos h3).trans rfl)))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2.1) ∗ owns (c : Thread nD τ) scM0_2 fullShare ((outsAt0 m c (n - 1) (by omega)).2.2.2.2.2) ∗ (∃ d, owns (c : Thread nD τ) scM0_3 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outsAt0 m c t.val t.isLt).1
    | ⟨15, _⟩ => (outsAt0 m c t.val t.isLt).2.1
    | ⟨16, _⟩ => (outsAt0 m c t.val t.isLt).2.2.1
    | ⟨_ + 17, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = (outsAt0 m c t.val t.isLt).1 := by dsimp only [dats]
theorem after0_15 (c : Dev nD) (t : Fin cfg0.N) : (dats m 0 c).after 15 t = (outsAt0 m c t.val t.isLt).2.1 := by dsimp only [dats]
theorem after0_16 (c : Dev nD) (t : Fin cfg0.N) : (dats m 0 c).after 16 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- Output 16 at the last point: its staging buffer holds what the point before left, and is handed back so. -/
theorem before0_16_D (c : Dev nD) (t : Fin cfg0.N) (h3 : t.val % 33 = 32) (d) :
    (dats m 0 c).before 16 t d = (outsAt0 m c (t.val - 1) (Nat.lt_of_le_of_lt (Nat.sub_le _ _) t.isLt)).2.2.1 := by
  have ht : t.val ≠ 0 := by omega
  have hN : t.val < 33 := lt_of_lt_of_eq t.isLt (show cfg0.N = 33 from N_0)
  have hp : (⟨t.val - 1, Nat.lt_of_le_of_lt (Nat.sub_le _ _) t.isLt⟩ : Fin cfg0.N).val % 33 = 31 := by
    show (t.val - 1) % 33 = 31; omega
  rw [Dat.before_of_pos (dats m 0 c) 16 t ht ((cfg0.win 16).fetch_out rfl t), noFlush0_16_prev _ hp, if_neg Bool.false_ne_true]
  unfold Dat.left; rw [live0_16_prev _ hp]; dsimp only
  unfold Dat.kept
  rw [Pipeline.fill_of_clip_none (cfg := cfg0) 16 _ (fun _ => rfl) d ((dats m 0 c).after 16 _), Window.fill_cut]
  exact after0_16 m c _

end Cert.KernelIdeal.Ssd

end
-- ==== Proof.SsdBody.lean ====
/- The mixer kernel's body obligation, its run, and the frame it gives. -/
module

public import proofs.«01_k».proof.Proof.SsdStep

@[expose] public section

set_option maxRecDepth 16384

noncomputable section

namespace Cert.KernelIdeal.Ssd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

set_option maxHeartbeats 32000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl]
  rw [show (dats m 0 c).Φ t.succ = PhiS m c (t.val + 1) t.isLt from rfl, PhiS_succ]
  have hN : t.val < 33 := lt_of_lt_of_eq t.isLt (show cfg0.N = 33 from N_0)
  rw [show (dats m 0 c).leavesExact 0 t = owns (c : Thread nD τ) (ms0_0 t) fullShare ((dats m 0 c).after 0 t) from by unfold Dat.leavesExact; rw [liveAt0_0 t], after0_0]
  rw [show (dats m 0 c).leavesExact 1 t = owns (c : Thread nD τ) (ms0_1 t) fullShare ((dats m 0 c).after 1 t) from by unfold Dat.leavesExact; rw [liveAt0_1 t], after0_1]
  rw [show (dats m 0 c).leavesExact 2 t = owns (c : Thread nD τ) (ms0_2 t) fullShare ((dats m 0 c).after 2 t) from by unfold Dat.leavesExact; rw [liveAt0_2 t], after0_2]
  rw [show (dats m 0 c).leavesExact 3 t = owns (c : Thread nD τ) (ms0_3 t) fullShare ((dats m 0 c).after 3 t) from by unfold Dat.leavesExact; rw [liveAt0_3 t], after0_3]
  rw [show (dats m 0 c).leavesExact 4 t = owns (c : Thread nD τ) (ms0_4 t) fullShare ((dats m 0 c).after 4 t) from by unfold Dat.leavesExact; rw [liveAt0_4 t], after0_4]
  rw [show (dats m 0 c).leavesExact 5 t = owns (c : Thread nD τ) (ms0_5 t) fullShare ((dats m 0 c).after 5 t) from by unfold Dat.leavesExact; rw [liveAt0_5 t], after0_5]
  rw [show (dats m 0 c).leavesExact 6 t = owns (c : Thread nD τ) (ms0_6 t) fullShare ((dats m 0 c).after 6 t) from by unfold Dat.leavesExact; rw [liveAt0_6 t], after0_6]
  rw [show (dats m 0 c).leavesExact 7 t = owns (c : Thread nD τ) (ms0_7 t) fullShare ((dats m 0 c).after 7 t) from by unfold Dat.leavesExact; rw [liveAt0_7 t], after0_7]
  rw [show (dats m 0 c).leavesExact 8 t = owns (c : Thread nD τ) (ms0_8 t) fullShare ((dats m 0 c).after 8 t) from by unfold Dat.leavesExact; rw [liveAt0_8 t], after0_8]
  rw [show (dats m 0 c).leavesExact 9 t = owns (c : Thread nD τ) (ms0_9 t) fullShare ((dats m 0 c).after 9 t) from by unfold Dat.leavesExact; rw [liveAt0_9 t], after0_9]
  rw [show (dats m 0 c).leavesExact 10 t = owns (c : Thread nD τ) (ms0_10 t) fullShare ((dats m 0 c).after 10 t) from by unfold Dat.leavesExact; rw [liveAt0_10 t], after0_10]
  rw [show (dats m 0 c).leavesExact 11 t = owns (c : Thread nD τ) (ms0_11 t) fullShare ((dats m 0 c).after 11 t) from by unfold Dat.leavesExact; rw [liveAt0_11 t], after0_11]
  rw [show (dats m 0 c).leavesExact 12 t = owns (c : Thread nD τ) (ms0_12 t) fullShare ((dats m 0 c).after 12 t) from by unfold Dat.leavesExact; rw [liveAt0_12 t], after0_12]
  rw [show (dats m 0 c).leavesExact 13 t = owns (c : Thread nD τ) (ms0_13 t) fullShare ((dats m 0 c).after 13 t) from by unfold Dat.leavesExact; rw [liveAt0_13 t], after0_13]
  by_cases h0 : t.val % 8 = 0
  · by_cases h1 : t.val % 33 = 0
    · by_cases h2 : (1 ≤ t.val % 33 ∧ t.val % 33 ≤ 31)
      · exfalso; omega
      · by_cases h3 : t.val % 33 = 32
        · exfalso; omega
        · rw [Dat.leavesExact_idle (dats m 0 c) 14 t (idleAt0_14_A t ((hcond0_0 t).mpr h0) ((hcond0_1 t).mpr h1) (fun h => h2 ((hcond0_2 t).mp h)) (fun h => h3 ((hcond0_3 t).mp h))) (noFlush0_14_A t ((hcond0_0 t).mpr h0) ((hcond0_1 t).mpr h1) (fun h => h2 ((hcond0_2 t).mp h)) (fun h => h3 ((hcond0_3 t).mp h)))]
          rw [Dat.leavesExact_idle (dats m 0 c) 15 t (idleAt0_15_A t ((hcond0_0 t).mpr h0) ((hcond0_1 t).mpr h1) (fun h => h2 ((hcond0_2 t).mp h)) (fun h => h3 ((hcond0_3 t).mp h))) (noFlush0_15_A t ((hcond0_0 t).mpr h0) ((hcond0_1 t).mpr h1) (fun h => h2 ((hcond0_2 t).mp h)) (fun h => h3 ((hcond0_3 t).mp h)))]
          rw [show (dats m 0 c).leavesExact 16 t = owns (c : Thread nD τ) (ms0_16 t) fullShare ((dats m 0 c).after 16 t) from by
      unfold Dat.leavesExact; rw [liveAt0_16_A t ((hcond0_0 t).mpr h0) ((hcond0_1 t).mpr h1) (fun h => h2 ((hcond0_2 t).mp h)) (fun h => h3 ((hcond0_3 t).mp h))], after0_16]
          by_cases hz : t.val = 0
          · rw [PhiS_castSucc m c t, PhiS_zero m c _ _ hz, PhiA0_eq]
            rw [outsAt0_A m c t h0 h1 h2 h3, atA, outs_A]
            unfold out0_A_16 sout0_A_0 sout0_A_1 sout0_A_2; (try dsimp only)
            iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
            iapply ((kernelRun0_A c (grid0.coords t) _ _ _ _ _ _ _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).2.2.2.2.2.2.2 _ _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexact H15
            isplitl [H16]; · iexists _; iexact H16
            isplitl [HS0]; · iexact HS0
            isplitl [HS1]; · iexact HS1
            isplitl [HS2]; · iexact HS2
            isplitl [HS3]; · iexact HS3
            iintro ⟨H0, H1, H2, H3, H4, H5, H6, H7, H8, H9, H10, H11, H12, H13, H14, H15, ⟨%e16, H16⟩, ⟨%es0, HS0⟩, ⟨%es1, HS1⟩, ⟨%es2, HS2⟩, HS3⟩
            isplitl [HS0 HS1 HS2 HS3 Hg]
            · isplitl [HS0 HS1 HS2 HS3]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
                isplitl [HS2]
                · unfold owns; iexists _; isplitr
                  swap; · iexact HS2
                  ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
                iexact HS3
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexists _; iexact H14
            isplitl [H15]; · iexists _; iexact H15
            unfold owns; iexists _; isplitr
            swap; · iexact H16
            ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
          · exfalso; have hN : t.val < 33 := lt_of_lt_of_eq t.isLt (show cfg0.N = 33 from N_0); omega
    · by_cases h2 : (1 ≤ t.val % 33 ∧ t.val % 33 ≤ 31)
      · by_cases h3 : t.val % 33 = 32
        · exfalso; omega
        · rw [show (dats m 0 c).leavesExact 14 t = owns (c : Thread nD τ) (ms0_14 t) fullShare ((dats m 0 c).after 14 t) from by
      unfold Dat.leavesExact; rw [liveAt0_14_C t ((hcond0_0 t).mpr h0) (fun h => h1 ((hcond0_1 t).mp h)) ((hcond0_2 t).mpr h2) (fun h => h3 ((hcond0_3 t).mp h))], after0_14]
          rw [show (dats m 0 c).leavesExact 15 t = owns (c : Thread nD τ) (ms0_15 t) fullShare ((dats m 0 c).after 15 t) from by
      unfold Dat.leavesExact; rw [liveAt0_15_C t ((hcond0_0 t).mpr h0) (fun h => h1 ((hcond0_1 t).mp h)) ((hcond0_2 t).mpr h2) (fun h => h3 ((hcond0_3 t).mp h))], after0_15]
          rw [show (dats m 0 c).leavesExact 16 t = owns (c : Thread nD τ) (ms0_16 t) fullShare ((dats m 0 c).after 16 t) from by
      unfold Dat.leavesExact; rw [liveAt0_16_C t ((hcond0_0 t).mpr h0) (fun h => h1 ((hcond0_1 t).mp h)) ((hcond0_2 t).mpr h2) (fun h => h3 ((hcond0_3 t).mp h))], after0_16]
          by_cases hz : t.val = 0
          · exfalso; have hN : t.val < 33 := lt_of_lt_of_eq t.isLt (show cfg0.N = 33 from N_0); omega
          · rw [PhiS_castSucc m c t, PhiS_pos m c _ _ hz]
            rw [outsAt0_C m c t h0 h1 h2 h3, atC, outs_C]
            unfold out0_C_14 out0_C_15 out0_C_16 sout0_C_0 sout0_C_1 sout0_C_2; (try dsimp only)
            iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
            iapply ((kernelRun0_C c (grid0.coords t) _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _).2.2.2.2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexists _; iexact H14
            isplitl [H15]; · iexists _; iexact H15
            isplitl [H16]; · iexists _; iexact H16
            isplitl [HS0]; · iexists _; iexact HS0
            isplitl [HS1]; · iexists _; iexact HS1
            isplitl [HS2]; · iexact HS2
            isplitl [HS3]; · iexact HS3
            iintro ⟨H0, H1, H2, H3, H4, H5, H6, H7, H8, H9, H10, H11, H12, H13, ⟨%e14, H14⟩, ⟨%e15, H15⟩, ⟨%e16, H16⟩, ⟨%es0, HS0⟩, ⟨%es1, HS1⟩, ⟨%es2, HS2⟩, ⟨%fT3, HS3⟩⟩
            isplitl [HS0 HS1 HS2 HS3 Hg]
            · isplitl [HS0 HS1 HS2 HS3]
              · isplitl [HS0]
                · unfold owns; iexists _; isplitr
                  swap; · iexact HS0
                  ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_C_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
                isplitl [HS2]
                · unfold owns; iexists _; isplitr
                  swap; · iexact HS2
                  ipureintro; exact View.read_writes_of_cover _ _ _ _ _ (scover0_C_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
                iexists _; unfold owns; iexists _; isplitr
                swap; · iexact HS3
                ipureintro; rfl
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]
            · unfold owns; iexists _; isplitr
              swap; · iexact H14
              ipureintro; exact View.read_writes_of_cover _ _ _ _ _ (cover0_C_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [H15]
            · unfold owns; iexists _; isplitr
              swap; · iexact H15
              ipureintro; exact View.read_writes_of_cover _ _ _ _ _ (cover0_C_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact H16
            ipureintro; exact View.read_writes_of_cover _ _ _ _ _ (cover0_C_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      · by_cases h3 : t.val % 33 = 32
        · rw [show (dats m 0 c).leavesExact 14 t = owns (c : Thread nD τ) (ms0_14 t) fullShare ((dats m 0 c).after 14 t) from by
      unfold Dat.leavesExact; rw [liveAt0_14_D t ((hcond0_0 t).mpr h0) (fun h => h1 ((hcond0_1 t).mp h)) (fun h => h2 ((hcond0_2 t).mp h)) ((hcond0_3 t).mpr h3)], after0_14]
          rw [show (dats m 0 c).leavesExact 15 t = owns (c : Thread nD τ) (ms0_15 t) fullShare ((dats m 0 c).after 15 t) from by
      unfold Dat.leavesExact; rw [liveAt0_15_D t ((hcond0_0 t).mpr h0) (fun h => h1 ((hcond0_1 t).mp h)) (fun h => h2 ((hcond0_2 t).mp h)) ((hcond0_3 t).mpr h3)], after0_15]
          rw [show (dats m 0 c).leavesExact 16 t = owns (c : Thread nD τ) (ms0_16 t) fullShare ((dats m 0 c).after 16 t) from by
      unfold Dat.leavesExact; rw [idleAt0_16_D t ((hcond0_0 t).mpr h0) (fun h => h1 ((hcond0_1 t).mp h)) (fun h => h2 ((hcond0_2 t).mp h)) ((hcond0_3 t).mpr h3), flush0_16_D t h3], after0_16]
          by_cases hz : t.val = 0
          · exfalso; have hN : t.val < 33 := lt_of_lt_of_eq t.isLt (show cfg0.N = 33 from N_0); omega
          · rw [PhiS_castSucc m c t, PhiS_pos m c _ _ hz]
            rw [outsAt0_D m c t h0 h1 h2 h3, atD, outs_D]
            simp only [before0_16_D m c t h3]
            unfold out0_D_14 out0_D_15 sout0_D_0 sout0_D_1 sout0_D_2; (try dsimp only)
            iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
            iapply ((kernelRun0_D c (grid0.coords t) _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _).2.2.2.2.2.2.2 _ _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexists _; iexact H14
            isplitl [H15]; · iexists _; iexact H15
            isplitl [H16]; · iexact H16
            isplitl [HS0]; · iexact HS0
            isplitl [HS1]; · iexists _; iexact HS1
            isplitl [HS2]; · iexact HS2
            isplitl [HS3]; · iexact HS3
            iintro ⟨H0, H1, H2, H3, H4, H5, H6, H7, H8, H9, H10, H11, H12, H13, ⟨%e14, H14⟩, ⟨%e15, H15⟩, H16, HS0, ⟨%es1, HS1⟩, HS2, ⟨%fT3, HS3⟩⟩
            isplitl [HS0 HS1 HS2 HS3 Hg]
            · isplitl [HS0 HS1 HS2 HS3]
              · isplitl [HS0]
                · unfold owns; iexists _; isplitr
                  swap; · iexact HS0
                  ipureintro; rfl
                isplitl [HS1]
                · unfold owns; iexists _; isplitr
                  swap; · iexact HS1
                  ipureintro; exact View.read_writes_of_cover _ _ _ _ _ (scover0_D_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
                isplitl [HS2]
                · iexact HS2
                iexists _; unfold owns; iexists _; isplitr
                swap; · iexact HS3
                ipureintro; rfl
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]
            · unfold owns; iexists _; isplitr
              swap; · iexact H14
              ipureintro; exact View.read_writes_of_cover _ _ _ _ _ (cover0_D_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [H15]
            · unfold owns; iexists _; isplitr
              swap; · iexact H15
              ipureintro; exact View.read_writes_of_cover _ _ _ _ _ (cover0_D_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact H16
        · exfalso; omega
  · by_cases h1 : t.val % 33 = 0
    · exfalso; omega
    · by_cases h2 : (1 ≤ t.val % 33 ∧ t.val % 33 ≤ 31)
      · by_cases h3 : t.val % 33 = 32
        · exfalso; omega
        · rw [show (dats m 0 c).leavesExact 14 t = owns (c : Thread nD τ) (ms0_14 t) fullShare ((dats m 0 c).after 14 t) from by
      unfold Dat.leavesExact; rw [liveAt0_14_B t (fun h => h0 ((hcond0_0 t).mp h)) (fun h => h1 ((hcond0_1 t).mp h)) ((hcond0_2 t).mpr h2) (fun h => h3 ((hcond0_3 t).mp h))], after0_14]
          rw [show (dats m 0 c).leavesExact 15 t = owns (c : Thread nD τ) (ms0_15 t) fullShare ((dats m 0 c).after 15 t) from by
      unfold Dat.leavesExact; rw [liveAt0_15_B t (fun h => h0 ((hcond0_0 t).mp h)) (fun h => h1 ((hcond0_1 t).mp h)) ((hcond0_2 t).mpr h2) (fun h => h3 ((hcond0_3 t).mp h))], after0_15]
          rw [show (dats m 0 c).leavesExact 16 t = owns (c : Thread nD τ) (ms0_16 t) fullShare ((dats m 0 c).after 16 t) from by
      unfold Dat.leavesExact; rw [liveAt0_16_B t (fun h => h0 ((hcond0_0 t).mp h)) (fun h => h1 ((hcond0_1 t).mp h)) ((hcond0_2 t).mpr h2) (fun h => h3 ((hcond0_3 t).mp h))], after0_16]
          by_cases hz : t.val = 0
          · exfalso; have hN : t.val < 33 := lt_of_lt_of_eq t.isLt (show cfg0.N = 33 from N_0); omega
          · rw [PhiS_castSucc m c t, PhiS_pos m c _ _ hz]
            rw [outsAt0_B m c t h0 h1 h2 h3, atB, outs_B]
            unfold out0_B_14 out0_B_15 out0_B_16 sout0_B_0 sout0_B_1 sout0_B_2; (try dsimp only)
            iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
            iapply ((kernelRun0_B c (grid0.coords t) _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _ _).2.2.2.2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexists _; iexact H14
            isplitl [H15]; · iexists _; iexact H15
            isplitl [H16]; · iexists _; iexact H16
            isplitl [HS0]; · iexact HS0
            isplitl [HS1]; · iexact HS1
            isplitl [HS2]; · iexact HS2
            isplitl [HS3]; · iexact HS3
            iintro ⟨H0, H1, H2, H3, H4, H5, H6, H7, H8, H9, H10, H11, H12, H13, ⟨%e14, H14⟩, ⟨%e15, H15⟩, ⟨%e16, H16⟩, ⟨%es0, HS0⟩, ⟨%es1, HS1⟩, ⟨%es2, HS2⟩, ⟨%fT3, HS3⟩⟩
            isplitl [HS0 HS1 HS2 HS3 Hg]
            · isplitl [HS0 HS1 HS2 HS3]
              · isplitl [HS0]
                · unfold owns; iexists _; isplitr
                  swap; · iexact HS0
                  ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
                isplitl [HS2]
                · unfold owns; iexists _; isplitr
                  swap; · iexact HS2
                  ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
                iexists _; unfold owns; iexists _; isplitr
                swap; · iexact HS3
                ipureintro; rfl
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]
            · unfold owns; iexists _; isplitr
              swap; · iexact H14
              ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [H15]
            · unfold owns; iexists _; isplitr
              swap; · iexact H15
              ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact H16
            ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 33 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

/-- THE FRAME: `Cert.quiescent_KernelIdeal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.KernelIdeal.Ssd

end
-- ==== Proof.SsdFrame.lean ====
/- The state-space mixer's program leaves its arguments as they were, at the machine's floats and at the reals. The
   real program differs from the machine's in the spelling of one constant, which at the machine's floats has the
   machine's value: so the one run over any floats gives both statements. -/
module

public import proofs.«01_k».proof.Proof.SsdBody
public import proofs.«01_k».proof.Proof.Gen.Kernel.Skeleton
public import proofs.«01_k».proof.Proof.Gen.ReferenceIdeal.Run
public import proofs.«01_k».proof.Proof.Gen.Pre_finite
public import proofs.«01_k».proof.Defs

@[expose] public section

set_option maxRecDepth 100000
set_option smartUnfolding false

noncomputable section

namespace Cert.Proof.Ssd

open Idealize.ShloMosaic Idealize.ShloMosaic.TcCoe Idealize.SL.Sem

/-- At the machine's floats a named constant has its machine value. -/
instance namedBits : Named Bits where
  named _ _ {φ} w := FloatOps.ofBits φ w

section
variable [hK : Cert.Kernel.Facts] [hI : Cert.KernelIdeal.Facts]

set_option maxHeartbeats 4000000 in
/-- What the real program's text does at the machine's floats is what the machine's program does. -/
theorem transfer (h : ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)) : Cert.quiescent_Kernel := by
  intro m g _
  exact h m g trivial

end

theorem frame_bits : Cert.quiescent_Kernel := transfer fun m ρ _ => Cert.KernelIdeal.Ssd.frame (F := Bits) m ρ
theorem frame_ideal : Cert.quiescent_KernelIdeal := fun m ρ _ => Cert.KernelIdeal.Ssd.frame m ρ
theorem frame_ideal_finite : Cert.quiescent_KernelIdeal_pre_finite := fun m ρ _ => Cert.KernelIdeal.Ssd.frame m ρ
theorem frame_reference : Cert.quiescent_ReferenceIdeal := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)
theorem frame_reference_finite : Cert.quiescent_ReferenceIdeal_pre_finite := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)
theorem preserves : Cert.preserves_Kernel_KernelIdeal :=
  IdealRules.named_const.statement Cert.KernelIdeal.κ "neg_log2e" .f32 0xBFB8AA3B#32 _ rfl

end Cert.Proof.Ssd

end
-- ==== Proof.SsdStage.lean ====
/- One chunk of the state-space scan, as the kernel computes it, cut into the steps of the algorithm: step sizes and
   their running sums, the short causal convolution, the spread of the per-head numbers over the channels, the masked
   products inside the chunk, the carried state, the gate and the group norm. The kernel's body runs these steps twice
   per tile of rows; every stored word of the body is one of them. -/
module

public import proofs.«01_k».proof.Proof.Gen.KernelIdeal.Skeleton

@[expose] public section

set_option maxRecDepth 16384

noncomputable section

open Idealize.ShloMosaic Idealize.ShloMosaic.TcCoe Idealize.SL.Sem

namespace Cert.KernelIdeal.Ssd

open Cert.KernelIdeal Cert.KernelIdeal.Gen

variable {F : FTy → Type} [FloatOps F] [Named F]

/-- The step sizes, per row and head. -/
def gDt (d : Vec F S128x128 .f32) (b : Vec F S1x128 .f32) : FVec F S128x128 .f32 := k0_pay12 d b
/-- The running sums of the decay exponents down the chunk, in base two. -/
def gCs (d : Vec F S128x128 .f32) (b al : Vec F S1x128 .f32) : FVec F S128x128 .f32 :=
  k0_pay19 k0_pay15 (k0_pay16 d b al) (k0_pay17 d b al) (k0_pay18 d b al)
/-- The same with rows and heads exchanged. -/
def gCsT (d : Vec F S128x128 .f32) (b al : Vec F S1x128 .f32) : FVec F S128x128 .f32 :=
  k0_pay20 k0_pay15 (k0_pay16 d b al) (k0_pay17 d b al) (k0_pay18 d b al)
/-- The convolution of four taps and its activation. -/
def gXc (raw : Vec F S128x2048 .bf16) (cb w0 w1 w2 w3 : Vec F S1x2048 .f32) (l0 l1 l2 : Vec F S128x2048 .f32) : FVec F S128x2048 .f32 :=
  k0_pay26 (k0_pay23 (k0_pay7 raw) cb w3 w0 l0 w1 l1) (k0_pay24 w2 l2)
/-- Its first half: the values that the scan carries. -/
def gXs (xc : FVec F S128x2048 .f32) : FVec F S128x1024 .f32 :=
  extractStridedSlice S128x1024 ![0, 0] xc slices_S128x2048_o0_0_S128x1024
/-- Step sizes over running sums, spread from heads to channels. -/
def gEx (dt cs : FVec F S128x128 .f32) : FVec F S256x1024 .f32 :=
  k0_pay33 k0_pay28 (k0_pay31 dt cs) (k0_pay32 dt cs) (constant S256x1024 .f32 0x00000000#32)
/-- The running sums per channel. -/
def gAcs (ex : FVec F S256x1024 .f32) : FVec F S128x1024 .f32 :=
  extractStridedSlice S128x1024 ![128, 0] ex slices_S256x1024_o128_0_S128x1024
/-- The chunk's total per channel. -/
def gLast (acs : FVec F S128x1024 .f32) : FVec F S1x1024 .f32 :=
  extractStridedSlice S1x1024 ![127, 0] acs slices_S128x1024_o127_0_S1x1024
/-- Values times step sizes. -/
def gXd (xs : FVec F S128x1024 .f32) (ex : FVec F S256x1024 .f32) : FVec F S128x1024 .f32 :=
  mulf xs (extractStridedSlice S128x1024 ![0, 0] ex slices_S256x1024_o0_0_S128x1024)
/-- The same, decayed to the chunk's end. -/
def gXdd (xd acs : FVec F S128x1024 .f32) : FVec F S128x1024 .bf16 :=
  truncf .bf16 (mulf xd (exp2 (subf (broadcastTo S128x1024 (gLast acs) broadcasts_S1x1024_S128x1024) acs))) bitsLt_bf16_f32
/-- A group's block of the products of the two projections. -/
def gCB (cc bb : FVec F S128x128 .bf16) : FVec F S128x128 .f32 :=
  matmul dot_S128x128_S128x128_S128x128_1_1_0_0_n_n none cc bb (constant S128x128 .f32 0x00000000#32)
/-- What the state before the chunk gives to its rows. -/
def gYo (cc : FVec F S128x128 .bf16) (st : FVec F S128x256 .f32) (ea : FVec F S128x256 .f32) : FVec F S128x256 .f32 :=
  mulf (matmul dot_S128x128_S128x256_S128x256_1_0_0_1_n_n none cc (truncf .bf16 st bitsLt_bf16_f32) (constant S128x256 .f32 0x00000000#32)) ea
/-- The state after the chunk. -/
def gSt (bb : FVec F S128x128 .bf16) (xdd : FVec F S128x256 .bf16) (de : FVec F S1x256 .f32) (st : FVec F S128x256 .f32) : FVec F S128x256 .f32 :=
  shapeCast S128x256 (addf (mulf (broadcastTo S128x256 de broadcasts_S1x256_S128x256) st) (matmul dot_S128x128_S128x256_S128x256_0_0_1_1_n_n none bb xdd (constant S128x256 .f32 0x00000000#32))) shapeCasts_S128x256_S128x256
/-- One head's masked and decayed products. -/
def gM (cb : FVec F S128x128 .f32) (co : FVec F S128x1 .f32) (ro : FVec F S1x128 .f32) : FVec F S128x128 .bf16 :=
  truncf .bf16 (mulf cb (exp2 (select k0_pay14 (subf (broadcastTo S128x128 co broadcasts_S128x1_S128x128) (broadcastTo S128x128 ro broadcasts_S1x128_S128x128)) (broadcast S128x128 (Scalar.ofBits (F := F) .f32 0xFF800000#32))))) bitsLt_bf16_f32
/-- Two heads at once: their products against their halves of the values. -/
def gPair (m0 m1 xp : FVec F S128x128 .bf16) : FVec F S128x128 .f32 :=
  matmul dot_S128x256_S256x128_S128x128_1_0_0_1_n_n none
    (concatenate S128x256 1 [⟨S128x128, m0⟩, ⟨S128x128, m1⟩] concatenates_S128x128_S128x128_S128x256_d1)
    (concatenate S256x128 0 [⟨S128x128, select k0_pay41 xp k0_pay42⟩, ⟨S128x128, select k0_pay41 k0_pay42 xp⟩] concatenates_S128x128_S128x128_S256x128_d0)
    (constant S128x128 .f32 0x00000000#32)
/-- A group's rows: inside the chunk plus from the state. -/
def gYg (p0 p1 : FVec F S128x128 .f32) (yo : FVec F S128x256 .f32) : FVec F S128x256 .f32 :=
  addf (concatenate S128x256 1 [⟨S128x128, p0⟩, ⟨S128x128, p1⟩] concatenates_S128x128_S128x128_S128x256_d1) yo
/-- The skip and the gate. -/
def gGate (y : FVec F S128x1024 .f32) (xs : FVec F S128x1024 .f32) (dsk : Vec F S1x1024 .f32) (z : FVec F S128x1024 .bf16) : FVec F S128x1024 .f32 :=
  have u : FVec F S128x1024 .f32 := mulf (broadcast S128x1024 (Scalar.ofBits (F := F) .f32 0x3F000000#32)) (extf .f32 z bitsLt_bf16_f32)
  mulf (addf y (mulf xs (broadcastTo S128x1024 (shapeCast S1x1024 dsk shapeCasts_S1x1024_S1x1024) broadcasts_S1x1024_S128x1024))) (addf u (mulf u (tanh u)))
/-- A group's rows divided by their root mean square. -/
def gRms (yg : FVec F S128x256 .f32) : FVec F S128x256 .f32 :=
  mulf yg (broadcastTo S128x256 (rsqrt (addf (divf (shapeCast S128x1 (multiReduction .add [1] S128 (mulf yg yg) 0x00000000#32 reduces_S128x256_S128 (.inl rfl) rfl) shapeCasts_S128_S128x1) (broadcast S128x1 (Scalar.ofBits (F := F) .f32 0x43800000#32))) (broadcast S128x1 (Scalar.ofBits (F := F) .f32 0x3727C5AC#32)))) broadcasts_S128x1_S128x256)
/-- The four groups side by side, times the norm's gain. -/
def gFin (o0 o1 o2 o3 : FVec F S128x256 .f32) (ng : Vec F S1x1024 .f32) : FVec F S128x1024 .bf16 :=
  shapeCast S128x1024 (truncf .bf16 (mulf (concatenate S128x1024 1 [⟨S128x256, o0⟩, ⟨S128x256, o1⟩, ⟨S128x256, o2⟩, ⟨S128x256, o3⟩] concatenates_S128x256_S128x256_S128x256_S128x256_S128x1024_d1)
    (broadcastTo S128x1024 (shapeCast S1x1024 ng shapeCasts_S1x1024_S1x1024) broadcasts_S1x1024_S128x1024)) bitsLt_bf16_f32) shapeCasts_S128x1024_S128x1024

/-- Group 0's input projection. -/
def gB0 (xc : FVec F S128x2048 .f32) : FVec F S128x128 .bf16 :=
  truncf .bf16 (extractStridedSlice S128x128 ![0, 1024] xc slices_S128x2048_o0_1024_S128x128) bitsLt_bf16_f32
/-- Group 0's output projection. -/
def gC0 (xc : FVec F S128x2048 .f32) : FVec F S128x128 .bf16 :=
  truncf .bf16 (extractStridedSlice S128x128 ![0, 1536] xc slices_S128x2048_o0_1536_S128x128) bitsLt_bf16_f32
/-- Group 0's rows inside the chunk and from the state. -/
def gG0 (xc : FVec F S128x2048 .f32) (cs csT : FVec F S128x128 .f32) (xd16 : FVec F S128x1024 .bf16) (yo : FVec F S128x256 .f32) : FVec F S128x256 .f32 :=
  gYg
    (gPair (gM (gCB (gC0 xc) (gB0 xc)) (extractStridedSlice S128x1 ![0, 0] cs slices_S128x128_o0_0_S128x1) (extractStridedSlice S1x128 ![0, 0] csT slices_S128x128_o0_0_S1x128)) (gM (gCB (gC0 xc) (gB0 xc)) (extractStridedSlice S128x1 ![0, 1] cs slices_S128x128_o0_1_S128x1) (extractStridedSlice S1x128 ![1, 0] csT slices_S128x128_o1_0_S1x128)) (extractStridedSlice S128x128 ![0, 0] xd16 slices_S128x1024_o0_0_S128x128))
    (gPair (gM (gCB (gC0 xc) (gB0 xc)) (extractStridedSlice S128x1 ![0, 2] cs slices_S128x128_o0_2_S128x1) (extractStridedSlice S1x128 ![2, 0] csT slices_S128x128_o2_0_S1x128)) (gM (gCB (gC0 xc) (gB0 xc)) (extractStridedSlice S128x1 ![0, 3] cs slices_S128x128_o0_3_S128x1) (extractStridedSlice S1x128 ![3, 0] csT slices_S128x128_o3_0_S1x128)) (extractStridedSlice S128x128 ![0, 128] xd16 slices_S128x1024_o0_128_S128x128))
    yo

/-- Group 1's input projection. -/
def gB1 (xc : FVec F S128x2048 .f32) : FVec F S128x128 .bf16 :=
  truncf .bf16 (extractStridedSlice S128x128 ![0, 1152] xc slices_S128x2048_o0_1152_S128x128) bitsLt_bf16_f32
/-- Group 1's output projection. -/
def gC1 (xc : FVec F S128x2048 .f32) : FVec F S128x128 .bf16 :=
  truncf .bf16 (extractStridedSlice S128x128 ![0, 1664] xc slices_S128x2048_o0_1664_S128x128) bitsLt_bf16_f32
/-- Group 1's rows inside the chunk and from the state. -/
def gG1 (xc : FVec F S128x2048 .f32) (cs csT : FVec F S128x128 .f32) (xd16 : FVec F S128x1024 .bf16) (yo : FVec F S128x256 .f32) : FVec F S128x256 .f32 :=
  gYg
    (gPair (gM (gCB (gC1 xc) (gB1 xc)) (extractStridedSlice S128x1 ![0, 4] cs slices_S128x128_o0_4_S128x1) (extractStridedSlice S1x128 ![4, 0] csT slices_S128x128_o4_0_S1x128)) (gM (gCB (gC1 xc) (gB1 xc)) (extractStridedSlice S128x1 ![0, 5] cs slices_S128x128_o0_5_S128x1) (extractStridedSlice S1x128 ![5, 0] csT slices_S128x128_o5_0_S1x128)) (extractStridedSlice S128x128 ![0, 256] xd16 slices_S128x1024_o0_256_S128x128))
    (gPair (gM (gCB (gC1 xc) (gB1 xc)) (extractStridedSlice S128x1 ![0, 6] cs slices_S128x128_o0_6_S128x1) (extractStridedSlice S1x128 ![6, 0] csT slices_S128x128_o6_0_S1x128)) (gM (gCB (gC1 xc) (gB1 xc)) (extractStridedSlice S128x1 ![0, 7] cs slices_S128x128_o0_7_S128x1) (extractStridedSlice S1x128 ![7, 0] csT slices_S128x128_o7_0_S1x128)) (extractStridedSlice S128x128 ![0, 384] xd16 slices_S128x1024_o0_384_S128x128))
    yo

/-- Group 2's input projection. -/
def gB2 (xc : FVec F S128x2048 .f32) : FVec F S128x128 .bf16 :=
  truncf .bf16 (extractStridedSlice S128x128 ![0, 1280] xc slices_S128x2048_o0_1280_S128x128) bitsLt_bf16_f32
/-- Group 2's output projection. -/
def gC2 (xc : FVec F S128x2048 .f32) : FVec F S128x128 .bf16 :=
  truncf .bf16 (extractStridedSlice S128x128 ![0, 1792] xc slices_S128x2048_o0_1792_S128x128) bitsLt_bf16_f32
/-- Group 2's rows inside the chunk and from the state. -/
def gG2 (xc : FVec F S128x2048 .f32) (cs csT : FVec F S128x128 .f32) (xd16 : FVec F S128x1024 .bf16) (yo : FVec F S128x256 .f32) : FVec F S128x256 .f32 :=
  gYg
    (gPair (gM (gCB (gC2 xc) (gB2 xc)) (extractStridedSlice S128x1 ![0, 8] cs slices_S128x128_o0_8_S128x1) (extractStridedSlice S1x128 ![8, 0] csT slices_S128x128_o8_0_S1x128)) (gM (gCB (gC2 xc) (gB2 xc)) (extractStridedSlice S128x1 ![0, 9] cs slices_S128x128_o0_9_S128x1) (extractStridedSlice S1x128 ![9, 0] csT slices_S128x128_o9_0_S1x128)) (extractStridedSlice S128x128 ![0, 512] xd16 slices_S128x1024_o0_512_S128x128))
    (gPair (gM (gCB (gC2 xc) (gB2 xc)) (extractStridedSlice S128x1 ![0, 10] cs slices_S128x128_o0_10_S128x1) (extractStridedSlice S1x128 ![10, 0] csT slices_S128x128_o10_0_S1x128)) (gM (gCB (gC2 xc) (gB2 xc)) (extractStridedSlice S128x1 ![0, 11] cs slices_S128x128_o0_11_S128x1) (extractStridedSlice S1x128 ![11, 0] csT slices_S128x128_o11_0_S1x128)) (extractStridedSlice S128x128 ![0, 640] xd16 slices_S128x1024_o0_640_S128x128))
    yo

/-- Group 3's input projection. -/
def gB3 (xc : FVec F S128x2048 .f32) : FVec F S128x128 .bf16 :=
  truncf .bf16 (extractStridedSlice S128x128 ![0, 1408] xc slices_S128x2048_o0_1408_S128x128) bitsLt_bf16_f32
/-- Group 3's output projection. -/
def gC3 (xc : FVec F S128x2048 .f32) : FVec F S128x128 .bf16 :=
  truncf .bf16 (extractStridedSlice S128x128 ![0, 1920] xc slices_S128x2048_o0_1920_S128x128) bitsLt_bf16_f32
/-- Group 3's rows inside the chunk and from the state. -/
def gG3 (xc : FVec F S128x2048 .f32) (cs csT : FVec F S128x128 .f32) (xd16 : FVec F S128x1024 .bf16) (yo : FVec F S128x256 .f32) : FVec F S128x256 .f32 :=
  gYg
    (gPair (gM (gCB (gC3 xc) (gB3 xc)) (extractStridedSlice S128x1 ![0, 12] cs slices_S128x128_o0_12_S128x1) (extractStridedSlice S1x128 ![12, 0] csT slices_S128x128_o12_0_S1x128)) (gM (gCB (gC3 xc) (gB3 xc)) (extractStridedSlice S128x1 ![0, 13] cs slices_S128x128_o0_13_S128x1) (extractStridedSlice S1x128 ![13, 0] csT slices_S128x128_o13_0_S1x128)) (extractStridedSlice S128x128 ![0, 768] xd16 slices_S128x1024_o0_768_S128x128))
    (gPair (gM (gCB (gC3 xc) (gB3 xc)) (extractStridedSlice S128x1 ![0, 14] cs slices_S128x128_o0_14_S128x1) (extractStridedSlice S1x128 ![14, 0] csT slices_S128x128_o14_0_S1x128)) (gM (gCB (gC3 xc) (gB3 xc)) (extractStridedSlice S128x1 ![0, 15] cs slices_S128x128_o0_15_S128x1) (extractStridedSlice S1x128 ![15, 0] csT slices_S128x128_o15_0_S1x128)) (extractStridedSlice S128x128 ![0, 896] xd16 slices_S128x1024_o0_896_S128x128))
    yo

/-- The convolved and activated values of a chunk. -/
abbrev cXc (raw : Vec F S128x2048 .bf16) (d : Vec F S128x128 .f32) (b al : Vec F S1x128 .f32) (cb w0 w1 w2 w3 : Vec F S1x2048 .f32) (l0 l1 l2 : Vec F S128x2048 .f32) : FVec F S128x2048 .f32 := gXc raw cb w0 w1 w2 w3 l0 l1 l2
/-- The spread step sizes and running sums of a chunk. -/
abbrev cEx (d : Vec F S128x128 .f32) (b al : Vec F S1x128 .f32) : FVec F S256x1024 .f32 := gEx (gDt d b) (gCs d b al)

/-- The state of group 0 after a chunk. -/
def cSt0 (raw : Vec F S128x2048 .bf16) (d : Vec F S128x128 .f32) (b al : Vec F S1x128 .f32) (cb w0 w1 w2 w3 : Vec F S1x2048 .f32) (l0 l1 l2 : Vec F S128x2048 .f32) (st : Vec F S128x256 .f32) : FVec F S128x256 .f32 :=
  gSt (gB0 (cXc raw d b al cb w0 w1 w2 w3 l0 l1 l2)) (extractStridedSlice S128x256 ![0, 0] (gXdd (gXd (gXs (cXc raw d b al cb w0 w1 w2 w3 l0 l1 l2)) (cEx d b al)) (gAcs (cEx d b al))) slices_S128x1024_o0_0_S128x256) (extractStridedSlice S1x256 ![0, 0] (exp2 (gLast (gAcs (cEx d b al)))) slices_S1x1024_o0_0_S1x256) st
/-- What group 0 of the state before the chunk gives to its rows. -/
def cYo0 (raw : Vec F S128x2048 .bf16) (d : Vec F S128x128 .f32) (b al : Vec F S1x128 .f32) (cb w0 w1 w2 w3 : Vec F S1x2048 .f32) (l0 l1 l2 : Vec F S128x2048 .f32) (st : Vec F S128x256 .f32) : FVec F S128x256 .f32 :=
  gYo (gC0 (cXc raw d b al cb w0 w1 w2 w3 l0 l1 l2)) st (extractStridedSlice S128x256 ![0, 0] (exp2 (gAcs (cEx d b al))) slices_S128x1024_o0_0_S128x256)
/-- Group 0's rows of a chunk. -/
def cG0 (raw : Vec F S128x2048 .bf16) (d : Vec F S128x128 .f32) (b al : Vec F S1x128 .f32) (cb w0 w1 w2 w3 : Vec F S1x2048 .f32) (l0 l1 l2 : Vec F S128x2048 .f32) (st : Vec F S128x256 .f32) : FVec F S128x256 .f32 :=
  gG0 (cXc raw d b al cb w0 w1 w2 w3 l0 l1 l2) (gCs d b al) (gCsT d b al) (truncf .bf16 (gXd (gXs (cXc raw d b al cb w0 w1 w2 w3 l0 l1 l2)) (cEx d b al)) bitsLt_bf16_f32) (cYo0 raw d b al cb w0 w1 w2 w3 l0 l1 l2 st)

/-- The state of group 1 after a chunk. -/
def cSt1 (raw : Vec F S128x2048 .bf16) (d : Vec F S128x128 .f32) (b al : Vec F S1x128 .f32) (cb w0 w1 w2 w3 : Vec F S1x2048 .f32) (l0 l1 l2 : Vec F S128x2048 .f32) (st : Vec F S128x256 .f32) : FVec F S128x256 .f32 :=
  gSt (gB1 (cXc raw d b al cb w0 w1 w2 w3 l0 l1 l2)) (extractStridedSlice S128x256 ![0, 256] (gXdd (gXd (gXs (cXc raw d b al cb w0 w1 w2 w3 l0 l1 l2)) (cEx d b al)) (gAcs (cEx d b al))) slices_S128x1024_o0_256_S128x256) (extractStridedSlice S1x256 ![0, 256] (exp2 (gLast (gAcs (cEx d b al)))) slices_S1x1024_o0_256_S1x256) st
/-- What group 1 of the state before the chunk gives to its rows. -/
def cYo1 (raw : Vec F S128x2048 .bf16) (d : Vec F S128x128 .f32) (b al : Vec F S1x128 .f32) (cb w0 w1 w2 w3 : Vec F S1x2048 .f32) (l0 l1 l2 : Vec F S128x2048 .f32) (st : Vec F S128x256 .f32) : FVec F S128x256 .f32 :=
  gYo (gC1 (cXc raw d b al cb w0 w1 w2 w3 l0 l1 l2)) st (extractStridedSlice S128x256 ![0, 256] (exp2 (gAcs (cEx d b al))) slices_S128x1024_o0_256_S128x256)
/-- Group 1's rows of a chunk. -/
def cG1 (raw : Vec F S128x2048 .bf16) (d : Vec F S128x128 .f32) (b al : Vec F S1x128 .f32) (cb w0 w1 w2 w3 : Vec F S1x2048 .f32) (l0 l1 l2 : Vec F S128x2048 .f32) (st : Vec F S128x256 .f32) : FVec F S128x256 .f32 :=
  gG1 (cXc raw d b al cb w0 w1 w2 w3 l0 l1 l2) (gCs d b al) (gCsT d b al) (truncf .bf16 (gXd (gXs (cXc raw d b al cb w0 w1 w2 w3 l0 l1 l2)) (cEx d b al)) bitsLt_bf16_f32) (cYo1 raw d b al cb w0 w1 w2 w3 l0 l1 l2 st)

/-- The state of group 2 after a chunk. -/
def cSt2 (raw : Vec F S128x2048 .bf16) (d : Vec F S128x128 .f32) (b al : Vec F S1x128 .f32) (cb w0 w1 w2 w3 : Vec F S1x2048 .f32) (l0 l1 l2 : Vec F S128x2048 .f32) (st : Vec F S128x256 .f32) : FVec F S128x256 .f32 :=
  gSt (gB2 (cXc raw d b al cb w0 w1 w2 w3 l0 l1 l2)) (extractStridedSlice S128x256 ![0, 512] (gXdd (gXd (gXs (cXc raw d b al cb w0 w1 w2 w3 l0 l1 l2)) (cEx d b al)) (gAcs (cEx d b al))) slices_S128x1024_o0_512_S128x256) (extractStridedSlice S1x256 ![0, 512] (exp2 (gLast (gAcs (cEx d b al)))) slices_S1x1024_o0_512_S1x256) st
/-- What group 2 of the state before the chunk gives to its rows. -/
def cYo2 (raw : Vec F S128x2048 .bf16) (d : Vec F S128x128 .f32) (b al : Vec F S1x128 .f32) (cb w0 w1 w2 w3 : Vec F S1x2048 .f32) (l0 l1 l2 : Vec F S128x2048 .f32) (st : Vec F S128x256 .f32) : FVec F S128x256 .f32 :=
  gYo (gC2 (cXc raw d b al cb w0 w1 w2 w3 l0 l1 l2)) st (extractStridedSlice S128x256 ![0, 512] (exp2 (gAcs (cEx d b al))) slices_S128x1024_o0_512_S128x256)
/-- Group 2's rows of a chunk. -/
def cG2 (raw : Vec F S128x2048 .bf16) (d : Vec F S128x128 .f32) (b al : Vec F S1x128 .f32) (cb w0 w1 w2 w3 : Vec F S1x2048 .f32) (l0 l1 l2 : Vec F S128x2048 .f32) (st : Vec F S128x256 .f32) : FVec F S128x256 .f32 :=
  gG2 (cXc raw d b al cb w0 w1 w2 w3 l0 l1 l2) (gCs d b al) (gCsT d b al) (truncf .bf16 (gXd (gXs (cXc raw d b al cb w0 w1 w2 w3 l0 l1 l2)) (cEx d b al)) bitsLt_bf16_f32) (cYo2 raw d b al cb w0 w1 w2 w3 l0 l1 l2 st)

/-- The state of group 3 after a chunk. -/
def cSt3 (raw : Vec F S128x2048 .bf16) (d : Vec F S128x128 .f32) (b al : Vec F S1x128 .f32) (cb w0 w1 w2 w3 : Vec F S1x2048 .f32) (l0 l1 l2 : Vec F S128x2048 .f32) (st : Vec F S128x256 .f32) : FVec F S128x256 .f32 :=
  gSt (gB3 (cXc raw d b al cb w0 w1 w2 w3 l0 l1 l2)) (extractStridedSlice S128x256 ![0, 768] (gXdd (gXd (gXs (cXc raw d b al cb w0 w1 w2 w3 l0 l1 l2)) (cEx d b al)) (gAcs (cEx d b al))) slices_S128x1024_o0_768_S128x256) (extractStridedSlice S1x256 ![0, 768] (exp2 (gLast (gAcs (cEx d b al)))) slices_S1x1024_o0_768_S1x256) st
/-- What group 3 of the state before the chunk gives to its rows. -/
def cYo3 (raw : Vec F S128x2048 .bf16) (d : Vec F S128x128 .f32) (b al : Vec F S1x128 .f32) (cb w0 w1 w2 w3 : Vec F S1x2048 .f32) (l0 l1 l2 : Vec F S128x2048 .f32) (st : Vec F S128x256 .f32) : FVec F S128x256 .f32 :=
  gYo (gC3 (cXc raw d b al cb w0 w1 w2 w3 l0 l1 l2)) st (extractStridedSlice S128x256 ![0, 768] (exp2 (gAcs (cEx d b al))) slices_S128x1024_o0_768_S128x256)
/-- Group 3's rows of a chunk. -/
def cG3 (raw : Vec F S128x2048 .bf16) (d : Vec F S128x128 .f32) (b al : Vec F S1x128 .f32) (cb w0 w1 w2 w3 : Vec F S1x2048 .f32) (l0 l1 l2 : Vec F S128x2048 .f32) (st : Vec F S128x256 .f32) : FVec F S128x256 .f32 :=
  gG3 (cXc raw d b al cb w0 w1 w2 w3 l0 l1 l2) (gCs d b al) (gCsT d b al) (truncf .bf16 (gXd (gXs (cXc raw d b al cb w0 w1 w2 w3 l0 l1 l2)) (cEx d b al)) bitsLt_bf16_f32) (cYo3 raw d b al cb w0 w1 w2 w3 l0 l1 l2 st)

/-- A chunk's rows after the gate. -/
def cY (raw : Vec F S128x2048 .bf16) (d : Vec F S128x128 .f32) (b al : Vec F S1x128 .f32) (cb w0 w1 w2 w3 : Vec F S1x2048 .f32) (l0 l1 l2 : Vec F S128x2048 .f32) (z : Vec F S128x1024 .bf16) (dsk : Vec F S1x1024 .f32) (s0 s1 s2 s3 : Vec F S128x256 .f32) : FVec F S128x1024 .f32 :=
  gGate (concatenate S128x1024 1 [⟨S128x256, cG0 raw d b al cb w0 w1 w2 w3 l0 l1 l2 s0⟩, ⟨S128x256, cG1 raw d b al cb w0 w1 w2 w3 l0 l1 l2 s1⟩, ⟨S128x256, cG2 raw d b al cb w0 w1 w2 w3 l0 l1 l2 s2⟩, ⟨S128x256, cG3 raw d b al cb w0 w1 w2 w3 l0 l1 l2 s3⟩] concatenates_S128x256_S128x256_S128x256_S128x256_S128x1024_d1) (gXs (cXc raw d b al cb w0 w1 w2 w3 l0 l1 l2)) dsk (k0_pay8 z)
/-- A chunk's rows as stored. -/
def cYs (raw : Vec F S128x2048 .bf16) (d : Vec F S128x128 .f32) (b al : Vec F S1x128 .f32) (cb w0 w1 w2 w3 : Vec F S1x2048 .f32) (l0 l1 l2 : Vec F S128x2048 .f32) (z : Vec F S128x1024 .bf16) (dsk ng : Vec F S1x1024 .f32) (s0 s1 s2 s3 : Vec F S128x256 .f32) : FVec F S128x1024 .bf16 :=
  gFin
    (gRms (extractStridedSlice S128x256 ![0, 0] (cY raw d b al cb w0 w1 w2 w3 l0 l1 l2 z dsk s0 s1 s2 s3) slices_S128x1024_o0_0_S128x256))
    (gRms (extractStridedSlice S128x256 ![0, 256] (cY raw d b al cb w0 w1 w2 w3 l0 l1 l2 z dsk s0 s1 s2 s3) slices_S128x1024_o0_256_S128x256))
    (gRms (extractStridedSlice S128x256 ![0, 512] (cY raw d b al cb w0 w1 w2 w3 l0 l1 l2 z dsk s0 s1 s2 s3) slices_S128x1024_o0_512_S128x256))
    (gRms (extractStridedSlice S128x256 ![0, 768] (cY raw d b al cb w0 w1 w2 w3 l0 l1 l2 z dsk s0 s1 s2 s3) slices_S128x1024_o0_768_S128x256)) ng

end Cert.KernelIdeal.Ssd
-- ==== Proof.SsdBits.lean ====
/- Comparisons of row, head and channel numbers as the kernel's integers compute them. -/
module

public import Idealize.ShloMosaic.Lib.Pointwise
public import proofs.«01_k».proof.Proof.SsdStage

@[expose] public section

set_option maxRecDepth 16384

noncomputable section

open Idealize.ShloMosaic Idealize.ShloMosaic.TcCoe Idealize.SL.Sem

namespace Cert.KernelIdeal.Ssd

open Cert.KernelIdeal Cert.KernelIdeal.Gen

theorem ge_bit : ∀ l s : Fin 128, IntOp.cmpi .sge (BitVec.ofNat 32 l.1) (BitVec.ofNat 32 s.1) = if s.1 ≤ l.1 then 1#1 else 0#1 := by
  decide +kernel
theorem lt_bit : ∀ s : Fin 128, IntOp.cmpi .slt (BitVec.ofNat 32 s.1) 64#32 = if s.1 < 64 then 1#1 else 0#1 := by
  decide +kernel
theorem head_bit : ∀ c : Fin 1024, Scalar.select
    (IntOp.andi
      (IntOp.cmpi CmpIPredicate.ne
        (IntOp.subi (BitVec.setWidth 32 (IntOp.cmpi CmpIPredicate.sgt (BitVec.ofNat 32 c.1) 0#32))
          (BitVec.setWidth 32 (IntOp.cmpi CmpIPredicate.slt (BitVec.ofNat 32 c.1) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 c.1) 64#32) 0#32))
    (IntOp.subi (IntOp.divsi ArithUnit.vector (BitVec.ofNat 32 c.1) 64#32) 1#32)
    (IntOp.divsi ArithUnit.vector (BitVec.ofNat 32 c.1) 64#32) = BitVec.ofNat 32 (c.1 / 64) := by
  decide +kernel
theorem eq_bit : ∀ a b : Fin 128, BitVec.setWidth 32 (IntOp.cmpi .eq (BitVec.ofNat 32 a.1) (BitVec.ofNat 32 b.1)) = if a.1 = b.1 then 1#32 else 0#32 := by
  decide +kernel
theorem ge_word : ∀ l s : Fin 128, BitVec.setWidth 32 (IntOp.cmpi .sge (BitVec.ofNat 32 l.1) (BitVec.ofNat 32 s.1)) = if s.1 ≤ l.1 then 1#32 else 0#32 := by
  decide +kernel

end Cert.KernelIdeal.Ssd
-- ==== Proof.SsdReal.lean ====
/- What the steps of a chunk are over the real numbers: when the arrays that a step takes hold real numbers, so does
   its result, and which ones. A named constant stands for the logarithm's base, so powers of two of the running sums
   are exponentials of the sums themselves. -/
module

public import Idealize.ShloMosaic.Lib.Pointwise
public import proofs.«01_k».proof.Proof.SsdBits

@[expose] public section

set_option maxRecDepth 16384

noncomputable section

open Idealize.ShloMosaic Idealize.ShloMosaic.TcCoe Idealize.SL.Sem

namespace Cert.KernelIdeal.Ssd

open Cert.KernelIdeal Cert.KernelIdeal.Gen

theorem half_val : Ideal.ofBits .f32 1056964608#32 = ((1 / 2 : ℝ) : EReal) := by
  simp [Ideal.ofBits, Ideal.ieee, -EReal.coe_mul]; norm_num
theorem ninf_val : Ideal.ofBits .f32 4286578688#32 = ⊥ := by
  simp [Ideal.ofBits, Ideal.ieee]
theorem two_pow (x : ℝ) : Real.rpow 2 (x * (Real.log 2)⁻¹) = Real.exp x := by
  have h : Real.log 2 ≠ 0 := (Real.log_pos (by norm_num)).ne'
  show (2 : ℝ) ^ (x * (Real.log 2)⁻¹) = _
  rw [Real.rpow_def_of_pos (by norm_num)]
  congr 1
  field_simp

theorem ere_max (x y : ℝ) : max (x : EReal) (y : EReal) = ((max x y : ℝ) : EReal) :=
  (EReal.coe_strictMono.monotone.map_max).symm

/-- The logarithm of one plus the exponential, split at zero. -/
def sp (x : ℝ) : ℝ := max x 0 + Real.log (1 + Real.exp (-|x|))

theorem dt_real (d : Vec Ideal S128x128 .f32) (b : Vec Ideal S1x128 .f32) (l h : Fin 128) {x y : ℝ}
    (hd : d (ix2 l h) = (x : EReal)) (hb : b (ix2 0 h) = (y : EReal)) : gDt d b (ix2 l h) = ((sp (x + y) : ℝ) : EReal) := by
  unfold gDt k0_pay12
  pointwise []
  have habs : FloatOps.absf (F := Ideal) (φ := .f32) (d (ix2 l h) + b (ix2 0 h)) = ((|x + y| : ℝ) : EReal) := by
    rw [hd, hb, ← EReal.coe_add]
    show max ((x + y : ℝ) : EReal) (-((x + y : ℝ) : EReal)) = _
    rw [← EReal.coe_neg, ere_max]; rfl
  have h1 : (1 : EReal) = ((1 : ℝ) : EReal) := rfl
  have hp : 0 < 1 + Real.exp (-|x + y|) := by positivity
  rw [habs, zero_sub, ← EReal.coe_neg, Ideal.exp_coe]
  show _ + Ideal.log (1 + _) = _
  rw [h1, ← EReal.coe_add, Ideal.log_coe, if_neg (not_le.mpr hp), hd, hb, ← EReal.coe_add, ← EReal.coe_zero, ere_max, ← EReal.coe_add]
  rfl

/-- The decay exponents, in base e. -/
def aR (D : ℕ → ℕ → ℝ) (B A : ℕ → ℝ) (j h : ℕ) : ℝ := -Real.exp (A h) * sp (D j h + B h)
/-- Their running sums down the chunk. -/
def csR (D : ℕ → ℕ → ℝ) (B A : ℕ → ℝ) (l h : ℕ) : ℝ := ∑ j : Fin 128, if j.1 ≤ l then aR D B A j h else 0

theorem a_real (d : Vec Ideal S128x128 .f32) (b al : Vec Ideal S1x128 .f32) (D : ℕ → ℕ → ℝ) (B A : ℕ → ℝ)
    (hd : ∀ l h : Fin 128, d (ix2 l h) = (D l h : EReal)) (hb : ∀ h : Fin 128, b (ix2 0 h) = (B h : EReal))
    (ha : ∀ h : Fin 128, al (ix2 0 h) = (A h : EReal)) (l h : Fin 128) :
    k0_pay13 d b al (ix2 l h) = ((aR D B A l h * (Real.log 2)⁻¹ : ℝ) : EReal) := by
  have hdt := dt_real d b l h (hd l h) (hb h)
  unfold gDt at hdt
  unfold k0_pay13
  generalize k0_pay12 d b = y at hdt ⊢
  pointwise []
  have hn : Named.named (F := Ideal) κ (φ := .f32) "neg_log2e" 3216550459#32 = ((-(Real.log 2)⁻¹ : ℝ) : EReal) := rfl
  rw [hdt, hn, ha, Ideal.exp_coe, ← EReal.coe_mul, ← EReal.coe_mul]
  congr 1
  unfold aR
  ring

theorem tri_val (l j : Fin 128) : k0_pay15 (F := Ideal) (ix2 l j) = ((if j.1 ≤ l.1 then 1 else 0 : ℝ) : EReal) := by
  unfold k0_pay15 k0_pay14
  pointwise []
  rw [ge_word]
  show ((((if j.1 ≤ l.1 then 1#32 else 0#32 : BitVec 32)).toInt : ℝ) : EReal) = _
  split <;> norm_num <;> rfl

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem cs_real (d : Vec Ideal S128x128 .f32) (b al : Vec Ideal S1x128 .f32) (D : ℕ → ℕ → ℝ) (B A : ℕ → ℝ)
    (hd : ∀ l h : Fin 128, d (ix2 l h) = (D l h : EReal)) (hb : ∀ h : Fin 128, b (ix2 0 h) = (B h : EReal))
    (ha : ∀ h : Fin 128, al (ix2 0 h) = (A h : EReal)) (l h : Fin 128) :
    gCs d b al (ix2 l h) = ((csR D B A l h * (Real.log 2)⁻¹ : ℝ) : EReal) := by
  have hA := a_real d b al D B A hd hb ha
  have ht := tri_val
  unfold gCs k0_pay19 k0_pay18 k0_pay17 k0_pay16
  generalize k0_pay13 d b al = y at hA ⊢
  generalize k0_pay15 (F := Ideal) = z at ht ⊢
  pointwise [dot_S128x128_S128x128_S128x128_1_0_0_1_n_n]
  simp only [hA, ht, ← EReal.coe_sub, ← EReal.coe_mul, sub_self, mul_zero, sub_zero, EReal.coe_zero, Finset.sum_const_zero, add_zero]
  rw [← coe_sum]
  congr 1
  unfold csR
  rw [Finset.sum_mul]
  refine Finset.sum_congr rfl fun j _ => ?_
  split <;> ring

theorem csT_val (d : Vec Ideal S128x128 .f32) (b al : Vec Ideal S1x128 .f32) (l h : Fin 128) :
    gCsT d b al (ix2 h l) = gCs d b al (ix2 l h) := by
  unfold gCsT gCs k0_pay20
  generalize k0_pay19 (F := Ideal) _ _ _ _ = y
  pointwise []

/-- The product with the logistic function. -/
def silu (v : ℝ) : ℝ := v * (1 + Real.exp (-v))⁻¹

theorem silu_half (v : ℝ) : 1 / 2 * v + 1 / 2 * v * Real.tanh (1 / 2 * v) = silu v := by
  unfold silu
  rw [Real.tanh_eq_sinh_div_cosh, Real.sinh_eq, Real.cosh_eq]
  have h1 : Real.exp (-v) = Real.exp (-(1 / 2 * v)) * Real.exp (-(1 / 2 * v)) := by rw [← Real.exp_add]; congr 1; ring
  have h2 : Real.exp (1 / 2 * v) * Real.exp (-(1 / 2 * v)) = 1 := by rw [← Real.exp_add]; simp
  have p1 := Real.exp_pos (1 / 2 * v)
  have p2 := Real.exp_pos (-(1 / 2 * v))
  rw [h1]
  generalize Real.exp (1 / 2 * v) = a at *
  generalize Real.exp (-(1 / 2 * v)) = e at *
  have h3 : a = e⁻¹ := by field_simp; exact h2
  subst h3
  field_simp
  ring

theorem silu_real (v : ℝ) (x : EReal) (h : x = (v : EReal)) :
    Ideal.ofBits .f32 1056964608#32 * x + Ideal.ofBits .f32 1056964608#32 * x * Ideal.tanh (Ideal.ofBits .f32 1056964608#32 * x) = ((silu v : ℝ) : EReal) := by
  rw [h, half_val, ← EReal.coe_mul, Ideal.tanh_coe, ← EReal.coe_mul, ← EReal.coe_add, silu_half]

theorem xc_real (raw : Vec Ideal S128x2048 .bf16) (cb w0 w1 w2 w3 : Vec Ideal S1x2048 .f32) (l0 l1 l2 : Vec Ideal S128x2048 .f32) (l : Fin 128) (c : Fin 2048) {v : ℝ}
    (h : cb (ix2 0 c) + w3 (ix2 0 c) * raw (ix2 l c) + w0 (ix2 0 c) * l0 (ix2 l c) + w1 (ix2 0 c) * l1 (ix2 l c) + w2 (ix2 0 c) * l2 (ix2 l c) = (v : EReal)) :
    gXc raw cb w0 w1 w2 w3 l0 l1 l2 (ix2 l c) = ((silu v : ℝ) : EReal) := by
  unfold gXc k0_pay26
  unfold k0_pay23 k0_pay24 k0_pay21 k0_pay7
  pointwise []
  exact silu_real v _ h

theorem hot_val (h : Fin 128) (c : Fin 1024) : k0_pay28 (F := Ideal) (ix2 h c) = ((if c.1 / 64 = h.1 then 1 else 0 : ℝ) : EReal) := by
  unfold k0_pay28
  pointwise []
  rw [head_bit c]
  have := eq_bit ⟨c.1 / 64, by omega⟩ h
  dsimp only at this
  rw [this]
  show ((((if c.1 / 64 = h.1 then 1#32 else 0#32 : BitVec 32)).toInt : ℝ) : EReal) = _
  split <;> norm_num <;> rfl

theorem ex_real (dt cs : FVec Ideal S128x128 .f32) (T C : ℕ → ℕ → ℝ) (ht : ∀ l h : Fin 128, dt (ix2 l h) = (T l h : EReal))
    (hc : ∀ l h : Fin 128, cs (ix2 l h) = (C l h : EReal)) (l : Fin 256) (c : Fin 1024) :
    gEx dt cs (ix2 l c) = ((if l.1 < 128 then T l (c.1 / 64) else C (l.1 - 128) (c.1 / 64) : ℝ) : EReal) := by
  have hh := hot_val
  unfold gEx k0_pay33 k0_pay32 k0_pay31 k0_pay30 k0_pay29
  generalize k0_pay28 (F := Ideal) = z at hh ⊢
  pointwise [dot_S256x128_S128x1024_S256x1024_1_0_0_1_n_n]
  have key : ∀ x : Fin 128, (if h : l.1 < 128 then dt (ix2 ⟨l.1, h⟩ x) else cs (ix2 ⟨l.1 - 128, by omega⟩ x)) =
      ((if l.1 < 128 then T l.1 x.1 else C (l.1 - 128) x.1 : ℝ) : EReal) := by
    intro x
    split <;> simp [ht, hc]
  simp only [key, hh, ← EReal.coe_sub, ← EReal.coe_mul, sub_self, zero_mul, EReal.coe_zero, Finset.sum_const_zero, add_zero]
  rw [← coe_sum]
  congr 1
  rw [Finset.sum_eq_single (⟨c.1 / 64, by omega⟩ : Fin 128)]
  · simp
  · intro x _ hx
    have : ¬ c.1 / 64 = x.1 := fun e => hx (Fin.ext e.symm)
    simp [this]
  · simp

theorem acs_real (ex : FVec Ideal S256x1024 .f32) (E : ℕ → ℕ → ℝ) (he : ∀ (l : Fin 256) (c : Fin 1024), ex (ix2 l c) = (E l c : EReal))
    (l : Fin 128) (c : Fin 1024) : gAcs ex (ix2 l c) = ((E (128 + l) c : ℝ) : EReal) := by
  unfold gAcs
  pointwise []
  exact he _ _

theorem xd_real (xs : FVec Ideal S128x1024 .f32) (ex : FVec Ideal S256x1024 .f32) (X E : ℕ → ℕ → ℝ)
    (hx : ∀ (l : Fin 128) (c : Fin 1024), xs (ix2 l c) = (X l c : EReal)) (he : ∀ (l : Fin 256) (c : Fin 1024), ex (ix2 l c) = (E l c : EReal))
    (l : Fin 128) (c : Fin 1024) : gXd xs ex (ix2 l c) = ((X l c * E l c : ℝ) : EReal) := by
  unfold gXd
  pointwise []
  rw [hx, he, ← EReal.coe_mul]

theorem xdd_real (xd acs : FVec Ideal S128x1024 .f32) (X C : ℕ → ℕ → ℝ)
    (hx : ∀ (l : Fin 128) (c : Fin 1024), xd (ix2 l c) = (X l c : EReal)) (hc : ∀ (l : Fin 128) (c : Fin 1024), acs (ix2 l c) = ((C l c * (Real.log 2)⁻¹ : ℝ) : EReal))
    (l : Fin 128) (c : Fin 1024) : gXdd xd acs (ix2 l c) = ((X l c * Real.exp (C 127 c - C l c) : ℝ) : EReal) := by
  unfold gXdd gLast
  pointwise []
  rw [hx, hc, hc, ← EReal.coe_sub, ← sub_mul]
  show _ * Ideal.exp2 _ = _
  rw [Ideal.exp2_coe, two_pow, ← EReal.coe_mul]
  rfl

theorem cb_real (cc bb : FVec Ideal S128x128 .bf16) (C B : ℕ → ℕ → ℝ) (hc : ∀ l n : Fin 128, cc (ix2 l n) = (C l n : EReal)) (hb : ∀ l n : Fin 128, bb (ix2 l n) = (B l n : EReal))
    (l s : Fin 128) : gCB cc bb (ix2 l s) = ((∑ n : Fin 128, C l n * B s n : ℝ) : EReal) := by
  unfold gCB
  pointwise [dot_S128x128_S128x128_S128x128_1_1_0_0_n_n]
  simp only [hc, hb, ← EReal.coe_mul]
  rw [← coe_sum]

theorem yo_real (cc : FVec Ideal S128x128 .bf16) (st ea : FVec Ideal S128x256 .f32) (C S E : ℕ → ℕ → ℝ) (hc : ∀ l n : Fin 128, cc (ix2 l n) = (C l n : EReal))
    (hs : ∀ (n : Fin 128) (c : Fin 256), st (ix2 n c) = (S n c : EReal)) (he : ∀ (n : Fin 128) (c : Fin 256), ea (ix2 n c) = (E n c : EReal))
    (l : Fin 128) (c : Fin 256) : gYo cc st ea (ix2 l c) = (((∑ n : Fin 128, C l n * S n c) * E l c : ℝ) : EReal) := by
  unfold gYo
  pointwise [dot_S128x128_S128x256_S128x256_1_0_0_1_n_n]
  simp only [hc, hs, he, ← EReal.coe_mul]
  rw [← coe_sum, ← EReal.coe_mul]

theorem st_real (bb : FVec Ideal S128x128 .bf16) (xdd : FVec Ideal S128x256 .bf16) (de : FVec Ideal S1x256 .f32) (st : FVec Ideal S128x256 .f32)
    (B X S : ℕ → ℕ → ℝ) (D : ℕ → ℝ) (hb : ∀ l n : Fin 128, bb (ix2 l n) = (B l n : EReal)) (hx : ∀ (l : Fin 128) (c : Fin 256), xdd (ix2 l c) = (X l c : EReal))
    (hd : ∀ c : Fin 256, de (ix2 0 c) = (D c : EReal)) (hs : ∀ (n : Fin 128) (c : Fin 256), st (ix2 n c) = (S n c : EReal))
    (n : Fin 128) (c : Fin 256) : gSt bb xdd de st (ix2 n c) = ((D c * S n c + ∑ s : Fin 128, B s n * X s c : ℝ) : EReal) := by
  unfold gSt
  pointwise [dot_S128x128_S128x256_S128x256_0_0_1_1_n_n]
  simp only [hb, hx, hd, hs, ← EReal.coe_mul]
  rw [← coe_sum, ← EReal.coe_add]

theorem m_real (cb : FVec Ideal S128x128 .f32) (co : FVec Ideal S128x1 .f32) (ro : FVec Ideal S1x128 .f32) (K : ℕ → ℕ → ℝ) (C : ℕ → ℝ)
    (hk : ∀ l s : Fin 128, cb (ix2 l s) = (K l s : EReal)) (hc : ∀ l : Fin 128, co (ix2 l 0) = ((C l * (Real.log 2)⁻¹ : ℝ) : EReal))
    (hr : ∀ s : Fin 128, ro (ix2 0 s) = ((C s * (Real.log 2)⁻¹ : ℝ) : EReal)) (l s : Fin 128) :
    gM cb co ro (ix2 l s) = ((K l s * (if s.1 ≤ l.1 then Real.exp (C l - C s) else 0) : ℝ) : EReal) := by
  unfold gM k0_pay14
  pointwise []
  rw [ge_bit, ninf_val, hk, hc, hr, ← EReal.coe_sub, ← sub_mul]
  show _ * Ideal.exp2 _ = _
  by_cases h : s.1 ≤ l.1
  · rw [if_pos h, if_pos h]
    show _ * Ideal.exp2 (((C l - C s) * (Real.log 2)⁻¹ : ℝ) : EReal) = _
    rw [Ideal.exp2_coe, two_pow, ← EReal.coe_mul]
  · rw [if_neg h, if_neg h]
    show _ * Ideal.exp2 ⊥ = _
    rw [Ideal.exp2_bot]
    simp

theorem pair_real (m0 m1 xp : FVec Ideal S128x128 .bf16) (M0 M1 X : ℕ → ℕ → ℝ) (h0 : ∀ l s : Fin 128, m0 (ix2 l s) = (M0 l s : EReal)) (h1 : ∀ l s : Fin 128, m1 (ix2 l s) = (M1 l s : EReal))
    (hx : ∀ l s : Fin 128, xp (ix2 l s) = (X l s : EReal)) (l c : Fin 128) :
    gPair m0 m1 xp (ix2 l c) = ((∑ s : Fin 128, (if c.1 < 64 then M0 l s else M1 l s) * X s c : ℝ) : EReal) := by
  unfold gPair k0_pay41 k0_pay42
  pointwise [dot_S128x256_S256x128_S128x128_1_0_0_1_n_n]
  rw [lt_bit]
  by_cases h : c.1 < 64
  · simp only [if_pos h]
    show (∑ x : Fin 128, m0 (ix2 l x) * xp (ix2 x c)) + (∑ x : Fin 128, (0 : EReal)) = _
    simp only [h0, hx, ← EReal.coe_mul, Finset.sum_const_zero, add_zero]
    rw [← coe_sum]
  · simp only [if_neg h]
    show (∑ x : Fin 128, (0 : EReal)) + (∑ x : Fin 128, m1 (ix2 l x) * xp (ix2 x c)) = _
    simp only [h1, hx, ← EReal.coe_mul, Finset.sum_const_zero, zero_add]
    rw [← coe_sum]

theorem yg_real (p0 p1 : FVec Ideal S128x128 .f32) (yo : FVec Ideal S128x256 .f32) (P0 P1 Y : ℕ → ℕ → ℝ) (h0 : ∀ l s : Fin 128, p0 (ix2 l s) = (P0 l s : EReal)) (h1 : ∀ l s : Fin 128, p1 (ix2 l s) = (P1 l s : EReal))
    (hy : ∀ (l : Fin 128) (c : Fin 256), yo (ix2 l c) = (Y l c : EReal)) (l : Fin 128) (c : Fin 256) :
    gYg p0 p1 yo (ix2 l c) = (((if c.1 < 128 then P0 l c else P1 l (c - 128)) + Y l c : ℝ) : EReal) := by
  unfold gYg
  pointwise []
  rw [hy, EReal.coe_add]
  congr 1
  split <;> simp [h0, h1]

theorem gate_val (y xs : FVec Ideal S128x1024 .f32) (dsk : Vec Ideal S1x1024 .f32) (z : FVec Ideal S128x1024 .bf16) (l : Fin 128) (c : Fin 1024) {v : ℝ}
    (hz : z (ix2 l c) = (v : EReal)) : gGate y xs dsk z (ix2 l c) = (y (ix2 l c) + xs (ix2 l c) * dsk (ix2 0 c)) * ((silu v : ℝ) : EReal) := by
  unfold gGate
  pointwise []
  rw [silu_real v _ hz]

theorem rms_val (y : FVec Ideal S128x256 .f32) (l : Fin 128) (c : Fin 256) : gRms y (ix2 l c) =
    y (ix2 l c) * Ideal.rsqrt (Ideal.div (∑ x : Fin 256, y (ix2 l x) * y (ix2 l x)) (Ideal.ofBits .f32 1132462080#32) + Ideal.ofBits .f32 925353388#32) := by
  unfold gRms
  pointwise []

end Cert.KernelIdeal.Ssd
-- ==== Proof.SsdChunk.lean ====
/- One chunk of the scan over the real numbers: the state that it leaves and the rows that it computes, from the state
   that it finds, written with finite sums. -/
module

public import Idealize.ShloMosaic.Lib.Pointwise
public import proofs.«01_k».proof.Proof.SsdReal

@[expose] public section

set_option maxRecDepth 16384

noncomputable section

open Idealize.ShloMosaic Idealize.ShloMosaic.TcCoe Idealize.SL.Sem

namespace Cert.KernelIdeal.Ssd

open Cert.KernelIdeal Cert.KernelIdeal.Gen

/-- The activated convolution. -/
def xcR (V : ℕ → ℕ → ℝ) (l c : ℕ) : ℝ := silu (V l c)
/-- Values times step sizes. -/
def xdR (V D : ℕ → ℕ → ℝ) (B : ℕ → ℝ) (s c : ℕ) : ℝ := xcR V s c * sp (D s (c / 64) + B (c / 64))
/-- The state after a chunk, from the state before it. -/
def stR (V D : ℕ → ℕ → ℝ) (B A : ℕ → ℝ) (S : ℕ → ℕ → ℝ) (n c : ℕ) : ℝ :=
  Real.exp (csR D B A 127 (c / 64)) * S n c + ∑ s : Fin 128, xcR V s (1024 + 128 * (c / 256) + n) * (xdR V D B s c * Real.exp (csR D B A 127 (c / 64) - csR D B A s (c / 64)))
/-- A chunk's rows, from the state before it. -/
def yR (V D : ℕ → ℕ → ℝ) (B A : ℕ → ℝ) (S : ℕ → ℕ → ℝ) (l c : ℕ) : ℝ :=
  (∑ s : Fin 128, (∑ n : Fin 128, xcR V l (1536 + 128 * (c / 256) + n) * xcR V s (1024 + 128 * (c / 256) + n)) * (if s.1 ≤ l then Real.exp (csR D B A l (c / 64) - csR D B A s (c / 64)) else 0) * xdR V D B s c)
    + (∑ n : Fin 128, xcR V l (1536 + 128 * (c / 256) + n) * S n c) * Real.exp (csR D B A l (c / 64))

/-- The arrays of a chunk hold real numbers: its convolution `V`, step sizes `D` with bias `B`, rates `A`. -/
structure ChunkReal (raw : Vec Ideal S128x2048 .bf16) (d : Vec Ideal S128x128 .f32) (b al : Vec Ideal S1x128 .f32) (cb w0 w1 w2 w3 : Vec Ideal S1x2048 .f32) (l0 l1 l2 : Vec Ideal S128x2048 .f32) (V D : ℕ → ℕ → ℝ) (B A : ℕ → ℝ) : Prop where
  hv : ∀ (l : Fin 128) (c : Fin 2048), cb (ix2 0 c) + w3 (ix2 0 c) * raw (ix2 l c) + w0 (ix2 0 c) * l0 (ix2 l c) + w1 (ix2 0 c) * l1 (ix2 l c) + w2 (ix2 0 c) * l2 (ix2 l c) = (V l c : EReal)
  hd : ∀ l h : Fin 128, d (ix2 l h) = (D l h : EReal)
  hb : ∀ h : Fin 128, b (ix2 0 h) = (B h : EReal)
  ha : ∀ h : Fin 128, al (ix2 0 h) = (A h : EReal)

section
variable {raw : Vec Ideal S128x2048 .bf16} {d : Vec Ideal S128x128 .f32} {b al : Vec Ideal S1x128 .f32} {cb w0 w1 w2 w3 : Vec Ideal S1x2048 .f32} {l0 l1 l2 : Vec Ideal S128x2048 .f32}
  {V D : ℕ → ℕ → ℝ} {B A : ℕ → ℝ} (H : ChunkReal raw d b al cb w0 w1 w2 w3 l0 l1 l2 V D B A)
include H

theorem xc_c (l : Fin 128) (c : Fin 2048) : cXc raw d b al cb w0 w1 w2 w3 l0 l1 l2 (ix2 l c) = (xcR V l c : EReal) := xc_real _ _ _ _ _ _ _ _ _ l c (H.hv l c)

theorem xs_c (l : Fin 128) (c : Fin 1024) : gXs (cXc raw d b al cb w0 w1 w2 w3 l0 l1 l2) (ix2 l c) = (xcR V l c : EReal) := by
  have h := xc_c H
  generalize cXc raw d b al cb w0 w1 w2 w3 l0 l1 l2 = y at h ⊢
  unfold gXs
  pointwise []
  exact h _ _

theorem cs_c (l h : Fin 128) : gCs d b al (ix2 l h) = ((csR D B A l h * (Real.log 2)⁻¹ : ℝ) : EReal) := cs_real d b al D B A H.hd H.hb H.ha l h

theorem ex_c (l : Fin 256) (c : Fin 1024) : cEx d b al (ix2 l c) =
    ((if l.1 < 128 then sp (D l (c.1 / 64) + B (c.1 / 64)) else csR D B A (l.1 - 128) (c.1 / 64) * (Real.log 2)⁻¹ : ℝ) : EReal) :=
  ex_real _ _ (fun l h => sp (D l h + B h)) (fun l h => csR D B A l h * (Real.log 2)⁻¹) (fun l h => dt_real d b l h (H.hd l h) (H.hb h)) (cs_c H) l c

theorem acs_c (l : Fin 128) (c : Fin 1024) : gAcs (cEx d b al) (ix2 l c) = ((csR D B A l (c.1 / 64) * (Real.log 2)⁻¹ : ℝ) : EReal) := by
  rw [acs_real _ (fun l c => if l < 128 then sp (D l (c / 64) + B (c / 64)) else csR D B A (l - 128) (c / 64) * (Real.log 2)⁻¹) (ex_c H) l c]
  rw [if_neg (by omega), Nat.add_sub_cancel_left]

theorem xd_c (l : Fin 128) (c : Fin 1024) : gXd (gXs (cXc raw d b al cb w0 w1 w2 w3 l0 l1 l2)) (cEx d b al) (ix2 l c) = (xdR V D B l c : EReal) := by
  rw [xd_real _ _ (xcR V) (fun l c => if l < 128 then sp (D l (c / 64) + B (c / 64)) else csR D B A (l - 128) (c / 64) * (Real.log 2)⁻¹) (xs_c H) (ex_c H) l c]
  rw [if_pos l.isLt]
  rfl

theorem xdd_c (l : Fin 128) (c : Fin 1024) : gXdd (gXd (gXs (cXc raw d b al cb w0 w1 w2 w3 l0 l1 l2)) (cEx d b al)) (gAcs (cEx d b al)) (ix2 l c) =
    ((xdR V D B l c * Real.exp (csR D B A 127 (c.1 / 64) - csR D B A l (c.1 / 64)) : ℝ) : EReal) :=
  xdd_real _ _ (xdR V D B) (fun l c => csR D B A l (c / 64)) (xd_c H) (acs_c H) l c

theorem dec_c (c : Fin 1024) : exp2 (gLast (gAcs (cEx d b al))) (ix2 0 c) = ((Real.exp (csR D B A 127 (c.1 / 64)) : ℝ) : EReal) := by
  have h := acs_c H 127 c
  generalize gAcs (cEx d b al) = y at h ⊢
  unfold gLast
  pointwise []
  rw [h]
  show Ideal.exp2 _ = _
  rw [Ideal.exp2_coe, two_pow]
  rfl

theorem ea_c (l : Fin 128) (c : Fin 1024) : exp2 (gAcs (cEx d b al)) (ix2 l c) = ((Real.exp (csR D B A l (c.1 / 64)) : ℝ) : EReal) := by
  have h := acs_c H l c
  generalize gAcs (cEx d b al) = y at h ⊢
  pointwise []
  rw [h]
  show Ideal.exp2 _ = _
  rw [Ideal.exp2_coe, two_pow]

theorem b0_c (l n : Fin 128) : gB0 (cXc raw d b al cb w0 w1 w2 w3 l0 l1 l2) (ix2 l n) = (xcR V l (1024 + n) : EReal) := by
  have h := xc_c H
  generalize cXc raw d b al cb w0 w1 w2 w3 l0 l1 l2 = y at h ⊢
  unfold gB0
  pointwise []
  exact h _ _

theorem c0_c (l n : Fin 128) : gC0 (cXc raw d b al cb w0 w1 w2 w3 l0 l1 l2) (ix2 l n) = (xcR V l (1536 + n) : EReal) := by
  have h := xc_c H
  generalize cXc raw d b al cb w0 w1 w2 w3 l0 l1 l2 = y at h ⊢
  unfold gC0
  pointwise []
  exact h _ _

theorem st0_c (st : Vec Ideal S128x256 .f32) (S : ℕ → ℕ → ℝ) (hs : ∀ (n : Fin 128) (c : Fin 256), st (ix2 n c) = (S n (0 + c) : EReal))
    (n : Fin 128) (c : Fin 256) : cSt0 raw d b al cb w0 w1 w2 w3 l0 l1 l2 st (ix2 n c) = (stR V D B A S n (0 + c) : EReal) := by
  have h1 := xdd_c H
  have h2 := dec_c H
  unfold cSt0
  generalize gXdd (gXd (gXs (cXc raw d b al cb w0 w1 w2 w3 l0 l1 l2)) (cEx d b al)) (gAcs (cEx d b al)) = y at h1 ⊢
  generalize exp2 (gLast (gAcs (cEx d b al))) = y2 at h2 ⊢
  refine (st_real _ _ _ _ (fun l n => xcR V l (1024 + n))
    (fun l c => xdR V D B l (0 + c) * Real.exp (csR D B A 127 ((0 + c) / 64) - csR D B A l ((0 + c) / 64)))
    (fun n c => S n (0 + c)) (fun c => Real.exp (csR D B A 127 ((0 + c) / 64))) (b0_c H) ?_ ?_ hs n c).trans ?_
  · intro l c
    pointwise []
    exact h1 l ⟨c.1, by omega⟩
  · intro c
    pointwise []
    exact h2 ⟨c.1, by omega⟩
  · have hg : (0 + c.1) / 256 = 0 := by omega
    unfold stR
    rw [hg]

theorem yo0_c (st : Vec Ideal S128x256 .f32) (S : ℕ → ℕ → ℝ) (hs : ∀ (n : Fin 128) (c : Fin 256), st (ix2 n c) = (S n (0 + c) : EReal))
    (l : Fin 128) (c : Fin 256) : cYo0 raw d b al cb w0 w1 w2 w3 l0 l1 l2 st (ix2 l c) =
      (((∑ n : Fin 128, xcR V l (1536 + n) * S n (0 + c)) * Real.exp (csR D B A l ((0 + c.1) / 64)) : ℝ) : EReal) := by
  have h1 := ea_c H
  unfold cYo0
  generalize exp2 (gAcs (cEx d b al)) = y at h1 ⊢
  refine yo_real _ _ _ (fun l n => xcR V l (1536 + n)) (fun n c => S n (0 + c)) (fun l c => Real.exp (csR D B A l ((0 + c) / 64))) (c0_c H) hs ?_ l c
  intro l c
  pointwise []
  exact h1 l ⟨c.1, by omega⟩

theorem m0_c (l s : Fin 128) : gM (gCB (gC0 (cXc raw d b al cb w0 w1 w2 w3 l0 l1 l2)) (gB0 (cXc raw d b al cb w0 w1 w2 w3 l0 l1 l2))) (extractStridedSlice S128x1 ![0, 0] (gCs d b al) slices_S128x128_o0_0_S128x1) (extractStridedSlice S1x128 ![0, 0] (gCsT d b al) slices_S128x128_o0_0_S1x128) (ix2 l s) =
    (((∑ n : Fin 128, xcR V l (1536 + n) * xcR V s (1024 + n)) * (if s.1 ≤ l.1 then Real.exp (csR D B A l 0 - csR D B A s 0) else 0) : ℝ) : EReal) := by
  have h1 := cs_c H
  have h2 := csT_val d b al
  refine m_real _ _ _ (fun l s => ∑ n : Fin 128, xcR V l (1536 + n) * xcR V s (1024 + n)) (fun l => csR D B A l 0) (fun l s => cb_real _ _ (fun l n => xcR V l (1536 + n)) (fun l n => xcR V l (1024 + n)) (c0_c H) (b0_c H) l s) ?_ ?_ l s
  · intro l
    generalize gCs d b al = y at h1 ⊢
    pointwise []
    exact h1 l 0
  · intro s
    generalize gCs d b al = y at h1 h2
    generalize gCsT d b al = y2 at h2 ⊢
    pointwise []
    exact (h2 s 0).trans (h1 s 0)

theorem m1_c (l s : Fin 128) : gM (gCB (gC0 (cXc raw d b al cb w0 w1 w2 w3 l0 l1 l2)) (gB0 (cXc raw d b al cb w0 w1 w2 w3 l0 l1 l2))) (extractStridedSlice S128x1 ![0, 1] (gCs d b al) slices_S128x128_o0_1_S128x1) (extractStridedSlice S1x128 ![1, 0] (gCsT d b al) slices_S128x128_o1_0_S1x128) (ix2 l s) =
    (((∑ n : Fin 128, xcR V l (1536 + n) * xcR V s (1024 + n)) * (if s.1 ≤ l.1 then Real.exp (csR D B A l 1 - csR D B A s 1) else 0) : ℝ) : EReal) := by
  have h1 := cs_c H
  have h2 := csT_val d b al
  refine m_real _ _ _ (fun l s => ∑ n : Fin 128, xcR V l (1536 + n) * xcR V s (1024 + n)) (fun l => csR D B A l 1) (fun l s => cb_real _ _ (fun l n => xcR V l (1536 + n)) (fun l n => xcR V l (1024 + n)) (c0_c H) (b0_c H) l s) ?_ ?_ l s
  · intro l
    generalize gCs d b al = y at h1 ⊢
    pointwise []
    exact h1 l 1
  · intro s
    generalize gCs d b al = y at h1 h2
    generalize gCsT d b al = y2 at h2 ⊢
    pointwise []
    exact (h2 s 1).trans (h1 s 1)

theorem m2_c (l s : Fin 128) : gM (gCB (gC0 (cXc raw d b al cb w0 w1 w2 w3 l0 l1 l2)) (gB0 (cXc raw d b al cb w0 w1 w2 w3 l0 l1 l2))) (extractStridedSlice S128x1 ![0, 2] (gCs d b al) slices_S128x128_o0_2_S128x1) (extractStridedSlice S1x128 ![2, 0] (gCsT d b al) slices_S128x128_o2_0_S1x128) (ix2 l s) =
    (((∑ n : Fin 128, xcR V l (1536 + n) * xcR V s (1024 + n)) * (if s.1 ≤ l.1 then Real.exp (csR D B A l 2 - csR D B A s 2) else 0) : ℝ) : EReal) := by
  have h1 := cs_c H
  have h2 := csT_val d b al
  refine m_real _ _ _ (fun l s => ∑ n : Fin 128, xcR V l (1536 + n) * xcR V s (1024 + n)) (fun l => csR D B A l 2) (fun l s => cb_real _ _ (fun l n => xcR V l (1536 + n)) (fun l n => xcR V l (1024 + n)) (c0_c H) (b0_c H) l s) ?_ ?_ l s
  · intro l
    generalize gCs d b al = y at h1 ⊢
    pointwise []
    exact h1 l 2
  · intro s
    generalize gCs d b al = y at h1 h2
    generalize gCsT d b al = y2 at h2 ⊢
    pointwise []
    exact (h2 s 2).trans (h1 s 2)

theorem m3_c (l s : Fin 128) : gM (gCB (gC0 (cXc raw d b al cb w0 w1 w2 w3 l0 l1 l2)) (gB0 (cXc raw d b al cb w0 w1 w2 w3 l0 l1 l2))) (extractStridedSlice S128x1 ![0, 3] (gCs d b al) slices_S128x128_o0_3_S128x1) (extractStridedSlice S1x128 ![3, 0] (gCsT d b al) slices_S128x128_o3_0_S1x128) (ix2 l s) =
    (((∑ n : Fin 128, xcR V l (1536 + n) * xcR V s (1024 + n)) * (if s.1 ≤ l.1 then Real.exp (csR D B A l 3 - csR D B A s 3) else 0) : ℝ) : EReal) := by
  have h1 := cs_c H
  have h2 := csT_val d b al
  refine m_real _ _ _ (fun l s => ∑ n : Fin 128, xcR V l (1536 + n) * xcR V s (1024 + n)) (fun l => csR D B A l 3) (fun l s => cb_real _ _ (fun l n => xcR V l (1536 + n)) (fun l n => xcR V l (1024 + n)) (c0_c H) (b0_c H) l s) ?_ ?_ l s
  · intro l
    generalize gCs d b al = y at h1 ⊢
    pointwise []
    exact h1 l 3
  · intro s
    generalize gCs d b al = y at h1 h2
    generalize gCsT d b al = y2 at h2 ⊢
    pointwise []
    exact (h2 s 3).trans (h1 s 3)

theorem xp0_c (l s : Fin 128) : extractStridedSlice S128x128 ![0, 0] (truncf .bf16 (gXd (gXs (cXc raw d b al cb w0 w1 w2 w3 l0 l1 l2)) (cEx d b al)) bitsLt_bf16_f32) slices_S128x1024_o0_0_S128x128 (ix2 l s) = (xdR V D B l (0 + s) : EReal) := by
  have h1 := xd_c H
  generalize gXd (gXs (cXc raw d b al cb w0 w1 w2 w3 l0 l1 l2)) (cEx d b al) = y at h1 ⊢
  pointwise []
  exact h1 l ⟨s.1, by omega⟩

theorem xp128_c (l s : Fin 128) : extractStridedSlice S128x128 ![0, 128] (truncf .bf16 (gXd (gXs (cXc raw d b al cb w0 w1 w2 w3 l0 l1 l2)) (cEx d b al)) bitsLt_bf16_f32) slices_S128x1024_o0_128_S128x128 (ix2 l s) = (xdR V D B l (128 + s) : EReal) := by
  have h1 := xd_c H
  generalize gXd (gXs (cXc raw d b al cb w0 w1 w2 w3 l0 l1 l2)) (cEx d b al) = y at h1 ⊢
  pointwise []
  exact h1 l ⟨128 + s.1, by omega⟩

theorem y0_c (st : Vec Ideal S128x256 .f32) (S : ℕ → ℕ → ℝ) (hs : ∀ (n : Fin 128) (c : Fin 256), st (ix2 n c) = (S n (0 + c) : EReal))
    (l : Fin 128) (c : Fin 256) : cG0 raw d b al cb w0 w1 w2 w3 l0 l1 l2 st (ix2 l c) = (yR V D B A S l (0 + c) : EReal) := by
  have h1 := yo0_c H st S hs
  unfold cG0 gG0
  generalize cYo0 raw d b al cb w0 w1 w2 w3 l0 l1 l2 st = y at h1 ⊢
  refine (yg_real _ _ _ (fun l c => ∑ s : Fin 128, (if c < 64 then (fun l s => (∑ n : Fin 128, xcR V l (1536 + n) * xcR V s (1024 + n)) * (if s ≤ l then Real.exp (csR D B A l 0 - csR D B A s 0) else 0)) l s else (fun l s => (∑ n : Fin 128, xcR V l (1536 + n) * xcR V s (1024 + n)) * (if s ≤ l then Real.exp (csR D B A l 1 - csR D B A s 1) else 0)) l s) * xdR V D B s (0 + c)) (fun l c => ∑ s : Fin 128, (if c < 64 then (fun l s => (∑ n : Fin 128, xcR V l (1536 + n) * xcR V s (1024 + n)) * (if s ≤ l then Real.exp (csR D B A l 2 - csR D B A s 2) else 0)) l s else (fun l s => (∑ n : Fin 128, xcR V l (1536 + n) * xcR V s (1024 + n)) * (if s ≤ l then Real.exp (csR D B A l 3 - csR D B A s 3) else 0)) l s) * xdR V D B s (128 + c))
    (fun l c => (∑ n : Fin 128, xcR V l (1536 + n) * S n (0 + c)) * Real.exp (csR D B A l ((0 + c) / 64))) (pair_real _ _ _ (fun l s => (∑ n : Fin 128, xcR V l (1536 + n) * xcR V s (1024 + n)) * (if s ≤ l then Real.exp (csR D B A l 0 - csR D B A s 0) else 0)) (fun l s => (∑ n : Fin 128, xcR V l (1536 + n) * xcR V s (1024 + n)) * (if s ≤ l then Real.exp (csR D B A l 1 - csR D B A s 1) else 0)) (fun l c => xdR V D B l (0 + c)) (m0_c H) (m1_c H) (xp0_c H)) (pair_real _ _ _ (fun l s => (∑ n : Fin 128, xcR V l (1536 + n) * xcR V s (1024 + n)) * (if s ≤ l then Real.exp (csR D B A l 2 - csR D B A s 2) else 0)) (fun l s => (∑ n : Fin 128, xcR V l (1536 + n) * xcR V s (1024 + n)) * (if s ≤ l then Real.exp (csR D B A l 3 - csR D B A s 3) else 0)) (fun l c => xdR V D B l (128 + c)) (m2_c H) (m3_c H) (xp128_c H)) h1 l c).trans ?_
  have hg : (0 + c.1) / 256 = 0 := by omega
  unfold yR
  rw [hg]
  congr 2
  by_cases a1 : c.1 < 128
  · rw [if_pos a1]
    by_cases a2 : c.1 < 64
    · have e : (0 + c.1) / 64 = 0 := by omega
      simp only [if_pos a2, e]
    · have e : (0 + c.1) / 64 = 1 := by omega
      simp only [if_neg a2, e]
  · rw [if_neg a1]
    have e0 : 128 + (c.1 - 128) = 0 + c.1 := by omega
    by_cases a2 : c.1 - 128 < 64
    · have e : (0 + c.1) / 64 = 2 := by omega
      simp only [if_pos a2, e, e0]
    · have e : (0 + c.1) / 64 = 3 := by omega
      simp only [if_neg a2, e, e0]

theorem b1_c (l n : Fin 128) : gB1 (cXc raw d b al cb w0 w1 w2 w3 l0 l1 l2) (ix2 l n) = (xcR V l (1152 + n) : EReal) := by
  have h := xc_c H
  generalize cXc raw d b al cb w0 w1 w2 w3 l0 l1 l2 = y at h ⊢
  unfold gB1
  pointwise []
  exact h _ _

theorem c1_c (l n : Fin 128) : gC1 (cXc raw d b al cb w0 w1 w2 w3 l0 l1 l2) (ix2 l n) = (xcR V l (1664 + n) : EReal) := by
  have h := xc_c H
  generalize cXc raw d b al cb w0 w1 w2 w3 l0 l1 l2 = y at h ⊢
  unfold gC1
  pointwise []
  exact h _ _

theorem st1_c (st : Vec Ideal S128x256 .f32) (S : ℕ → ℕ → ℝ) (hs : ∀ (n : Fin 128) (c : Fin 256), st (ix2 n c) = (S n (256 + c) : EReal))
    (n : Fin 128) (c : Fin 256) : cSt1 raw d b al cb w0 w1 w2 w3 l0 l1 l2 st (ix2 n c) = (stR V D B A S n (256 + c) : EReal) := by
  have h1 := xdd_c H
  have h2 := dec_c H
  unfold cSt1
  generalize gXdd (gXd (gXs (cXc raw d b al cb w0 w1 w2 w3 l0 l1 l2)) (cEx d b al)) (gAcs (cEx d b al)) = y at h1 ⊢
  generalize exp2 (gLast (gAcs (cEx d b al))) = y2 at h2 ⊢
  refine (st_real _ _ _ _ (fun l n => xcR V l (1152 + n))
    (fun l c => xdR V D B l (256 + c) * Real.exp (csR D B A 127 ((256 + c) / 64) - csR D B A l ((256 + c) / 64)))
    (fun n c => S n (256 + c)) (fun c => Real.exp (csR D B A 127 ((256 + c) / 64))) (b1_c H) ?_ ?_ hs n c).trans ?_
  · intro l c
    pointwise []
    exact h1 l ⟨256 + c.1, by omega⟩
  · intro c
    pointwise []
    exact h2 ⟨256 + c.1, by omega⟩
  · have hg : (256 + c.1) / 256 = 1 := by omega
    unfold stR
    rw [hg]

theorem yo1_c (st : Vec Ideal S128x256 .f32) (S : ℕ → ℕ → ℝ) (hs : ∀ (n : Fin 128) (c : Fin 256), st (ix2 n c) = (S n (256 + c) : EReal))
    (l : Fin 128) (c : Fin 256) : cYo1 raw d b al cb w0 w1 w2 w3 l0 l1 l2 st (ix2 l c) =
      (((∑ n : Fin 128, xcR V l (1664 + n) * S n (256 + c)) * Real.exp (csR D B A l ((256 + c.1) / 64)) : ℝ) : EReal) := by
  have h1 := ea_c H
  unfold cYo1
  generalize exp2 (gAcs (cEx d b al)) = y at h1 ⊢
  refine yo_real _ _ _ (fun l n => xcR V l (1664 + n)) (fun n c => S n (256 + c)) (fun l c => Real.exp (csR D B A l ((256 + c) / 64))) (c1_c H) hs ?_ l c
  intro l c
  pointwise []
  exact h1 l ⟨256 + c.1, by omega⟩

theorem m4_c (l s : Fin 128) : gM (gCB (gC1 (cXc raw d b al cb w0 w1 w2 w3 l0 l1 l2)) (gB1 (cXc raw d b al cb w0 w1 w2 w3 l0 l1 l2))) (extractStridedSlice S128x1 ![0, 4] (gCs d b al) slices_S128x128_o0_4_S128x1) (extractStridedSlice S1x128 ![4, 0] (gCsT d b al) slices_S128x128_o4_0_S1x128) (ix2 l s) =
    (((∑ n : Fin 128, xcR V l (1664 + n) * xcR V s (1152 + n)) * (if s.1 ≤ l.1 then Real.exp (csR D B A l 4 - csR D B A s 4) else 0) : ℝ) : EReal) := by
  have h1 := cs_c H
  have h2 := csT_val d b al
  refine m_real _ _ _ (fun l s => ∑ n : Fin 128, xcR V l (1664 + n) * xcR V s (1152 + n)) (fun l => csR D B A l 4) (fun l s => cb_real _ _ (fun l n => xcR V l (1664 + n)) (fun l n => xcR V l (1152 + n)) (c1_c H) (b1_c H) l s) ?_ ?_ l s
  · intro l
    generalize gCs d b al = y at h1 ⊢
    pointwise []
    exact h1 l 4
  · intro s
    generalize gCs d b al = y at h1 h2
    generalize gCsT d b al = y2 at h2 ⊢
    pointwise []
    exact (h2 s 4).trans (h1 s 4)

theorem m5_c (l s : Fin 128) : gM (gCB (gC1 (cXc raw d b al cb w0 w1 w2 w3 l0 l1 l2)) (gB1 (cXc raw d b al cb w0 w1 w2 w3 l0 l1 l2))) (extractStridedSlice S128x1 ![0, 5] (gCs d b al) slices_S128x128_o0_5_S128x1) (extractStridedSlice S1x128 ![5, 0] (gCsT d b al) slices_S128x128_o5_0_S1x128) (ix2 l s) =
    (((∑ n : Fin 128, xcR V l (1664 + n) * xcR V s (1152 + n)) * (if s.1 ≤ l.1 then Real.exp (csR D B A l 5 - csR D B A s 5) else 0) : ℝ) : EReal) := by
  have h1 := cs_c H
  have h2 := csT_val d b al
  refine m_real _ _ _ (fun l s => ∑ n : Fin 128, xcR V l (1664 + n) * xcR V s (1152 + n)) (fun l => csR D B A l 5) (fun l s => cb_real _ _ (fun l n => xcR V l (1664 + n)) (fun l n => xcR V l (1152 + n)) (c1_c H) (b1_c H) l s) ?_ ?_ l s
  · intro l
    generalize gCs d b al = y at h1 ⊢
    pointwise []
    exact h1 l 5
  · intro s
    generalize gCs d b al = y at h1 h2
    generalize gCsT d b al = y2 at h2 ⊢
    pointwise []
    exact (h2 s 5).trans (h1 s 5)

theorem m6_c (l s : Fin 128) : gM (gCB (gC1 (cXc raw d b al cb w0 w1 w2 w3 l0 l1 l2)) (gB1 (cXc raw d b al cb w0 w1 w2 w3 l0 l1 l2))) (extractStridedSlice S128x1 ![0, 6] (gCs d b al) slices_S128x128_o0_6_S128x1) (extractStridedSlice S1x128 ![6, 0] (gCsT d b al) slices_S128x128_o6_0_S1x128) (ix2 l s) =
    (((∑ n : Fin 128, xcR V l (1664 + n) * xcR V s (1152 + n)) * (if s.1 ≤ l.1 then Real.exp (csR D B A l 6 - csR D B A s 6) else 0) : ℝ) : EReal) := by
  have h1 := cs_c H
  have h2 := csT_val d b al
  refine m_real _ _ _ (fun l s => ∑ n : Fin 128, xcR V l (1664 + n) * xcR V s (1152 + n)) (fun l => csR D B A l 6) (fun l s => cb_real _ _ (fun l n => xcR V l (1664 + n)) (fun l n => xcR V l (1152 + n)) (c1_c H) (b1_c H) l s) ?_ ?_ l s
  · intro l
    generalize gCs d b al = y at h1 ⊢
    pointwise []
    exact h1 l 6
  · intro s
    generalize gCs d b al = y at h1 h2
    generalize gCsT d b al = y2 at h2 ⊢
    pointwise []
    exact (h2 s 6).trans (h1 s 6)

theorem m7_c (l s : Fin 128) : gM (gCB (gC1 (cXc raw d b al cb w0 w1 w2 w3 l0 l1 l2)) (gB1 (cXc raw d b al cb w0 w1 w2 w3 l0 l1 l2))) (extractStridedSlice S128x1 ![0, 7] (gCs d b al) slices_S128x128_o0_7_S128x1) (extractStridedSlice S1x128 ![7, 0] (gCsT d b al) slices_S128x128_o7_0_S1x128) (ix2 l s) =
    (((∑ n : Fin 128, xcR V l (1664 + n) * xcR V s (1152 + n)) * (if s.1 ≤ l.1 then Real.exp (csR D B A l 7 - csR D B A s 7) else 0) : ℝ) : EReal) := by
  have h1 := cs_c H
  have h2 := csT_val d b al
  refine m_real _ _ _ (fun l s => ∑ n : Fin 128, xcR V l (1664 + n) * xcR V s (1152 + n)) (fun l => csR D B A l 7) (fun l s => cb_real _ _ (fun l n => xcR V l (1664 + n)) (fun l n => xcR V l (1152 + n)) (c1_c H) (b1_c H) l s) ?_ ?_ l s
  · intro l
    generalize gCs d b al = y at h1 ⊢
    pointwise []
    exact h1 l 7
  · intro s
    generalize gCs d b al = y at h1 h2
    generalize gCsT d b al = y2 at h2 ⊢
    pointwise []
    exact (h2 s 7).trans (h1 s 7)

theorem xp256_c (l s : Fin 128) : extractStridedSlice S128x128 ![0, 256] (truncf .bf16 (gXd (gXs (cXc raw d b al cb w0 w1 w2 w3 l0 l1 l2)) (cEx d b al)) bitsLt_bf16_f32) slices_S128x1024_o0_256_S128x128 (ix2 l s) = (xdR V D B l (256 + s) : EReal) := by
  have h1 := xd_c H
  generalize gXd (gXs (cXc raw d b al cb w0 w1 w2 w3 l0 l1 l2)) (cEx d b al) = y at h1 ⊢
  pointwise []
  exact h1 l ⟨256 + s.1, by omega⟩

theorem xp384_c (l s : Fin 128) : extractStridedSlice S128x128 ![0, 384] (truncf .bf16 (gXd (gXs (cXc raw d b al cb w0 w1 w2 w3 l0 l1 l2)) (cEx d b al)) bitsLt_bf16_f32) slices_S128x1024_o0_384_S128x128 (ix2 l s) = (xdR V D B l (384 + s) : EReal) := by
  have h1 := xd_c H
  generalize gXd (gXs (cXc raw d b al cb w0 w1 w2 w3 l0 l1 l2)) (cEx d b al) = y at h1 ⊢
  pointwise []
  exact h1 l ⟨384 + s.1, by omega⟩

theorem y1_c (st : Vec Ideal S128x256 .f32) (S : ℕ → ℕ → ℝ) (hs : ∀ (n : Fin 128) (c : Fin 256), st (ix2 n c) = (S n (256 + c) : EReal))
    (l : Fin 128) (c : Fin 256) : cG1 raw d b al cb w0 w1 w2 w3 l0 l1 l2 st (ix2 l c) = (yR V D B A S l (256 + c) : EReal) := by
  have h1 := yo1_c H st S hs
  unfold cG1 gG1
  generalize cYo1 raw d b al cb w0 w1 w2 w3 l0 l1 l2 st = y at h1 ⊢
  refine (yg_real _ _ _ (fun l c => ∑ s : Fin 128, (if c < 64 then (fun l s => (∑ n : Fin 128, xcR V l (1664 + n) * xcR V s (1152 + n)) * (if s ≤ l then Real.exp (csR D B A l 4 - csR D B A s 4) else 0)) l s else (fun l s => (∑ n : Fin 128, xcR V l (1664 + n) * xcR V s (1152 + n)) * (if s ≤ l then Real.exp (csR D B A l 5 - csR D B A s 5) else 0)) l s) * xdR V D B s (256 + c)) (fun l c => ∑ s : Fin 128, (if c < 64 then (fun l s => (∑ n : Fin 128, xcR V l (1664 + n) * xcR V s (1152 + n)) * (if s ≤ l then Real.exp (csR D B A l 6 - csR D B A s 6) else 0)) l s else (fun l s => (∑ n : Fin 128, xcR V l (1664 + n) * xcR V s (1152 + n)) * (if s ≤ l then Real.exp (csR D B A l 7 - csR D B A s 7) else 0)) l s) * xdR V D B s (384 + c))
    (fun l c => (∑ n : Fin 128, xcR V l (1664 + n) * S n (256 + c)) * Real.exp (csR D B A l ((256 + c) / 64))) (pair_real _ _ _ (fun l s => (∑ n : Fin 128, xcR V l (1664 + n) * xcR V s (1152 + n)) * (if s ≤ l then Real.exp (csR D B A l 4 - csR D B A s 4) else 0)) (fun l s => (∑ n : Fin 128, xcR V l (1664 + n) * xcR V s (1152 + n)) * (if s ≤ l then Real.exp (csR D B A l 5 - csR D B A s 5) else 0)) (fun l c => xdR V D B l (256 + c)) (m4_c H) (m5_c H) (xp256_c H)) (pair_real _ _ _ (fun l s => (∑ n : Fin 128, xcR V l (1664 + n) * xcR V s (1152 + n)) * (if s ≤ l then Real.exp (csR D B A l 6 - csR D B A s 6) else 0)) (fun l s => (∑ n : Fin 128, xcR V l (1664 + n) * xcR V s (1152 + n)) * (if s ≤ l then Real.exp (csR D B A l 7 - csR D B A s 7) else 0)) (fun l c => xdR V D B l (384 + c)) (m6_c H) (m7_c H) (xp384_c H)) h1 l c).trans ?_
  have hg : (256 + c.1) / 256 = 1 := by omega
  unfold yR
  rw [hg]
  congr 2
  by_cases a1 : c.1 < 128
  · rw [if_pos a1]
    by_cases a2 : c.1 < 64
    · have e : (256 + c.1) / 64 = 4 := by omega
      simp only [if_pos a2, e]
    · have e : (256 + c.1) / 64 = 5 := by omega
      simp only [if_neg a2, e]
  · rw [if_neg a1]
    have e0 : 384 + (c.1 - 128) = 256 + c.1 := by omega
    by_cases a2 : c.1 - 128 < 64
    · have e : (256 + c.1) / 64 = 6 := by omega
      simp only [if_pos a2, e, e0]
    · have e : (256 + c.1) / 64 = 7 := by omega
      simp only [if_neg a2, e, e0]

theorem b2_c (l n : Fin 128) : gB2 (cXc raw d b al cb w0 w1 w2 w3 l0 l1 l2) (ix2 l n) = (xcR V l (1280 + n) : EReal) := by
  have h := xc_c H
  generalize cXc raw d b al cb w0 w1 w2 w3 l0 l1 l2 = y at h ⊢
  unfold gB2
  pointwise []
  exact h _ _

theorem c2_c (l n : Fin 128) : gC2 (cXc raw d b al cb w0 w1 w2 w3 l0 l1 l2) (ix2 l n) = (xcR V l (1792 + n) : EReal) := by
  have h := xc_c H
  generalize cXc raw d b al cb w0 w1 w2 w3 l0 l1 l2 = y at h ⊢
  unfold gC2
  pointwise []
  exact h _ _

theorem st2_c (st : Vec Ideal S128x256 .f32) (S : ℕ → ℕ → ℝ) (hs : ∀ (n : Fin 128) (c : Fin 256), st (ix2 n c) = (S n (512 + c) : EReal))
    (n : Fin 128) (c : Fin 256) : cSt2 raw d b al cb w0 w1 w2 w3 l0 l1 l2 st (ix2 n c) = (stR V D B A S n (512 + c) : EReal) := by
  have h1 := xdd_c H
  have h2 := dec_c H
  unfold cSt2
  generalize gXdd (gXd (gXs (cXc raw d b al cb w0 w1 w2 w3 l0 l1 l2)) (cEx d b al)) (gAcs (cEx d b al)) = y at h1 ⊢
  generalize exp2 (gLast (gAcs (cEx d b al))) = y2 at h2 ⊢
  refine (st_real _ _ _ _ (fun l n => xcR V l (1280 + n))
    (fun l c => xdR V D B l (512 + c) * Real.exp (csR D B A 127 ((512 + c) / 64) - csR D B A l ((512 + c) / 64)))
    (fun n c => S n (512 + c)) (fun c => Real.exp (csR D B A 127 ((512 + c) / 64))) (b2_c H) ?_ ?_ hs n c).trans ?_
  · intro l c
    pointwise []
    exact h1 l ⟨512 + c.1, by omega⟩
  · intro c
    pointwise []
    exact h2 ⟨512 + c.1, by omega⟩
  · have hg : (512 + c.1) / 256 = 2 := by omega
    unfold stR
    rw [hg]

theorem yo2_c (st : Vec Ideal S128x256 .f32) (S : ℕ → ℕ → ℝ) (hs : ∀ (n : Fin 128) (c : Fin 256), st (ix2 n c) = (S n (512 + c) : EReal))
    (l : Fin 128) (c : Fin 256) : cYo2 raw d b al cb w0 w1 w2 w3 l0 l1 l2 st (ix2 l c) =
      (((∑ n : Fin 128, xcR V l (1792 + n) * S n (512 + c)) * Real.exp (csR D B A l ((512 + c.1) / 64)) : ℝ) : EReal) := by
  have h1 := ea_c H
  unfold cYo2
  generalize exp2 (gAcs (cEx d b al)) = y at h1 ⊢
  refine yo_real _ _ _ (fun l n => xcR V l (1792 + n)) (fun n c => S n (512 + c)) (fun l c => Real.exp (csR D B A l ((512 + c) / 64))) (c2_c H) hs ?_ l c
  intro l c
  pointwise []
  exact h1 l ⟨512 + c.1, by omega⟩

theorem m8_c (l s : Fin 128) : gM (gCB (gC2 (cXc raw d b al cb w0 w1 w2 w3 l0 l1 l2)) (gB2 (cXc raw d b al cb w0 w1 w2 w3 l0 l1 l2))) (extractStridedSlice S128x1 ![0, 8] (gCs d b al) slices_S128x128_o0_8_S128x1) (extractStridedSlice S1x128 ![8, 0] (gCsT d b al) slices_S128x128_o8_0_S1x128) (ix2 l s) =
    (((∑ n : Fin 128, xcR V l (1792 + n) * xcR V s (1280 + n)) * (if s.1 ≤ l.1 then Real.exp (csR D B A l 8 - csR D B A s 8) else 0) : ℝ) : EReal) := by
  have h1 := cs_c H
  have h2 := csT_val d b al
  refine m_real _ _ _ (fun l s => ∑ n : Fin 128, xcR V l (1792 + n) * xcR V s (1280 + n)) (fun l => csR D B A l 8) (fun l s => cb_real _ _ (fun l n => xcR V l (1792 + n)) (fun l n => xcR V l (1280 + n)) (c2_c H) (b2_c H) l s) ?_ ?_ l s
  · intro l
    generalize gCs d b al = y at h1 ⊢
    pointwise []
    exact h1 l 8
  · intro s
    generalize gCs d b al = y at h1 h2
    generalize gCsT d b al = y2 at h2 ⊢
    pointwise []
    exact (h2 s 8).trans (h1 s 8)

theorem m9_c (l s : Fin 128) : gM (gCB (gC2 (cXc raw d b al cb w0 w1 w2 w3 l0 l1 l2)) (gB2 (cXc raw d b al cb w0 w1 w2 w3 l0 l1 l2))) (extractStridedSlice S128x1 ![0, 9] (gCs d b al) slices_S128x128_o0_9_S128x1) (extractStridedSlice S1x128 ![9, 0] (gCsT d b al) slices_S128x128_o9_0_S1x128) (ix2 l s) =
    (((∑ n : Fin 128, xcR V l (1792 + n) * xcR V s (1280 + n)) * (if s.1 ≤ l.1 then Real.exp (csR D B A l 9 - csR D B A s 9) else 0) : ℝ) : EReal) := by
  have h1 := cs_c H
  have h2 := csT_val d b al
  refine m_real _ _ _ (fun l s => ∑ n : Fin 128, xcR V l (1792 + n) * xcR V s (1280 + n)) (fun l => csR D B A l 9) (fun l s => cb_real _ _ (fun l n => xcR V l (1792 + n)) (fun l n => xcR V l (1280 + n)) (c2_c H) (b2_c H) l s) ?_ ?_ l s
  · intro l
    generalize gCs d b al = y at h1 ⊢
    pointwise []
    exact h1 l 9
  · intro s
    generalize gCs d b al = y at h1 h2
    generalize gCsT d b al = y2 at h2 ⊢
    pointwise []
    exact (h2 s 9).trans (h1 s 9)

theorem m10_c (l s : Fin 128) : gM (gCB (gC2 (cXc raw d b al cb w0 w1 w2 w3 l0 l1 l2)) (gB2 (cXc raw d b al cb w0 w1 w2 w3 l0 l1 l2))) (extractStridedSlice S128x1 ![0, 10] (gCs d b al) slices_S128x128_o0_10_S128x1) (extractStridedSlice S1x128 ![10, 0] (gCsT d b al) slices_S128x128_o10_0_S1x128) (ix2 l s) =
    (((∑ n : Fin 128, xcR V l (1792 + n) * xcR V s (1280 + n)) * (if s.1 ≤ l.1 then Real.exp (csR D B A l 10 - csR D B A s 10) else 0) : ℝ) : EReal) := by
  have h1 := cs_c H
  have h2 := csT_val d b al
  refine m_real _ _ _ (fun l s => ∑ n : Fin 128, xcR V l (1792 + n) * xcR V s (1280 + n)) (fun l => csR D B A l 10) (fun l s => cb_real _ _ (fun l n => xcR V l (1792 + n)) (fun l n => xcR V l (1280 + n)) (c2_c H) (b2_c H) l s) ?_ ?_ l s
  · intro l
    generalize gCs d b al = y at h1 ⊢
    pointwise []
    exact h1 l 10
  · intro s
    generalize gCs d b al = y at h1 h2
    generalize gCsT d b al = y2 at h2 ⊢
    pointwise []
    exact (h2 s 10).trans (h1 s 10)

theorem m11_c (l s : Fin 128) : gM (gCB (gC2 (cXc raw d b al cb w0 w1 w2 w3 l0 l1 l2)) (gB2 (cXc raw d b al cb w0 w1 w2 w3 l0 l1 l2))) (extractStridedSlice S128x1 ![0, 11] (gCs d b al) slices_S128x128_o0_11_S128x1) (extractStridedSlice S1x128 ![11, 0] (gCsT d b al) slices_S128x128_o11_0_S1x128) (ix2 l s) =
    (((∑ n : Fin 128, xcR V l (1792 + n) * xcR V s (1280 + n)) * (if s.1 ≤ l.1 then Real.exp (csR D B A l 11 - csR D B A s 11) else 0) : ℝ) : EReal) := by
  have h1 := cs_c H
  have h2 := csT_val d b al
  refine m_real _ _ _ (fun l s => ∑ n : Fin 128, xcR V l (1792 + n) * xcR V s (1280 + n)) (fun l => csR D B A l 11) (fun l s => cb_real _ _ (fun l n => xcR V l (1792 + n)) (fun l n => xcR V l (1280 + n)) (c2_c H) (b2_c H) l s) ?_ ?_ l s
  · intro l
    generalize gCs d b al = y at h1 ⊢
    pointwise []
    exact h1 l 11
  · intro s
    generalize gCs d b al = y at h1 h2
    generalize gCsT d b al = y2 at h2 ⊢
    pointwise []
    exact (h2 s 11).trans (h1 s 11)

theorem xp512_c (l s : Fin 128) : extractStridedSlice S128x128 ![0, 512] (truncf .bf16 (gXd (gXs (cXc raw d b al cb w0 w1 w2 w3 l0 l1 l2)) (cEx d b al)) bitsLt_bf16_f32) slices_S128x1024_o0_512_S128x128 (ix2 l s) = (xdR V D B l (512 + s) : EReal) := by
  have h1 := xd_c H
  generalize gXd (gXs (cXc raw d b al cb w0 w1 w2 w3 l0 l1 l2)) (cEx d b al) = y at h1 ⊢
  pointwise []
  exact h1 l ⟨512 + s.1, by omega⟩

theorem xp640_c (l s : Fin 128) : extractStridedSlice S128x128 ![0, 640] (truncf .bf16 (gXd (gXs (cXc raw d b al cb w0 w1 w2 w3 l0 l1 l2)) (cEx d b al)) bitsLt_bf16_f32) slices_S128x1024_o0_640_S128x128 (ix2 l s) = (xdR V D B l (640 + s) : EReal) := by
  have h1 := xd_c H
  generalize gXd (gXs (cXc raw d b al cb w0 w1 w2 w3 l0 l1 l2)) (cEx d b al) = y at h1 ⊢
  pointwise []
  exact h1 l ⟨640 + s.1, by omega⟩

theorem y2_c (st : Vec Ideal S128x256 .f32) (S : ℕ → ℕ → ℝ) (hs : ∀ (n : Fin 128) (c : Fin 256), st (ix2 n c) = (S n (512 + c) : EReal))
    (l : Fin 128) (c : Fin 256) : cG2 raw d b al cb w0 w1 w2 w3 l0 l1 l2 st (ix2 l c) = (yR V D B A S l (512 + c) : EReal) := by
  have h1 := yo2_c H st S hs
  unfold cG2 gG2
  generalize cYo2 raw d b al cb w0 w1 w2 w3 l0 l1 l2 st = y at h1 ⊢
  refine (yg_real _ _ _ (fun l c => ∑ s : Fin 128, (if c < 64 then (fun l s => (∑ n : Fin 128, xcR V l (1792 + n) * xcR V s (1280 + n)) * (if s ≤ l then Real.exp (csR D B A l 8 - csR D B A s 8) else 0)) l s else (fun l s => (∑ n : Fin 128, xcR V l (1792 + n) * xcR V s (1280 + n)) * (if s ≤ l then Real.exp (csR D B A l 9 - csR D B A s 9) else 0)) l s) * xdR V D B s (512 + c)) (fun l c => ∑ s : Fin 128, (if c < 64 then (fun l s => (∑ n : Fin 128, xcR V l (1792 + n) * xcR V s (1280 + n)) * (if s ≤ l then Real.exp (csR D B A l 10 - csR D B A s 10) else 0)) l s else (fun l s => (∑ n : Fin 128, xcR V l (1792 + n) * xcR V s (1280 + n)) * (if s ≤ l then Real.exp (csR D B A l 11 - csR D B A s 11) else 0)) l s) * xdR V D B s (640 + c))
    (fun l c => (∑ n : Fin 128, xcR V l (1792 + n) * S n (512 + c)) * Real.exp (csR D B A l ((512 + c) / 64))) (pair_real _ _ _ (fun l s => (∑ n : Fin 128, xcR V l (1792 + n) * xcR V s (1280 + n)) * (if s ≤ l then Real.exp (csR D B A l 8 - csR D B A s 8) else 0)) (fun l s => (∑ n : Fin 128, xcR V l (1792 + n) * xcR V s (1280 + n)) * (if s ≤ l then Real.exp (csR D B A l 9 - csR D B A s 9) else 0)) (fun l c => xdR V D B l (512 + c)) (m8_c H) (m9_c H) (xp512_c H)) (pair_real _ _ _ (fun l s => (∑ n : Fin 128, xcR V l (1792 + n) * xcR V s (1280 + n)) * (if s ≤ l then Real.exp (csR D B A l 10 - csR D B A s 10) else 0)) (fun l s => (∑ n : Fin 128, xcR V l (1792 + n) * xcR V s (1280 + n)) * (if s ≤ l then Real.exp (csR D B A l 11 - csR D B A s 11) else 0)) (fun l c => xdR V D B l (640 + c)) (m10_c H) (m11_c H) (xp640_c H)) h1 l c).trans ?_
  have hg : (512 + c.1) / 256 = 2 := by omega
  unfold yR
  rw [hg]
  congr 2
  by_cases a1 : c.1 < 128
  · rw [if_pos a1]
    by_cases a2 : c.1 < 64
    · have e : (512 + c.1) / 64 = 8 := by omega
      simp only [if_pos a2, e]
    · have e : (512 + c.1) / 64 = 9 := by omega
      simp only [if_neg a2, e]
  · rw [if_neg a1]
    have e0 : 640 + (c.1 - 128) = 512 + c.1 := by omega
    by_cases a2 : c.1 - 128 < 64
    · have e : (512 + c.1) / 64 = 10 := by omega
      simp only [if_pos a2, e, e0]
    · have e : (512 + c.1) / 64 = 11 := by omega
      simp only [if_neg a2, e, e0]

theorem b3_c (l n : Fin 128) : gB3 (cXc raw d b al cb w0 w1 w2 w3 l0 l1 l2) (ix2 l n) = (xcR V l (1408 + n) : EReal) := by
  have h := xc_c H
  generalize cXc raw d b al cb w0 w1 w2 w3 l0 l1 l2 = y at h ⊢
  unfold gB3
  pointwise []
  exact h _ _

theorem c3_c (l n : Fin 128) : gC3 (cXc raw d b al cb w0 w1 w2 w3 l0 l1 l2) (ix2 l n) = (xcR V l (1920 + n) : EReal) := by
  have h := xc_c H
  generalize cXc raw d b al cb w0 w1 w2 w3 l0 l1 l2 = y at h ⊢
  unfold gC3
  pointwise []
  exact h _ _

theorem st3_c (st : Vec Ideal S128x256 .f32) (S : ℕ → ℕ → ℝ) (hs : ∀ (n : Fin 128) (c : Fin 256), st (ix2 n c) = (S n (768 + c) : EReal))
    (n : Fin 128) (c : Fin 256) : cSt3 raw d b al cb w0 w1 w2 w3 l0 l1 l2 st (ix2 n c) = (stR V D B A S n (768 + c) : EReal) := by
  have h1 := xdd_c H
  have h2 := dec_c H
  unfold cSt3
  generalize gXdd (gXd (gXs (cXc raw d b al cb w0 w1 w2 w3 l0 l1 l2)) (cEx d b al)) (gAcs (cEx d b al)) = y at h1 ⊢
  generalize exp2 (gLast (gAcs (cEx d b al))) = y2 at h2 ⊢
  refine (st_real _ _ _ _ (fun l n => xcR V l (1408 + n))
    (fun l c => xdR V D B l (768 + c) * Real.exp (csR D B A 127 ((768 + c) / 64) - csR D B A l ((768 + c) / 64)))
    (fun n c => S n (768 + c)) (fun c => Real.exp (csR D B A 127 ((768 + c) / 64))) (b3_c H) ?_ ?_ hs n c).trans ?_
  · intro l c
    pointwise []
    exact h1 l ⟨768 + c.1, by omega⟩
  · intro c
    pointwise []
    exact h2 ⟨768 + c.1, by omega⟩
  · have hg : (768 + c.1) / 256 = 3 := by omega
    unfold stR
    rw [hg]

theorem yo3_c (st : Vec Ideal S128x256 .f32) (S : ℕ → ℕ → ℝ) (hs : ∀ (n : Fin 128) (c : Fin 256), st (ix2 n c) = (S n (768 + c) : EReal))
    (l : Fin 128) (c : Fin 256) : cYo3 raw d b al cb w0 w1 w2 w3 l0 l1 l2 st (ix2 l c) =
      (((∑ n : Fin 128, xcR V l (1920 + n) * S n (768 + c)) * Real.exp (csR D B A l ((768 + c.1) / 64)) : ℝ) : EReal) := by
  have h1 := ea_c H
  unfold cYo3
  generalize exp2 (gAcs (cEx d b al)) = y at h1 ⊢
  refine yo_real _ _ _ (fun l n => xcR V l (1920 + n)) (fun n c => S n (768 + c)) (fun l c => Real.exp (csR D B A l ((768 + c) / 64))) (c3_c H) hs ?_ l c
  intro l c
  pointwise []
  exact h1 l ⟨768 + c.1, by omega⟩

theorem m12_c (l s : Fin 128) : gM (gCB (gC3 (cXc raw d b al cb w0 w1 w2 w3 l0 l1 l2)) (gB3 (cXc raw d b al cb w0 w1 w2 w3 l0 l1 l2))) (extractStridedSlice S128x1 ![0, 12] (gCs d b al) slices_S128x128_o0_12_S128x1) (extractStridedSlice S1x128 ![12, 0] (gCsT d b al) slices_S128x128_o12_0_S1x128) (ix2 l s) =
    (((∑ n : Fin 128, xcR V l (1920 + n) * xcR V s (1408 + n)) * (if s.1 ≤ l.1 then Real.exp (csR D B A l 12 - csR D B A s 12) else 0) : ℝ) : EReal) := by
  have h1 := cs_c H
  have h2 := csT_val d b al
  refine m_real _ _ _ (fun l s => ∑ n : Fin 128, xcR V l (1920 + n) * xcR V s (1408 + n)) (fun l => csR D B A l 12) (fun l s => cb_real _ _ (fun l n => xcR V l (1920 + n)) (fun l n => xcR V l (1408 + n)) (c3_c H) (b3_c H) l s) ?_ ?_ l s
  · intro l
    generalize gCs d b al = y at h1 ⊢
    pointwise []
    exact h1 l 12
  · intro s
    generalize gCs d b al = y at h1 h2
    generalize gCsT d b al = y2 at h2 ⊢
    pointwise []
    exact (h2 s 12).trans (h1 s 12)

theorem m13_c (l s : Fin 128) : gM (gCB (gC3 (cXc raw d b al cb w0 w1 w2 w3 l0 l1 l2)) (gB3 (cXc raw d b al cb w0 w1 w2 w3 l0 l1 l2))) (extractStridedSlice S128x1 ![0, 13] (gCs d b al) slices_S128x128_o0_13_S128x1) (extractStridedSlice S1x128 ![13, 0] (gCsT d b al) slices_S128x128_o13_0_S1x128) (ix2 l s) =
    (((∑ n : Fin 128, xcR V l (1920 + n) * xcR V s (1408 + n)) * (if s.1 ≤ l.1 then Real.exp (csR D B A l 13 - csR D B A s 13) else 0) : ℝ) : EReal) := by
  have h1 := cs_c H
  have h2 := csT_val d b al
  refine m_real _ _ _ (fun l s => ∑ n : Fin 128, xcR V l (1920 + n) * xcR V s (1408 + n)) (fun l => csR D B A l 13) (fun l s => cb_real _ _ (fun l n => xcR V l (1920 + n)) (fun l n => xcR V l (1408 + n)) (c3_c H) (b3_c H) l s) ?_ ?_ l s
  · intro l
    generalize gCs d b al = y at h1 ⊢
    pointwise []
    exact h1 l 13
  · intro s
    generalize gCs d b al = y at h1 h2
    generalize gCsT d b al = y2 at h2 ⊢
    pointwise []
    exact (h2 s 13).trans (h1 s 13)

theorem m14_c (l s : Fin 128) : gM (gCB (gC3 (cXc raw d b al cb w0 w1 w2 w3 l0 l1 l2)) (gB3 (cXc raw d b al cb w0 w1 w2 w3 l0 l1 l2))) (extractStridedSlice S128x1 ![0, 14] (gCs d b al) slices_S128x128_o0_14_S128x1) (extractStridedSlice S1x128 ![14, 0] (gCsT d b al) slices_S128x128_o14_0_S1x128) (ix2 l s) =
    (((∑ n : Fin 128, xcR V l (1920 + n) * xcR V s (1408 + n)) * (if s.1 ≤ l.1 then Real.exp (csR D B A l 14 - csR D B A s 14) else 0) : ℝ) : EReal) := by
  have h1 := cs_c H
  have h2 := csT_val d b al
  refine m_real _ _ _ (fun l s => ∑ n : Fin 128, xcR V l (1920 + n) * xcR V s (1408 + n)) (fun l => csR D B A l 14) (fun l s => cb_real _ _ (fun l n => xcR V l (1920 + n)) (fun l n => xcR V l (1408 + n)) (c3_c H) (b3_c H) l s) ?_ ?_ l s
  · intro l
    generalize gCs d b al = y at h1 ⊢
    pointwise []
    exact h1 l 14
  · intro s
    generalize gCs d b al = y at h1 h2
    generalize gCsT d b al = y2 at h2 ⊢
    pointwise []
    exact (h2 s 14).trans (h1 s 14)

theorem m15_c (l s : Fin 128) : gM (gCB (gC3 (cXc raw d b al cb w0 w1 w2 w3 l0 l1 l2)) (gB3 (cXc raw d b al cb w0 w1 w2 w3 l0 l1 l2))) (extractStridedSlice S128x1 ![0, 15] (gCs d b al) slices_S128x128_o0_15_S128x1) (extractStridedSlice S1x128 ![15, 0] (gCsT d b al) slices_S128x128_o15_0_S1x128) (ix2 l s) =
    (((∑ n : Fin 128, xcR V l (1920 + n) * xcR V s (1408 + n)) * (if s.1 ≤ l.1 then Real.exp (csR D B A l 15 - csR D B A s 15) else 0) : ℝ) : EReal) := by
  have h1 := cs_c H
  have h2 := csT_val d b al
  refine m_real _ _ _ (fun l s => ∑ n : Fin 128, xcR V l (1920 + n) * xcR V s (1408 + n)) (fun l => csR D B A l 15) (fun l s => cb_real _ _ (fun l n => xcR V l (1920 + n)) (fun l n => xcR V l (1408 + n)) (c3_c H) (b3_c H) l s) ?_ ?_ l s
  · intro l
    generalize gCs d b al = y at h1 ⊢
    pointwise []
    exact h1 l 15
  · intro s
    generalize gCs d b al = y at h1 h2
    generalize gCsT d b al = y2 at h2 ⊢
    pointwise []
    exact (h2 s 15).trans (h1 s 15)

theorem xp768_c (l s : Fin 128) : extractStridedSlice S128x128 ![0, 768] (truncf .bf16 (gXd (gXs (cXc raw d b al cb w0 w1 w2 w3 l0 l1 l2)) (cEx d b al)) bitsLt_bf16_f32) slices_S128x1024_o0_768_S128x128 (ix2 l s) = (xdR V D B l (768 + s) : EReal) := by
  have h1 := xd_c H
  generalize gXd (gXs (cXc raw d b al cb w0 w1 w2 w3 l0 l1 l2)) (cEx d b al) = y at h1 ⊢
  pointwise []
  exact h1 l ⟨768 + s.1, by omega⟩

theorem xp896_c (l s : Fin 128) : extractStridedSlice S128x128 ![0, 896] (truncf .bf16 (gXd (gXs (cXc raw d b al cb w0 w1 w2 w3 l0 l1 l2)) (cEx d b al)) bitsLt_bf16_f32) slices_S128x1024_o0_896_S128x128 (ix2 l s) = (xdR V D B l (896 + s) : EReal) := by
  have h1 := xd_c H
  generalize gXd (gXs (cXc raw d b al cb w0 w1 w2 w3 l0 l1 l2)) (cEx d b al) = y at h1 ⊢
  pointwise []
  exact h1 l ⟨896 + s.1, by omega⟩

theorem y3_c (st : Vec Ideal S128x256 .f32) (S : ℕ → ℕ → ℝ) (hs : ∀ (n : Fin 128) (c : Fin 256), st (ix2 n c) = (S n (768 + c) : EReal))
    (l : Fin 128) (c : Fin 256) : cG3 raw d b al cb w0 w1 w2 w3 l0 l1 l2 st (ix2 l c) = (yR V D B A S l (768 + c) : EReal) := by
  have h1 := yo3_c H st S hs
  unfold cG3 gG3
  generalize cYo3 raw d b al cb w0 w1 w2 w3 l0 l1 l2 st = y at h1 ⊢
  refine (yg_real _ _ _ (fun l c => ∑ s : Fin 128, (if c < 64 then (fun l s => (∑ n : Fin 128, xcR V l (1920 + n) * xcR V s (1408 + n)) * (if s ≤ l then Real.exp (csR D B A l 12 - csR D B A s 12) else 0)) l s else (fun l s => (∑ n : Fin 128, xcR V l (1920 + n) * xcR V s (1408 + n)) * (if s ≤ l then Real.exp (csR D B A l 13 - csR D B A s 13) else 0)) l s) * xdR V D B s (768 + c)) (fun l c => ∑ s : Fin 128, (if c < 64 then (fun l s => (∑ n : Fin 128, xcR V l (1920 + n) * xcR V s (1408 + n)) * (if s ≤ l then Real.exp (csR D B A l 14 - csR D B A s 14) else 0)) l s else (fun l s => (∑ n : Fin 128, xcR V l (1920 + n) * xcR V s (1408 + n)) * (if s ≤ l then Real.exp (csR D B A l 15 - csR D B A s 15) else 0)) l s) * xdR V D B s (896 + c))
    (fun l c => (∑ n : Fin 128, xcR V l (1920 + n) * S n (768 + c)) * Real.exp (csR D B A l ((768 + c) / 64))) (pair_real _ _ _ (fun l s => (∑ n : Fin 128, xcR V l (1920 + n) * xcR V s (1408 + n)) * (if s ≤ l then Real.exp (csR D B A l 12 - csR D B A s 12) else 0)) (fun l s => (∑ n : Fin 128, xcR V l (1920 + n) * xcR V s (1408 + n)) * (if s ≤ l then Real.exp (csR D B A l 13 - csR D B A s 13) else 0)) (fun l c => xdR V D B l (768 + c)) (m12_c H) (m13_c H) (xp768_c H)) (pair_real _ _ _ (fun l s => (∑ n : Fin 128, xcR V l (1920 + n) * xcR V s (1408 + n)) * (if s ≤ l then Real.exp (csR D B A l 14 - csR D B A s 14) else 0)) (fun l s => (∑ n : Fin 128, xcR V l (1920 + n) * xcR V s (1408 + n)) * (if s ≤ l then Real.exp (csR D B A l 15 - csR D B A s 15) else 0)) (fun l c => xdR V D B l (896 + c)) (m14_c H) (m15_c H) (xp896_c H)) h1 l c).trans ?_
  have hg : (768 + c.1) / 256 = 3 := by omega
  unfold yR
  rw [hg]
  congr 2
  by_cases a1 : c.1 < 128
  · rw [if_pos a1]
    by_cases a2 : c.1 < 64
    · have e : (768 + c.1) / 64 = 12 := by omega
      simp only [if_pos a2, e]
    · have e : (768 + c.1) / 64 = 13 := by omega
      simp only [if_neg a2, e]
  · rw [if_neg a1]
    have e0 : 896 + (c.1 - 128) = 768 + c.1 := by omega
    by_cases a2 : c.1 - 128 < 64
    · have e : (768 + c.1) / 64 = 14 := by omega
      simp only [if_pos a2, e, e0]
    · have e : (768 + c.1) / 64 = 15 := by omega
      simp only [if_neg a2, e, e0]

theorem gated_c (z : Vec Ideal S128x1024 .bf16) (dsk : Vec Ideal S1x1024 .f32) (s0 : Vec Ideal S128x256 .f32) (s1 : Vec Ideal S128x256 .f32) (s2 : Vec Ideal S128x256 .f32) (s3 : Vec Ideal S128x256 .f32) (S : ℕ → ℕ → ℝ) (h0 : ∀ (n : Fin 128) (c : Fin 256), s0 (ix2 n c) = (S n (0 + c) : EReal)) (h1 : ∀ (n : Fin 128) (c : Fin 256), s1 (ix2 n c) = (S n (256 + c) : EReal)) (h2 : ∀ (n : Fin 128) (c : Fin 256), s2 (ix2 n c) = (S n (512 + c) : EReal)) (h3 : ∀ (n : Fin 128) (c : Fin 256), s3 (ix2 n c) = (S n (768 + c) : EReal))
    (Z : ℕ → ℕ → ℝ) (hz : ∀ (l : Fin 128) (c : Fin 1024), z (ix2 l c) = (Z l c : EReal)) (l : Fin 128) (c : Fin 1024) :
    cY raw d b al cb w0 w1 w2 w3 l0 l1 l2 z dsk s0 s1 s2 s3 (ix2 l c) = ((yR V D B A S l c : EReal) + (xcR V l c : EReal) * dsk (ix2 0 c)) * (silu (Z l c) : EReal) := by
  have e0 := y0_c H s0 S h0
  have e1 := y1_c H s1 S h1
  have e2 := y2_c H s2 S h2
  have e3 := y3_c H s3 S h3
  have ex := xs_c H
  unfold cY
  generalize cG0 raw d b al cb w0 w1 w2 w3 l0 l1 l2 s0 = y0 at e0 ⊢
  generalize cG1 raw d b al cb w0 w1 w2 w3 l0 l1 l2 s1 = y1 at e1 ⊢
  generalize cG2 raw d b al cb w0 w1 w2 w3 l0 l1 l2 s2 = y2 at e2 ⊢
  generalize cG3 raw d b al cb w0 w1 w2 w3 l0 l1 l2 s3 = y3 at e3 ⊢
  generalize gXs (cXc raw d b al cb w0 w1 w2 w3 l0 l1 l2) = x at ex ⊢
  refine (gate_val _ _ _ _ l c (v := Z l c) ?_).trans ?_
  · unfold k0_pay8
    pointwise []
    exact hz l c
  rw [ex]
  congr 2
  pointwise []
  split
  · rw [e0]; simp
  · split
    · rw [e1]; congr 2; dsimp only; omega
    · split
      · rw [e2]; congr 2; dsimp only; omega
      · rw [e3]; congr 2; dsimp only; omega

/-- The rows after the gate, as a function of row and channel. -/
def gaR (V D : ℕ → ℕ → ℝ) (B A : ℕ → ℝ) (S Z : ℕ → ℕ → ℝ) (K : ℕ → EReal) (l c : ℕ) : EReal :=
  ((yR V D B A S l c : EReal) + (xcR V l c : EReal) * K c) * (silu (Z l c) : EReal)
/-- The rows after the group norm. -/
def ysR (V D : ℕ → ℕ → ℝ) (B A : ℕ → ℝ) (S Z : ℕ → ℕ → ℝ) (K N : ℕ → EReal) (l c : ℕ) : EReal :=
  gaR V D B A S Z K l c * Ideal.rsqrt (Ideal.div (∑ x : Fin 256, gaR V D B A S Z K l (256 * (c / 256) + x) * gaR V D B A S Z K l (256 * (c / 256) + x)) (Ideal.ofBits .f32 1132462080#32) + Ideal.ofBits .f32 925353388#32) * N c

theorem ys_c (z : Vec Ideal S128x1024 .bf16) (dsk ng : Vec Ideal S1x1024 .f32) (s0 : Vec Ideal S128x256 .f32) (s1 : Vec Ideal S128x256 .f32) (s2 : Vec Ideal S128x256 .f32) (s3 : Vec Ideal S128x256 .f32) (S : ℕ → ℕ → ℝ) (h0 : ∀ (n : Fin 128) (c : Fin 256), s0 (ix2 n c) = (S n (0 + c) : EReal)) (h1 : ∀ (n : Fin 128) (c : Fin 256), s1 (ix2 n c) = (S n (256 + c) : EReal)) (h2 : ∀ (n : Fin 128) (c : Fin 256), s2 (ix2 n c) = (S n (512 + c) : EReal)) (h3 : ∀ (n : Fin 128) (c : Fin 256), s3 (ix2 n c) = (S n (768 + c) : EReal))
    (Z : ℕ → ℕ → ℝ) (hz : ∀ (l : Fin 128) (c : Fin 1024), z (ix2 l c) = (Z l c : EReal)) (K N : ℕ → EReal) (hK : ∀ c : Fin 1024, dsk (ix2 0 c) = K c)
    (hN : ∀ c : Fin 1024, ng (ix2 0 c) = N c) (l : Fin 128) (c : Fin 1024) :
    cYs raw d b al cb w0 w1 w2 w3 l0 l1 l2 z dsk ng s0 s1 s2 s3 (ix2 l c) = ysR V D B A S Z K N l c := by
  have e : ∀ (l : Fin 128) (c : Fin 1024), cY raw d b al cb w0 w1 w2 w3 l0 l1 l2 z dsk s0 s1 s2 s3 (ix2 l c) = gaR V D B A S Z K l c := fun l c => by
    rw [gated_c H z dsk s0 s1 s2 s3 S h0 h1 h2 h3 Z hz l c, hK]; rfl
  unfold cYs
  generalize cY raw d b al cb w0 w1 w2 w3 l0 l1 l2 z dsk s0 s1 s2 s3 = y at e ⊢

  have r0 : ∀ (l : Fin 128) (c : Fin 256), gRms (extractStridedSlice S128x256 ![0, 0] y slices_S128x1024_o0_0_S128x256) (ix2 l c) =
      gaR V D B A S Z K l (0 + c) * Ideal.rsqrt (Ideal.div (∑ x : Fin 256, gaR V D B A S Z K l (0 + x) * gaR V D B A S Z K l (0 + x)) (Ideal.ofBits .f32 1132462080#32) + Ideal.ofBits .f32 925353388#32) := by
    intro l c
    have q : ∀ c : Fin 256, extractStridedSlice S128x256 ![0, 0] y slices_S128x1024_o0_0_S128x256 (ix2 l c) = gaR V D B A S Z K l (0 + c) := by
      intro c
      pointwise []
      exact e l ⟨c.1, by omega⟩
    rw [rms_val, q]
    simp only [q]
  have r1 : ∀ (l : Fin 128) (c : Fin 256), gRms (extractStridedSlice S128x256 ![0, 256] y slices_S128x1024_o0_256_S128x256) (ix2 l c) =
      gaR V D B A S Z K l (256 + c) * Ideal.rsqrt (Ideal.div (∑ x : Fin 256, gaR V D B A S Z K l (256 + x) * gaR V D B A S Z K l (256 + x)) (Ideal.ofBits .f32 1132462080#32) + Ideal.ofBits .f32 925353388#32) := by
    intro l c
    have q : ∀ c : Fin 256, extractStridedSlice S128x256 ![0, 256] y slices_S128x1024_o0_256_S128x256 (ix2 l c) = gaR V D B A S Z K l (256 + c) := by
      intro c
      pointwise []
      exact e l ⟨256 + c.1, by omega⟩
    rw [rms_val, q]
    simp only [q]
  have r2 : ∀ (l : Fin 128) (c : Fin 256), gRms (extractStridedSlice S128x256 ![0, 512] y slices_S128x1024_o0_512_S128x256) (ix2 l c) =
      gaR V D B A S Z K l (512 + c) * Ideal.rsqrt (Ideal.div (∑ x : Fin 256, gaR V D B A S Z K l (512 + x) * gaR V D B A S Z K l (512 + x)) (Ideal.ofBits .f32 1132462080#32) + Ideal.ofBits .f32 925353388#32) := by
    intro l c
    have q : ∀ c : Fin 256, extractStridedSlice S128x256 ![0, 512] y slices_S128x1024_o0_512_S128x256 (ix2 l c) = gaR V D B A S Z K l (512 + c) := by
      intro c
      pointwise []
      exact e l ⟨512 + c.1, by omega⟩
    rw [rms_val, q]
    simp only [q]
  have r3 : ∀ (l : Fin 128) (c : Fin 256), gRms (extractStridedSlice S128x256 ![0, 768] y slices_S128x1024_o0_768_S128x256) (ix2 l c) =
      gaR V D B A S Z K l (768 + c) * Ideal.rsqrt (Ideal.div (∑ x : Fin 256, gaR V D B A S Z K l (768 + x) * gaR V D B A S Z K l (768 + x)) (Ideal.ofBits .f32 1132462080#32) + Ideal.ofBits .f32 925353388#32) := by
    intro l c
    have q : ∀ c : Fin 256, extractStridedSlice S128x256 ![0, 768] y slices_S128x1024_o0_768_S128x256 (ix2 l c) = gaR V D B A S Z K l (768 + c) := by
      intro c
      pointwise []
      exact e l ⟨768 + c.1, by omega⟩
    rw [rms_val, q]
    simp only [q]
  generalize gRms (extractStridedSlice S128x256 ![0, 0] y slices_S128x1024_o0_0_S128x256) = y0 at r0 ⊢
  generalize gRms (extractStridedSlice S128x256 ![0, 256] y slices_S128x1024_o0_256_S128x256) = y1 at r1 ⊢
  generalize gRms (extractStridedSlice S128x256 ![0, 512] y slices_S128x1024_o0_512_S128x256) = y2 at r2 ⊢
  generalize gRms (extractStridedSlice S128x256 ![0, 768] y slices_S128x1024_o0_768_S128x256) = y3 at r3 ⊢
  unfold gFin
  pointwise []
  rw [hN]
  unfold ysR
  congr 1
  split
  · have hg : c.1 / 256 = 0 := by omega
    rw [r0, hg]; simp
  · split
    · have hg : c.1 / 256 = 1 := by omega
      have hc : 256 + (c.1 - 256) = c.1 := by omega
      rw [r1, hg]; dsimp only; rw [hc]
    · split
      · have hg : c.1 / 256 = 2 := by omega
        have hc : 512 + (c.1 - 256 - 256) = c.1 := by omega
        rw [r2, hg]; dsimp only; rw [hc]
      · have hg : c.1 / 256 = 3 := by omega
        have hc : 768 + (c.1 - 256 - 256 - 256) = c.1 := by omega
        rw [r3, hg]; dsimp only; rw [hc]

end

end Cert.KernelIdeal.Ssd
-- ==== Proof.SsdLoad.lean ====
/- Loads and stores of the mixer kernel at an index: a load of a staged block, of the convolution's history and of the
   state, and what a list of stores leaves. -/
module

public import Idealize.ShloMosaic.Lib.Pipeline.Value
public import Idealize.ShloMosaic.Lib.Pipeline.ValueKit.Tiles
public import Idealize.ShloMosaic.Lib.Pointwise
public import proofs.«01_k».proof.Proof.SsdChunk

@[expose] public section

set_option maxRecDepth 16384

noncomputable section

open Idealize.ShloMosaic Idealize.ShloMosaic.TcCoe Idealize.SL.Sem

namespace Cert.KernelIdeal.Ssd

open Cert.KernelIdeal Cert.KernelIdeal.Gen

/-- A load of a block held whole, at an index. -/
theorem rd {m n a b o p : ℕ} {e : EltTy} (A : Memref sig .tc .vmem ⟨2, ![m, n]⟩ e) (hA : A.IsWhole) (x : Vec Ideal ⟨2, ![m, n]⟩ e)
    (inb : ∀ k, (![o, p] : Fin 2 → ℕ) k + (![a, b] : Fin 2 → ℕ) k ≤ (⟨2, ![m, n]⟩ : Shape).size k)
    (r : Fin a) (c : Fin b) (i : Fin m) (j : Fin n) (hi : i.1 = o + r.1) (hj : j.1 = p + c.1) :
    View.readAt (Elt Ideal) A.view (Rect.unit (s := ⟨2, ![m, n]⟩) ![o, p] ![a, b] inb).toLoadRect (hA.unread x) (ix2 r c) = x (ix2 i j) := by
  refine (congrFun (View.readAt_eq_ld A.view (hA.unread x) (Rect.unit (s := ⟨2, ![m, n]⟩) ![o, p] ![a, b] inb)) (ix2 r c)).trans ?_
  rw [hA.read_unread]
  refine View.ld_unit_apply_of x _ _ inb (ix2 r c) (ix2 i j) ?_
  intro k
  match k with
  | ⟨0, _⟩ => exact hi
  | ⟨1, _⟩ => exact hj

/-- The last store, where it holds the index. -/
theorem cn_hit {m n a b o p : ℕ} {e : EltTy} {inb : ∀ k, (![o, p] : Fin 2 → ℕ) k + (![a, b] : Fin 2 → ℕ) k ≤ (⟨2, ![m, n]⟩ : Shape).size k}
    {w : (⟨2, ![a, b]⟩ : Shape).Idx → Elt Ideal e} {L : List (View.Piece (Elt Ideal) ⟨2, ![m, n]⟩ e)} (i : Fin m) (j : Fin n) (r : Fin a) (c : Fin b) (hi : i.1 = o + r.1) (hj : j.1 = p + c.1) :
    View.canon ((⟨Rect.unit (s := ⟨2, ![m, n]⟩) ![o, p] ![a, b] inb, w⟩ : View.Piece (Elt Ideal) ⟨2, ![m, n]⟩ e) :: L) (ix2 i j) = w (ix2 r c) := by
  have h : (ix2 i j : (⟨2, ![m, n]⟩ : Shape).Idx) = (Rect.unit (s := ⟨2, ![m, n]⟩) ![o, p] ![a, b] inb).emb (ix2 r c) := by
    funext k
    apply Fin.ext
    refine Eq.trans ?_ (Rect.idx_unit_val ![o, p] ![a, b] inb (ix2 r c) k).symm
    match k with
    | ⟨0, _⟩ => exact hi
    | ⟨1, _⟩ => exact hj
  rw [h]
  exact View.canon_cons_emb (Rect.unit (s := ⟨2, ![m, n]⟩) ![o, p] ![a, b] inb) w L (ix2 r c)

/-- The earlier stores, where the last does not hold the index. -/
theorem cn_miss {m n a b o p : ℕ} {e : EltTy} {inb : ∀ k, (![o, p] : Fin 2 → ℕ) k + (![a, b] : Fin 2 → ℕ) k ≤ (⟨2, ![m, n]⟩ : Shape).size k}
    {w : (⟨2, ![a, b]⟩ : Shape).Idx → Elt Ideal e} {L : List (View.Piece (Elt Ideal) ⟨2, ![m, n]⟩ e)} (i : Fin m) (j : Fin n) (h : i.1 < o ∨ o + a ≤ i.1 ∨ j.1 < p ∨ p + b ≤ j.1) :
    View.canon ((⟨Rect.unit (s := ⟨2, ![m, n]⟩) ![o, p] ![a, b] inb, w⟩ : View.Piece (Elt Ideal) ⟨2, ![m, n]⟩ e) :: L) (ix2 i j) = View.canon L (ix2 i j) := by
  refine View.canon_cons_of_not_mem _ L ?_
  intro hy
  obtain ⟨x, hx⟩ := (Rect.unit (s := ⟨2, ![m, n]⟩) ![o, p] ![a, b] inb).exists_idx_of_mem hy
  have h0 : i.1 = o + (x 0).1 := by
    have := congrArg (fun y : (⟨2, ![m, n]⟩ : Shape).Idx => (y 0).1) hx
    have q := Rect.idx_unit_val (s := ⟨2, ![m, n]⟩) ![o, p] ![a, b] inb x 0
    exact this.symm.trans q
  have h1 : j.1 = p + (x 1).1 := by
    have := congrArg (fun y : (⟨2, ![m, n]⟩ : Shape).Idx => (y 1).1) hx
    have q := Rect.idx_unit_val (s := ⟨2, ![m, n]⟩) ![o, p] ![a, b] inb x 1
    exact this.symm.trans q
  have b0 : (x 0).1 < a := (x 0).isLt
  have b1 : (x 1).1 < b := (x 1).isLt
  omega

/-- A load of what a list of stores left. -/
theorem cov {m n a b o p : ℕ} {e : EltTy} {v : View sig .tc .vmem ⟨2, ![m, n]⟩ e} {L : List (View.Piece (Elt Ideal) ⟨2, ![m, n]⟩ e)}
    {inb : ∀ k, (![o, p] : Fin 2 → ℕ) k + (![a, b] : Fin 2 → ℕ) k ≤ (⟨2, ![m, n]⟩ : Shape).size k}
    (r : Fin a) (c : Fin b) (i : Fin m) (j : Fin n) (hi : i.1 = o + r.1) (hj : j.1 = p + c.1) :
    v.readCov L (Rect.unit (s := ⟨2, ![m, n]⟩) ![o, p] ![a, b] inb).toLoadRect (ix2 r c) = View.canon L (ix2 i j) := by
  rw [View.readCov_eq_canon']
  refine congrArg (View.canon L) ?_
  funext k
  apply Fin.ext
  refine (Rect.idx_unit_val ![o, p] ![a, b] inb (ix2 r c) k).trans ?_
  match k with
  | ⟨0, _⟩ => exact hi.symm
  | ⟨1, _⟩ => exact hj.symm

/-- A load of one store over contents held whole: the store where it holds the index, -/
theorem over_hit {m n a b o p a' b' o' p' : ℕ} {e : EltTy} (A : Memref sig .tc .vmem ⟨2, ![m, n]⟩ e) (hA : A.IsWhole) (x : Vec Ideal ⟨2, ![m, n]⟩ e)
    (inb : ∀ k, (![o, p] : Fin 2 → ℕ) k + (![a, b] : Fin 2 → ℕ) k ≤ (⟨2, ![m, n]⟩ : Shape).size k)
    (inb' : ∀ k, (![o', p'] : Fin 2 → ℕ) k + (![a', b'] : Fin 2 → ℕ) k ≤ (⟨2, ![m, n]⟩ : Shape).size k)
    (w : (⟨2, ![a', b']⟩ : Shape).Idx → Elt Ideal e) (r : Fin a) (c : Fin b) (r' : Fin a') (c' : Fin b') (hi : o' + r'.1 = o + r.1) (hj : p' + c'.1 = p + c.1) :
    View.readAt (Elt Ideal) A.view (Rect.unit (s := ⟨2, ![m, n]⟩) ![o, p] ![a, b] inb).toLoadRect
      (A.view.writes (Elt Ideal) (hA.unread x) [(⟨Rect.unit (s := ⟨2, ![m, n]⟩) ![o', p'] ![a', b'] inb', w⟩ : View.Piece (Elt Ideal) ⟨2, ![m, n]⟩ e)]) (ix2 r c) = w (ix2 r' c') := by
  rw [View.readAt_apply]
  have h : (Rect.unit (s := ⟨2, ![m, n]⟩) ![o, p] ![a, b] inb).toLoadRect.idx (ix2 r c) = (Rect.unit (s := ⟨2, ![m, n]⟩) ![o', p'] ![a', b'] inb').emb (ix2 r' c') := by
    funext k
    apply Fin.ext
    refine (Rect.idx_unit_val ![o, p] ![a, b] inb (ix2 r c) k).trans (Eq.trans ?_ (Rect.idx_unit_val ![o', p'] ![a', b'] inb' (ix2 r' c') k).symm)
    match k with
    | ⟨0, _⟩ => exact hi.symm
    | ⟨1, _⟩ => exact hj.symm
  rw [h, View.read_writes_cons_emb]

/-- and the contents elsewhere. -/
theorem over_miss {m n a b o p a' b' o' p' : ℕ} {e : EltTy} (A : Memref sig .tc .vmem ⟨2, ![m, n]⟩ e) (hA : A.IsWhole) (x : Vec Ideal ⟨2, ![m, n]⟩ e)
    (inb : ∀ k, (![o, p] : Fin 2 → ℕ) k + (![a, b] : Fin 2 → ℕ) k ≤ (⟨2, ![m, n]⟩ : Shape).size k)
    (inb' : ∀ k, (![o', p'] : Fin 2 → ℕ) k + (![a', b'] : Fin 2 → ℕ) k ≤ (⟨2, ![m, n]⟩ : Shape).size k)
    (w : (⟨2, ![a', b']⟩ : Shape).Idx → Elt Ideal e) (r : Fin a) (c : Fin b) (i : Fin m) (j : Fin n) (hi : i.1 = o + r.1) (hj : j.1 = p + c.1) (hm : i.1 < o') :
    View.readAt (Elt Ideal) A.view (Rect.unit (s := ⟨2, ![m, n]⟩) ![o, p] ![a, b] inb).toLoadRect
      (A.view.writes (Elt Ideal) (hA.unread x) [(⟨Rect.unit (s := ⟨2, ![m, n]⟩) ![o', p'] ![a', b'] inb', w⟩ : View.Piece (Elt Ideal) ⟨2, ![m, n]⟩ e)]) (ix2 r c) = x (ix2 i j) := by
  rw [View.readAt_apply]
  have h : (Rect.unit (s := ⟨2, ![m, n]⟩) ![o, p] ![a, b] inb).toLoadRect.idx (ix2 r c) = ix2 i j := by
    funext k
    apply Fin.ext
    refine (Rect.idx_unit_val ![o, p] ![a, b] inb (ix2 r c) k).trans ?_
    match k with
    | ⟨0, _⟩ => exact hi.symm
    | ⟨1, _⟩ => exact hj.symm
  rw [h, View.writes_cons, View.read_slice_write_of_not_mem, View.writes_nil, hA.read_unread]
  rw [Rect.map_emb_univ]
  intro hy
  obtain ⟨y, hx⟩ := (Rect.unit (s := ⟨2, ![m, n]⟩) ![o', p'] ![a', b'] inb').exists_idx_of_mem hy
  have h0 : i.1 = o' + (y 0).1 := by
    have := congrArg (fun z : (⟨2, ![m, n]⟩ : Shape).Idx => (z 0).1) hx
    have q := Rect.idx_unit_val (s := ⟨2, ![m, n]⟩) ![o', p'] ![a', b'] inb' y 0
    exact this.symm.trans q
  omega

/-! ## The convolution's history -/

/-- The rows from three before: the history, then the rows. -/
def upR (Hd R : ℕ → ℕ → ℝ) (r c : ℕ) : ℝ := if r < 3 then Hd r c else R (r - 3) c
/-- The convolution at a row, over rows counted from three before. -/
def cvR (W : ℕ → ℕ → ℝ) (Cb : ℕ → ℝ) (U : ℕ → ℕ → ℝ) (l c : ℕ) : ℝ :=
  Cb c + W 3 c * U (l + 3) c + W 0 c * U l c + W 1 c * U (l + 1) c + W 2 c * U (l + 2) c
/-- Rows counted from `o`. -/
def sh (o : ℕ) (f : ℕ → ℕ → ℝ) (l c : ℕ) : ℝ := f (o + l) c

theorem conv_sum {cb w3 x3 w0 x0 w1 x1 w2 x2 : EReal} {a b3 y3 b0 y0 b1 y1 b2 y2 : ℝ} (h : cb = a) (h3 : w3 = b3) (k3 : x3 = y3)
    (h0 : w0 = b0) (k0 : x0 = y0) (h1 : w1 = b1) (k1 : x1 = y1) (h2 : w2 = b2) (k2 : x2 = y2) :
    cb + w3 * x3 + w0 * x0 + w1 * x1 + w2 * x2 = ((a + b3 * y3 + b0 * y0 + b1 * y1 + b2 * y2 : ℝ) : EReal) := by
  subst h h3 k3 h0 k0 h1 k1 h2 k2
  push_cast
  rfl

/-- A tap of the convolution: the history where the row lies before the chunk, else the chunk's row. -/
theorem tap {v : View sig .tc .vmem S136x2048 .f32} {j o : ℕ} {inb} {inb1} {inb2} (u : Vec Ideal S128x2048 .f32) (hd : Vec Ideal S8x2048 .f32) (L) (Hd R : ℕ → ℕ → ℝ)
    (hu : ∀ (l : Fin 128) (c : Fin 2048), u (ix2 l c) = (R (o + l) c : EReal))
    (hh : ∀ (i : Fin 3) (c : Fin 2048), hd (ix2 ⟨5 + i.1, by omega⟩ c) = (upR Hd R (o + i) c : EReal)) (l : Fin 128) (c : Fin 2048) (t : ℕ) (ht : j = 5 + t) (hj : t < 3) :
    v.readCov ((⟨Rect.unit (s := S136x2048) ![8, 0] S128x2048.size inb1, u⟩ : View.Piece (Elt Ideal) S136x2048 .f32) :: (⟨Rect.unit (s := S136x2048) ![0, 0] S8x2048.size inb2, hd⟩ : View.Piece (Elt Ideal) S136x2048 .f32) :: L)
      (Rect.unit (s := S136x2048) ![j, 0] S128x2048.size inb).toLoadRect (ix2 l c) = (upR Hd R (o + l + t) c : EReal) := by
  subst ht
  refine (cov (m := 136) (n := 2048) (a := 128) (b := 2048) l c ⟨5 + t + l.1, by omega⟩ c rfl (by omega)).trans ?_
  by_cases h : t + l.1 < 3
  · refine (cn_miss (m := 136) (n := 2048) (a := 128) (b := 2048) _ _ (by simp only []; omega)).trans ?_
    refine (cn_hit (m := 136) (n := 2048) (a := 8) (b := 2048) _ _ ⟨5 + (t + l.1), by omega⟩ c (by simp only []; omega) (by omega)).trans ?_
    refine (hh ⟨t + l.1, h⟩ c).trans ?_
    rw [show o + l.1 + t = o + (t + l.1) by omega]
  · refine (cn_hit (m := 136) (n := 2048) (a := 128) (b := 2048) _ _ ⟨t + l.1 - 3, by omega⟩ c (by simp only []; omega) (by omega)).trans ?_
    refine (hu _ c).trans ?_
    unfold upR
    rw [if_neg (by omega)]
    simp only []
    rw [show o + (t + l.1 - 3) = o + l.1 + t - 3 by omega]

/-- A tap over the history that the buffer held. -/
theorem tap_over (A : Memref sig .tc .vmem S136x2048 .f32) (hA : A.IsWhole) (x : Vec Ideal S136x2048 .f32) {j : ℕ} {inb} {inb1} (u : Vec Ideal S128x2048 .f32) (Hd R : ℕ → ℕ → ℝ)
    (hu : ∀ (l : Fin 128) (c : Fin 2048), u (ix2 l c) = (R (0 + l) c : EReal))
    (hh : ∀ (i : Fin 3) (c : Fin 2048), x (ix2 ⟨5 + i.1, by omega⟩ c) = (Hd i c : EReal)) (l : Fin 128) (c : Fin 2048) (t : ℕ) (ht : j = 5 + t) (hj : t < 3) :
    View.readAt (Elt Ideal) A.view (Rect.unit (s := S136x2048) ![j, 0] S128x2048.size inb).toLoadRect
      (A.view.writes (Elt Ideal) (hA.unread x) [(⟨Rect.unit (s := S136x2048) ![8, 0] S128x2048.size inb1, u⟩ : View.Piece (Elt Ideal) S136x2048 .f32)]) (ix2 l c) = (upR Hd R (0 + l + t) c : EReal) := by
  subst ht
  by_cases h : t + l.1 < 3
  · refine (over_miss (m := 136) (n := 2048) (a := 128) (b := 2048) (a' := 128) (b' := 2048) A hA x _ _ u l c ⟨5 + (t + l.1), by omega⟩ c (by simp only []; omega) (by omega) (by simp only []; omega)).trans ?_
    refine (hh ⟨t + l.1, h⟩ c).trans ?_
    unfold upR
    rw [if_pos (by omega)]
    simp only []
    rw [show 0 + l.1 + t = t + l.1 by omega]
  · refine (over_hit (m := 136) (n := 2048) (a := 128) (b := 2048) (a' := 128) (b' := 2048) A hA x _ _ u l c ⟨t + l.1 - 3, by omega⟩ c (by simp only []; omega) (by omega)).trans ?_
    refine (hu _ c).trans ?_
    unfold upR
    rw [if_neg (by omega)]
    simp only []
    rw [show 0 + (t + l.1 - 3) = 0 + l.1 + t - 3 by omega]

/-! ## The stored rows and the tile's arrays -/

section
variable {F : FTy → Type} [FloatOps F] [Named F]
/-- A chunk's rows, as stored in the convolution's buffer. -/
def gCur (raw : Vec F S128x2048 .bf16) : FVec F S128x2048 .f32 :=
  shapeCast S128x2048 (extf .f32 (shapeCast S128x2048 raw shapeCasts_S128x2048_S128x2048) bitsLt_bf16_f32) shapeCasts_S128x2048_S128x2048
/-- A chunk's last eight rows, as stored. -/
def gHead (raw : Vec F S128x2048 .bf16) : FVec F S8x2048 .f32 :=
  shapeCast S8x2048 (extractStridedSlice S8x2048 ![120, 0] (extf .f32 (shapeCast S128x2048 raw shapeCasts_S128x2048_S128x2048) bitsLt_bf16_f32) slices_S128x2048_o120_0_S8x2048) shapeCasts_S8x2048_S8x2048
end

theorem cur_val (raw : Vec Ideal S128x2048 .bf16) (l : Fin 128) (c : Fin 2048) : gCur raw (ix2 l c) = raw (ix2 l c) := by
  unfold gCur
  pointwise []
theorem head_val (raw : Vec Ideal S128x2048 .bf16) (l : Fin 8) (c : Fin 2048) : gHead raw (ix2 l c) = raw (ix2 ⟨120 + l.1, by omega⟩ c) := by
  unfold gHead
  pointwise []
theorem zero_head (l : Fin 8) (c : Fin 2048) : (k0_pay1 : FVec Ideal S8x2048 .f32) (ix2 l c) = ((0 : ℝ) : EReal) := by
  unfold k0_pay1
  pointwise []
  norm_num
theorem zero_state (l : Fin 128) (c : Fin 1024) : (k0_pay2 : FVec Ideal S128x1024 .f32) (ix2 l c) = ((0 : ℝ) : EReal) := by
  unfold k0_pay2
  pointwise []
  norm_num

/-- A history of zeros. -/
theorem zero_hist (R : ℕ → ℕ → ℝ) (i : Fin 3) (c : Fin 2048) : (k0_pay1 (F := Ideal)) (ix2 ⟨5 + i.1, by omega⟩ c) = (upR (fun _ _ => 0) R (0 + i) c : EReal) := by
  have e : upR (fun _ _ => 0) R (0 + i) c = 0 := by
    unfold upR
    rw [if_pos (by omega)]
  rw [e]
  exact zero_head _ c

/-- The blocks of a tile hold real numbers. -/
structure TileReal (x0 : Vec Ideal S256x2048 .bf16) (x1 : Vec Ideal S256x1024 .bf16) (x2 : Vec Ideal S256x128 .f32) (x3 : Vec Ideal S4x2048 .f32) (x4 : Vec Ideal S1x2048 .f32)
    (x5 x6 : Vec Ideal S1x128 .f32) (x7 x8 : Vec Ideal S1x1024 .f32) (R D Z W : ℕ → ℕ → ℝ) (Cb B A : ℕ → ℝ) (K N : ℕ → EReal) : Prop where
  raw : ∀ (r : Fin 256) (c : Fin 2048), x0 (ix2 r c) = (R r c : EReal)
  z : ∀ (r : Fin 256) (c : Fin 1024), x1 (ix2 r c) = (Z r c : EReal)
  d : ∀ (r : Fin 256) (c : Fin 128), x2 (ix2 r c) = (D r c : EReal)
  w : ∀ (r : Fin 4) (c : Fin 2048), x3 (ix2 r c) = (W r c : EReal)
  cb : ∀ (c : Fin 2048), x4 (ix2 0 c) = (Cb c : EReal)
  b : ∀ (c : Fin 128), x5 (ix2 0 c) = (B c : EReal)
  a : ∀ (c : Fin 128), x6 (ix2 0 c) = (A c : EReal)
  k : ∀ (c : Fin 1024), x7 (ix2 0 c) = K c
  n : ∀ (c : Fin 1024), x8 (ix2 0 c) = N c

end Cert.KernelIdeal.Ssd
-- ==== Proof.SsdSpec.lean ====
/- What the mixer computes on one sequence of a batch, over the reals: the causal convolution, the state before each
   chunk, and the rows after the group norm. Rows and columns are natural numbers. -/
module

public import proofs.«01_k».proof.Proof.SsdLoad

@[expose] public section

set_option maxRecDepth 16384

noncomputable section

open Idealize.ShloMosaic Idealize.ShloMosaic.TcCoe Idealize.SL.Sem

namespace Cert.KernelIdeal.Ssd

open Cert.KernelIdeal Cert.KernelIdeal.Gen

/-- Rows after three rows of zeros. -/
def pdR (X : ℕ → ℕ → ℝ) (i c : ℕ) : ℝ := if i < 3 then 0 else X (i - 3) c
/-- The causal convolution of a sequence. -/
def cvB (X W : ℕ → ℕ → ℝ) (Cb : ℕ → ℝ) : ℕ → ℕ → ℝ := cvR W Cb (pdR X)
/-- The state before chunk `k`. -/
def stB (V D : ℕ → ℕ → ℝ) (B A : ℕ → ℝ) : ℕ → ℕ → ℕ → ℝ
  | 0 => fun _ _ => 0
  | k + 1 => stR (sh (k * 128) V) (sh (k * 128) D) B A (stB V D B A k)
/-- The rows after the group norm. -/
def ysB (V D : ℕ → ℕ → ℝ) (B A : ℕ → ℝ) (Z : ℕ → ℕ → ℝ) (K N : ℕ → EReal) (l c : ℕ) : EReal :=
  ysR (sh (l / 128 * 128) V) (sh (l / 128 * 128) D) B A (stB V D B A (l / 128)) (sh (l / 128 * 128) Z) K N (l % 128) c

/-- The arguments hold real numbers. -/
structure ArgReal (a1 : Vec Ideal ⟨3, ![4, 2048, 1024]⟩ .bf16) (a2 : Vec Ideal ⟨3, ![4, 2048, 2048]⟩ .bf16) (a3 : Vec Ideal ⟨3, ![4, 2048, 16]⟩ .f32)
    (a4 : Vec Ideal ⟨3, ![1, 4, 2048]⟩ .f32) (a5 : Vec Ideal ⟨2, ![1, 2048]⟩ .f32) (a6 a7 a8 : Vec Ideal ⟨2, ![1, 16]⟩ .f32) (a9 : Vec Ideal ⟨2, ![1, 1024]⟩ .f32)
    (X Z D : ℕ → ℕ → ℕ → ℝ) (W : ℕ → ℕ → ℝ) (Cb B A : ℕ → ℝ) (K N : ℕ → EReal) : Prop where
  z : ∀ (b : Fin 4) (l : Fin 2048) (c : Fin 1024), a1 (ix3 b l c) = (Z b l c : EReal)
  raw : ∀ (b : Fin 4) (l : Fin 2048) (c : Fin 2048), a2 (ix3 b l c) = (X b l c : EReal)
  d : ∀ (b : Fin 4) (l : Fin 2048) (h : Fin 16), a3 (ix3 b l h) = (D b l h : EReal)
  w : ∀ (r : Fin 4) (c : Fin 2048), a4 (ix3 0 r c) = (W r c : EReal)
  cb : ∀ (c : Fin 2048), a5 (ix2 0 c) = (Cb c : EReal)
  b : ∀ (h : Fin 16), a6 (ix2 0 h) = (B h : EReal)
  a : ∀ (h : Fin 16), a7 (ix2 0 h) = (A h : EReal)
  k : ∀ (h : Fin 16) (p : Fin 64), a8 (ix2 0 h) = K (h * 64 + p)
  n : ∀ (c : Fin 1024), a9 (ix2 0 c) = N c
  d0 : ∀ b l h, 16 ≤ h → D b l h = 0
  b0 : ∀ h, 16 ≤ h → B h = 0
  a0 : ∀ h, 16 ≤ h → A h = 0

end Cert.KernelIdeal.Ssd
-- ==== Proof.SsdBlk.lean ====
/- The blocks that a grid point of the mixer kernel stages, read at an index of the call's operands. -/
module

public import proofs.«01_k».proof.Proof.SsdStep
public import proofs.«01_k».proof.Proof.SsdSpec
public import Idealize.ShloMosaic.Lib.Claim
public import Idealize.ShloMosaic.Lib.Pipeline.Value

@[expose] public section

set_option maxRecDepth 16384

noncomputable section

open Idealize.ShloMosaic Idealize.ShloMosaic.TcCoe Idealize.SL.Sem

namespace Cert.KernelIdeal.Ssd

open Cert.KernelIdeal Cert.KernelIdeal.Gen

variable (m : (ℓ : Loc nD τ sig) → Buf (Elt Ideal) ℓ)

/-- Row `r` of the tile whose chunks point `t` computes. -/
abbrev cur (t : Fin cfg0.N) (r : Fin 256) : Fin 8192 := ⟨min t.val 31 * 256 + r.val, by omega⟩
/-- Row `r` of the tile that point `t` projects. -/
abbrev prev (t : Fin cfg0.N) (r : Fin 256) : Fin 8192 := ⟨(t.val - 1) * 256 + r.val, by have : t.val < 33 := lt_of_lt_of_eq t.isLt N_0; omega⟩

theorem idx0 : ∀ t : Fin grid0.N, win0_0.index t 0 = min t.val 31 ∧ win0_0.index t 1 = 0 := by decide +kernel
theorem idx1 : ∀ t : Fin grid0.N, win0_1.index t 0 = min t.val 31 ∧ win0_1.index t 1 = 0 := by decide +kernel
theorem idx2 : ∀ t : Fin grid0.N, win0_2.index t 0 = min t.val 31 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = 0 := by decide +kernel
theorem idx7 : ∀ t : Fin grid0.N, win0_7.index t 0 = 0 ∧ win0_7.index t 1 = 0 := by decide +kernel
theorem idx8 : ∀ t : Fin grid0.N, win0_8.index t 0 = 0 ∧ win0_8.index t 1 = 0 := by decide +kernel
theorem idx9 : ∀ t : Fin grid0.N, win0_9.index t 0 = t.val - 1 ∧ win0_9.index t 1 = 0 := by decide +kernel
theorem idx10 : ∀ t : Fin grid0.N, win0_10.index t 0 = t.val - 1 ∧ win0_10.index t 1 = 0 := by decide +kernel
theorem idx11 : ∀ t : Fin grid0.N, win0_11.index t 0 = 0 ∧ win0_11.index t 1 = 0 := by decide +kernel
theorem idx12 : ∀ t : Fin grid0.N, win0_12.index t 0 = 0 ∧ win0_12.index t 1 = 0 := by decide +kernel
theorem idx13 : ∀ t : Fin grid0.N, win0_13.index t 0 = min t.val 31 ∧ win0_13.index t 1 = 0 := by decide +kernel
theorem idx14 : ∀ t : Fin grid0.N, win0_14.index t 0 = t.val - 1 ∧ win0_14.index t 1 = 0 := by decide +kernel
theorem idx15 : ∀ t : Fin grid0.N, win0_15.index t 0 = t.val - 1 ∧ win0_15.index t 1 = 0 := by decide +kernel
theorem idx16 : ∀ t : Fin grid0.N, win0_16.index t 0 = min t.val 31 ∧ win0_16.index t 1 = 0 := by decide +kernel

theorem blk0 (c : Dev nD) (t : Fin cfg0.N) (r : Fin 256) (q : Fin 2048) :
    (iblk m c 0 t : Vec Ideal S256x2048 .bf16) (ix2 r q) = (V m c main_v3 : Vec Ideal S8192x2048 .bf16) (ix2 (cur t r) q) := by
  unfold iblk
  rw [View.read_apply]
  show V m c main_v3 _ = V m c main_v3 _
  congr 1
  funext a
  apply Fin.ext
  match a with
  | ⟨0, _⟩ => show win0_0.index t 0 * 256 + 1 * r.val = _; rw [(idx0 t).1]; show _ = min t.val 31 * 256 + r.val; omega
  | ⟨1, _⟩ => show win0_0.index t 1 * 2048 + 1 * q.val = _; rw [(idx0 t).2]; show _ = q.val; omega

theorem blk1 (c : Dev nD) (t : Fin cfg0.N) (r : Fin 256) (q : Fin 1024) :
    (iblk m c 1 t : Vec Ideal S256x1024 .bf16) (ix2 r q) = (V m c main_v4 : Vec Ideal S8192x1024 .bf16) (ix2 (cur t r) q) := by
  unfold iblk
  rw [View.read_apply]
  show V m c main_v4 _ = V m c main_v4 _
  congr 1
  funext a
  apply Fin.ext
  match a with
  | ⟨0, _⟩ => show win0_1.index t 0 * 256 + 1 * r.val = _; rw [(idx1 t).1]; show _ = min t.val 31 * 256 + r.val; omega
  | ⟨1, _⟩ => show win0_1.index t 1 * 1024 + 1 * q.val = _; rw [(idx1 t).2]; show _ = q.val; omega

theorem blk2 (c : Dev nD) (t : Fin cfg0.N) (r : Fin 256) (q : Fin 128) :
    (iblk m c 2 t : Vec Ideal S256x128 .f32) (ix2 r q) = (V m c main_v2 : Vec Ideal S8192x128 .f32) (ix2 (cur t r) q) := by
  unfold iblk
  rw [View.read_apply]
  show V m c main_v2 _ = V m c main_v2 _
  congr 1
  funext a
  apply Fin.ext
  match a with
  | ⟨0, _⟩ => show win0_2.index t 0 * 256 + 1 * r.val = _; rw [(idx2 t).1]; show _ = min t.val 31 * 256 + r.val; omega
  | ⟨1, _⟩ => show win0_2.index t 1 * 128 + 1 * q.val = _; rw [(idx2 t).2]; show _ = q.val; omega

theorem blk3 (c : Dev nD) (t : Fin cfg0.N) (r : Fin 4) (q : Fin 2048) :
    (iblk m c 3 t : Vec Ideal S4x2048 .f32) (ix2 r q) = (V m c main_v6 : Vec Ideal S4x2048 .f32) (ix2 r q) := by
  unfold iblk
  rw [View.read_apply]
  show V m c main_v6 _ = V m c main_v6 _
  congr 1
  funext a
  apply Fin.ext
  match a with
  | ⟨0, _⟩ => show win0_3.index t 0 * 4 + 1 * r.val = _; rw [(idx3 t).1]; show _ = r.val; omega
  | ⟨1, _⟩ => show win0_3.index t 1 * 2048 + 1 * q.val = _; rw [(idx3 t).2]; show _ = q.val; omega

theorem blk4 (c : Dev nD) (t : Fin cfg0.N) (r : Fin 1) (q : Fin 2048) :
    (iblk m c 4 t : Vec Ideal S1x2048 .f32) (ix2 r q) = (V m c main_v8 : Vec Ideal S1x2048 .f32) (ix2 r q) := by
  unfold iblk
  rw [View.read_apply]
  show V m c main_v8 _ = V m c main_v8 _
  congr 1
  funext a
  apply Fin.ext
  match a with
  | ⟨0, _⟩ => show win0_4.index t 0 * 1 + 1 * r.val = _; rw [(idx4 t).1]; show _ = r.val; omega
  | ⟨1, _⟩ => show win0_4.index t 1 * 2048 + 1 * q.val = _; rw [(idx4 t).2]; show _ = q.val; omega

theorem blk5 (c : Dev nD) (t : Fin cfg0.N) (r : Fin 1) (q : Fin 128) :
    (iblk m c 5 t : Vec Ideal S1x128 .f32) (ix2 r q) = (V m c main_v11 : Vec Ideal S1x128 .f32) (ix2 r q) := by
  unfold iblk
  rw [View.read_apply]
  show V m c main_v11 _ = V m c main_v11 _
  congr 1
  funext a
  apply Fin.ext
  match a with
  | ⟨0, _⟩ => show win0_5.index t 0 * 1 + 1 * r.val = _; rw [(idx5 t).1]; show _ = r.val; omega
  | ⟨1, _⟩ => show win0_5.index t 1 * 128 + 1 * q.val = _; rw [(idx5 t).2]; show _ = q.val; omega

theorem blk6 (c : Dev nD) (t : Fin cfg0.N) (r : Fin 1) (q : Fin 128) :
    (iblk m c 6 t : Vec Ideal S1x128 .f32) (ix2 r q) = (V m c main_v14 : Vec Ideal S1x128 .f32) (ix2 r q) := by
  unfold iblk
  rw [View.read_apply]
  show V m c main_v14 _ = V m c main_v14 _
  congr 1
  funext a
  apply Fin.ext
  match a with
  | ⟨0, _⟩ => show win0_6.index t 0 * 1 + 1 * r.val = _; rw [(idx6 t).1]; show _ = r.val; omega
  | ⟨1, _⟩ => show win0_6.index t 1 * 128 + 1 * q.val = _; rw [(idx6 t).2]; show _ = q.val; omega

theorem blk7 (c : Dev nD) (t : Fin cfg0.N) (r : Fin 1) (q : Fin 1024) :
    (iblk m c 7 t : Vec Ideal S1x1024 .f32) (ix2 r q) = (V m c main_v18 : Vec Ideal S1x1024 .f32) (ix2 r q) := by
  unfold iblk
  rw [View.read_apply]
  show V m c main_v18 _ = V m c main_v18 _
  congr 1
  funext a
  apply Fin.ext
  match a with
  | ⟨0, _⟩ => show win0_7.index t 0 * 1 + 1 * r.val = _; rw [(idx7 t).1]; show _ = r.val; omega
  | ⟨1, _⟩ => show win0_7.index t 1 * 1024 + 1 * q.val = _; rw [(idx7 t).2]; show _ = q.val; omega

theorem blk8 (c : Dev nD) (t : Fin cfg0.N) (r : Fin 1) (q : Fin 1024) :
    (iblk m c 8 t : Vec Ideal S1x1024 .f32) (ix2 r q) = (V m c main_v20 : Vec Ideal S1x1024 .f32) (ix2 r q) := by
  unfold iblk
  rw [View.read_apply]
  show V m c main_v20 _ = V m c main_v20 _
  congr 1
  funext a
  apply Fin.ext
  match a with
  | ⟨0, _⟩ => show win0_8.index t 0 * 1 + 1 * r.val = _; rw [(idx8 t).1]; show _ = r.val; omega
  | ⟨1, _⟩ => show win0_8.index t 1 * 1024 + 1 * q.val = _; rw [(idx8 t).2]; show _ = q.val; omega

theorem blk9 (c : Dev nD) (t : Fin cfg0.N) (r : Fin 256) (q : Fin 2048) :
    (iblk m c 9 t : Vec Ideal S256x2048 .f32) (ix2 r q) = (V m c main_v0 : Vec Ideal S8192x2048 .f32) (ix2 (prev t r) q) := by
  unfold iblk
  rw [View.read_apply]
  show V m c main_v0 _ = V m c main_v0 _
  congr 1
  funext a
  apply Fin.ext
  match a with
  | ⟨0, _⟩ => show win0_9.index t 0 * 256 + 1 * r.val = _; rw [(idx9 t).1]; show _ = (t.val - 1) * 256 + r.val; omega
  | ⟨1, _⟩ => show win0_9.index t 1 * 2048 + 1 * q.val = _; rw [(idx9 t).2]; show _ = q.val; omega

theorem blk10 (c : Dev nD) (t : Fin cfg0.N) (r : Fin 256) (q : Fin 1024) :
    (iblk m c 10 t : Vec Ideal S256x1024 .bf16) (ix2 r q) = (V m c main_v5 : Vec Ideal S8192x1024 .bf16) (ix2 (prev t r) q) := by
  unfold iblk
  rw [View.read_apply]
  show V m c main_v5 _ = V m c main_v5 _
  congr 1
  funext a
  apply Fin.ext
  match a with
  | ⟨0, _⟩ => show win0_10.index t 0 * 256 + 1 * r.val = _; rw [(idx10 t).1]; show _ = (t.val - 1) * 256 + r.val; omega
  | ⟨1, _⟩ => show win0_10.index t 1 * 1024 + 1 * q.val = _; rw [(idx10 t).2]; show _ = q.val; omega

theorem blk11 (c : Dev nD) (t : Fin cfg0.N) (r : Fin 2048) (q : Fin 2048) :
    (iblk m c 11 t : Vec Ideal S2048x2048 .bf16) (ix2 r q) = (V m c main_v21 : Vec Ideal S2048x2048 .bf16) (ix2 r q) := by
  unfold iblk
  rw [View.read_apply]
  show V m c main_v21 _ = V m c main_v21 _
  congr 1
  funext a
  apply Fin.ext
  match a with
  | ⟨0, _⟩ => show win0_11.index t 0 * 2048 + 1 * r.val = _; rw [(idx11 t).1]; show _ = r.val; omega
  | ⟨1, _⟩ => show win0_11.index t 1 * 2048 + 1 * q.val = _; rw [(idx11 t).2]; show _ = q.val; omega

theorem blk12 (c : Dev nD) (t : Fin cfg0.N) (r : Fin 1) (q : Fin 2048) :
    (iblk m c 12 t : Vec Ideal S1x2048 .f32) (ix2 r q) = (V m c main_v23 : Vec Ideal S1x2048 .f32) (ix2 r q) := by
  unfold iblk
  rw [View.read_apply]
  show V m c main_v23 _ = V m c main_v23 _
  congr 1
  funext a
  apply Fin.ext
  match a with
  | ⟨0, _⟩ => show win0_12.index t 0 * 1 + 1 * r.val = _; rw [(idx12 t).1]; show _ = r.val; omega
  | ⟨1, _⟩ => show win0_12.index t 1 * 2048 + 1 * q.val = _; rw [(idx12 t).2]; show _ = q.val; omega

theorem blk13 (c : Dev nD) (t : Fin cfg0.N) (r : Fin 256) (q : Fin 2048) :
    (iblk m c 13 t : Vec Ideal S256x2048 .f32) (ix2 r q) = (V m c main_v24 : Vec Ideal S8192x2048 .f32) (ix2 (cur t r) q) := by
  unfold iblk
  rw [View.read_apply]
  show V m c main_v24 _ = V m c main_v24 _
  congr 1
  funext a
  apply Fin.ext
  match a with
  | ⟨0, _⟩ => show win0_13.index t 0 * 256 + 1 * r.val = _; rw [(idx13 t).1]; show _ = min t.val 31 * 256 + r.val; omega
  | ⟨1, _⟩ => show win0_13.index t 1 * 2048 + 1 * q.val = _; rw [(idx13 t).2]; show _ = q.val; omega

end Cert.KernelIdeal.Ssd
-- ==== Proof.SsdHost.lean ====
/- The mixer call's operands read at an index of the arguments. -/
module

public import proofs.«01_k».proof.Proof.SsdStep
public import proofs.«01_k».proof.Proof.SsdSpec
public import Idealize.ShloMosaic.Lib.Claim
public import Idealize.ShloMosaic.Lib.Pipeline.Value

@[expose] public section

set_option maxRecDepth 16384

noncomputable section

open Idealize.ShloMosaic Idealize.ShloMosaic.TcCoe Idealize.SL.Sem

namespace Cert.KernelIdeal.Ssd

open Cert.KernelIdeal Cert.KernelIdeal.Gen

variable (m : (ℓ : Loc nD τ sig) → Buf (Elt Ideal) ℓ)

abbrev bt (R : Fin 8192) : Fin 4 := ⟨R.val / 2048, by omega⟩
abbrev tk (R : Fin 8192) : Fin 2048 := ⟨R.val % 2048, by omega⟩

theorem v0_apply (c : Dev nD) (R : Fin 8192) (q : Fin 2048) : (V m c main_v0 : Vec Ideal S8192x2048 .f32) (ix2 R q) = m ((c : Thread nD τ).loc main_arg0) (ix3 (bt R) (tk R) q) := by
  show StableHlo.after (List.flatten [hostOps0, hostOps0_1, hostOps0_2, hostOps0_3, hostOps0_4, hostOps0_5, hostOps0_6]) (fun b => m (c, b)) main_v0 (ix2 R q) = _
  simp only [hostOps0, hostOps0_1, hostOps0_2, hostOps0_3, hostOps0_4, hostOps0_5, hostOps0_6, List.flatten_cons, List.flatten_nil, List.append_nil, List.cons_append, List.nil_append]
  entry_read
  pointwise

theorem v3_apply (c : Dev nD) (R : Fin 8192) (q : Fin 2048) : (V m c main_v3 : Vec Ideal S8192x2048 .bf16) (ix2 R q) = m ((c : Thread nD τ).loc main_arg2) (ix3 (bt R) (tk R) q) := by
  show StableHlo.after (List.flatten [hostOps0, hostOps0_1, hostOps0_2, hostOps0_3, hostOps0_4, hostOps0_5, hostOps0_6]) (fun b => m (c, b)) main_v3 (ix2 R q) = _
  simp only [hostOps0, hostOps0_1, hostOps0_2, hostOps0_3, hostOps0_4, hostOps0_5, hostOps0_6, List.flatten_cons, List.flatten_nil, List.append_nil, List.cons_append, List.nil_append]
  entry_read
  pointwise

theorem v4_apply (c : Dev nD) (R : Fin 8192) (q : Fin 1024) : (V m c main_v4 : Vec Ideal S8192x1024 .bf16) (ix2 R q) = m ((c : Thread nD τ).loc main_arg1) (ix3 (bt R) (tk R) q) := by
  show StableHlo.after (List.flatten [hostOps0, hostOps0_1, hostOps0_2, hostOps0_3, hostOps0_4, hostOps0_5, hostOps0_6]) (fun b => m (c, b)) main_v4 (ix2 R q) = _
  simp only [hostOps0, hostOps0_1, hostOps0_2, hostOps0_3, hostOps0_4, hostOps0_5, hostOps0_6, List.flatten_cons, List.flatten_nil, List.append_nil, List.cons_append, List.nil_append]
  entry_read
  pointwise

theorem v5_apply (c : Dev nD) (R : Fin 8192) (q : Fin 1024) : (V m c main_v5 : Vec Ideal S8192x1024 .bf16) (ix2 R q) = m ((c : Thread nD τ).loc main_arg10) (ix3 (bt R) (tk R) q) := by
  show StableHlo.after (List.flatten [hostOps0, hostOps0_1, hostOps0_2, hostOps0_3, hostOps0_4, hostOps0_5, hostOps0_6]) (fun b => m (c, b)) main_v5 (ix2 R q) = _
  simp only [hostOps0, hostOps0_1, hostOps0_2, hostOps0_3, hostOps0_4, hostOps0_5, hostOps0_6, List.flatten_cons, List.flatten_nil, List.append_nil, List.cons_append, List.nil_append]
  entry_read
  pointwise

theorem v6_apply (c : Dev nD) (r : Fin 4) (q : Fin 2048) : (V m c main_v6 : Vec Ideal S4x2048 .f32) (ix2 r q) = m ((c : Thread nD τ).loc main_arg4) (ix3 0 r q) := by
  show StableHlo.after (List.flatten [hostOps0, hostOps0_1, hostOps0_2, hostOps0_3, hostOps0_4, hostOps0_5, hostOps0_6]) (fun b => m (c, b)) main_v6 (ix2 r q) = _
  simp only [hostOps0, hostOps0_1, hostOps0_2, hostOps0_3, hostOps0_4, hostOps0_5, hostOps0_6, List.flatten_cons, List.flatten_nil, List.append_nil, List.cons_append, List.nil_append]
  entry_read
  pointwise

theorem v8_apply (c : Dev nD) (q : Fin 2048) : (V m c main_v8 : Vec Ideal S1x2048 .f32) (ix2 0 q) = m ((c : Thread nD τ).loc main_arg5) (ix2 0 q) := by
  show StableHlo.after (List.flatten [hostOps0, hostOps0_1, hostOps0_2, hostOps0_3, hostOps0_4, hostOps0_5, hostOps0_6]) (fun b => m (c, b)) main_v8 (ix2 0 q) = _
  simp only [hostOps0, hostOps0_1, hostOps0_2, hostOps0_3, hostOps0_4, hostOps0_5, hostOps0_6, List.flatten_cons, List.flatten_nil, List.append_nil, List.cons_append, List.nil_append]
  entry_read
  pointwise

theorem v18_apply (c : Dev nD) (q : Fin 1024) : (V m c main_v18 : Vec Ideal S1x1024 .f32) (ix2 0 q) = m ((c : Thread nD τ).loc main_arg8) (ix2 0 ⟨q.1 / 64, by omega⟩) := by
  show StableHlo.after (List.flatten [hostOps0, hostOps0_1, hostOps0_2, hostOps0_3, hostOps0_4, hostOps0_5, hostOps0_6]) (fun b => m (c, b)) main_v18 (ix2 0 q) = _
  simp only [hostOps0, hostOps0_1, hostOps0_2, hostOps0_3, hostOps0_4, hostOps0_5, hostOps0_6, List.flatten_cons, List.flatten_nil, List.append_nil, List.cons_append, List.nil_append]
  entry_read
  pointwise

theorem v20_apply (c : Dev nD) (q : Fin 1024) : (V m c main_v20 : Vec Ideal S1x1024 .f32) (ix2 0 q) = m ((c : Thread nD τ).loc main_arg9) (ix2 0 q) := by
  show StableHlo.after (List.flatten [hostOps0, hostOps0_1, hostOps0_2, hostOps0_3, hostOps0_4, hostOps0_5, hostOps0_6]) (fun b => m (c, b)) main_v20 (ix2 0 q) = _
  simp only [hostOps0, hostOps0_1, hostOps0_2, hostOps0_3, hostOps0_4, hostOps0_5, hostOps0_6, List.flatten_cons, List.flatten_nil, List.append_nil, List.cons_append, List.nil_append]
  entry_read
  pointwise

theorem v21_apply (c : Dev nD) (k q : Fin 2048) : (V m c main_v21 : Vec Ideal S2048x2048 .bf16) (ix2 k q) = m ((c : Thread nD τ).loc main_arg11) (ix3 0 k q) := by
  show StableHlo.after (List.flatten [hostOps0, hostOps0_1, hostOps0_2, hostOps0_3, hostOps0_4, hostOps0_5, hostOps0_6]) (fun b => m (c, b)) main_v21 (ix2 k q) = _
  simp only [hostOps0, hostOps0_1, hostOps0_2, hostOps0_3, hostOps0_4, hostOps0_5, hostOps0_6, List.flatten_cons, List.flatten_nil, List.append_nil, List.cons_append, List.nil_append]
  entry_read
  pointwise

theorem v23_apply (c : Dev nD) (q : Fin 2048) : (V m c main_v23 : Vec Ideal S1x2048 .f32) (ix2 0 q) = m ((c : Thread nD τ).loc main_arg12) (ix2 0 q) := by
  show StableHlo.after (List.flatten [hostOps0, hostOps0_1, hostOps0_2, hostOps0_3, hostOps0_4, hostOps0_5, hostOps0_6]) (fun b => m (c, b)) main_v23 (ix2 0 q) = _
  simp only [hostOps0, hostOps0_1, hostOps0_2, hostOps0_3, hostOps0_4, hostOps0_5, hostOps0_6, List.flatten_cons, List.flatten_nil, List.append_nil, List.cons_append, List.nil_append]
  entry_read
  pointwise

theorem v24_apply (c : Dev nD) (R : Fin 8192) (q : Fin 2048) : (V m c main_v24 : Vec Ideal S8192x2048 .f32) (ix2 R q) = m ((c : Thread nD τ).loc main_arg13) (ix3 0 R q) := by
  show StableHlo.after (List.flatten [hostOps0, hostOps0_1, hostOps0_2, hostOps0_3, hostOps0_4, hostOps0_5, hostOps0_6]) (fun b => m (c, b)) main_v24 (ix2 R q) = _
  simp only [hostOps0, hostOps0_1, hostOps0_2, hostOps0_3, hostOps0_4, hostOps0_5, hostOps0_6, List.flatten_cons, List.flatten_nil, List.append_nil, List.cons_append, List.nil_append]
  entry_read
  pointwise

theorem pad_zero : FloatOps.sitofp (F := Ideal) .f32 (0#32 : BitVec 32) = 0 := by
  show (((0#32 : BitVec 32).toInt : ℝ) : EReal) = 0
  simp

/-- The step sizes, padded to a lane tile. -/
def pdD (x : Vec Ideal S4x2048x16 .f32) : Vec Ideal S8192x128 .f32 :=
  pad S8192x128 ![0, 0] ![0, 112] ![0, 0] (shapeCast S8192x16 x shapeCasts_S4x2048x16_S8192x16) (sitofp (F := Ideal) .f32 (constantI S_ 32 0#32)) pads_S8192x16_S8192x128_000_01120 h_S_
/-- A row of heads, padded to a lane tile. -/
def pdH (x : Vec Ideal S1x16 .f32) : Vec Ideal S1x128 .f32 :=
  pad S1x128 ![0, 0] ![0, 112] ![0, 0] (shapeCast S1x16 (shapeCast S16 x shapeCasts_S1x16_S16) shapeCasts_S16_S1x16) (sitofp (F := Ideal) .f32 (constantI S_ 32 0#32)) pads_S1x16_S1x128_000_01120 h_S_

theorem pdD_apply (x : Vec Ideal S4x2048x16 .f32) (R : Fin 8192) (h : Fin 128) : pdD x (ix2 R h) = if g : h.1 < 16 then x (ix3 (bt R) (tk R) ⟨h.1, g⟩) else 0 := by
  unfold pdD
  pointwise
  by_cases g : h.1 < 16
  · rw [dif_pos g, dif_pos (by omega)]
  · rw [dif_neg g, dif_neg (by omega)]; exact pad_zero

theorem pdH_apply (x : Vec Ideal S1x16 .f32) (h : Fin 128) : pdH x (ix2 0 h) = if g : h.1 < 16 then x (ix2 0 ⟨h.1, g⟩) else 0 := by
  unfold pdH
  pointwise
  by_cases g : h.1 < 16
  · rw [dif_pos g, dif_pos (by omega)]
  · rw [dif_neg g, dif_neg (by omega)]; exact pad_zero

theorem v2_eq (c : Dev nD) : (V m c main_v2 : Vec Ideal S8192x128 .f32) = pdD (m ((c : Thread nD τ).loc main_arg3)) := rfl
theorem v11_eq (c : Dev nD) : (V m c main_v11 : Vec Ideal S1x128 .f32) = pdH (m ((c : Thread nD τ).loc main_arg6)) := rfl
theorem v14_eq (c : Dev nD) : (V m c main_v14 : Vec Ideal S1x128 .f32) = pdH (m ((c : Thread nD τ).loc main_arg7)) := rfl

end Cert.KernelIdeal.Ssd
-- ==== Proof.SsdSeq.lean ====
/- A tile of two chunks is two steps of a sequence. -/
module

public import proofs.«01_k».proof.Proof.SsdSpec

@[expose] public section

set_option maxRecDepth 16384

noncomputable section

open Idealize.ShloMosaic Idealize.ShloMosaic.TcCoe Idealize.SL.Sem

namespace Cert.KernelIdeal.Ssd

open Cert.KernelIdeal Cert.KernelIdeal.Gen

section
variable (X W : ℕ → ℕ → ℝ) (Cb : ℕ → ℝ) (o : ℕ) (Hd : ℕ → ℕ → ℝ) (h : ∀ j, j < 3 → ∀ c, Hd j c = pdR X (o + j) c)
include h

theorem up_seq (r c : ℕ) : upR Hd (sh o X) r c = pdR X (o + r) c := by
  unfold upR
  by_cases g : r < 3
  · rw [if_pos g, h r g c]
  · rw [if_neg g]; unfold pdR sh; rw [if_neg (by omega), show o + (r - 3) = o + r - 3 by omega]

theorem cv_seq (a : ℕ) : sh a (cvR W Cb (upR Hd (sh o X))) = sh (o + a) (cvB X W Cb) := by
  funext l c
  unfold sh cvB cvR
  have e := up_seq X o Hd h
  unfold sh at e
  rw [e, e, e, e]
  simp only [← Nat.add_assoc]
end

theorem sh_sh (o a : ℕ) (f : ℕ → ℕ → ℝ) : sh a (sh o f) = sh (o + a) f := by
  funext l c; unfold sh; rw [Nat.add_assoc]

section
variable (X W D Z : ℕ → ℕ → ℝ) (Cb B A : ℕ → ℝ) (K N : ℕ → EReal) (t : ℕ) (Hd : ℕ → ℕ → ℝ) (h : ∀ j, j < 3 → ∀ c, Hd j c = pdR X (256 * t + j) c)
include h

theorem st_seq0 : stR (sh 0 (cvR W Cb (upR Hd (sh (256 * t) X)))) (sh 0 (sh (256 * t) D)) B A (stB (cvB X W Cb) D B A (2 * t)) = stB (cvB X W Cb) D B A (2 * t + 1) := by
  rw [cv_seq X W Cb _ Hd h, sh_sh]
  show _ = stR (sh (2 * t * 128) (cvB X W Cb)) (sh (2 * t * 128) D) B A (stB (cvB X W Cb) D B A (2 * t))
  rw [show 256 * t + 0 = 2 * t * 128 by omega]

theorem st_seq : stR (sh 128 (cvR W Cb (upR Hd (sh (256 * t) X)))) (sh 128 (sh (256 * t) D)) B A
      (stR (sh 0 (cvR W Cb (upR Hd (sh (256 * t) X)))) (sh 0 (sh (256 * t) D)) B A (stB (cvB X W Cb) D B A (2 * t))) = stB (cvB X W Cb) D B A (2 * t + 2) := by
  rw [st_seq0 X W D Cb B A t Hd h, cv_seq X W Cb _ Hd h, sh_sh]
  show _ = stR (sh ((2 * t + 1) * 128) (cvB X W Cb)) (sh ((2 * t + 1) * 128) D) B A (stB (cvB X W Cb) D B A (2 * t + 1))
  rw [show 256 * t + 128 = (2 * t + 1) * 128 by omega]

theorem rows_seq (r c : ℕ) (hr : r < 256) :
    (if r < 128 then ysR (sh 0 (cvR W Cb (upR Hd (sh (256 * t) X)))) (sh 0 (sh (256 * t) D)) B A (stB (cvB X W Cb) D B A (2 * t)) (sh 0 (sh (256 * t) Z)) K N r c
      else ysR (sh 128 (cvR W Cb (upR Hd (sh (256 * t) X)))) (sh 128 (sh (256 * t) D)) B A (stR (sh 0 (cvR W Cb (upR Hd (sh (256 * t) X)))) (sh 0 (sh (256 * t) D)) B A (stB (cvB X W Cb) D B A (2 * t)))
        (sh 128 (sh (256 * t) Z)) K N (r - 128) c) = ysB (cvB X W Cb) D B A Z K N (256 * t + r) c := by
  rw [st_seq0 X W D Cb B A t Hd h]
  unfold ysB
  by_cases g : r < 128
  · rw [if_pos g, cv_seq X W Cb _ Hd h, sh_sh, sh_sh, show (256 * t + r) / 128 = 2 * t by omega, show (256 * t + r) % 128 = r by omega, show 256 * t + 0 = 2 * t * 128 by omega]
  · rw [if_neg g, cv_seq X W Cb _ Hd h, sh_sh, sh_sh, show (256 * t + r) / 128 = 2 * t + 1 by omega, show (256 * t + r) % 128 = r - 128 by omega, show 256 * t + 128 = (2 * t + 1) * 128 by omega]
end

end Cert.KernelIdeal.Ssd
-- ==== Proof.SsdLd.lean ====
/- The blocks of the staged arrays that the mixer kernel loads, one name each. -/
module

public import Idealize.ShloMosaic.Lib.Pipeline.Value
public import proofs.«01_k».proof.Proof.Gen.KernelIdeal.Skeleton

@[expose] public section

noncomputable section

open Idealize.ShloMosaic Idealize.ShloMosaic.TcCoe Idealize.SL.Sem

namespace Cert.KernelIdeal.Ssd

open Cert.KernelIdeal Cert.KernelIdeal.Gen

variable {F : FTy → Type} [FloatOps F] [Named F]

/-- `S128x2048` of `S256x2048`, at `![0, 0]`. -/
abbrev ld256x2048_0 {b : Memref sig .tc .vmem S256x2048 .bf16} (g : b.IsWhole) (x : Vec F S256x2048 .bf16) := View.readAt (Elt F) b.view (Rect.unit (s := S256x2048) ![0, 0] S128x2048.size (by decide)).toLoadRect (g.unread x)
/-- `S128x2048` of `S256x2048`, at `![128, 0]`. -/
abbrev ld256x2048_128 {b : Memref sig .tc .vmem S256x2048 .bf16} (g : b.IsWhole) (x : Vec F S256x2048 .bf16) := View.readAt (Elt F) b.view (Rect.unit (s := S256x2048) ![128, 0] S128x2048.size (by decide)).toLoadRect (g.unread x)
/-- `S128x128` of `S256x128`, at `![0, 0]`. -/
abbrev ld256x128_0 {b : Memref sig .tc .vmem S256x128 .f32} (g : b.IsWhole) (x : Vec F S256x128 .f32) := View.readAt (Elt F) b.view (Rect.unit (s := S256x128) ![0, 0] S128x128.size (by decide)).toLoadRect (g.unread x)
/-- `S1x128` of `S1x128`, at `![0, 0]`. -/
abbrev ld1x128_0 {b : Memref sig .tc .vmem S1x128 .f32} (g : b.IsWhole) (x : Vec F S1x128 .f32) := View.readAt (Elt F) b.view (Rect.unit (s := S1x128) ![0, 0] S1x128.size (by decide)).toLoadRect (g.unread x)
/-- `S1x2048` of `S1x2048`, at `![0, 0]`. -/
abbrev ld1x2048_0 {b : Memref sig .tc .vmem S1x2048 .f32} (g : b.IsWhole) (x : Vec F S1x2048 .f32) := View.readAt (Elt F) b.view (Rect.unit (s := S1x2048) ![0, 0] S1x2048.size (by decide)).toLoadRect (g.unread x)
/-- `S1x2048` of `S4x2048`, at `![0, 0]`. -/
abbrev ld4x2048_0 {b : Memref sig .tc .vmem S4x2048 .f32} (g : b.IsWhole) (x : Vec F S4x2048 .f32) := View.readAt (Elt F) b.view (Rect.unit (s := S4x2048) ![0, 0] S1x2048.size (by decide)).toLoadRect (g.unread x)
/-- `S1x2048` of `S4x2048`, at `![1, 0]`. -/
abbrev ld4x2048_1 {b : Memref sig .tc .vmem S4x2048 .f32} (g : b.IsWhole) (x : Vec F S4x2048 .f32) := View.readAt (Elt F) b.view (Rect.unit (s := S4x2048) ![1, 0] S1x2048.size (by decide)).toLoadRect (g.unread x)
/-- `S1x2048` of `S4x2048`, at `![2, 0]`. -/
abbrev ld4x2048_2 {b : Memref sig .tc .vmem S4x2048 .f32} (g : b.IsWhole) (x : Vec F S4x2048 .f32) := View.readAt (Elt F) b.view (Rect.unit (s := S4x2048) ![2, 0] S1x2048.size (by decide)).toLoadRect (g.unread x)
/-- `S1x2048` of `S4x2048`, at `![3, 0]`. -/
abbrev ld4x2048_3 {b : Memref sig .tc .vmem S4x2048 .f32} (g : b.IsWhole) (x : Vec F S4x2048 .f32) := View.readAt (Elt F) b.view (Rect.unit (s := S4x2048) ![3, 0] S1x2048.size (by decide)).toLoadRect (g.unread x)
/-- `S1x1024` of `S1x1024`, at `![0, 0]`. -/
abbrev ld1x1024_0 {b : Memref sig .tc .vmem S1x1024 .f32} (g : b.IsWhole) (x : Vec F S1x1024 .f32) := View.readAt (Elt F) b.view (Rect.unit (s := S1x1024) ![0, 0] S1x1024.size (by decide)).toLoadRect (g.unread x)
/-- `S128x128` of `S256x128`, at `![128, 0]`. -/
abbrev ld256x128_128 {b : Memref sig .tc .vmem S256x128 .f32} (g : b.IsWhole) (x : Vec F S256x128 .f32) := View.readAt (Elt F) b.view (Rect.unit (s := S256x128) ![128, 0] S128x128.size (by decide)).toLoadRect (g.unread x)
/-- `S128x256` of `S128x1024`, at `![0, 0]`. -/
abbrev ld128x1024_0 {b : Memref sig .tc .vmem S128x1024 .f32} (g : b.IsWhole) (x : Vec F S128x1024 .f32) := View.readAt (Elt F) b.view (Rect.unit (s := S128x1024) ![0, 0] S128x256.size (by decide)).toLoadRect (g.unread x)
/-- `S128x256` of `S128x1024`, at `![0, 256]`. -/
abbrev ld128x1024_c256 {b : Memref sig .tc .vmem S128x1024 .f32} (g : b.IsWhole) (x : Vec F S128x1024 .f32) := View.readAt (Elt F) b.view (Rect.unit (s := S128x1024) ![0, 256] S128x256.size (by decide)).toLoadRect (g.unread x)
/-- `S128x256` of `S128x1024`, at `![0, 512]`. -/
abbrev ld128x1024_c512 {b : Memref sig .tc .vmem S128x1024 .f32} (g : b.IsWhole) (x : Vec F S128x1024 .f32) := View.readAt (Elt F) b.view (Rect.unit (s := S128x1024) ![0, 512] S128x256.size (by decide)).toLoadRect (g.unread x)
/-- `S128x256` of `S128x1024`, at `![0, 768]`. -/
abbrev ld128x1024_c768 {b : Memref sig .tc .vmem S128x1024 .f32} (g : b.IsWhole) (x : Vec F S128x1024 .f32) := View.readAt (Elt F) b.view (Rect.unit (s := S128x1024) ![0, 768] S128x256.size (by decide)).toLoadRect (g.unread x)
/-- `S128x1024` of `S256x1024`, at `![0, 0]`. -/
abbrev ld256x1024_0 {b : Memref sig .tc .vmem S256x1024 .bf16} (g : b.IsWhole) (x : Vec F S256x1024 .bf16) := View.readAt (Elt F) b.view (Rect.unit (s := S256x1024) ![0, 0] S128x1024.size (by decide)).toLoadRect (g.unread x)
/-- `S128x1024` of `S256x1024`, at `![128, 0]`. -/
abbrev ld256x1024_128 {b : Memref sig .tc .vmem S256x1024 .bf16} (g : b.IsWhole) (x : Vec F S256x1024 .bf16) := View.readAt (Elt F) b.view (Rect.unit (s := S256x1024) ![128, 0] S128x1024.size (by decide)).toLoadRect (g.unread x)

end Cert.KernelIdeal.Ssd
-- ==== Proof.SsdTile.lean ====
/- Loads, stores and the convolution's new rows of one tile of the mixer kernel, for the arrays the tile holds. -/
module

public import proofs.«01_k».proof.Proof.SsdLoad
public import proofs.«01_k».proof.Proof.SsdLd

@[expose] public section

set_option maxRecDepth 16384

noncomputable section

open Idealize.ShloMosaic Idealize.ShloMosaic.TcCoe Idealize.SL.Sem

namespace Cert.KernelIdeal.Ssd

open Cert.KernelIdeal Cert.KernelIdeal.Gen

section
variable {F : FTy → Type} [FloatOps F] [Named F]

/-- A store of `S128x1024` at `![0, 0]`. -/
abbrev pSt (w : Vec F S128x1024 .f32) : View.Piece (Elt F) S128x1024 .f32 := ⟨Rect.unit (s := S128x1024) ![0, 0] S128x1024.size (by decide), w⟩
/-- A store of `S8x2048` at `![0, 0]`. -/
abbrev pHd (w : Vec F S8x2048 .f32) : View.Piece (Elt F) S136x2048 .f32 := ⟨Rect.unit (s := S136x2048) ![0, 0] S8x2048.size (by decide), w⟩
/-- A store of `S128x2048` at `![8, 0]`. -/
abbrev pCr (w : Vec F S128x2048 .f32) : View.Piece (Elt F) S136x2048 .f32 := ⟨Rect.unit (s := S136x2048) ![8, 0] S128x2048.size (by decide), w⟩
/-- A store of `S128x256` at `![0, 0]`. -/
abbrev pS0 (w : Vec F S128x256 .f32) : View.Piece (Elt F) S128x1024 .f32 := ⟨Rect.unit (s := S128x1024) ![0, 0] S128x256.size (by decide), w⟩
/-- A store of `S128x256` at `![0, 256]`. -/
abbrev pS256 (w : Vec F S128x256 .f32) : View.Piece (Elt F) S128x1024 .f32 := ⟨Rect.unit (s := S128x1024) ![0, 256] S128x256.size (by decide), w⟩
/-- A store of `S128x256` at `![0, 512]`. -/
abbrev pS512 (w : Vec F S128x256 .f32) : View.Piece (Elt F) S128x1024 .f32 := ⟨Rect.unit (s := S128x1024) ![0, 512] S128x256.size (by decide), w⟩
/-- A store of `S128x256` at `![0, 768]`. -/
abbrev pS768 (w : Vec F S128x256 .f32) : View.Piece (Elt F) S128x1024 .f32 := ⟨Rect.unit (s := S128x1024) ![0, 768] S128x256.size (by decide), w⟩
/-- A load of `S128x256` at `![0, 0]`. -/
abbrev rS0 := (Rect.unit (s := S128x1024) ![0, 0] S128x256.size (by decide)).toLoadRect
/-- A load of `S128x256` at `![0, 256]`. -/
abbrev rS256 := (Rect.unit (s := S128x1024) ![0, 256] S128x256.size (by decide)).toLoadRect
/-- A load of `S128x256` at `![0, 512]`. -/
abbrev rS512 := (Rect.unit (s := S128x1024) ![0, 512] S128x256.size (by decide)).toLoadRect
/-- A load of `S128x256` at `![0, 768]`. -/
abbrev rS768 := (Rect.unit (s := S128x1024) ![0, 768] S128x256.size (by decide)).toLoadRect
/-- A load of `S128x2048` at `![5, 0]`. -/
abbrev rH5 := (Rect.unit (s := S136x2048) ![5, 0] S128x2048.size (by decide)).toLoadRect
/-- A load of `S128x2048` at `![6, 0]`. -/
abbrev rH6 := (Rect.unit (s := S136x2048) ![6, 0] S128x2048.size (by decide)).toLoadRect
/-- A load of `S128x2048` at `![7, 0]`. -/
abbrev rH7 := (Rect.unit (s := S136x2048) ![7, 0] S128x2048.size (by decide)).toLoadRect

end

/-- The state after a tile's first chunk, over the raw rows, -/
abbrev stO (Hd R D W : ℕ → ℕ → ℝ) (Cb B A : ℕ → ℝ) (S : ℕ → ℕ → ℝ) := stR (sh 0 (cvR W Cb (upR Hd R))) (sh 0 D) B A S
/-- and after its second. -/
abbrev stT (Hd R D W : ℕ → ℕ → ℝ) (Cb B A : ℕ → ℝ) (S : ℕ → ℕ → ℝ) := stR (sh 128 (cvR W Cb (upR Hd R))) (sh 128 D) B A (stO Hd R D W Cb B A S)

/-- The state's last store, where it holds the index. -/
def hitS := @cn_hit 128 1024 128 256
/-- The state's earlier stores, where the last does not hold the index. -/
def missS := @cn_miss 128 1024 128 256
/-- A quarter of the state, read back. -/
def covS := @cov 128 1024 128 256

section
variable {x0 : Vec Ideal S256x2048 .bf16} {x1 : Vec Ideal S256x1024 .bf16} {x2 : Vec Ideal S256x128 .f32} {x3 : Vec Ideal S4x2048 .f32} {x4 : Vec Ideal S1x2048 .f32}
  {x5 x6 : Vec Ideal S1x128 .f32} {x7 x8 : Vec Ideal S1x1024 .f32} {R D Z W : ℕ → ℕ → ℝ} {Cb B A : ℕ → ℝ} {K N : ℕ → EReal} (T : TileReal x0 x1 x2 x3 x4 x5 x6 x7 x8 R D Z W Cb B A K N)
include T

/-- One row of the taps. -/
theorem TileReal.lw {b : Memref sig .tc .vmem S4x2048 .f32} (g : b.IsWhole) (k : Fin 4) (c : Fin 2048) (inb : ∀ i, (![k.1, 0] : Fin 2 → ℕ) i + (![1, 2048] : Fin 2 → ℕ) i ≤ S4x2048.size i) :
    View.readAt (Elt Ideal) b.view (Rect.unit (s := S4x2048) ![k.1, 0] ![1, 2048] inb).toLoadRect (g.unread x3) (ix2 (0 : Fin 1) c) = (W k c : EReal) :=
  (rd (m := 4) (n := 2048) (a := 1) (b := 2048) b g x3 _ 0 c k c rfl (by omega)).trans (T.w k c)

/-- A chunk of the raw rows. -/
theorem TileReal.lr (o : ℕ) (h : o + 128 ≤ 256) {b : Memref sig .tc .vmem S256x2048 .bf16} (g : b.IsWhole) (inb) (l : Fin 128) (c : Fin 2048) :
    View.readAt (Elt Ideal) b.view (Rect.unit (s := S256x2048) ![o, 0] ![128, 2048] inb).toLoadRect (g.unread x0) (ix2 l c) = (R (o + l) c : EReal) :=
  (rd (m := 256) (n := 2048) (a := 128) (b := 2048) b g x0 _ l c ⟨o + l.1, by omega⟩ c rfl (by omega)).trans (T.raw _ c)

/-- The same as the kernel keeps it. -/
theorem TileReal.cur (o : ℕ) (h : o + 128 ≤ 256) {b : Memref sig .tc .vmem S256x2048 .bf16} (g : b.IsWhole) (inb) (l : Fin 128) (c : Fin 2048) :
    gCur (F := Ideal) (View.readAt (Elt Ideal) b.view (Rect.unit (s := S256x2048) ![o, 0] ![128, 2048] inb).toLoadRect (g.unread x0)) (ix2 l c) = (R (o + l) c : EReal) :=
  (cur_val _ l c).trans (T.lr o h g inb l c)

end

end Cert.KernelIdeal.Ssd
-- ==== Proof.SsdWordA.lean ====
/- The words that case A of the mixer kernel stores, as the steps of the scan. -/
module

public import Idealize.ShloMosaic.Lib.Pipeline.Value
public import Idealize.ShloMosaic.Lib.Tactic
public import proofs.«01_k».proof.Proof.SsdRunA
public import proofs.«01_k».proof.Proof.SsdStage
public import proofs.«01_k».proof.Proof.SsdLd

@[expose] public section

set_option maxRecDepth 16384

noncomputable section

open Idealize.ShloMosaic Idealize.ShloMosaic.TcCoe Idealize.SL.Sem

namespace Cert.KernelIdeal.Ssd

open Cert.KernelIdeal Cert.KernelIdeal.Gen

variable {F : FTy → Type} [FloatOps F] [Named F]
variable (c : Dev nD) (b1 : Memref sig .tc .vmem S256x2048 .bf16) (g1 : b1.IsWhole) (b2 : Memref sig .tc .vmem S256x1024 .bf16) (g2 : b2.IsWhole) (b3 : Memref sig .tc .vmem S256x128 .f32) (g3 : b3.IsWhole) (b4 : Memref sig .tc .vmem S4x2048 .f32) (g4 : b4.IsWhole) (b5 : Memref sig .tc .vmem S1x2048 .f32) (g5 : b5.IsWhole) (b6 : Memref sig .tc .vmem S1x128 .f32) (g6 : b6.IsWhole) (b7 : Memref sig .tc .vmem S1x128 .f32) (g7 : b7.IsWhole) (b8 : Memref sig .tc .vmem S1x1024 .f32) (g8 : b8.IsWhole) (b9 : Memref sig .tc .vmem S1x1024 .f32) (g9 : b9.IsWhole) (b18 : Memref sig .tc .vmem S136x2048 .f32) (b19 : Memref sig .tc .vmem S128x1024 .f32) (x0 : Vec F S256x2048 .bf16) (x1 : Vec F S256x1024 .bf16) (x2 : Vec F S256x128 .f32) (x3 : Vec F S4x2048 .f32) (x4 : Vec F S1x2048 .f32) (x5 : Vec F S1x128 .f32) (x6 : Vec F S1x128 .f32) (x7 : Vec F S1x1024 .f32) (x8 : Vec F S1x1024 .f32)

/-- Group 0's state after the tile's first chunk, as stored. -/
theorem A_state00 :
    (kernelRun0_A.sl.v201 c b1 g1 b3 g3 b4 g4 b5 g5 b6 g6 b7 g7 b18 b19 x0 x2 x3 x4 x5 x6) =
      cSt0 (ld256x2048_0 g1 x0) (ld256x128_0 g3 x2) (ld1x128_0 g6 x5) (ld1x128_0 g7 x6) (ld1x2048_0 g5 x4) (ld4x2048_0 g4 x3) (ld4x2048_1 g4 x3) (ld4x2048_2 g4 x3) (ld4x2048_3 g4 x3) (kernelRun0_A.sl.v88 c b1 g1 b18 x0) (kernelRun0_A.sl.v94 c b1 g1 b18 x0) (kernelRun0_A.sl.v100 c b1 g1 b18 x0) (kernelRun0_A.sl.v188 c b19) := rfl

/-- Group 1's state after the tile's first chunk, as stored. -/
theorem A_state01 :
    (kernelRun0_A.sl.v215 c b1 g1 b3 g3 b4 g4 b5 g5 b6 g6 b7 g7 b18 b19 x0 x2 x3 x4 x5 x6) =
      cSt1 (ld256x2048_0 g1 x0) (ld256x128_0 g3 x2) (ld1x128_0 g6 x5) (ld1x128_0 g7 x6) (ld1x2048_0 g5 x4) (ld4x2048_0 g4 x3) (ld4x2048_1 g4 x3) (ld4x2048_2 g4 x3) (ld4x2048_3 g4 x3) (kernelRun0_A.sl.v88 c b1 g1 b18 x0) (kernelRun0_A.sl.v94 c b1 g1 b18 x0) (kernelRun0_A.sl.v100 c b1 g1 b18 x0) (kernelRun0_A.sl.v202 c b1 g1 b3 g3 b4 g4 b5 g5 b6 g6 b7 g7 b18 b19 x0 x2 x3 x4 x5 x6) := rfl

/-- Group 2's state after the tile's first chunk, as stored. -/
theorem A_state02 :
    (kernelRun0_A.sl.v229 c b1 g1 b3 g3 b4 g4 b5 g5 b6 g6 b7 g7 b18 b19 x0 x2 x3 x4 x5 x6) =
      cSt2 (ld256x2048_0 g1 x0) (ld256x128_0 g3 x2) (ld1x128_0 g6 x5) (ld1x128_0 g7 x6) (ld1x2048_0 g5 x4) (ld4x2048_0 g4 x3) (ld4x2048_1 g4 x3) (ld4x2048_2 g4 x3) (ld4x2048_3 g4 x3) (kernelRun0_A.sl.v88 c b1 g1 b18 x0) (kernelRun0_A.sl.v94 c b1 g1 b18 x0) (kernelRun0_A.sl.v100 c b1 g1 b18 x0) (kernelRun0_A.sl.v216 c b1 g1 b3 g3 b4 g4 b5 g5 b6 g6 b7 g7 b18 b19 x0 x2 x3 x4 x5 x6) := rfl

/-- Group 3's state after the tile's first chunk, as stored. -/
theorem A_state03 :
    (kernelRun0_A.sl.v243 c b1 g1 b3 g3 b4 g4 b5 g5 b6 g6 b7 g7 b18 b19 x0 x2 x3 x4 x5 x6) =
      cSt3 (ld256x2048_0 g1 x0) (ld256x128_0 g3 x2) (ld1x128_0 g6 x5) (ld1x128_0 g7 x6) (ld1x2048_0 g5 x4) (ld4x2048_0 g4 x3) (ld4x2048_1 g4 x3) (ld4x2048_2 g4 x3) (ld4x2048_3 g4 x3) (kernelRun0_A.sl.v88 c b1 g1 b18 x0) (kernelRun0_A.sl.v94 c b1 g1 b18 x0) (kernelRun0_A.sl.v100 c b1 g1 b18 x0) (kernelRun0_A.sl.v230 c b1 g1 b3 g3 b4 g4 b5 g5 b6 g6 b7 g7 b18 b19 x0 x2 x3 x4 x5 x6) := rfl

/-- The first chunk's rows, as stored. -/
theorem A_ys0 :
    k0_pay90 (kernelRun0_A.sl.v472 c b1 g1 b2 g2 b3 g3 b4 g4 b5 g5 b6 g6 b7 g7 b8 g8 b18 b19 x0 x1 x2 x3 x4 x5 x6 x7) (kernelRun0_A.sl.v483 c b1 g1 b2 g2 b3 g3 b4 g4 b5 g5 b6 g6 b7 g7 b8 g8 b18 b19 x0 x1 x2 x3 x4 x5 x6 x7) (kernelRun0_A.sl.v494 c b1 g1 b2 g2 b3 g3 b4 g4 b5 g5 b6 g6 b7 g7 b8 g8 b18 b19 x0 x1 x2 x3 x4 x5 x6 x7) (kernelRun0_A.sl.v495 c b1 g1 b2 g2 b3 g3 b4 g4 b5 g5 b6 g6 b7 g7 b8 g8 b18 b19 x0 x1 x2 x3 x4 x5 x6 x7) (kernelRun0_A.sl.v500 c b1 g1 b2 g2 b3 g3 b4 g4 b5 g5 b6 g6 b7 g7 b8 g8 b18 b19 x0 x1 x2 x3 x4 x5 x6 x7) (ld1x1024_0 g9 x8) =
      cYs (ld256x2048_0 g1 x0) (ld256x128_0 g3 x2) (ld1x128_0 g6 x5) (ld1x128_0 g7 x6) (ld1x2048_0 g5 x4) (ld4x2048_0 g4 x3) (ld4x2048_1 g4 x3) (ld4x2048_2 g4 x3) (ld4x2048_3 g4 x3) (kernelRun0_A.sl.v88 c b1 g1 b18 x0) (kernelRun0_A.sl.v94 c b1 g1 b18 x0) (kernelRun0_A.sl.v100 c b1 g1 b18 x0) (ld256x1024_0 g2 x1) (ld1x1024_0 g8 x7) (ld1x1024_0 g9 x8) (kernelRun0_A.sl.v188 c b19) (kernelRun0_A.sl.v202 c b1 g1 b3 g3 b4 g4 b5 g5 b6 g6 b7 g7 b18 b19 x0 x2 x3 x4 x5 x6) (kernelRun0_A.sl.v216 c b1 g1 b3 g3 b4 g4 b5 g5 b6 g6 b7 g7 b18 b19 x0 x2 x3 x4 x5 x6) (kernelRun0_A.sl.v230 c b1 g1 b3 g3 b4 g4 b5 g5 b6 g6 b7 g7 b18 b19 x0 x2 x3 x4 x5 x6) := rfl

/-- Group 0's state after the tile's second chunk, as stored. -/
theorem A_state10 :
    (kernelRun0_A.sl.v691 c b1 g1 b3 g3 b4 g4 b5 g5 b6 g6 b7 g7 b18 b19 x0 x2 x3 x4 x5 x6) =
      cSt0 (ld256x2048_128 g1 x0) (ld256x128_128 g3 x2) (ld1x128_0 g6 x5) (ld1x128_0 g7 x6) (ld1x2048_0 g5 x4) (ld4x2048_0 g4 x3) (ld4x2048_1 g4 x3) (ld4x2048_2 g4 x3) (ld4x2048_3 g4 x3) (kernelRun0_A.sl.v578 c b1 g1 b18 x0) (kernelRun0_A.sl.v584 c b1 g1 b18 x0) (kernelRun0_A.sl.v590 c b1 g1 b18 x0) (kernelRun0_A.sl.v678 c b1 g1 b3 g3 b4 g4 b5 g5 b6 g6 b7 g7 b18 b19 x0 x2 x3 x4 x5 x6) := rfl

/-- Group 1's state after the tile's second chunk, as stored. -/
theorem A_state11 :
    (kernelRun0_A.sl.v705 c b1 g1 b3 g3 b4 g4 b5 g5 b6 g6 b7 g7 b18 b19 x0 x2 x3 x4 x5 x6) =
      cSt1 (ld256x2048_128 g1 x0) (ld256x128_128 g3 x2) (ld1x128_0 g6 x5) (ld1x128_0 g7 x6) (ld1x2048_0 g5 x4) (ld4x2048_0 g4 x3) (ld4x2048_1 g4 x3) (ld4x2048_2 g4 x3) (ld4x2048_3 g4 x3) (kernelRun0_A.sl.v578 c b1 g1 b18 x0) (kernelRun0_A.sl.v584 c b1 g1 b18 x0) (kernelRun0_A.sl.v590 c b1 g1 b18 x0) (kernelRun0_A.sl.v692 c b1 g1 b3 g3 b4 g4 b5 g5 b6 g6 b7 g7 b18 b19 x0 x2 x3 x4 x5 x6) := rfl

/-- Group 2's state after the tile's second chunk, as stored. -/
theorem A_state12 :
    (kernelRun0_A.sl.v719 c b1 g1 b3 g3 b4 g4 b5 g5 b6 g6 b7 g7 b18 b19 x0 x2 x3 x4 x5 x6) =
      cSt2 (ld256x2048_128 g1 x0) (ld256x128_128 g3 x2) (ld1x128_0 g6 x5) (ld1x128_0 g7 x6) (ld1x2048_0 g5 x4) (ld4x2048_0 g4 x3) (ld4x2048_1 g4 x3) (ld4x2048_2 g4 x3) (ld4x2048_3 g4 x3) (kernelRun0_A.sl.v578 c b1 g1 b18 x0) (kernelRun0_A.sl.v584 c b1 g1 b18 x0) (kernelRun0_A.sl.v590 c b1 g1 b18 x0) (kernelRun0_A.sl.v706 c b1 g1 b3 g3 b4 g4 b5 g5 b6 g6 b7 g7 b18 b19 x0 x2 x3 x4 x5 x6) := rfl

/-- Group 3's state after the tile's second chunk, as stored. -/
theorem A_state13 :
    (kernelRun0_A.sl.v733 c b1 g1 b3 g3 b4 g4 b5 g5 b6 g6 b7 g7 b18 b19 x0 x2 x3 x4 x5 x6) =
      cSt3 (ld256x2048_128 g1 x0) (ld256x128_128 g3 x2) (ld1x128_0 g6 x5) (ld1x128_0 g7 x6) (ld1x2048_0 g5 x4) (ld4x2048_0 g4 x3) (ld4x2048_1 g4 x3) (ld4x2048_2 g4 x3) (ld4x2048_3 g4 x3) (kernelRun0_A.sl.v578 c b1 g1 b18 x0) (kernelRun0_A.sl.v584 c b1 g1 b18 x0) (kernelRun0_A.sl.v590 c b1 g1 b18 x0) (kernelRun0_A.sl.v720 c b1 g1 b3 g3 b4 g4 b5 g5 b6 g6 b7 g7 b18 b19 x0 x2 x3 x4 x5 x6) := rfl

/-- The second chunk's rows, as stored. -/
theorem A_ys1 :
    k0_pay3 (kernelRun0_A.sl.r_11 c b1 g1 b2 g2 b3 g3 b4 g4 b5 g5 b6 g6 b7 g7 b8 g8 b9 g9 b18 b19 x0 x1 x2 x3 x4 x5 x6 x7 x8) =
      cYs (ld256x2048_128 g1 x0) (ld256x128_128 g3 x2) (ld1x128_0 g6 x5) (ld1x128_0 g7 x6) (ld1x2048_0 g5 x4) (ld4x2048_0 g4 x3) (ld4x2048_1 g4 x3) (ld4x2048_2 g4 x3) (ld4x2048_3 g4 x3) (kernelRun0_A.sl.v578 c b1 g1 b18 x0) (kernelRun0_A.sl.v584 c b1 g1 b18 x0) (kernelRun0_A.sl.v590 c b1 g1 b18 x0) (ld256x1024_128 g2 x1) (ld1x1024_0 g8 x7) (ld1x1024_0 g9 x8) (kernelRun0_A.sl.v678 c b1 g1 b3 g3 b4 g4 b5 g5 b6 g6 b7 g7 b18 b19 x0 x2 x3 x4 x5 x6) (kernelRun0_A.sl.v692 c b1 g1 b3 g3 b4 g4 b5 g5 b6 g6 b7 g7 b18 b19 x0 x2 x3 x4 x5 x6) (kernelRun0_A.sl.v706 c b1 g1 b3 g3 b4 g4 b5 g5 b6 g6 b7 g7 b18 b19 x0 x2 x3 x4 x5 x6) (kernelRun0_A.sl.v720 c b1 g1 b3 g3 b4 g4 b5 g5 b6 g6 b7 g7 b18 b19 x0 x2 x3 x4 x5 x6) := rfl

end Cert.KernelIdeal.Ssd
-- ==== Proof.SsdTileA.lean ====
/- What case A of the mixer kernel carries to the next tile: the convolution's history, the state and the rows. -/
module

public import proofs.«01_k».proof.Proof.SsdTile
public import proofs.«01_k».proof.Proof.SsdWordA
public import proofs.«01_k».proof.Proof.SsdOuts

@[expose] public section

set_option maxRecDepth 16384

noncomputable section

open Idealize.ShloMosaic Idealize.ShloMosaic.TcCoe Idealize.SL.Sem

namespace Cert.KernelIdeal.Ssd

open Cert.KernelIdeal Cert.KernelIdeal.Gen

section
variable {F : FTy → Type} [FloatOps F] [Named F]
variable {c : Dev nD} {b1 : Memref sig .tc .vmem S256x2048 .bf16} {g1 : b1.IsWhole} {b2 : Memref sig .tc .vmem S256x1024 .bf16} {g2 : b2.IsWhole} {b3 : Memref sig .tc .vmem S256x128 .f32} {g3 : b3.IsWhole} {b4 : Memref sig .tc .vmem S4x2048 .f32} {g4 : b4.IsWhole} {b5 : Memref sig .tc .vmem S1x2048 .f32} {g5 : b5.IsWhole} {b6 : Memref sig .tc .vmem S1x128 .f32} {g6 : b6.IsWhole} {b7 : Memref sig .tc .vmem S1x128 .f32} {g7 : b7.IsWhole} {b8 : Memref sig .tc .vmem S1x1024 .f32} {g8 : b8.IsWhole} {b9 : Memref sig .tc .vmem S1x1024 .f32} {g9 : b9.IsWhole} {b10 : Memref sig .tc .vmem S256x2048 .f32} {g10 : b10.IsWhole} {b11 : Memref sig .tc .vmem S256x1024 .bf16} {g11 : b11.IsWhole} {b12 : Memref sig .tc .vmem S2048x2048 .bf16} {g12 : b12.IsWhole} {b13 : Memref sig .tc .vmem S1x2048 .f32} {g13 : b13.IsWhole} {b14 : Memref sig .tc .vmem S256x2048 .f32} {g14 : b14.IsWhole} {b15 : Memref sig .tc .vmem S256x2048 .f32} {g15 : b15.IsWhole} {b16 : Memref sig .tc .vmem S256x2048 .bf16} {g16 : b16.IsWhole} {b17 : Memref sig .tc .vmem S256x2048 .bf16} {g17 : b17.IsWhole} {b18 : Memref sig .tc .vmem S136x2048 .f32} {g18 : b18.IsWhole} {b19 : Memref sig .tc .vmem S128x1024 .f32} {g19 : b19.IsWhole} {b20 : Memref sig .tc .vmem S256x1024 .bf16} {g20 : b20.IsWhole} {b21 : Memref sig .tc .vmem S256x1024 .bf16} {g21 : b21.IsWhole} {x0 : Vec F S256x2048 .bf16} {x1 : Vec F S256x1024 .bf16} {x2 : Vec F S256x128 .f32} {x3 : Vec F S4x2048 .f32} {x4 : Vec F S1x2048 .f32} {x5 : Vec F S1x128 .f32} {x6 : Vec F S1x128 .f32} {x7 : Vec F S1x1024 .f32} {x8 : Vec F S1x1024 .f32} {x9 : Vec F S256x2048 .f32} {x10 : Vec F S256x1024 .bf16} {x11 : Vec F S2048x2048 .bf16} {x12 : Vec F S1x2048 .f32} {x13 : Vec F S256x2048 .f32}

theorem A_t00 : (kernelRun0_A.sl.v88 c b1 g1 b18 x0) = b18.view.readCov ((pCr (gCur (ld256x2048_0 g1 x0))) :: (pHd (k0_pay1 (F := F))) :: []) rH5 := rfl

theorem A_t01 : (kernelRun0_A.sl.v94 c b1 g1 b18 x0) = b18.view.readCov ((pCr (gCur (ld256x2048_0 g1 x0))) :: (pHd (k0_pay1 (F := F))) :: []) rH6 := rfl

theorem A_t02 : (kernelRun0_A.sl.v100 c b1 g1 b18 x0) = b18.view.readCov ((pCr (gCur (ld256x2048_0 g1 x0))) :: (pHd (k0_pay1 (F := F))) :: []) rH7 := rfl

theorem A_sl00 : (kernelRun0_A.sl.v188 c b19) = b19.view.readCov ((pSt (k0_pay2 (F := F))) :: []) rS0 := rfl

theorem A_sl01 : (kernelRun0_A.sl.v202 c b1 g1 b3 g3 b4 g4 b5 g5 b6 g6 b7 g7 b18 b19 x0 x2 x3 x4 x5 x6) = b19.view.readCov ((pS0 (kernelRun0_A.sl.v201 c b1 g1 b3 g3 b4 g4 b5 g5 b6 g6 b7 g7 b18 b19 x0 x2 x3 x4 x5 x6)) :: (pSt k0_pay2) :: []) rS256 := rfl

theorem A_sl02 : (kernelRun0_A.sl.v216 c b1 g1 b3 g3 b4 g4 b5 g5 b6 g6 b7 g7 b18 b19 x0 x2 x3 x4 x5 x6) = b19.view.readCov ((pS256 (kernelRun0_A.sl.v215 c b1 g1 b3 g3 b4 g4 b5 g5 b6 g6 b7 g7 b18 b19 x0 x2 x3 x4 x5 x6)) :: (pS0 (kernelRun0_A.sl.v201 c b1 g1 b3 g3 b4 g4 b5 g5 b6 g6 b7 g7 b18 b19 x0 x2 x3 x4 x5 x6)) :: (pSt k0_pay2) :: []) rS512 := rfl

theorem A_sl03 : (kernelRun0_A.sl.v230 c b1 g1 b3 g3 b4 g4 b5 g5 b6 g6 b7 g7 b18 b19 x0 x2 x3 x4 x5 x6) = b19.view.readCov ((pS512 (kernelRun0_A.sl.v229 c b1 g1 b3 g3 b4 g4 b5 g5 b6 g6 b7 g7 b18 b19 x0 x2 x3 x4 x5 x6)) :: (pS256 (kernelRun0_A.sl.v215 c b1 g1 b3 g3 b4 g4 b5 g5 b6 g6 b7 g7 b18 b19 x0 x2 x3 x4 x5 x6)) :: (pS0 (kernelRun0_A.sl.v201 c b1 g1 b3 g3 b4 g4 b5 g5 b6 g6 b7 g7 b18 b19 x0 x2 x3 x4 x5 x6)) :: (pSt k0_pay2) :: []) rS768 := rfl

theorem A_t10 : (kernelRun0_A.sl.v578 c b1 g1 b18 x0) = b18.view.readCov ((pCr (gCur (ld256x2048_128 g1 x0))) :: (pHd (gHead (ld256x2048_0 g1 x0))) :: (pCr (gCur (ld256x2048_0 g1 x0))) :: (pHd k0_pay1) :: []) rH5 := rfl

theorem A_t11 : (kernelRun0_A.sl.v584 c b1 g1 b18 x0) = b18.view.readCov ((pCr (gCur (ld256x2048_128 g1 x0))) :: (pHd (gHead (ld256x2048_0 g1 x0))) :: (pCr (gCur (ld256x2048_0 g1 x0))) :: (pHd k0_pay1) :: []) rH6 := rfl

theorem A_t12 : (kernelRun0_A.sl.v590 c b1 g1 b18 x0) = b18.view.readCov ((pCr (gCur (ld256x2048_128 g1 x0))) :: (pHd (gHead (ld256x2048_0 g1 x0))) :: (pCr (gCur (ld256x2048_0 g1 x0))) :: (pHd k0_pay1) :: []) rH7 := rfl

theorem A_sl10 : (kernelRun0_A.sl.v678 c b1 g1 b3 g3 b4 g4 b5 g5 b6 g6 b7 g7 b18 b19 x0 x2 x3 x4 x5 x6) = b19.view.readCov ((pS768 (kernelRun0_A.sl.v243 c b1 g1 b3 g3 b4 g4 b5 g5 b6 g6 b7 g7 b18 b19 x0 x2 x3 x4 x5 x6)) :: (pS512 (kernelRun0_A.sl.v229 c b1 g1 b3 g3 b4 g4 b5 g5 b6 g6 b7 g7 b18 b19 x0 x2 x3 x4 x5 x6)) :: (pS256 (kernelRun0_A.sl.v215 c b1 g1 b3 g3 b4 g4 b5 g5 b6 g6 b7 g7 b18 b19 x0 x2 x3 x4 x5 x6)) :: (pS0 (kernelRun0_A.sl.v201 c b1 g1 b3 g3 b4 g4 b5 g5 b6 g6 b7 g7 b18 b19 x0 x2 x3 x4 x5 x6)) :: (pSt k0_pay2) :: []) rS0 := rfl

theorem A_sl11 : (kernelRun0_A.sl.v692 c b1 g1 b3 g3 b4 g4 b5 g5 b6 g6 b7 g7 b18 b19 x0 x2 x3 x4 x5 x6) = b19.view.readCov ((pS0 (kernelRun0_A.sl.v691 c b1 g1 b3 g3 b4 g4 b5 g5 b6 g6 b7 g7 b18 b19 x0 x2 x3 x4 x5 x6)) :: (pS768 (kernelRun0_A.sl.v243 c b1 g1 b3 g3 b4 g4 b5 g5 b6 g6 b7 g7 b18 b19 x0 x2 x3 x4 x5 x6)) :: (pS512 (kernelRun0_A.sl.v229 c b1 g1 b3 g3 b4 g4 b5 g5 b6 g6 b7 g7 b18 b19 x0 x2 x3 x4 x5 x6)) :: (pS256 (kernelRun0_A.sl.v215 c b1 g1 b3 g3 b4 g4 b5 g5 b6 g6 b7 g7 b18 b19 x0 x2 x3 x4 x5 x6)) :: (pS0 (kernelRun0_A.sl.v201 c b1 g1 b3 g3 b4 g4 b5 g5 b6 g6 b7 g7 b18 b19 x0 x2 x3 x4 x5 x6)) :: (pSt k0_pay2) :: []) rS256 := rfl

theorem A_sl12 : (kernelRun0_A.sl.v706 c b1 g1 b3 g3 b4 g4 b5 g5 b6 g6 b7 g7 b18 b19 x0 x2 x3 x4 x5 x6) = b19.view.readCov ((pS256 (kernelRun0_A.sl.v705 c b1 g1 b3 g3 b4 g4 b5 g5 b6 g6 b7 g7 b18 b19 x0 x2 x3 x4 x5 x6)) :: (pS0 (kernelRun0_A.sl.v691 c b1 g1 b3 g3 b4 g4 b5 g5 b6 g6 b7 g7 b18 b19 x0 x2 x3 x4 x5 x6)) :: (pS768 (kernelRun0_A.sl.v243 c b1 g1 b3 g3 b4 g4 b5 g5 b6 g6 b7 g7 b18 b19 x0 x2 x3 x4 x5 x6)) :: (pS512 (kernelRun0_A.sl.v229 c b1 g1 b3 g3 b4 g4 b5 g5 b6 g6 b7 g7 b18 b19 x0 x2 x3 x4 x5 x6)) :: (pS256 (kernelRun0_A.sl.v215 c b1 g1 b3 g3 b4 g4 b5 g5 b6 g6 b7 g7 b18 b19 x0 x2 x3 x4 x5 x6)) :: (pS0 (kernelRun0_A.sl.v201 c b1 g1 b3 g3 b4 g4 b5 g5 b6 g6 b7 g7 b18 b19 x0 x2 x3 x4 x5 x6)) :: (pSt k0_pay2) :: []) rS512 := rfl

theorem A_sl13 : (kernelRun0_A.sl.v720 c b1 g1 b3 g3 b4 g4 b5 g5 b6 g6 b7 g7 b18 b19 x0 x2 x3 x4 x5 x6) = b19.view.readCov ((pS512 (kernelRun0_A.sl.v719 c b1 g1 b3 g3 b4 g4 b5 g5 b6 g6 b7 g7 b18 b19 x0 x2 x3 x4 x5 x6)) :: (pS256 (kernelRun0_A.sl.v705 c b1 g1 b3 g3 b4 g4 b5 g5 b6 g6 b7 g7 b18 b19 x0 x2 x3 x4 x5 x6)) :: (pS0 (kernelRun0_A.sl.v691 c b1 g1 b3 g3 b4 g4 b5 g5 b6 g6 b7 g7 b18 b19 x0 x2 x3 x4 x5 x6)) :: (pS768 (kernelRun0_A.sl.v243 c b1 g1 b3 g3 b4 g4 b5 g5 b6 g6 b7 g7 b18 b19 x0 x2 x3 x4 x5 x6)) :: (pS512 (kernelRun0_A.sl.v229 c b1 g1 b3 g3 b4 g4 b5 g5 b6 g6 b7 g7 b18 b19 x0 x2 x3 x4 x5 x6)) :: (pS256 (kernelRun0_A.sl.v215 c b1 g1 b3 g3 b4 g4 b5 g5 b6 g6 b7 g7 b18 b19 x0 x2 x3 x4 x5 x6)) :: (pS0 (kernelRun0_A.sl.v201 c b1 g1 b3 g3 b4 g4 b5 g5 b6 g6 b7 g7 b18 b19 x0 x2 x3 x4 x5 x6)) :: (pSt k0_pay2) :: []) rS768 := rfl

end

variable {c : Dev nD} {b1 : Memref sig .tc .vmem S256x2048 .bf16} {g1 : b1.IsWhole} {b2 : Memref sig .tc .vmem S256x1024 .bf16} {g2 : b2.IsWhole} {b3 : Memref sig .tc .vmem S256x128 .f32} {g3 : b3.IsWhole} {b4 : Memref sig .tc .vmem S4x2048 .f32} {g4 : b4.IsWhole} {b5 : Memref sig .tc .vmem S1x2048 .f32} {g5 : b5.IsWhole} {b6 : Memref sig .tc .vmem S1x128 .f32} {g6 : b6.IsWhole} {b7 : Memref sig .tc .vmem S1x128 .f32} {g7 : b7.IsWhole} {b8 : Memref sig .tc .vmem S1x1024 .f32} {g8 : b8.IsWhole} {b9 : Memref sig .tc .vmem S1x1024 .f32} {g9 : b9.IsWhole} {b10 : Memref sig .tc .vmem S256x2048 .f32} {g10 : b10.IsWhole} {b11 : Memref sig .tc .vmem S256x1024 .bf16} {g11 : b11.IsWhole} {b12 : Memref sig .tc .vmem S2048x2048 .bf16} {g12 : b12.IsWhole} {b13 : Memref sig .tc .vmem S1x2048 .f32} {g13 : b13.IsWhole} {b14 : Memref sig .tc .vmem S256x2048 .f32} {g14 : b14.IsWhole} {b15 : Memref sig .tc .vmem S256x2048 .f32} {g15 : b15.IsWhole} {b16 : Memref sig .tc .vmem S256x2048 .bf16} {g16 : b16.IsWhole} {b17 : Memref sig .tc .vmem S256x2048 .bf16} {g17 : b17.IsWhole} {b18 : Memref sig .tc .vmem S136x2048 .f32} {g18 : b18.IsWhole} {b19 : Memref sig .tc .vmem S128x1024 .f32} {g19 : b19.IsWhole} {b20 : Memref sig .tc .vmem S256x1024 .bf16} {g20 : b20.IsWhole} {b21 : Memref sig .tc .vmem S256x1024 .bf16} {g21 : b21.IsWhole} {x0 : Vec Ideal S256x2048 .bf16} {x1 : Vec Ideal S256x1024 .bf16} {x2 : Vec Ideal S256x128 .f32} {x3 : Vec Ideal S4x2048 .f32} {x4 : Vec Ideal S1x2048 .f32} {x5 : Vec Ideal S1x128 .f32} {x6 : Vec Ideal S1x128 .f32} {x7 : Vec Ideal S1x1024 .f32} {x8 : Vec Ideal S1x1024 .f32} {x9 : Vec Ideal S256x2048 .f32} {x10 : Vec Ideal S256x1024 .bf16} {x11 : Vec Ideal S2048x2048 .bf16} {x12 : Vec Ideal S1x2048 .f32} {x13 : Vec Ideal S256x2048 .f32}
  {R D Z W : ℕ → ℕ → ℝ} {Cb B A : ℕ → ℝ} {K N : ℕ → EReal} (T : TileReal x0 x1 x2 x3 x4 x5 x6 x7 x8 R D Z W Cb B A K N)
include T

/-- The first chunk's arrays. -/
theorem A_in0 : ChunkReal (ld256x2048_0 g1 x0) (ld256x128_0 g3 x2) (ld1x128_0 g6 x5) (ld1x128_0 g7 x6) (ld1x2048_0 g5 x4) (ld4x2048_0 g4 x3) (ld4x2048_1 g4 x3) (ld4x2048_2 g4 x3) (ld4x2048_3 g4 x3) (kernelRun0_A.sl.v88 c b1 g1 b18 x0) (kernelRun0_A.sl.v94 c b1 g1 b18 x0) (kernelRun0_A.sl.v100 c b1 g1 b18 x0) (sh 0 (cvR W Cb (upR (fun _ _ => 0) R))) (sh 0 D) B A where
  hv := fun l c => by
    refine conv_sum ((rd (m := 1) (n := 2048) (a := 1) (b := 2048) b5 g5 x4 _ 0 c 0 c rfl (by omega)).trans (T.cb c)) (T.lw g4 3 c _) ?_ (T.lw g4 0 c _) ((congrFun A_t00 (ix2 l c)).trans (tap (o := 0) (gCur (ld256x2048_0 g1 x0)) (k0_pay1 (F := Ideal)) _ (fun _ _ => 0) R (T.cur 0 (by omega) g1 _) (zero_hist R) l c 0 rfl (by omega)))
      (T.lw g4 1 c _) ((congrFun A_t01 (ix2 l c)).trans (tap (o := 0) (gCur (ld256x2048_0 g1 x0)) (k0_pay1 (F := Ideal)) _ (fun _ _ => 0) R (T.cur 0 (by omega) g1 _) (zero_hist R) l c 1 rfl (by omega))) (T.lw g4 2 c _) ((congrFun A_t02 (ix2 l c)).trans (tap (o := 0) (gCur (ld256x2048_0 g1 x0)) (k0_pay1 (F := Ideal)) _ (fun _ _ => 0) R (T.cur 0 (by omega) g1 _) (zero_hist R) l c 2 rfl (by omega)))
    refine (T.lr 0 (by omega) g1 _ l c).trans ?_
    unfold upR
    rw [if_neg (by omega), Nat.add_sub_cancel]
  hd := fun l h => (rd (m := 256) (n := 128) (a := 128) (b := 128) b3 g3 x2 _ l h ⟨0 + l.1, by omega⟩ h rfl (by omega)).trans (T.d _ h)
  hb := fun c => (rd (m := 1) (n := 128) (a := 1) (b := 128) b6 g6 x5 _ 0 c 0 c rfl (by omega)).trans (T.b c)
  ha := fun c => (rd (m := 1) (n := 128) (a := 1) (b := 128) b7 g7 x6 _ 0 c 0 c rfl (by omega)).trans (T.a c)

theorem A_l00 : ∀ (n : Fin 128) (q : Fin 256), ((kernelRun0_A.sl.v188 c b19) : Vec Ideal S128x256 .f32) (ix2 n q) = ((fun _ _ => 0) n (0 + q) : EReal) :=
  by
  intro n c
  refine (congrFun A_sl00 (ix2 n c)).trans ?_
  refine (covS n c n ⟨0 + c.1, by omega⟩ (by omega) rfl).trans ?_
  exact (cn_hit (m := 128) (n := 1024) (a := 128) (b := 1024) _ _ n ⟨0 + c.1, by omega⟩ (by omega) (by first | omega | (dsimp only; omega))).trans (zero_state n _)
theorem A_s00 (n : Fin 128) (c' : Fin 256) : ((kernelRun0_A.sl.v201 c b1 g1 b3 g3 b4 g4 b5 g5 b6 g6 b7 g7 b18 b19 x0 x2 x3 x4 x5 x6) : Vec Ideal S128x256 .f32) (ix2 n c') = ((stO (fun _ _ => 0) R D W Cb B A (fun _ _ => 0)) n (0 + c') : EReal) :=
  (congrFun (A_state00 (F := Ideal) _ _ _ _ _ _ _ _ _ _ _ _ _ _ _ _ _ _ _ _ _) _).trans (st0_c (A_in0 T) _ _ (A_l00 T) n c')

theorem A_l01 : ∀ (n : Fin 128) (q : Fin 256), ((kernelRun0_A.sl.v202 c b1 g1 b3 g3 b4 g4 b5 g5 b6 g6 b7 g7 b18 b19 x0 x2 x3 x4 x5 x6) : Vec Ideal S128x256 .f32) (ix2 n q) = ((fun _ _ => 0) n (256 + q) : EReal) :=
  by
  intro n c
  refine (congrFun A_sl01 (ix2 n c)).trans ?_
  refine (covS n c n ⟨256 + c.1, by omega⟩ (by omega) rfl).trans ?_
  refine (missS _ _ (by first | omega | (dsimp only; omega))).trans ?_
  exact (cn_hit (m := 128) (n := 1024) (a := 128) (b := 1024) _ _ n ⟨256 + c.1, by omega⟩ (by omega) (by first | omega | (dsimp only; omega))).trans (zero_state n _)
theorem A_s01 (n : Fin 128) (c' : Fin 256) : ((kernelRun0_A.sl.v215 c b1 g1 b3 g3 b4 g4 b5 g5 b6 g6 b7 g7 b18 b19 x0 x2 x3 x4 x5 x6) : Vec Ideal S128x256 .f32) (ix2 n c') = ((stO (fun _ _ => 0) R D W Cb B A (fun _ _ => 0)) n (256 + c') : EReal) :=
  (congrFun (A_state01 (F := Ideal) _ _ _ _ _ _ _ _ _ _ _ _ _ _ _ _ _ _ _ _ _) _).trans (st1_c (A_in0 T) _ _ (A_l01 T) n c')

theorem A_l02 : ∀ (n : Fin 128) (q : Fin 256), ((kernelRun0_A.sl.v216 c b1 g1 b3 g3 b4 g4 b5 g5 b6 g6 b7 g7 b18 b19 x0 x2 x3 x4 x5 x6) : Vec Ideal S128x256 .f32) (ix2 n q) = ((fun _ _ => 0) n (512 + q) : EReal) :=
  by
  intro n c
  refine (congrFun A_sl02 (ix2 n c)).trans ?_
  refine (covS n c n ⟨512 + c.1, by omega⟩ (by omega) rfl).trans ?_
  refine (missS _ _ (by first | omega | (dsimp only; omega))).trans ?_
  refine (missS _ _ (by first | omega | (dsimp only; omega))).trans ?_
  exact (cn_hit (m := 128) (n := 1024) (a := 128) (b := 1024) _ _ n ⟨512 + c.1, by omega⟩ (by omega) (by first | omega | (dsimp only; omega))).trans (zero_state n _)
theorem A_s02 (n : Fin 128) (c' : Fin 256) : ((kernelRun0_A.sl.v229 c b1 g1 b3 g3 b4 g4 b5 g5 b6 g6 b7 g7 b18 b19 x0 x2 x3 x4 x5 x6) : Vec Ideal S128x256 .f32) (ix2 n c') = ((stO (fun _ _ => 0) R D W Cb B A (fun _ _ => 0)) n (512 + c') : EReal) :=
  (congrFun (A_state02 (F := Ideal) _ _ _ _ _ _ _ _ _ _ _ _ _ _ _ _ _ _ _ _ _) _).trans (st2_c (A_in0 T) _ _ (A_l02 T) n c')

theorem A_l03 : ∀ (n : Fin 128) (q : Fin 256), ((kernelRun0_A.sl.v230 c b1 g1 b3 g3 b4 g4 b5 g5 b6 g6 b7 g7 b18 b19 x0 x2 x3 x4 x5 x6) : Vec Ideal S128x256 .f32) (ix2 n q) = ((fun _ _ => 0) n (768 + q) : EReal) :=
  by
  intro n c
  refine (congrFun A_sl03 (ix2 n c)).trans ?_
  refine (covS n c n ⟨768 + c.1, by omega⟩ (by omega) rfl).trans ?_
  refine (missS _ _ (by first | omega | (dsimp only; omega))).trans ?_
  refine (missS _ _ (by first | omega | (dsimp only; omega))).trans ?_
  refine (missS _ _ (by first | omega | (dsimp only; omega))).trans ?_
  exact (cn_hit (m := 128) (n := 1024) (a := 128) (b := 1024) _ _ n ⟨768 + c.1, by omega⟩ (by omega) (by first | omega | (dsimp only; omega))).trans (zero_state n _)
theorem A_s03 (n : Fin 128) (c' : Fin 256) : ((kernelRun0_A.sl.v243 c b1 g1 b3 g3 b4 g4 b5 g5 b6 g6 b7 g7 b18 b19 x0 x2 x3 x4 x5 x6) : Vec Ideal S128x256 .f32) (ix2 n c') = ((stO (fun _ _ => 0) R D W Cb B A (fun _ _ => 0)) n (768 + c') : EReal) :=
  (congrFun (A_state03 (F := Ideal) _ _ _ _ _ _ _ _ _ _ _ _ _ _ _ _ _ _ _ _ _) _).trans (st3_c (A_in0 T) _ _ (A_l03 T) n c')

theorem A_y0 (l : Fin 128) (c' : Fin 1024) : (k0_pay90 (kernelRun0_A.sl.v472 c b1 g1 b2 g2 b3 g3 b4 g4 b5 g5 b6 g6 b7 g7 b8 g8 b18 b19 x0 x1 x2 x3 x4 x5 x6 x7) (kernelRun0_A.sl.v483 c b1 g1 b2 g2 b3 g3 b4 g4 b5 g5 b6 g6 b7 g7 b8 g8 b18 b19 x0 x1 x2 x3 x4 x5 x6 x7) (kernelRun0_A.sl.v494 c b1 g1 b2 g2 b3 g3 b4 g4 b5 g5 b6 g6 b7 g7 b8 g8 b18 b19 x0 x1 x2 x3 x4 x5 x6 x7) (kernelRun0_A.sl.v495 c b1 g1 b2 g2 b3 g3 b4 g4 b5 g5 b6 g6 b7 g7 b8 g8 b18 b19 x0 x1 x2 x3 x4 x5 x6 x7) (kernelRun0_A.sl.v500 c b1 g1 b2 g2 b3 g3 b4 g4 b5 g5 b6 g6 b7 g7 b8 g8 b18 b19 x0 x1 x2 x3 x4 x5 x6 x7) (ld1x1024_0 g9 x8) : FVec Ideal S128x1024 .bf16) (ix2 l c') = ysR (sh 0 (cvR W Cb (upR (fun _ _ => 0) R))) (sh 0 D) B A (fun _ _ => 0) (sh 0 Z) K N l c' :=
  (congrFun (A_ys0 (F := Ideal) _ _ _ _ _ _ _ _ _ _ _ _ _ _ _ _ _ _ _ _ _ _ _ _ _ _ _ _ _ _) _).trans (ys_c (A_in0 T) _ _ _ _ _ _ _ _ (A_l00 T) (A_l01 T) (A_l02 T) (A_l03 T) _
    (fun l c => (rd (m := 256) (n := 1024) (a := 128) (b := 1024) b2 g2 x1 _ l c ⟨0 + l.1, by omega⟩ c rfl (by omega)).trans (T.z _ c)) _ _
    (fun c => (rd (m := 1) (n := 1024) (a := 1) (b := 1024) b8 g8 x7 _ 0 c 0 c rfl (by omega)).trans (T.k c)) (fun c => (rd (m := 1) (n := 1024) (a := 1) (b := 1024) b9 g9 x8 _ 0 c 0 c rfl (by omega)).trans (T.n c)) l c')

/-- The second chunk's arrays. -/
theorem A_in1 : ChunkReal (ld256x2048_128 g1 x0) (ld256x128_128 g3 x2) (ld1x128_0 g6 x5) (ld1x128_0 g7 x6) (ld1x2048_0 g5 x4) (ld4x2048_0 g4 x3) (ld4x2048_1 g4 x3) (ld4x2048_2 g4 x3) (ld4x2048_3 g4 x3) (kernelRun0_A.sl.v578 c b1 g1 b18 x0) (kernelRun0_A.sl.v584 c b1 g1 b18 x0) (kernelRun0_A.sl.v590 c b1 g1 b18 x0) (sh 128 (cvR W Cb (upR (fun _ _ => 0) R))) (sh 128 D) B A where
  hv := fun l c => by
    refine conv_sum ((rd (m := 1) (n := 2048) (a := 1) (b := 2048) b5 g5 x4 _ 0 c 0 c rfl (by omega)).trans (T.cb c)) (T.lw g4 3 c _) ?_ (T.lw g4 0 c _) ((congrFun A_t10 (ix2 l c)).trans (tap (o := 128) (gCur (ld256x2048_128 g1 x0)) (gHead (ld256x2048_0 g1 x0)) _ (fun _ _ => 0) R (T.cur 128 (by omega) g1 _) (fun i c => (head_val (ld256x2048_0 g1 x0) _ c).trans (((fun l c => T.lr 0 (by omega) g1 _ l c) ⟨120 + (5 + i.1), by omega⟩ c).trans (by unfold upR; rw [if_neg (by omega)]; simp only []; rw [show 0 + (120 + (5 + i.1)) = 128 + i.1 - 3 by omega]))) l c 0 rfl (by omega)))
      (T.lw g4 1 c _) ((congrFun A_t11 (ix2 l c)).trans (tap (o := 128) (gCur (ld256x2048_128 g1 x0)) (gHead (ld256x2048_0 g1 x0)) _ (fun _ _ => 0) R (T.cur 128 (by omega) g1 _) (fun i c => (head_val (ld256x2048_0 g1 x0) _ c).trans (((fun l c => T.lr 0 (by omega) g1 _ l c) ⟨120 + (5 + i.1), by omega⟩ c).trans (by unfold upR; rw [if_neg (by omega)]; simp only []; rw [show 0 + (120 + (5 + i.1)) = 128 + i.1 - 3 by omega]))) l c 1 rfl (by omega))) (T.lw g4 2 c _) ((congrFun A_t12 (ix2 l c)).trans (tap (o := 128) (gCur (ld256x2048_128 g1 x0)) (gHead (ld256x2048_0 g1 x0)) _ (fun _ _ => 0) R (T.cur 128 (by omega) g1 _) (fun i c => (head_val (ld256x2048_0 g1 x0) _ c).trans (((fun l c => T.lr 0 (by omega) g1 _ l c) ⟨120 + (5 + i.1), by omega⟩ c).trans (by unfold upR; rw [if_neg (by omega)]; simp only []; rw [show 0 + (120 + (5 + i.1)) = 128 + i.1 - 3 by omega]))) l c 2 rfl (by omega)))
    refine (T.lr 128 (by omega) g1 _ l c).trans ?_
    unfold upR
    rw [if_neg (by omega), Nat.add_sub_cancel]
  hd := fun l h => (rd (m := 256) (n := 128) (a := 128) (b := 128) b3 g3 x2 _ l h ⟨128 + l.1, by omega⟩ h rfl (by omega)).trans (T.d _ h)
  hb := fun c => (rd (m := 1) (n := 128) (a := 1) (b := 128) b6 g6 x5 _ 0 c 0 c rfl (by omega)).trans (T.b c)
  ha := fun c => (rd (m := 1) (n := 128) (a := 1) (b := 128) b7 g7 x6 _ 0 c 0 c rfl (by omega)).trans (T.a c)

theorem A_l10 : ∀ (n : Fin 128) (q : Fin 256), ((kernelRun0_A.sl.v678 c b1 g1 b3 g3 b4 g4 b5 g5 b6 g6 b7 g7 b18 b19 x0 x2 x3 x4 x5 x6) : Vec Ideal S128x256 .f32) (ix2 n q) = ((stO (fun _ _ => 0) R D W Cb B A (fun _ _ => 0)) n (0 + q) : EReal) :=
  by
  intro n c
  refine (congrFun A_sl10 (ix2 n c)).trans ?_
  refine (covS n c n ⟨0 + c.1, by omega⟩ (by omega) rfl).trans ?_
  refine (missS _ _ (by first | omega | (dsimp only; omega))).trans ?_
  refine (missS _ _ (by first | omega | (dsimp only; omega))).trans ?_
  refine (missS _ _ (by first | omega | (dsimp only; omega))).trans ?_
  exact (hitS _ _ n c (by omega) rfl).trans (A_s00 T n c)
theorem A_s10 (n : Fin 128) (c' : Fin 256) : ((kernelRun0_A.sl.v691 c b1 g1 b3 g3 b4 g4 b5 g5 b6 g6 b7 g7 b18 b19 x0 x2 x3 x4 x5 x6) : Vec Ideal S128x256 .f32) (ix2 n c') = ((stT (fun _ _ => 0) R D W Cb B A (fun _ _ => 0)) n (0 + c') : EReal) :=
  (congrFun (A_state10 (F := Ideal) _ _ _ _ _ _ _ _ _ _ _ _ _ _ _ _ _ _ _ _ _) _).trans (st0_c (A_in1 T) _ _ (A_l10 T) n c')

theorem A_l11 : ∀ (n : Fin 128) (q : Fin 256), ((kernelRun0_A.sl.v692 c b1 g1 b3 g3 b4 g4 b5 g5 b6 g6 b7 g7 b18 b19 x0 x2 x3 x4 x5 x6) : Vec Ideal S128x256 .f32) (ix2 n q) = ((stO (fun _ _ => 0) R D W Cb B A (fun _ _ => 0)) n (256 + q) : EReal) :=
  by
  intro n c
  refine (congrFun A_sl11 (ix2 n c)).trans ?_
  refine (covS n c n ⟨256 + c.1, by omega⟩ (by omega) rfl).trans ?_
  refine (missS _ _ (by first | omega | (dsimp only; omega))).trans ?_
  refine (missS _ _ (by first | omega | (dsimp only; omega))).trans ?_
  refine (missS _ _ (by first | omega | (dsimp only; omega))).trans ?_
  exact (hitS _ _ n c (by omega) rfl).trans (A_s01 T n c)
theorem A_s11 (n : Fin 128) (c' : Fin 256) : ((kernelRun0_A.sl.v705 c b1 g1 b3 g3 b4 g4 b5 g5 b6 g6 b7 g7 b18 b19 x0 x2 x3 x4 x5 x6) : Vec Ideal S128x256 .f32) (ix2 n c') = ((stT (fun _ _ => 0) R D W Cb B A (fun _ _ => 0)) n (256 + c') : EReal) :=
  (congrFun (A_state11 (F := Ideal) _ _ _ _ _ _ _ _ _ _ _ _ _ _ _ _ _ _ _ _ _) _).trans (st1_c (A_in1 T) _ _ (A_l11 T) n c')

theorem A_l12 : ∀ (n : Fin 128) (q : Fin 256), ((kernelRun0_A.sl.v706 c b1 g1 b3 g3 b4 g4 b5 g5 b6 g6 b7 g7 b18 b19 x0 x2 x3 x4 x5 x6) : Vec Ideal S128x256 .f32) (ix2 n q) = ((stO (fun _ _ => 0) R D W Cb B A (fun _ _ => 0)) n (512 + q) : EReal) :=
  by
  intro n c
  refine (congrFun A_sl12 (ix2 n c)).trans ?_
  refine (covS n c n ⟨512 + c.1, by omega⟩ (by omega) rfl).trans ?_
  refine (missS _ _ (by first | omega | (dsimp only; omega))).trans ?_
  refine (missS _ _ (by first | omega | (dsimp only; omega))).trans ?_
  refine (missS _ _ (by first | omega | (dsimp only; omega))).trans ?_
  exact (hitS _ _ n c (by omega) rfl).trans (A_s02 T n c)
theorem A_s12 (n : Fin 128) (c' : Fin 256) : ((kernelRun0_A.sl.v719 c b1 g1 b3 g3 b4 g4 b5 g5 b6 g6 b7 g7 b18 b19 x0 x2 x3 x4 x5 x6) : Vec Ideal S128x256 .f32) (ix2 n c') = ((stT (fun _ _ => 0) R D W Cb B A (fun _ _ => 0)) n (512 + c') : EReal) :=
  (congrFun (A_state12 (F := Ideal) _ _ _ _ _ _ _ _ _ _ _ _ _ _ _ _ _ _ _ _ _) _).trans (st2_c (A_in1 T) _ _ (A_l12 T) n c')

theorem A_l13 : ∀ (n : Fin 128) (q : Fin 256), ((kernelRun0_A.sl.v720 c b1 g1 b3 g3 b4 g4 b5 g5 b6 g6 b7 g7 b18 b19 x0 x2 x3 x4 x5 x6) : Vec Ideal S128x256 .f32) (ix2 n q) = ((stO (fun _ _ => 0) R D W Cb B A (fun _ _ => 0)) n (768 + q) : EReal) :=
  by
  intro n c
  refine (congrFun A_sl13 (ix2 n c)).trans ?_
  refine (covS n c n ⟨768 + c.1, by omega⟩ (by omega) rfl).trans ?_
  refine (missS _ _ (by first | omega | (dsimp only; omega))).trans ?_
  refine (missS _ _ (by first | omega | (dsimp only; omega))).trans ?_
  refine (missS _ _ (by first | omega | (dsimp only; omega))).trans ?_
  exact (hitS _ _ n c (by omega) rfl).trans (A_s03 T n c)
theorem A_s13 (n : Fin 128) (c' : Fin 256) : ((kernelRun0_A.sl.v733 c b1 g1 b3 g3 b4 g4 b5 g5 b6 g6 b7 g7 b18 b19 x0 x2 x3 x4 x5 x6) : Vec Ideal S128x256 .f32) (ix2 n c') = ((stT (fun _ _ => 0) R D W Cb B A (fun _ _ => 0)) n (768 + c') : EReal) :=
  (congrFun (A_state13 (F := Ideal) _ _ _ _ _ _ _ _ _ _ _ _ _ _ _ _ _ _ _ _ _) _).trans (st3_c (A_in1 T) _ _ (A_l13 T) n c')

theorem A_y1 (l : Fin 128) (c' : Fin 1024) : (k0_pay3 (kernelRun0_A.sl.r_11 c b1 g1 b2 g2 b3 g3 b4 g4 b5 g5 b6 g6 b7 g7 b8 g8 b9 g9 b18 b19 x0 x1 x2 x3 x4 x5 x6 x7 x8) : FVec Ideal S128x1024 .bf16) (ix2 l c') = ysR (sh 128 (cvR W Cb (upR (fun _ _ => 0) R))) (sh 128 D) B A (stO (fun _ _ => 0) R D W Cb B A (fun _ _ => 0)) (sh 128 Z) K N l c' :=
  (congrFun (A_ys1 (F := Ideal) _ _ _ _ _ _ _ _ _ _ _ _ _ _ _ _ _ _ _ _ _ _ _ _ _ _ _ _ _ _) _).trans (ys_c (A_in1 T) _ _ _ _ _ _ _ _ (A_l10 T) (A_l11 T) (A_l12 T) (A_l13 T) _
    (fun l c => (rd (m := 256) (n := 1024) (a := 128) (b := 1024) b2 g2 x1 _ l c ⟨128 + l.1, by omega⟩ c rfl (by omega)).trans (T.z _ c)) _ _
    (fun c => (rd (m := 1) (n := 1024) (a := 1) (b := 1024) b8 g8 x7 _ 0 c 0 c rfl (by omega)).trans (T.k c)) (fun c => (rd (m := 1) (n := 1024) (a := 1) (b := 1024) b9 g9 x8 _ 0 c 0 c rfl (by omega)).trans (T.n c)) l c')

/-- The history carried on: the tile's last three rows. -/
theorem A_hist (i : grid0.Coords) (hc0 : cond0_0 i) (hc1 : cond0_1 i) (hc2 : ¬cond0_2 i) (hc3 : ¬cond0_3 i) (j : Fin 3) (c' : Fin 2048) : (sout0_A_0 c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 : Vec Ideal S136x2048 .f32) (ix2 ⟨5 + j.1, by omega⟩ c') = (R (253 + j) c' : EReal) := by
  unfold sout0_A_0
  refine (congrFun (View.read_writes_junk_eq_canon VS0_0 _) _).trans ?_
  unfold kernelRun0_A
  dsimp only
  refine (cn_hit (m := 136) (n := 2048) (a := 8) (b := 2048) _ _ ⟨5 + j.1, by omega⟩ c' (by first | omega | (dsimp only; omega)) (by omega)).trans ?_
  refine (head_val (ld256x2048_128 g1 x0) _ c').trans ((rd (m := 256) (n := 2048) (a := 128) (b := 2048) b1 g1 x0 _ _ c' ⟨128 + (120 + (5 + j.1)), by omega⟩ c' rfl (by omega)).trans ((T.raw _ c').trans ?_))
  simp only []
  rw [show 128 + (120 + (5 + j.1)) = 253 + j.1 by omega]

/-- The state carried on. -/
theorem A_state (i : grid0.Coords) (hc0 : cond0_0 i) (hc1 : cond0_1 i) (hc2 : ¬cond0_2 i) (hc3 : ¬cond0_3 i) (n : Fin 128) (c' : Fin 1024) : (sout0_A_1 c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 : Vec Ideal S128x1024 .f32) (ix2 n c') = ((stR (sh 128 (cvR W Cb (upR (fun _ _ => 0) R))) (sh 128 D) B A (stR (sh 0 (cvR W Cb (upR (fun _ _ => 0) R))) (sh 0 D) B A (fun _ _ => 0))) n c' : EReal) := by
  unfold sout0_A_1
  refine (congrFun (View.read_writes_junk_eq_canon VS0_1 _) _).trans ?_
  unfold kernelRun0_A
  dsimp only
  by_cases h3 : 768 ≤ c'.1
  · refine (hitS _ _ n ⟨c'.1 - 768, by omega⟩ (by omega) (by first | omega | (dsimp only; omega))).trans ((A_s13 T n _).trans ?_)
    simp only []; rw [show 768 + (c'.1 - 768) = c'.1 by omega]
  refine (missS _ _ (by omega)).trans ?_
  by_cases h2 : 512 ≤ c'.1
  · refine (hitS _ _ n ⟨c'.1 - 512, by omega⟩ (by omega) (by first | omega | (dsimp only; omega))).trans ((A_s12 T n _).trans ?_)
    simp only []; rw [show 512 + (c'.1 - 512) = c'.1 by omega]
  refine (missS _ _ (by omega)).trans ?_
  by_cases h1 : 256 ≤ c'.1
  · refine (hitS _ _ n ⟨c'.1 - 256, by omega⟩ (by omega) (by first | omega | (dsimp only; omega))).trans ((A_s11 T n _).trans ?_)
    simp only []; rw [show 256 + (c'.1 - 256) = c'.1 by omega]
  refine (missS _ _ (by omega)).trans ?_
  refine (hitS _ _ n ⟨c'.1 - 0, by omega⟩ (by omega) (by first | omega | (dsimp only; omega))).trans ((A_s10 T n _).trans ?_)
  simp only []; rw [show 0 + (c'.1 - 0) = c'.1 by omega]

/-- The tile's rows. -/
theorem A_rows (i : grid0.Coords) (hc0 : cond0_0 i) (hc1 : cond0_1 i) (hc2 : ¬cond0_2 i) (hc3 : ¬cond0_3 i) (r : Fin 256) (c' : Fin 1024) : (sout0_A_2 c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 : Vec Ideal S256x1024 .bf16) (ix2 r c') =
    if r.1 < 128 then ysR (sh 0 (cvR W Cb (upR (fun _ _ => 0) R))) (sh 0 D) B A (fun _ _ => 0) (sh 0 Z) K N r c' else ysR (sh 128 (cvR W Cb (upR (fun _ _ => 0) R))) (sh 128 D) B A (stR (sh 0 (cvR W Cb (upR (fun _ _ => 0) R))) (sh 0 D) B A (fun _ _ => 0)) (sh 128 Z) K N (r - 128) c' := by
  unfold sout0_A_2
  refine (congrFun (View.read_writes_junk_eq_canon VS0_2 _) _).trans ?_
  unfold kernelRun0_A
  dsimp only
  by_cases h : r.1 < 128
  · rw [if_pos h]
    refine (cn_miss (m := 256) (n := 1024) (a := 128) (b := 1024) _ _ (by omega)).trans ?_
    exact (cn_hit (m := 256) (n := 1024) (a := 128) (b := 1024) _ _ ⟨r.1, h⟩ c' (by first | omega | (dsimp only; omega)) (by omega)).trans (A_y0 T _ c')
  · rw [if_neg h]
    exact (cn_hit (m := 256) (n := 1024) (a := 128) (b := 1024) _ _ ⟨r.1 - 128, by omega⟩ c' (by first | omega | (dsimp only; omega)) (by omega)).trans (A_y1 T _ c')

end Cert.KernelIdeal.Ssd
-- ==== Proof.SsdWordB.lean ====
/- The words that case B of the mixer kernel stores, as the steps of the scan. -/
module

public import Idealize.ShloMosaic.Lib.Pipeline.Value
public import Idealize.ShloMosaic.Lib.Tactic
public import proofs.«01_k».proof.Proof.SsdRunB
public import proofs.«01_k».proof.Proof.SsdStage
public import proofs.«01_k».proof.Proof.SsdLd

@[expose] public section

set_option maxRecDepth 16384

noncomputable section

open Idealize.ShloMosaic Idealize.ShloMosaic.TcCoe Idealize.SL.Sem

namespace Cert.KernelIdeal.Ssd

open Cert.KernelIdeal Cert.KernelIdeal.Gen

variable {F : FTy → Type} [FloatOps F] [Named F]
variable (c : Dev nD) (b1 : Memref sig .tc .vmem S256x2048 .bf16) (g1 : b1.IsWhole) (b2 : Memref sig .tc .vmem S256x1024 .bf16) (g2 : b2.IsWhole) (b3 : Memref sig .tc .vmem S256x128 .f32) (g3 : b3.IsWhole) (b4 : Memref sig .tc .vmem S4x2048 .f32) (g4 : b4.IsWhole) (b5 : Memref sig .tc .vmem S1x2048 .f32) (g5 : b5.IsWhole) (b6 : Memref sig .tc .vmem S1x128 .f32) (g6 : b6.IsWhole) (b7 : Memref sig .tc .vmem S1x128 .f32) (g7 : b7.IsWhole) (b8 : Memref sig .tc .vmem S1x1024 .f32) (g8 : b8.IsWhole) (b9 : Memref sig .tc .vmem S1x1024 .f32) (g9 : b9.IsWhole) (b18 : Memref sig .tc .vmem S136x2048 .f32) (g18 : b18.IsWhole) (b19 : Memref sig .tc .vmem S128x1024 .f32) (g19 : b19.IsWhole) (x0 : Vec F S256x2048 .bf16) (x1 : Vec F S256x1024 .bf16) (x2 : Vec F S256x128 .f32) (x3 : Vec F S4x2048 .f32) (x4 : Vec F S1x2048 .f32) (x5 : Vec F S1x128 .f32) (x6 : Vec F S1x128 .f32) (x7 : Vec F S1x1024 .f32) (x8 : Vec F S1x1024 .f32) (xs0 : Vec F S136x2048 .f32) (xs1 : Vec F S128x1024 .f32)

/-- Group 0's state after the tile's first chunk, as stored. -/
theorem B_state00 :
    (kernelRun0_B.sl.v230 c b1 g1 b3 g3 b4 g4 b5 g5 b6 g6 b7 g7 b18 g18 b19 g19 x0 x2 x3 x4 x5 x6 xs0 xs1) =
      cSt0 (ld256x2048_0 g1 x0) (ld256x128_0 g3 x2) (ld1x128_0 g6 x5) (ld1x128_0 g7 x6) (ld1x2048_0 g5 x4) (ld4x2048_0 g4 x3) (ld4x2048_1 g4 x3) (ld4x2048_2 g4 x3) (ld4x2048_3 g4 x3) (View.readAt (Elt F) b18.view (Rect.unit (s := S136x2048) ![5, 0] S128x2048.size (by decide)).toLoadRect (b18.view.writes (Elt F) (g18.unread xs0) (kernelRun0_B.sl.HS0_1 c b1 g1 x0))) (View.readAt (Elt F) b18.view (Rect.unit (s := S136x2048) ![6, 0] S128x2048.size (by decide)).toLoadRect (b18.view.writes (Elt F) (g18.unread xs0) (kernelRun0_B.sl.HS0_1 c b1 g1 x0))) (View.readAt (Elt F) b18.view (Rect.unit (s := S136x2048) ![7, 0] S128x2048.size (by decide)).toLoadRect (b18.view.writes (Elt F) (g18.unread xs0) (kernelRun0_B.sl.HS0_1 c b1 g1 x0))) (ld128x1024_0 g19 xs1) := rfl

/-- Group 1's state after the tile's first chunk, as stored. -/
theorem B_state01 :
    (kernelRun0_B.sl.v244 c b1 g1 b3 g3 b4 g4 b5 g5 b6 g6 b7 g7 b18 g18 b19 g19 x0 x2 x3 x4 x5 x6 xs0 xs1) =
      cSt1 (ld256x2048_0 g1 x0) (ld256x128_0 g3 x2) (ld1x128_0 g6 x5) (ld1x128_0 g7 x6) (ld1x2048_0 g5 x4) (ld4x2048_0 g4 x3) (ld4x2048_1 g4 x3) (ld4x2048_2 g4 x3) (ld4x2048_3 g4 x3) (View.readAt (Elt F) b18.view (Rect.unit (s := S136x2048) ![5, 0] S128x2048.size (by decide)).toLoadRect (b18.view.writes (Elt F) (g18.unread xs0) (kernelRun0_B.sl.HS0_1 c b1 g1 x0))) (View.readAt (Elt F) b18.view (Rect.unit (s := S136x2048) ![6, 0] S128x2048.size (by decide)).toLoadRect (b18.view.writes (Elt F) (g18.unread xs0) (kernelRun0_B.sl.HS0_1 c b1 g1 x0))) (View.readAt (Elt F) b18.view (Rect.unit (s := S136x2048) ![7, 0] S128x2048.size (by decide)).toLoadRect (b18.view.writes (Elt F) (g18.unread xs0) (kernelRun0_B.sl.HS0_1 c b1 g1 x0))) (ld128x1024_c256 g19 xs1) := rfl

/-- Group 2's state after the tile's first chunk, as stored. -/
theorem B_state02 :
    (kernelRun0_B.sl.v258 c b1 g1 b3 g3 b4 g4 b5 g5 b6 g6 b7 g7 b18 g18 b19 g19 x0 x2 x3 x4 x5 x6 xs0 xs1) =
      cSt2 (ld256x2048_0 g1 x0) (ld256x128_0 g3 x2) (ld1x128_0 g6 x5) (ld1x128_0 g7 x6) (ld1x2048_0 g5 x4) (ld4x2048_0 g4 x3) (ld4x2048_1 g4 x3) (ld4x2048_2 g4 x3) (ld4x2048_3 g4 x3) (View.readAt (Elt F) b18.view (Rect.unit (s := S136x2048) ![5, 0] S128x2048.size (by decide)).toLoadRect (b18.view.writes (Elt F) (g18.unread xs0) (kernelRun0_B.sl.HS0_1 c b1 g1 x0))) (View.readAt (Elt F) b18.view (Rect.unit (s := S136x2048) ![6, 0] S128x2048.size (by decide)).toLoadRect (b18.view.writes (Elt F) (g18.unread xs0) (kernelRun0_B.sl.HS0_1 c b1 g1 x0))) (View.readAt (Elt F) b18.view (Rect.unit (s := S136x2048) ![7, 0] S128x2048.size (by decide)).toLoadRect (b18.view.writes (Elt F) (g18.unread xs0) (kernelRun0_B.sl.HS0_1 c b1 g1 x0))) (ld128x1024_c512 g19 xs1) := rfl

/-- Group 3's state after the tile's first chunk, as stored. -/
theorem B_state03 :
    (kernelRun0_B.sl.v272 c b1 g1 b3 g3 b4 g4 b5 g5 b6 g6 b7 g7 b18 g18 b19 g19 x0 x2 x3 x4 x5 x6 xs0 xs1) =
      cSt3 (ld256x2048_0 g1 x0) (ld256x128_0 g3 x2) (ld1x128_0 g6 x5) (ld1x128_0 g7 x6) (ld1x2048_0 g5 x4) (ld4x2048_0 g4 x3) (ld4x2048_1 g4 x3) (ld4x2048_2 g4 x3) (ld4x2048_3 g4 x3) (View.readAt (Elt F) b18.view (Rect.unit (s := S136x2048) ![5, 0] S128x2048.size (by decide)).toLoadRect (b18.view.writes (Elt F) (g18.unread xs0) (kernelRun0_B.sl.HS0_1 c b1 g1 x0))) (View.readAt (Elt F) b18.view (Rect.unit (s := S136x2048) ![6, 0] S128x2048.size (by decide)).toLoadRect (b18.view.writes (Elt F) (g18.unread xs0) (kernelRun0_B.sl.HS0_1 c b1 g1 x0))) (View.readAt (Elt F) b18.view (Rect.unit (s := S136x2048) ![7, 0] S128x2048.size (by decide)).toLoadRect (b18.view.writes (Elt F) (g18.unread xs0) (kernelRun0_B.sl.HS0_1 c b1 g1 x0))) (ld128x1024_c768 g19 xs1) := rfl

/-- The first chunk's rows, as stored. -/
theorem B_ys0 :
    (kernelRun0_B.sl.v561 c b1 g1 b2 g2 b3 g3 b4 g4 b5 g5 b6 g6 b7 g7 b8 g8 b9 g9 b18 g18 b19 g19 x0 x1 x2 x3 x4 x5 x6 x7 x8 xs0 xs1) =
      cYs (ld256x2048_0 g1 x0) (ld256x128_0 g3 x2) (ld1x128_0 g6 x5) (ld1x128_0 g7 x6) (ld1x2048_0 g5 x4) (ld4x2048_0 g4 x3) (ld4x2048_1 g4 x3) (ld4x2048_2 g4 x3) (ld4x2048_3 g4 x3) (View.readAt (Elt F) b18.view (Rect.unit (s := S136x2048) ![5, 0] S128x2048.size (by decide)).toLoadRect (b18.view.writes (Elt F) (g18.unread xs0) (kernelRun0_B.sl.HS0_1 c b1 g1 x0))) (View.readAt (Elt F) b18.view (Rect.unit (s := S136x2048) ![6, 0] S128x2048.size (by decide)).toLoadRect (b18.view.writes (Elt F) (g18.unread xs0) (kernelRun0_B.sl.HS0_1 c b1 g1 x0))) (View.readAt (Elt F) b18.view (Rect.unit (s := S136x2048) ![7, 0] S128x2048.size (by decide)).toLoadRect (b18.view.writes (Elt F) (g18.unread xs0) (kernelRun0_B.sl.HS0_1 c b1 g1 x0))) (ld256x1024_0 g2 x1) (ld1x1024_0 g8 x7) (ld1x1024_0 g9 x8) (ld128x1024_0 g19 xs1) (ld128x1024_c256 g19 xs1) (ld128x1024_c512 g19 xs1) (ld128x1024_c768 g19 xs1) := rfl

/-- Group 0's state after the tile's second chunk, as stored. -/
theorem B_state10 :
    (kernelRun0_B.sl.v748 c b1 g1 b3 g3 b4 g4 b5 g5 b6 g6 b7 g7 b18 g18 b19 g19 x0 x2 x3 x4 x5 x6 xs0 xs1) =
      cSt0 (ld256x2048_128 g1 x0) (ld256x128_128 g3 x2) (ld1x128_0 g6 x5) (ld1x128_0 g7 x6) (ld1x2048_0 g5 x4) (ld4x2048_0 g4 x3) (ld4x2048_1 g4 x3) (ld4x2048_2 g4 x3) (ld4x2048_3 g4 x3) (kernelRun0_B.sl.v621 c b1 g1 b18 x0) (kernelRun0_B.sl.v627 c b1 g1 b18 x0) (kernelRun0_B.sl.v633 c b1 g1 b18 x0) (kernelRun0_B.sl.v735 c b1 g1 b3 g3 b4 g4 b5 g5 b6 g6 b7 g7 b18 g18 b19 g19 x0 x2 x3 x4 x5 x6 xs0 xs1) := rfl

/-- Group 1's state after the tile's second chunk, as stored. -/
theorem B_state11 :
    (kernelRun0_B.sl.v762 c b1 g1 b3 g3 b4 g4 b5 g5 b6 g6 b7 g7 b18 g18 b19 g19 x0 x2 x3 x4 x5 x6 xs0 xs1) =
      cSt1 (ld256x2048_128 g1 x0) (ld256x128_128 g3 x2) (ld1x128_0 g6 x5) (ld1x128_0 g7 x6) (ld1x2048_0 g5 x4) (ld4x2048_0 g4 x3) (ld4x2048_1 g4 x3) (ld4x2048_2 g4 x3) (ld4x2048_3 g4 x3) (kernelRun0_B.sl.v621 c b1 g1 b18 x0) (kernelRun0_B.sl.v627 c b1 g1 b18 x0) (kernelRun0_B.sl.v633 c b1 g1 b18 x0) (kernelRun0_B.sl.v749 c b1 g1 b3 g3 b4 g4 b5 g5 b6 g6 b7 g7 b18 g18 b19 g19 x0 x2 x3 x4 x5 x6 xs0 xs1) := rfl

/-- Group 2's state after the tile's second chunk, as stored. -/
theorem B_state12 :
    (kernelRun0_B.sl.v776 c b1 g1 b3 g3 b4 g4 b5 g5 b6 g6 b7 g7 b18 g18 b19 g19 x0 x2 x3 x4 x5 x6 xs0 xs1) =
      cSt2 (ld256x2048_128 g1 x0) (ld256x128_128 g3 x2) (ld1x128_0 g6 x5) (ld1x128_0 g7 x6) (ld1x2048_0 g5 x4) (ld4x2048_0 g4 x3) (ld4x2048_1 g4 x3) (ld4x2048_2 g4 x3) (ld4x2048_3 g4 x3) (kernelRun0_B.sl.v621 c b1 g1 b18 x0) (kernelRun0_B.sl.v627 c b1 g1 b18 x0) (kernelRun0_B.sl.v633 c b1 g1 b18 x0) (kernelRun0_B.sl.v763 c b1 g1 b3 g3 b4 g4 b5 g5 b6 g6 b7 g7 b18 g18 b19 g19 x0 x2 x3 x4 x5 x6 xs0 xs1) := rfl

/-- Group 3's state after the tile's second chunk, as stored. -/
theorem B_state13 :
    (kernelRun0_B.sl.v790 c b1 g1 b3 g3 b4 g4 b5 g5 b6 g6 b7 g7 b18 g18 b19 g19 x0 x2 x3 x4 x5 x6 xs0 xs1) =
      cSt3 (ld256x2048_128 g1 x0) (ld256x128_128 g3 x2) (ld1x128_0 g6 x5) (ld1x128_0 g7 x6) (ld1x2048_0 g5 x4) (ld4x2048_0 g4 x3) (ld4x2048_1 g4 x3) (ld4x2048_2 g4 x3) (ld4x2048_3 g4 x3) (kernelRun0_B.sl.v621 c b1 g1 b18 x0) (kernelRun0_B.sl.v627 c b1 g1 b18 x0) (kernelRun0_B.sl.v633 c b1 g1 b18 x0) (kernelRun0_B.sl.v777 c b1 g1 b3 g3 b4 g4 b5 g5 b6 g6 b7 g7 b18 g18 b19 g19 x0 x2 x3 x4 x5 x6 xs0 xs1) := rfl

/-- The second chunk's rows, as stored. -/
theorem B_ys1 :
    (kernelRun0_B.sl.v1079 c b1 g1 b2 g2 b3 g3 b4 g4 b5 g5 b6 g6 b7 g7 b8 g8 b9 g9 b18 g18 b19 g19 x0 x1 x2 x3 x4 x5 x6 x7 x8 xs0 xs1) =
      cYs (ld256x2048_128 g1 x0) (ld256x128_128 g3 x2) (ld1x128_0 g6 x5) (ld1x128_0 g7 x6) (ld1x2048_0 g5 x4) (ld4x2048_0 g4 x3) (ld4x2048_1 g4 x3) (ld4x2048_2 g4 x3) (ld4x2048_3 g4 x3) (kernelRun0_B.sl.v621 c b1 g1 b18 x0) (kernelRun0_B.sl.v627 c b1 g1 b18 x0) (kernelRun0_B.sl.v633 c b1 g1 b18 x0) (ld256x1024_128 g2 x1) (ld1x1024_0 g8 x7) (ld1x1024_0 g9 x8) (kernelRun0_B.sl.v735 c b1 g1 b3 g3 b4 g4 b5 g5 b6 g6 b7 g7 b18 g18 b19 g19 x0 x2 x3 x4 x5 x6 xs0 xs1) (kernelRun0_B.sl.v749 c b1 g1 b3 g3 b4 g4 b5 g5 b6 g6 b7 g7 b18 g18 b19 g19 x0 x2 x3 x4 x5 x6 xs0 xs1) (kernelRun0_B.sl.v763 c b1 g1 b3 g3 b4 g4 b5 g5 b6 g6 b7 g7 b18 g18 b19 g19 x0 x2 x3 x4 x5 x6 xs0 xs1) (kernelRun0_B.sl.v777 c b1 g1 b3 g3 b4 g4 b5 g5 b6 g6 b7 g7 b18 g18 b19 g19 x0 x2 x3 x4 x5 x6 xs0 xs1) := rfl

end Cert.KernelIdeal.Ssd
-- ==== Proof.SsdTileB.lean ====
/- What case B of the mixer kernel carries to the next tile: the convolution's history, the state and the rows. -/
module

public import proofs.«01_k».proof.Proof.SsdTile
public import proofs.«01_k».proof.Proof.SsdWordB
public import proofs.«01_k».proof.Proof.SsdOuts

@[expose] public section

set_option maxRecDepth 16384

noncomputable section

open Idealize.ShloMosaic Idealize.ShloMosaic.TcCoe Idealize.SL.Sem

namespace Cert.KernelIdeal.Ssd

open Cert.KernelIdeal Cert.KernelIdeal.Gen

section
variable {F : FTy → Type} [FloatOps F] [Named F]
variable {c : Dev nD} {b1 : Memref sig .tc .vmem S256x2048 .bf16} {g1 : b1.IsWhole} {b2 : Memref sig .tc .vmem S256x1024 .bf16} {g2 : b2.IsWhole} {b3 : Memref sig .tc .vmem S256x128 .f32} {g3 : b3.IsWhole} {b4 : Memref sig .tc .vmem S4x2048 .f32} {g4 : b4.IsWhole} {b5 : Memref sig .tc .vmem S1x2048 .f32} {g5 : b5.IsWhole} {b6 : Memref sig .tc .vmem S1x128 .f32} {g6 : b6.IsWhole} {b7 : Memref sig .tc .vmem S1x128 .f32} {g7 : b7.IsWhole} {b8 : Memref sig .tc .vmem S1x1024 .f32} {g8 : b8.IsWhole} {b9 : Memref sig .tc .vmem S1x1024 .f32} {g9 : b9.IsWhole} {b10 : Memref sig .tc .vmem S256x2048 .f32} {g10 : b10.IsWhole} {b11 : Memref sig .tc .vmem S256x1024 .bf16} {g11 : b11.IsWhole} {b12 : Memref sig .tc .vmem S2048x2048 .bf16} {g12 : b12.IsWhole} {b13 : Memref sig .tc .vmem S1x2048 .f32} {g13 : b13.IsWhole} {b14 : Memref sig .tc .vmem S256x2048 .f32} {g14 : b14.IsWhole} {b15 : Memref sig .tc .vmem S256x2048 .f32} {g15 : b15.IsWhole} {b16 : Memref sig .tc .vmem S256x2048 .bf16} {g16 : b16.IsWhole} {b17 : Memref sig .tc .vmem S256x2048 .bf16} {g17 : b17.IsWhole} {b18 : Memref sig .tc .vmem S136x2048 .f32} {g18 : b18.IsWhole} {b19 : Memref sig .tc .vmem S128x1024 .f32} {g19 : b19.IsWhole} {b20 : Memref sig .tc .vmem S256x1024 .bf16} {g20 : b20.IsWhole} {b21 : Memref sig .tc .vmem S256x1024 .bf16} {g21 : b21.IsWhole} {x0 : Vec F S256x2048 .bf16} {x1 : Vec F S256x1024 .bf16} {x2 : Vec F S256x128 .f32} {x3 : Vec F S4x2048 .f32} {x4 : Vec F S1x2048 .f32} {x5 : Vec F S1x128 .f32} {x6 : Vec F S1x128 .f32} {x7 : Vec F S1x1024 .f32} {x8 : Vec F S1x1024 .f32} {x9 : Vec F S256x2048 .f32} {x10 : Vec F S256x1024 .bf16} {x11 : Vec F S2048x2048 .bf16} {x12 : Vec F S1x2048 .f32} {x13 : Vec F S256x2048 .f32} {xs0 : Vec F S136x2048 .f32} {xs1 : Vec F S128x1024 .f32} {xs2 : Vec F S256x1024 .bf16}

theorem B_hs : (kernelRun0_B.sl.HS0_1 c b1 g1 x0) = [(pCr (gCur (ld256x2048_0 g1 x0)))] := rfl

theorem B_t10 : (kernelRun0_B.sl.v621 c b1 g1 b18 x0) = b18.view.readCov ((pCr (gCur (ld256x2048_128 g1 x0))) :: (pHd (gHead (ld256x2048_0 g1 x0))) :: (pCr (gCur (ld256x2048_0 g1 x0))) :: []) rH5 := rfl

theorem B_t11 : (kernelRun0_B.sl.v627 c b1 g1 b18 x0) = b18.view.readCov ((pCr (gCur (ld256x2048_128 g1 x0))) :: (pHd (gHead (ld256x2048_0 g1 x0))) :: (pCr (gCur (ld256x2048_0 g1 x0))) :: []) rH6 := rfl

theorem B_t12 : (kernelRun0_B.sl.v633 c b1 g1 b18 x0) = b18.view.readCov ((pCr (gCur (ld256x2048_128 g1 x0))) :: (pHd (gHead (ld256x2048_0 g1 x0))) :: (pCr (gCur (ld256x2048_0 g1 x0))) :: []) rH7 := rfl

theorem B_sl10 : (kernelRun0_B.sl.v735 c b1 g1 b3 g3 b4 g4 b5 g5 b6 g6 b7 g7 b18 g18 b19 g19 x0 x2 x3 x4 x5 x6 xs0 xs1) = b19.view.readCov ((pS768 (kernelRun0_B.sl.v272 c b1 g1 b3 g3 b4 g4 b5 g5 b6 g6 b7 g7 b18 g18 b19 g19 x0 x2 x3 x4 x5 x6 xs0 xs1)) :: (pS512 (kernelRun0_B.sl.v258 c b1 g1 b3 g3 b4 g4 b5 g5 b6 g6 b7 g7 b18 g18 b19 g19 x0 x2 x3 x4 x5 x6 xs0 xs1)) :: (pS256 (kernelRun0_B.sl.v244 c b1 g1 b3 g3 b4 g4 b5 g5 b6 g6 b7 g7 b18 g18 b19 g19 x0 x2 x3 x4 x5 x6 xs0 xs1)) :: (pS0 (kernelRun0_B.sl.v230 c b1 g1 b3 g3 b4 g4 b5 g5 b6 g6 b7 g7 b18 g18 b19 g19 x0 x2 x3 x4 x5 x6 xs0 xs1)) :: []) rS0 := rfl

theorem B_sl11 : (kernelRun0_B.sl.v749 c b1 g1 b3 g3 b4 g4 b5 g5 b6 g6 b7 g7 b18 g18 b19 g19 x0 x2 x3 x4 x5 x6 xs0 xs1) = b19.view.readCov ((pS0 (kernelRun0_B.sl.v748 c b1 g1 b3 g3 b4 g4 b5 g5 b6 g6 b7 g7 b18 g18 b19 g19 x0 x2 x3 x4 x5 x6 xs0 xs1)) :: (pS768 (kernelRun0_B.sl.v272 c b1 g1 b3 g3 b4 g4 b5 g5 b6 g6 b7 g7 b18 g18 b19 g19 x0 x2 x3 x4 x5 x6 xs0 xs1)) :: (pS512 (kernelRun0_B.sl.v258 c b1 g1 b3 g3 b4 g4 b5 g5 b6 g6 b7 g7 b18 g18 b19 g19 x0 x2 x3 x4 x5 x6 xs0 xs1)) :: (pS256 (kernelRun0_B.sl.v244 c b1 g1 b3 g3 b4 g4 b5 g5 b6 g6 b7 g7 b18 g18 b19 g19 x0 x2 x3 x4 x5 x6 xs0 xs1)) :: (pS0 (kernelRun0_B.sl.v230 c b1 g1 b3 g3 b4 g4 b5 g5 b6 g6 b7 g7 b18 g18 b19 g19 x0 x2 x3 x4 x5 x6 xs0 xs1)) :: []) rS256 := rfl

theorem B_sl12 : (kernelRun0_B.sl.v763 c b1 g1 b3 g3 b4 g4 b5 g5 b6 g6 b7 g7 b18 g18 b19 g19 x0 x2 x3 x4 x5 x6 xs0 xs1) = b19.view.readCov ((pS256 (kernelRun0_B.sl.v762 c b1 g1 b3 g3 b4 g4 b5 g5 b6 g6 b7 g7 b18 g18 b19 g19 x0 x2 x3 x4 x5 x6 xs0 xs1)) :: (pS0 (kernelRun0_B.sl.v748 c b1 g1 b3 g3 b4 g4 b5 g5 b6 g6 b7 g7 b18 g18 b19 g19 x0 x2 x3 x4 x5 x6 xs0 xs1)) :: (pS768 (kernelRun0_B.sl.v272 c b1 g1 b3 g3 b4 g4 b5 g5 b6 g6 b7 g7 b18 g18 b19 g19 x0 x2 x3 x4 x5 x6 xs0 xs1)) :: (pS512 (kernelRun0_B.sl.v258 c b1 g1 b3 g3 b4 g4 b5 g5 b6 g6 b7 g7 b18 g18 b19 g19 x0 x2 x3 x4 x5 x6 xs0 xs1)) :: (pS256 (kernelRun0_B.sl.v244 c b1 g1 b3 g3 b4 g4 b5 g5 b6 g6 b7 g7 b18 g18 b19 g19 x0 x2 x3 x4 x5 x6 xs0 xs1)) :: (pS0 (kernelRun0_B.sl.v230 c b1 g1 b3 g3 b4 g4 b5 g5 b6 g6 b7 g7 b18 g18 b19 g19 x0 x2 x3 x4 x5 x6 xs0 xs1)) :: []) rS512 := rfl

theorem B_sl13 : (kernelRun0_B.sl.v777 c b1 g1 b3 g3 b4 g4 b5 g5 b6 g6 b7 g7 b18 g18 b19 g19 x0 x2 x3 x4 x5 x6 xs0 xs1) = b19.view.readCov ((pS512 (kernelRun0_B.sl.v776 c b1 g1 b3 g3 b4 g4 b5 g5 b6 g6 b7 g7 b18 g18 b19 g19 x0 x2 x3 x4 x5 x6 xs0 xs1)) :: (pS256 (kernelRun0_B.sl.v762 c b1 g1 b3 g3 b4 g4 b5 g5 b6 g6 b7 g7 b18 g18 b19 g19 x0 x2 x3 x4 x5 x6 xs0 xs1)) :: (pS0 (kernelRun0_B.sl.v748 c b1 g1 b3 g3 b4 g4 b5 g5 b6 g6 b7 g7 b18 g18 b19 g19 x0 x2 x3 x4 x5 x6 xs0 xs1)) :: (pS768 (kernelRun0_B.sl.v272 c b1 g1 b3 g3 b4 g4 b5 g5 b6 g6 b7 g7 b18 g18 b19 g19 x0 x2 x3 x4 x5 x6 xs0 xs1)) :: (pS512 (kernelRun0_B.sl.v258 c b1 g1 b3 g3 b4 g4 b5 g5 b6 g6 b7 g7 b18 g18 b19 g19 x0 x2 x3 x4 x5 x6 xs0 xs1)) :: (pS256 (kernelRun0_B.sl.v244 c b1 g1 b3 g3 b4 g4 b5 g5 b6 g6 b7 g7 b18 g18 b19 g19 x0 x2 x3 x4 x5 x6 xs0 xs1)) :: (pS0 (kernelRun0_B.sl.v230 c b1 g1 b3 g3 b4 g4 b5 g5 b6 g6 b7 g7 b18 g18 b19 g19 x0 x2 x3 x4 x5 x6 xs0 xs1)) :: []) rS768 := rfl

end

/-- The history's three rows lie inside the carried rows. -/
theorem hist_lt (j : Fin 3) : 5 + j.1 < 136 := by omega

variable {c : Dev nD} {b1 : Memref sig .tc .vmem S256x2048 .bf16} {g1 : b1.IsWhole} {b2 : Memref sig .tc .vmem S256x1024 .bf16} {g2 : b2.IsWhole} {b3 : Memref sig .tc .vmem S256x128 .f32} {g3 : b3.IsWhole} {b4 : Memref sig .tc .vmem S4x2048 .f32} {g4 : b4.IsWhole} {b5 : Memref sig .tc .vmem S1x2048 .f32} {g5 : b5.IsWhole} {b6 : Memref sig .tc .vmem S1x128 .f32} {g6 : b6.IsWhole} {b7 : Memref sig .tc .vmem S1x128 .f32} {g7 : b7.IsWhole} {b8 : Memref sig .tc .vmem S1x1024 .f32} {g8 : b8.IsWhole} {b9 : Memref sig .tc .vmem S1x1024 .f32} {g9 : b9.IsWhole} {b10 : Memref sig .tc .vmem S256x2048 .f32} {g10 : b10.IsWhole} {b11 : Memref sig .tc .vmem S256x1024 .bf16} {g11 : b11.IsWhole} {b12 : Memref sig .tc .vmem S2048x2048 .bf16} {g12 : b12.IsWhole} {b13 : Memref sig .tc .vmem S1x2048 .f32} {g13 : b13.IsWhole} {b14 : Memref sig .tc .vmem S256x2048 .f32} {g14 : b14.IsWhole} {b15 : Memref sig .tc .vmem S256x2048 .f32} {g15 : b15.IsWhole} {b16 : Memref sig .tc .vmem S256x2048 .bf16} {g16 : b16.IsWhole} {b17 : Memref sig .tc .vmem S256x2048 .bf16} {g17 : b17.IsWhole} {b18 : Memref sig .tc .vmem S136x2048 .f32} {g18 : b18.IsWhole} {b19 : Memref sig .tc .vmem S128x1024 .f32} {g19 : b19.IsWhole} {b20 : Memref sig .tc .vmem S256x1024 .bf16} {g20 : b20.IsWhole} {b21 : Memref sig .tc .vmem S256x1024 .bf16} {g21 : b21.IsWhole} {x0 : Vec Ideal S256x2048 .bf16} {x1 : Vec Ideal S256x1024 .bf16} {x2 : Vec Ideal S256x128 .f32} {x3 : Vec Ideal S4x2048 .f32} {x4 : Vec Ideal S1x2048 .f32} {x5 : Vec Ideal S1x128 .f32} {x6 : Vec Ideal S1x128 .f32} {x7 : Vec Ideal S1x1024 .f32} {x8 : Vec Ideal S1x1024 .f32} {x9 : Vec Ideal S256x2048 .f32} {x10 : Vec Ideal S256x1024 .bf16} {x11 : Vec Ideal S2048x2048 .bf16} {x12 : Vec Ideal S1x2048 .f32} {x13 : Vec Ideal S256x2048 .f32} {xs0 : Vec Ideal S136x2048 .f32} {xs1 : Vec Ideal S128x1024 .f32} {xs2 : Vec Ideal S256x1024 .bf16}
  {R D Z W : ℕ → ℕ → ℝ} {Cb B A : ℕ → ℝ} {K N : ℕ → EReal} (T : TileReal x0 x1 x2 x3 x4 x5 x6 x7 x8 R D Z W Cb B A K N)
  {Hd S : ℕ → ℕ → ℝ} (hH : ∀ (j : Fin 3) (c : Fin 2048), xs0 (ix2 ⟨5 + j.1, hist_lt j⟩ c) = (Hd j c : EReal)) (hS : ∀ (n : Fin 128) (c : Fin 1024), xs1 (ix2 n c) = (S n c : EReal))
include T hH hS

/-- The first chunk's arrays. -/
theorem B_in0 : ChunkReal (ld256x2048_0 g1 x0) (ld256x128_0 g3 x2) (ld1x128_0 g6 x5) (ld1x128_0 g7 x6) (ld1x2048_0 g5 x4) (ld4x2048_0 g4 x3) (ld4x2048_1 g4 x3) (ld4x2048_2 g4 x3) (ld4x2048_3 g4 x3) (View.readAt (Elt Ideal) b18.view rH5 (b18.view.writes (Elt Ideal) (g18.unread xs0) (kernelRun0_B.sl.HS0_1 c b1 g1 x0))) (View.readAt (Elt Ideal) b18.view rH6 (b18.view.writes (Elt Ideal) (g18.unread xs0) (kernelRun0_B.sl.HS0_1 c b1 g1 x0))) (View.readAt (Elt Ideal) b18.view rH7 (b18.view.writes (Elt Ideal) (g18.unread xs0) (kernelRun0_B.sl.HS0_1 c b1 g1 x0))) (sh 0 (cvR W Cb (upR Hd R))) (sh 0 D) B A where
  hv := fun l c => by
    refine conv_sum ((rd (m := 1) (n := 2048) (a := 1) (b := 2048) b5 g5 x4 _ 0 c 0 c rfl (by omega)).trans (T.cb c)) (T.lw g4 3 c _) ?_ (T.lw g4 0 c _) ((congrArg (fun q => View.readAt (Elt Ideal) b18.view rH5 (b18.view.writes (Elt Ideal) (g18.unread xs0) q) (ix2 l c)) B_hs).trans (tap_over b18 g18 xs0 (gCur (ld256x2048_0 g1 x0)) Hd R (T.cur 0 (by omega) g1 _) hH l c 0 rfl (by omega)))
      (T.lw g4 1 c _) ((congrArg (fun q => View.readAt (Elt Ideal) b18.view rH6 (b18.view.writes (Elt Ideal) (g18.unread xs0) q) (ix2 l c)) B_hs).trans (tap_over b18 g18 xs0 (gCur (ld256x2048_0 g1 x0)) Hd R (T.cur 0 (by omega) g1 _) hH l c 1 rfl (by omega))) (T.lw g4 2 c _) ((congrArg (fun q => View.readAt (Elt Ideal) b18.view rH7 (b18.view.writes (Elt Ideal) (g18.unread xs0) q) (ix2 l c)) B_hs).trans (tap_over b18 g18 xs0 (gCur (ld256x2048_0 g1 x0)) Hd R (T.cur 0 (by omega) g1 _) hH l c 2 rfl (by omega)))
    refine (T.lr 0 (by omega) g1 _ l c).trans ?_
    unfold upR
    rw [if_neg (by omega), Nat.add_sub_cancel]
  hd := fun l h => (rd (m := 256) (n := 128) (a := 128) (b := 128) b3 g3 x2 _ l h ⟨0 + l.1, by omega⟩ h rfl (by omega)).trans (T.d _ h)
  hb := fun c => (rd (m := 1) (n := 128) (a := 1) (b := 128) b6 g6 x5 _ 0 c 0 c rfl (by omega)).trans (T.b c)
  ha := fun c => (rd (m := 1) (n := 128) (a := 1) (b := 128) b7 g7 x6 _ 0 c 0 c rfl (by omega)).trans (T.a c)

theorem B_l00 : ∀ (n : Fin 128) (q : Fin 256), ((ld128x1024_0 g19 xs1) : Vec Ideal S128x256 .f32) (ix2 n q) = (S n (0 + q) : EReal) :=
  (fun n c => (rd (m := 128) (n := 1024) (a := 128) (b := 256) b19 g19 xs1 _ n c n ⟨0 + c.1, by omega⟩ (by omega) rfl).trans (hS n _))
theorem B_s00 (n : Fin 128) (c' : Fin 256) : ((kernelRun0_B.sl.v230 c b1 g1 b3 g3 b4 g4 b5 g5 b6 g6 b7 g7 b18 g18 b19 g19 x0 x2 x3 x4 x5 x6 xs0 xs1) : Vec Ideal S128x256 .f32) (ix2 n c') = ((stO Hd R D W Cb B A S) n (0 + c') : EReal) :=
  (congrFun (B_state00 (F := Ideal) _ _ _ _ _ _ _ _ _ _ _ _ _ _ _ _ _ _ _ _ _ _ _ _ _) _).trans (st0_c (B_in0 T hH hS) _ _ (B_l00 T hH hS) n c')

theorem B_l01 : ∀ (n : Fin 128) (q : Fin 256), ((ld128x1024_c256 g19 xs1) : Vec Ideal S128x256 .f32) (ix2 n q) = (S n (256 + q) : EReal) :=
  (fun n c => (rd (m := 128) (n := 1024) (a := 128) (b := 256) b19 g19 xs1 _ n c n ⟨256 + c.1, by omega⟩ (by omega) rfl).trans (hS n _))
theorem B_s01 (n : Fin 128) (c' : Fin 256) : ((kernelRun0_B.sl.v244 c b1 g1 b3 g3 b4 g4 b5 g5 b6 g6 b7 g7 b18 g18 b19 g19 x0 x2 x3 x4 x5 x6 xs0 xs1) : Vec Ideal S128x256 .f32) (ix2 n c') = ((stO Hd R D W Cb B A S) n (256 + c') : EReal) :=
  (congrFun (B_state01 (F := Ideal) _ _ _ _ _ _ _ _ _ _ _ _ _ _ _ _ _ _ _ _ _ _ _ _ _) _).trans (st1_c (B_in0 T hH hS) _ _ (B_l01 T hH hS) n c')

theorem B_l02 : ∀ (n : Fin 128) (q : Fin 256), ((ld128x1024_c512 g19 xs1) : Vec Ideal S128x256 .f32) (ix2 n q) = (S n (512 + q) : EReal) :=
  (fun n c => (rd (m := 128) (n := 1024) (a := 128) (b := 256) b19 g19 xs1 _ n c n ⟨512 + c.1, by omega⟩ (by omega) rfl).trans (hS n _))
theorem B_s02 (n : Fin 128) (c' : Fin 256) : ((kernelRun0_B.sl.v258 c b1 g1 b3 g3 b4 g4 b5 g5 b6 g6 b7 g7 b18 g18 b19 g19 x0 x2 x3 x4 x5 x6 xs0 xs1) : Vec Ideal S128x256 .f32) (ix2 n c') = ((stO Hd R D W Cb B A S) n (512 + c') : EReal) :=
  (congrFun (B_state02 (F := Ideal) _ _ _ _ _ _ _ _ _ _ _ _ _ _ _ _ _ _ _ _ _ _ _ _ _) _).trans (st2_c (B_in0 T hH hS) _ _ (B_l02 T hH hS) n c')

theorem B_l03 : ∀ (n : Fin 128) (q : Fin 256), ((ld128x1024_c768 g19 xs1) : Vec Ideal S128x256 .f32) (ix2 n q) = (S n (768 + q) : EReal) :=
  (fun n c => (rd (m := 128) (n := 1024) (a := 128) (b := 256) b19 g19 xs1 _ n c n ⟨768 + c.1, by omega⟩ (by omega) rfl).trans (hS n _))
theorem B_s03 (n : Fin 128) (c' : Fin 256) : ((kernelRun0_B.sl.v272 c b1 g1 b3 g3 b4 g4 b5 g5 b6 g6 b7 g7 b18 g18 b19 g19 x0 x2 x3 x4 x5 x6 xs0 xs1) : Vec Ideal S128x256 .f32) (ix2 n c') = ((stO Hd R D W Cb B A S) n (768 + c') : EReal) :=
  (congrFun (B_state03 (F := Ideal) _ _ _ _ _ _ _ _ _ _ _ _ _ _ _ _ _ _ _ _ _ _ _ _ _) _).trans (st3_c (B_in0 T hH hS) _ _ (B_l03 T hH hS) n c')

theorem B_y0 (l : Fin 128) (c' : Fin 1024) : ((kernelRun0_B.sl.v561 c b1 g1 b2 g2 b3 g3 b4 g4 b5 g5 b6 g6 b7 g7 b8 g8 b9 g9 b18 g18 b19 g19 x0 x1 x2 x3 x4 x5 x6 x7 x8 xs0 xs1) : FVec Ideal S128x1024 .bf16) (ix2 l c') = ysR (sh 0 (cvR W Cb (upR Hd R))) (sh 0 D) B A S (sh 0 Z) K N l c' :=
  (congrFun (B_ys0 (F := Ideal) _ _ _ _ _ _ _ _ _ _ _ _ _ _ _ _ _ _ _ _ _ _ _ _ _ _ _ _ _ _ _ _ _ _) _).trans (ys_c (B_in0 T hH hS) _ _ _ _ _ _ _ _ (B_l00 T hH hS) (B_l01 T hH hS) (B_l02 T hH hS) (B_l03 T hH hS) _
    (fun l c => (rd (m := 256) (n := 1024) (a := 128) (b := 1024) b2 g2 x1 _ l c ⟨0 + l.1, by omega⟩ c rfl (by omega)).trans (T.z _ c)) _ _
    (fun c => (rd (m := 1) (n := 1024) (a := 1) (b := 1024) b8 g8 x7 _ 0 c 0 c rfl (by omega)).trans (T.k c)) (fun c => (rd (m := 1) (n := 1024) (a := 1) (b := 1024) b9 g9 x8 _ 0 c 0 c rfl (by omega)).trans (T.n c)) l c')

/-- The second chunk's arrays. -/
theorem B_in1 : ChunkReal (ld256x2048_128 g1 x0) (ld256x128_128 g3 x2) (ld1x128_0 g6 x5) (ld1x128_0 g7 x6) (ld1x2048_0 g5 x4) (ld4x2048_0 g4 x3) (ld4x2048_1 g4 x3) (ld4x2048_2 g4 x3) (ld4x2048_3 g4 x3) (kernelRun0_B.sl.v621 c b1 g1 b18 x0) (kernelRun0_B.sl.v627 c b1 g1 b18 x0) (kernelRun0_B.sl.v633 c b1 g1 b18 x0) (sh 128 (cvR W Cb (upR Hd R))) (sh 128 D) B A where
  hv := fun l c => by
    refine conv_sum ((rd (m := 1) (n := 2048) (a := 1) (b := 2048) b5 g5 x4 _ 0 c 0 c rfl (by omega)).trans (T.cb c)) (T.lw g4 3 c _) ?_ (T.lw g4 0 c _) ((congrFun B_t10 (ix2 l c)).trans (tap (o := 128) (gCur (ld256x2048_128 g1 x0)) (gHead (ld256x2048_0 g1 x0)) _ Hd R (T.cur 128 (by omega) g1 _) (fun i c => (head_val (ld256x2048_0 g1 x0) _ c).trans (((fun l c => T.lr 0 (by omega) g1 _ l c) ⟨120 + (5 + i.1), by omega⟩ c).trans (by unfold upR; rw [if_neg (by omega)]; simp only []; rw [show 0 + (120 + (5 + i.1)) = 128 + i.1 - 3 by omega]))) l c 0 rfl (by omega)))
      (T.lw g4 1 c _) ((congrFun B_t11 (ix2 l c)).trans (tap (o := 128) (gCur (ld256x2048_128 g1 x0)) (gHead (ld256x2048_0 g1 x0)) _ Hd R (T.cur 128 (by omega) g1 _) (fun i c => (head_val (ld256x2048_0 g1 x0) _ c).trans (((fun l c => T.lr 0 (by omega) g1 _ l c) ⟨120 + (5 + i.1), by omega⟩ c).trans (by unfold upR; rw [if_neg (by omega)]; simp only []; rw [show 0 + (120 + (5 + i.1)) = 128 + i.1 - 3 by omega]))) l c 1 rfl (by omega))) (T.lw g4 2 c _) ((congrFun B_t12 (ix2 l c)).trans (tap (o := 128) (gCur (ld256x2048_128 g1 x0)) (gHead (ld256x2048_0 g1 x0)) _ Hd R (T.cur 128 (by omega) g1 _) (fun i c => (head_val (ld256x2048_0 g1 x0) _ c).trans (((fun l c => T.lr 0 (by omega) g1 _ l c) ⟨120 + (5 + i.1), by omega⟩ c).trans (by unfold upR; rw [if_neg (by omega)]; simp only []; rw [show 0 + (120 + (5 + i.1)) = 128 + i.1 - 3 by omega]))) l c 2 rfl (by omega)))
    refine (T.lr 128 (by omega) g1 _ l c).trans ?_
    unfold upR
    rw [if_neg (by omega), Nat.add_sub_cancel]
  hd := fun l h => (rd (m := 256) (n := 128) (a := 128) (b := 128) b3 g3 x2 _ l h ⟨128 + l.1, by omega⟩ h rfl (by omega)).trans (T.d _ h)
  hb := fun c => (rd (m := 1) (n := 128) (a := 1) (b := 128) b6 g6 x5 _ 0 c 0 c rfl (by omega)).trans (T.b c)
  ha := fun c => (rd (m := 1) (n := 128) (a := 1) (b := 128) b7 g7 x6 _ 0 c 0 c rfl (by omega)).trans (T.a c)

theorem B_l10 : ∀ (n : Fin 128) (q : Fin 256), ((kernelRun0_B.sl.v735 c b1 g1 b3 g3 b4 g4 b5 g5 b6 g6 b7 g7 b18 g18 b19 g19 x0 x2 x3 x4 x5 x6 xs0 xs1) : Vec Ideal S128x256 .f32) (ix2 n q) = ((stO Hd R D W Cb B A S) n (0 + q) : EReal) :=
  by
  intro n c
  refine (congrFun B_sl10 (ix2 n c)).trans ?_
  refine (covS n c n ⟨0 + c.1, by omega⟩ (by omega) rfl).trans ?_
  refine (missS _ _ (by first | omega | (dsimp only; omega))).trans ?_
  refine (missS _ _ (by first | omega | (dsimp only; omega))).trans ?_
  refine (missS _ _ (by first | omega | (dsimp only; omega))).trans ?_
  exact (hitS _ _ n c (by omega) rfl).trans (B_s00 T hH hS n c)
theorem B_s10 (n : Fin 128) (c' : Fin 256) : ((kernelRun0_B.sl.v748 c b1 g1 b3 g3 b4 g4 b5 g5 b6 g6 b7 g7 b18 g18 b19 g19 x0 x2 x3 x4 x5 x6 xs0 xs1) : Vec Ideal S128x256 .f32) (ix2 n c') = ((stT Hd R D W Cb B A S) n (0 + c') : EReal) :=
  (congrFun (B_state10 (F := Ideal) _ _ _ _ _ _ _ _ _ _ _ _ _ _ _ _ _ _ _ _ _ _ _ _ _) _).trans (st0_c (B_in1 T hH hS) _ _ (B_l10 T hH hS) n c')

theorem B_l11 : ∀ (n : Fin 128) (q : Fin 256), ((kernelRun0_B.sl.v749 c b1 g1 b3 g3 b4 g4 b5 g5 b6 g6 b7 g7 b18 g18 b19 g19 x0 x2 x3 x4 x5 x6 xs0 xs1) : Vec Ideal S128x256 .f32) (ix2 n q) = ((stO Hd R D W Cb B A S) n (256 + q) : EReal) :=
  by
  intro n c
  refine (congrFun B_sl11 (ix2 n c)).trans ?_
  refine (covS n c n ⟨256 + c.1, by omega⟩ (by omega) rfl).trans ?_
  refine (missS _ _ (by first | omega | (dsimp only; omega))).trans ?_
  refine (missS _ _ (by first | omega | (dsimp only; omega))).trans ?_
  refine (missS _ _ (by first | omega | (dsimp only; omega))).trans ?_
  exact (hitS _ _ n c (by omega) rfl).trans (B_s01 T hH hS n c)
theorem B_s11 (n : Fin 128) (c' : Fin 256) : ((kernelRun0_B.sl.v762 c b1 g1 b3 g3 b4 g4 b5 g5 b6 g6 b7 g7 b18 g18 b19 g19 x0 x2 x3 x4 x5 x6 xs0 xs1) : Vec Ideal S128x256 .f32) (ix2 n c') = ((stT Hd R D W Cb B A S) n (256 + c') : EReal) :=
  (congrFun (B_state11 (F := Ideal) _ _ _ _ _ _ _ _ _ _ _ _ _ _ _ _ _ _ _ _ _ _ _ _ _) _).trans (st1_c (B_in1 T hH hS) _ _ (B_l11 T hH hS) n c')

theorem B_l12 : ∀ (n : Fin 128) (q : Fin 256), ((kernelRun0_B.sl.v763 c b1 g1 b3 g3 b4 g4 b5 g5 b6 g6 b7 g7 b18 g18 b19 g19 x0 x2 x3 x4 x5 x6 xs0 xs1) : Vec Ideal S128x256 .f32) (ix2 n q) = ((stO Hd R D W Cb B A S) n (512 + q) : EReal) :=
  by
  intro n c
  refine (congrFun B_sl12 (ix2 n c)).trans ?_
  refine (covS n c n ⟨512 + c.1, by omega⟩ (by omega) rfl).trans ?_
  refine (missS _ _ (by first | omega | (dsimp only; omega))).trans ?_
  refine (missS _ _ (by first | omega | (dsimp only; omega))).trans ?_
  refine (missS _ _ (by first | omega | (dsimp only; omega))).trans ?_
  exact (hitS _ _ n c (by omega) rfl).trans (B_s02 T hH hS n c)
theorem B_s12 (n : Fin 128) (c' : Fin 256) : ((kernelRun0_B.sl.v776 c b1 g1 b3 g3 b4 g4 b5 g5 b6 g6 b7 g7 b18 g18 b19 g19 x0 x2 x3 x4 x5 x6 xs0 xs1) : Vec Ideal S128x256 .f32) (ix2 n c') = ((stT Hd R D W Cb B A S) n (512 + c') : EReal) :=
  (congrFun (B_state12 (F := Ideal) _ _ _ _ _ _ _ _ _ _ _ _ _ _ _ _ _ _ _ _ _ _ _ _ _) _).trans (st2_c (B_in1 T hH hS) _ _ (B_l12 T hH hS) n c')

theorem B_l13 : ∀ (n : Fin 128) (q : Fin 256), ((kernelRun0_B.sl.v777 c b1 g1 b3 g3 b4 g4 b5 g5 b6 g6 b7 g7 b18 g18 b19 g19 x0 x2 x3 x4 x5 x6 xs0 xs1) : Vec Ideal S128x256 .f32) (ix2 n q) = ((stO Hd R D W Cb B A S) n (768 + q) : EReal) :=
  by
  intro n c
  refine (congrFun B_sl13 (ix2 n c)).trans ?_
  refine (covS n c n ⟨768 + c.1, by omega⟩ (by omega) rfl).trans ?_
  refine (missS _ _ (by first | omega | (dsimp only; omega))).trans ?_
  refine (missS _ _ (by first | omega | (dsimp only; omega))).trans ?_
  refine (missS _ _ (by first | omega | (dsimp only; omega))).trans ?_
  exact (hitS _ _ n c (by omega) rfl).trans (B_s03 T hH hS n c)
theorem B_s13 (n : Fin 128) (c' : Fin 256) : ((kernelRun0_B.sl.v790 c b1 g1 b3 g3 b4 g4 b5 g5 b6 g6 b7 g7 b18 g18 b19 g19 x0 x2 x3 x4 x5 x6 xs0 xs1) : Vec Ideal S128x256 .f32) (ix2 n c') = ((stT Hd R D W Cb B A S) n (768 + c') : EReal) :=
  (congrFun (B_state13 (F := Ideal) _ _ _ _ _ _ _ _ _ _ _ _ _ _ _ _ _ _ _ _ _ _ _ _ _) _).trans (st3_c (B_in1 T hH hS) _ _ (B_l13 T hH hS) n c')

theorem B_y1 (l : Fin 128) (c' : Fin 1024) : ((kernelRun0_B.sl.v1079 c b1 g1 b2 g2 b3 g3 b4 g4 b5 g5 b6 g6 b7 g7 b8 g8 b9 g9 b18 g18 b19 g19 x0 x1 x2 x3 x4 x5 x6 x7 x8 xs0 xs1) : FVec Ideal S128x1024 .bf16) (ix2 l c') = ysR (sh 128 (cvR W Cb (upR Hd R))) (sh 128 D) B A (stO Hd R D W Cb B A S) (sh 128 Z) K N l c' :=
  (congrFun (B_ys1 (F := Ideal) _ _ _ _ _ _ _ _ _ _ _ _ _ _ _ _ _ _ _ _ _ _ _ _ _ _ _ _ _ _ _ _ _ _) _).trans (ys_c (B_in1 T hH hS) _ _ _ _ _ _ _ _ (B_l10 T hH hS) (B_l11 T hH hS) (B_l12 T hH hS) (B_l13 T hH hS) _
    (fun l c => (rd (m := 256) (n := 1024) (a := 128) (b := 1024) b2 g2 x1 _ l c ⟨128 + l.1, by omega⟩ c rfl (by omega)).trans (T.z _ c)) _ _
    (fun c => (rd (m := 1) (n := 1024) (a := 1) (b := 1024) b8 g8 x7 _ 0 c 0 c rfl (by omega)).trans (T.k c)) (fun c => (rd (m := 1) (n := 1024) (a := 1) (b := 1024) b9 g9 x8 _ 0 c 0 c rfl (by omega)).trans (T.n c)) l c')

/-- The history carried on: the tile's last three rows. -/
theorem B_hist (i : grid0.Coords) (hc0 : ¬cond0_0 i) (hc1 : ¬cond0_1 i) (hc2 : cond0_2 i) (hc3 : ¬cond0_3 i) (j : Fin 3) (c' : Fin 2048) : (sout0_B_0 c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs0 xs1 xs2 : Vec Ideal S136x2048 .f32) (ix2 ⟨5 + j.1, by omega⟩ c') = (R (253 + j) c' : EReal) := by
  unfold sout0_B_0
  refine (congrFun (View.read_writes_junk_eq_canon VS0_0 _) _).trans ?_
  unfold kernelRun0_B
  dsimp only
  refine (cn_hit (m := 136) (n := 2048) (a := 8) (b := 2048) _ _ ⟨5 + j.1, by omega⟩ c' (by first | omega | (dsimp only; omega)) (by omega)).trans ?_
  refine (head_val (ld256x2048_128 g1 x0) _ c').trans ((rd (m := 256) (n := 2048) (a := 128) (b := 2048) b1 g1 x0 _ _ c' ⟨128 + (120 + (5 + j.1)), by omega⟩ c' rfl (by omega)).trans ((T.raw _ c').trans ?_))
  simp only []
  rw [show 128 + (120 + (5 + j.1)) = 253 + j.1 by omega]

/-- The state carried on. -/
theorem B_state (i : grid0.Coords) (hc0 : ¬cond0_0 i) (hc1 : ¬cond0_1 i) (hc2 : cond0_2 i) (hc3 : ¬cond0_3 i) (n : Fin 128) (c' : Fin 1024) : (sout0_B_1 c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs0 xs1 xs2 : Vec Ideal S128x1024 .f32) (ix2 n c') = ((stR (sh 128 (cvR W Cb (upR Hd R))) (sh 128 D) B A (stR (sh 0 (cvR W Cb (upR Hd R))) (sh 0 D) B A S)) n c' : EReal) := by
  unfold sout0_B_1
  refine (congrFun (View.read_writes_junk_eq_canon VS0_1 _) _).trans ?_
  unfold kernelRun0_B
  dsimp only
  by_cases h3 : 768 ≤ c'.1
  · refine (hitS _ _ n ⟨c'.1 - 768, by omega⟩ (by omega) (by first | omega | (dsimp only; omega))).trans ((B_s13 T hH hS n _).trans ?_)
    simp only []; rw [show 768 + (c'.1 - 768) = c'.1 by omega]
  refine (missS _ _ (by omega)).trans ?_
  by_cases h2 : 512 ≤ c'.1
  · refine (hitS _ _ n ⟨c'.1 - 512, by omega⟩ (by omega) (by first | omega | (dsimp only; omega))).trans ((B_s12 T hH hS n _).trans ?_)
    simp only []; rw [show 512 + (c'.1 - 512) = c'.1 by omega]
  refine (missS _ _ (by omega)).trans ?_
  by_cases h1 : 256 ≤ c'.1
  · refine (hitS _ _ n ⟨c'.1 - 256, by omega⟩ (by omega) (by first | omega | (dsimp only; omega))).trans ((B_s11 T hH hS n _).trans ?_)
    simp only []; rw [show 256 + (c'.1 - 256) = c'.1 by omega]
  refine (missS _ _ (by omega)).trans ?_
  refine (hitS _ _ n ⟨c'.1 - 0, by omega⟩ (by omega) (by first | omega | (dsimp only; omega))).trans ((B_s10 T hH hS n _).trans ?_)
  simp only []; rw [show 0 + (c'.1 - 0) = c'.1 by omega]

/-- The tile's rows. -/
theorem B_rows (i : grid0.Coords) (hc0 : ¬cond0_0 i) (hc1 : ¬cond0_1 i) (hc2 : cond0_2 i) (hc3 : ¬cond0_3 i) (r : Fin 256) (c' : Fin 1024) : (sout0_B_2 c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs0 xs1 xs2 : Vec Ideal S256x1024 .bf16) (ix2 r c') =
    if r.1 < 128 then ysR (sh 0 (cvR W Cb (upR Hd R))) (sh 0 D) B A S (sh 0 Z) K N r c' else ysR (sh 128 (cvR W Cb (upR Hd R))) (sh 128 D) B A (stR (sh 0 (cvR W Cb (upR Hd R))) (sh 0 D) B A S) (sh 128 Z) K N (r - 128) c' := by
  unfold sout0_B_2
  refine (congrFun (View.read_writes_junk_eq_canon VS0_2 _) _).trans ?_
  unfold kernelRun0_B
  dsimp only
  by_cases h : r.1 < 128
  · rw [if_pos h]
    refine (cn_miss (m := 256) (n := 1024) (a := 128) (b := 1024) _ _ (by omega)).trans ?_
    exact (cn_hit (m := 256) (n := 1024) (a := 128) (b := 1024) _ _ ⟨r.1, h⟩ c' (by first | omega | (dsimp only; omega)) (by omega)).trans (B_y0 T hH hS _ c')
  · rw [if_neg h]
    exact (cn_hit (m := 256) (n := 1024) (a := 128) (b := 1024) _ _ ⟨r.1 - 128, by omega⟩ c' (by first | omega | (dsimp only; omega)) (by omega)).trans (B_y1 T hH hS _ c')

end Cert.KernelIdeal.Ssd
-- ==== Proof.SsdWordC.lean ====
/- The words that case C of the mixer kernel stores, as the steps of the scan. -/
module

public import Idealize.ShloMosaic.Lib.Pipeline.Value
public import Idealize.ShloMosaic.Lib.Tactic
public import proofs.«01_k».proof.Proof.SsdRunC
public import proofs.«01_k».proof.Proof.SsdStage
public import proofs.«01_k».proof.Proof.SsdLd

@[expose] public section

set_option maxRecDepth 16384

noncomputable section

open Idealize.ShloMosaic Idealize.ShloMosaic.TcCoe Idealize.SL.Sem

namespace Cert.KernelIdeal.Ssd

open Cert.KernelIdeal Cert.KernelIdeal.Gen

variable {F : FTy → Type} [FloatOps F] [Named F]
variable (c : Dev nD) (b1 : Memref sig .tc .vmem S256x2048 .bf16) (g1 : b1.IsWhole) (b2 : Memref sig .tc .vmem S256x1024 .bf16) (g2 : b2.IsWhole) (b3 : Memref sig .tc .vmem S256x128 .f32) (g3 : b3.IsWhole) (b4 : Memref sig .tc .vmem S4x2048 .f32) (g4 : b4.IsWhole) (b5 : Memref sig .tc .vmem S1x2048 .f32) (g5 : b5.IsWhole) (b6 : Memref sig .tc .vmem S1x128 .f32) (g6 : b6.IsWhole) (b7 : Memref sig .tc .vmem S1x128 .f32) (g7 : b7.IsWhole) (b8 : Memref sig .tc .vmem S1x1024 .f32) (g8 : b8.IsWhole) (b9 : Memref sig .tc .vmem S1x1024 .f32) (g9 : b9.IsWhole) (b18 : Memref sig .tc .vmem S136x2048 .f32) (b19 : Memref sig .tc .vmem S128x1024 .f32) (x0 : Vec F S256x2048 .bf16) (x1 : Vec F S256x1024 .bf16) (x2 : Vec F S256x128 .f32) (x3 : Vec F S4x2048 .f32) (x4 : Vec F S1x2048 .f32) (x5 : Vec F S1x128 .f32) (x6 : Vec F S1x128 .f32) (x7 : Vec F S1x1024 .f32) (x8 : Vec F S1x1024 .f32)

/-- Group 0's state after the tile's first chunk, as stored. -/
theorem C_state00 :
    (kernelRun0_C.sl.v230 c b1 g1 b3 g3 b4 g4 b5 g5 b6 g6 b7 g7 b18 b19 x0 x2 x3 x4 x5 x6) =
      cSt0 (ld256x2048_0 g1 x0) (ld256x128_0 g3 x2) (ld1x128_0 g6 x5) (ld1x128_0 g7 x6) (ld1x2048_0 g5 x4) (ld4x2048_0 g4 x3) (ld4x2048_1 g4 x3) (ld4x2048_2 g4 x3) (ld4x2048_3 g4 x3) (kernelRun0_C.sl.v103 c b1 g1 b18 x0) (kernelRun0_C.sl.v109 c b1 g1 b18 x0) (kernelRun0_C.sl.v115 c b1 g1 b18 x0) (kernelRun0_C.sl.v217 c b19) := rfl

/-- Group 1's state after the tile's first chunk, as stored. -/
theorem C_state01 :
    (kernelRun0_C.sl.v244 c b1 g1 b3 g3 b4 g4 b5 g5 b6 g6 b7 g7 b18 b19 x0 x2 x3 x4 x5 x6) =
      cSt1 (ld256x2048_0 g1 x0) (ld256x128_0 g3 x2) (ld1x128_0 g6 x5) (ld1x128_0 g7 x6) (ld1x2048_0 g5 x4) (ld4x2048_0 g4 x3) (ld4x2048_1 g4 x3) (ld4x2048_2 g4 x3) (ld4x2048_3 g4 x3) (kernelRun0_C.sl.v103 c b1 g1 b18 x0) (kernelRun0_C.sl.v109 c b1 g1 b18 x0) (kernelRun0_C.sl.v115 c b1 g1 b18 x0) (kernelRun0_C.sl.v231 c b1 g1 b3 g3 b4 g4 b5 g5 b6 g6 b7 g7 b18 b19 x0 x2 x3 x4 x5 x6) := rfl

/-- Group 2's state after the tile's first chunk, as stored. -/
theorem C_state02 :
    (kernelRun0_C.sl.v258 c b1 g1 b3 g3 b4 g4 b5 g5 b6 g6 b7 g7 b18 b19 x0 x2 x3 x4 x5 x6) =
      cSt2 (ld256x2048_0 g1 x0) (ld256x128_0 g3 x2) (ld1x128_0 g6 x5) (ld1x128_0 g7 x6) (ld1x2048_0 g5 x4) (ld4x2048_0 g4 x3) (ld4x2048_1 g4 x3) (ld4x2048_2 g4 x3) (ld4x2048_3 g4 x3) (kernelRun0_C.sl.v103 c b1 g1 b18 x0) (kernelRun0_C.sl.v109 c b1 g1 b18 x0) (kernelRun0_C.sl.v115 c b1 g1 b18 x0) (kernelRun0_C.sl.v245 c b1 g1 b3 g3 b4 g4 b5 g5 b6 g6 b7 g7 b18 b19 x0 x2 x3 x4 x5 x6) := rfl

/-- Group 3's state after the tile's first chunk, as stored. -/
theorem C_state03 :
    (kernelRun0_C.sl.v272 c b1 g1 b3 g3 b4 g4 b5 g5 b6 g6 b7 g7 b18 b19 x0 x2 x3 x4 x5 x6) =
      cSt3 (ld256x2048_0 g1 x0) (ld256x128_0 g3 x2) (ld1x128_0 g6 x5) (ld1x128_0 g7 x6) (ld1x2048_0 g5 x4) (ld4x2048_0 g4 x3) (ld4x2048_1 g4 x3) (ld4x2048_2 g4 x3) (ld4x2048_3 g4 x3) (kernelRun0_C.sl.v103 c b1 g1 b18 x0) (kernelRun0_C.sl.v109 c b1 g1 b18 x0) (kernelRun0_C.sl.v115 c b1 g1 b18 x0) (kernelRun0_C.sl.v259 c b1 g1 b3 g3 b4 g4 b5 g5 b6 g6 b7 g7 b18 b19 x0 x2 x3 x4 x5 x6) := rfl

/-- The first chunk's rows, as stored. -/
theorem C_ys0 :
    (kernelRun0_C.sl.v561 c b1 g1 b2 g2 b3 g3 b4 g4 b5 g5 b6 g6 b7 g7 b8 g8 b9 g9 b18 b19 x0 x1 x2 x3 x4 x5 x6 x7 x8) =
      cYs (ld256x2048_0 g1 x0) (ld256x128_0 g3 x2) (ld1x128_0 g6 x5) (ld1x128_0 g7 x6) (ld1x2048_0 g5 x4) (ld4x2048_0 g4 x3) (ld4x2048_1 g4 x3) (ld4x2048_2 g4 x3) (ld4x2048_3 g4 x3) (kernelRun0_C.sl.v103 c b1 g1 b18 x0) (kernelRun0_C.sl.v109 c b1 g1 b18 x0) (kernelRun0_C.sl.v115 c b1 g1 b18 x0) (ld256x1024_0 g2 x1) (ld1x1024_0 g8 x7) (ld1x1024_0 g9 x8) (kernelRun0_C.sl.v217 c b19) (kernelRun0_C.sl.v231 c b1 g1 b3 g3 b4 g4 b5 g5 b6 g6 b7 g7 b18 b19 x0 x2 x3 x4 x5 x6) (kernelRun0_C.sl.v245 c b1 g1 b3 g3 b4 g4 b5 g5 b6 g6 b7 g7 b18 b19 x0 x2 x3 x4 x5 x6) (kernelRun0_C.sl.v259 c b1 g1 b3 g3 b4 g4 b5 g5 b6 g6 b7 g7 b18 b19 x0 x2 x3 x4 x5 x6) := rfl

/-- Group 0's state after the tile's second chunk, as stored. -/
theorem C_state10 :
    (kernelRun0_C.sl.v748 c b1 g1 b3 g3 b4 g4 b5 g5 b6 g6 b7 g7 b18 b19 x0 x2 x3 x4 x5 x6) =
      cSt0 (ld256x2048_128 g1 x0) (ld256x128_128 g3 x2) (ld1x128_0 g6 x5) (ld1x128_0 g7 x6) (ld1x2048_0 g5 x4) (ld4x2048_0 g4 x3) (ld4x2048_1 g4 x3) (ld4x2048_2 g4 x3) (ld4x2048_3 g4 x3) (kernelRun0_C.sl.v621 c b1 g1 b18 x0) (kernelRun0_C.sl.v627 c b1 g1 b18 x0) (kernelRun0_C.sl.v633 c b1 g1 b18 x0) (kernelRun0_C.sl.v735 c b1 g1 b3 g3 b4 g4 b5 g5 b6 g6 b7 g7 b18 b19 x0 x2 x3 x4 x5 x6) := rfl

/-- Group 1's state after the tile's second chunk, as stored. -/
theorem C_state11 :
    (kernelRun0_C.sl.v762 c b1 g1 b3 g3 b4 g4 b5 g5 b6 g6 b7 g7 b18 b19 x0 x2 x3 x4 x5 x6) =
      cSt1 (ld256x2048_128 g1 x0) (ld256x128_128 g3 x2) (ld1x128_0 g6 x5) (ld1x128_0 g7 x6) (ld1x2048_0 g5 x4) (ld4x2048_0 g4 x3) (ld4x2048_1 g4 x3) (ld4x2048_2 g4 x3) (ld4x2048_3 g4 x3) (kernelRun0_C.sl.v621 c b1 g1 b18 x0) (kernelRun0_C.sl.v627 c b1 g1 b18 x0) (kernelRun0_C.sl.v633 c b1 g1 b18 x0) (kernelRun0_C.sl.v749 c b1 g1 b3 g3 b4 g4 b5 g5 b6 g6 b7 g7 b18 b19 x0 x2 x3 x4 x5 x6) := rfl

/-- Group 2's state after the tile's second chunk, as stored. -/
theorem C_state12 :
    (kernelRun0_C.sl.v776 c b1 g1 b3 g3 b4 g4 b5 g5 b6 g6 b7 g7 b18 b19 x0 x2 x3 x4 x5 x6) =
      cSt2 (ld256x2048_128 g1 x0) (ld256x128_128 g3 x2) (ld1x128_0 g6 x5) (ld1x128_0 g7 x6) (ld1x2048_0 g5 x4) (ld4x2048_0 g4 x3) (ld4x2048_1 g4 x3) (ld4x2048_2 g4 x3) (ld4x2048_3 g4 x3) (kernelRun0_C.sl.v621 c b1 g1 b18 x0) (kernelRun0_C.sl.v627 c b1 g1 b18 x0) (kernelRun0_C.sl.v633 c b1 g1 b18 x0) (kernelRun0_C.sl.v763 c b1 g1 b3 g3 b4 g4 b5 g5 b6 g6 b7 g7 b18 b19 x0 x2 x3 x4 x5 x6) := rfl

/-- Group 3's state after the tile's second chunk, as stored. -/
theorem C_state13 :
    (kernelRun0_C.sl.v790 c b1 g1 b3 g3 b4 g4 b5 g5 b6 g6 b7 g7 b18 b19 x0 x2 x3 x4 x5 x6) =
      cSt3 (ld256x2048_128 g1 x0) (ld256x128_128 g3 x2) (ld1x128_0 g6 x5) (ld1x128_0 g7 x6) (ld1x2048_0 g5 x4) (ld4x2048_0 g4 x3) (ld4x2048_1 g4 x3) (ld4x2048_2 g4 x3) (ld4x2048_3 g4 x3) (kernelRun0_C.sl.v621 c b1 g1 b18 x0) (kernelRun0_C.sl.v627 c b1 g1 b18 x0) (kernelRun0_C.sl.v633 c b1 g1 b18 x0) (kernelRun0_C.sl.v777 c b1 g1 b3 g3 b4 g4 b5 g5 b6 g6 b7 g7 b18 b19 x0 x2 x3 x4 x5 x6) := rfl

/-- The second chunk's rows, as stored. -/
theorem C_ys1 :
    (kernelRun0_C.sl.v1079 c b1 g1 b2 g2 b3 g3 b4 g4 b5 g5 b6 g6 b7 g7 b8 g8 b9 g9 b18 b19 x0 x1 x2 x3 x4 x5 x6 x7 x8) =
      cYs (ld256x2048_128 g1 x0) (ld256x128_128 g3 x2) (ld1x128_0 g6 x5) (ld1x128_0 g7 x6) (ld1x2048_0 g5 x4) (ld4x2048_0 g4 x3) (ld4x2048_1 g4 x3) (ld4x2048_2 g4 x3) (ld4x2048_3 g4 x3) (kernelRun0_C.sl.v621 c b1 g1 b18 x0) (kernelRun0_C.sl.v627 c b1 g1 b18 x0) (kernelRun0_C.sl.v633 c b1 g1 b18 x0) (ld256x1024_128 g2 x1) (ld1x1024_0 g8 x7) (ld1x1024_0 g9 x8) (kernelRun0_C.sl.v735 c b1 g1 b3 g3 b4 g4 b5 g5 b6 g6 b7 g7 b18 b19 x0 x2 x3 x4 x5 x6) (kernelRun0_C.sl.v749 c b1 g1 b3 g3 b4 g4 b5 g5 b6 g6 b7 g7 b18 b19 x0 x2 x3 x4 x5 x6) (kernelRun0_C.sl.v763 c b1 g1 b3 g3 b4 g4 b5 g5 b6 g6 b7 g7 b18 b19 x0 x2 x3 x4 x5 x6) (kernelRun0_C.sl.v777 c b1 g1 b3 g3 b4 g4 b5 g5 b6 g6 b7 g7 b18 b19 x0 x2 x3 x4 x5 x6) := rfl

end Cert.KernelIdeal.Ssd
-- ==== Proof.SsdTileC.lean ====
/- What case C of the mixer kernel carries to the next tile: the convolution's history, the state and the rows. -/
module

public import proofs.«01_k».proof.Proof.SsdTile
public import proofs.«01_k».proof.Proof.SsdWordC
public import proofs.«01_k».proof.Proof.SsdOuts

@[expose] public section

set_option maxRecDepth 16384

noncomputable section

open Idealize.ShloMosaic Idealize.ShloMosaic.TcCoe Idealize.SL.Sem

namespace Cert.KernelIdeal.Ssd

open Cert.KernelIdeal Cert.KernelIdeal.Gen

section
variable {F : FTy → Type} [FloatOps F] [Named F]
variable {c : Dev nD} {b1 : Memref sig .tc .vmem S256x2048 .bf16} {g1 : b1.IsWhole} {b2 : Memref sig .tc .vmem S256x1024 .bf16} {g2 : b2.IsWhole} {b3 : Memref sig .tc .vmem S256x128 .f32} {g3 : b3.IsWhole} {b4 : Memref sig .tc .vmem S4x2048 .f32} {g4 : b4.IsWhole} {b5 : Memref sig .tc .vmem S1x2048 .f32} {g5 : b5.IsWhole} {b6 : Memref sig .tc .vmem S1x128 .f32} {g6 : b6.IsWhole} {b7 : Memref sig .tc .vmem S1x128 .f32} {g7 : b7.IsWhole} {b8 : Memref sig .tc .vmem S1x1024 .f32} {g8 : b8.IsWhole} {b9 : Memref sig .tc .vmem S1x1024 .f32} {g9 : b9.IsWhole} {b10 : Memref sig .tc .vmem S256x2048 .f32} {g10 : b10.IsWhole} {b11 : Memref sig .tc .vmem S256x1024 .bf16} {g11 : b11.IsWhole} {b12 : Memref sig .tc .vmem S2048x2048 .bf16} {g12 : b12.IsWhole} {b13 : Memref sig .tc .vmem S1x2048 .f32} {g13 : b13.IsWhole} {b14 : Memref sig .tc .vmem S256x2048 .f32} {g14 : b14.IsWhole} {b15 : Memref sig .tc .vmem S256x2048 .f32} {g15 : b15.IsWhole} {b16 : Memref sig .tc .vmem S256x2048 .bf16} {g16 : b16.IsWhole} {b17 : Memref sig .tc .vmem S256x2048 .bf16} {g17 : b17.IsWhole} {b18 : Memref sig .tc .vmem S136x2048 .f32} {g18 : b18.IsWhole} {b19 : Memref sig .tc .vmem S128x1024 .f32} {g19 : b19.IsWhole} {b20 : Memref sig .tc .vmem S256x1024 .bf16} {g20 : b20.IsWhole} {b21 : Memref sig .tc .vmem S256x1024 .bf16} {g21 : b21.IsWhole} {x0 : Vec F S256x2048 .bf16} {x1 : Vec F S256x1024 .bf16} {x2 : Vec F S256x128 .f32} {x3 : Vec F S4x2048 .f32} {x4 : Vec F S1x2048 .f32} {x5 : Vec F S1x128 .f32} {x6 : Vec F S1x128 .f32} {x7 : Vec F S1x1024 .f32} {x8 : Vec F S1x1024 .f32} {x9 : Vec F S256x2048 .f32} {x10 : Vec F S256x1024 .bf16} {x11 : Vec F S2048x2048 .bf16} {x12 : Vec F S1x2048 .f32} {x13 : Vec F S256x2048 .f32} {xs2 : Vec F S256x1024 .bf16}

theorem C_t00 : (kernelRun0_C.sl.v103 c b1 g1 b18 x0) = b18.view.readCov ((pCr (gCur (ld256x2048_0 g1 x0))) :: (pHd (k0_pay1 (F := F))) :: []) rH5 := rfl

theorem C_t01 : (kernelRun0_C.sl.v109 c b1 g1 b18 x0) = b18.view.readCov ((pCr (gCur (ld256x2048_0 g1 x0))) :: (pHd (k0_pay1 (F := F))) :: []) rH6 := rfl

theorem C_t02 : (kernelRun0_C.sl.v115 c b1 g1 b18 x0) = b18.view.readCov ((pCr (gCur (ld256x2048_0 g1 x0))) :: (pHd (k0_pay1 (F := F))) :: []) rH7 := rfl

theorem C_sl00 : (kernelRun0_C.sl.v217 c b19) = b19.view.readCov ((pSt (k0_pay2 (F := F))) :: []) rS0 := rfl

theorem C_sl01 : (kernelRun0_C.sl.v231 c b1 g1 b3 g3 b4 g4 b5 g5 b6 g6 b7 g7 b18 b19 x0 x2 x3 x4 x5 x6) = b19.view.readCov ((pS0 (kernelRun0_C.sl.v230 c b1 g1 b3 g3 b4 g4 b5 g5 b6 g6 b7 g7 b18 b19 x0 x2 x3 x4 x5 x6)) :: (pSt k0_pay2) :: []) rS256 := rfl

theorem C_sl02 : (kernelRun0_C.sl.v245 c b1 g1 b3 g3 b4 g4 b5 g5 b6 g6 b7 g7 b18 b19 x0 x2 x3 x4 x5 x6) = b19.view.readCov ((pS256 (kernelRun0_C.sl.v244 c b1 g1 b3 g3 b4 g4 b5 g5 b6 g6 b7 g7 b18 b19 x0 x2 x3 x4 x5 x6)) :: (pS0 (kernelRun0_C.sl.v230 c b1 g1 b3 g3 b4 g4 b5 g5 b6 g6 b7 g7 b18 b19 x0 x2 x3 x4 x5 x6)) :: (pSt k0_pay2) :: []) rS512 := rfl

theorem C_sl03 : (kernelRun0_C.sl.v259 c b1 g1 b3 g3 b4 g4 b5 g5 b6 g6 b7 g7 b18 b19 x0 x2 x3 x4 x5 x6) = b19.view.readCov ((pS512 (kernelRun0_C.sl.v258 c b1 g1 b3 g3 b4 g4 b5 g5 b6 g6 b7 g7 b18 b19 x0 x2 x3 x4 x5 x6)) :: (pS256 (kernelRun0_C.sl.v244 c b1 g1 b3 g3 b4 g4 b5 g5 b6 g6 b7 g7 b18 b19 x0 x2 x3 x4 x5 x6)) :: (pS0 (kernelRun0_C.sl.v230 c b1 g1 b3 g3 b4 g4 b5 g5 b6 g6 b7 g7 b18 b19 x0 x2 x3 x4 x5 x6)) :: (pSt k0_pay2) :: []) rS768 := rfl

theorem C_t10 : (kernelRun0_C.sl.v621 c b1 g1 b18 x0) = b18.view.readCov ((pCr (gCur (ld256x2048_128 g1 x0))) :: (pHd (gHead (ld256x2048_0 g1 x0))) :: (pCr (gCur (ld256x2048_0 g1 x0))) :: (pHd k0_pay1) :: []) rH5 := rfl

theorem C_t11 : (kernelRun0_C.sl.v627 c b1 g1 b18 x0) = b18.view.readCov ((pCr (gCur (ld256x2048_128 g1 x0))) :: (pHd (gHead (ld256x2048_0 g1 x0))) :: (pCr (gCur (ld256x2048_0 g1 x0))) :: (pHd k0_pay1) :: []) rH6 := rfl

theorem C_t12 : (kernelRun0_C.sl.v633 c b1 g1 b18 x0) = b18.view.readCov ((pCr (gCur (ld256x2048_128 g1 x0))) :: (pHd (gHead (ld256x2048_0 g1 x0))) :: (pCr (gCur (ld256x2048_0 g1 x0))) :: (pHd k0_pay1) :: []) rH7 := rfl

theorem C_sl10 : (kernelRun0_C.sl.v735 c b1 g1 b3 g3 b4 g4 b5 g5 b6 g6 b7 g7 b18 b19 x0 x2 x3 x4 x5 x6) = b19.view.readCov ((pS768 (kernelRun0_C.sl.v272 c b1 g1 b3 g3 b4 g4 b5 g5 b6 g6 b7 g7 b18 b19 x0 x2 x3 x4 x5 x6)) :: (pS512 (kernelRun0_C.sl.v258 c b1 g1 b3 g3 b4 g4 b5 g5 b6 g6 b7 g7 b18 b19 x0 x2 x3 x4 x5 x6)) :: (pS256 (kernelRun0_C.sl.v244 c b1 g1 b3 g3 b4 g4 b5 g5 b6 g6 b7 g7 b18 b19 x0 x2 x3 x4 x5 x6)) :: (pS0 (kernelRun0_C.sl.v230 c b1 g1 b3 g3 b4 g4 b5 g5 b6 g6 b7 g7 b18 b19 x0 x2 x3 x4 x5 x6)) :: (pSt k0_pay2) :: []) rS0 := rfl

theorem C_sl11 : (kernelRun0_C.sl.v749 c b1 g1 b3 g3 b4 g4 b5 g5 b6 g6 b7 g7 b18 b19 x0 x2 x3 x4 x5 x6) = b19.view.readCov ((pS0 (kernelRun0_C.sl.v748 c b1 g1 b3 g3 b4 g4 b5 g5 b6 g6 b7 g7 b18 b19 x0 x2 x3 x4 x5 x6)) :: (pS768 (kernelRun0_C.sl.v272 c b1 g1 b3 g3 b4 g4 b5 g5 b6 g6 b7 g7 b18 b19 x0 x2 x3 x4 x5 x6)) :: (pS512 (kernelRun0_C.sl.v258 c b1 g1 b3 g3 b4 g4 b5 g5 b6 g6 b7 g7 b18 b19 x0 x2 x3 x4 x5 x6)) :: (pS256 (kernelRun0_C.sl.v244 c b1 g1 b3 g3 b4 g4 b5 g5 b6 g6 b7 g7 b18 b19 x0 x2 x3 x4 x5 x6)) :: (pS0 (kernelRun0_C.sl.v230 c b1 g1 b3 g3 b4 g4 b5 g5 b6 g6 b7 g7 b18 b19 x0 x2 x3 x4 x5 x6)) :: (pSt k0_pay2) :: []) rS256 := rfl

theorem C_sl12 : (kernelRun0_C.sl.v763 c b1 g1 b3 g3 b4 g4 b5 g5 b6 g6 b7 g7 b18 b19 x0 x2 x3 x4 x5 x6) = b19.view.readCov ((pS256 (kernelRun0_C.sl.v762 c b1 g1 b3 g3 b4 g4 b5 g5 b6 g6 b7 g7 b18 b19 x0 x2 x3 x4 x5 x6)) :: (pS0 (kernelRun0_C.sl.v748 c b1 g1 b3 g3 b4 g4 b5 g5 b6 g6 b7 g7 b18 b19 x0 x2 x3 x4 x5 x6)) :: (pS768 (kernelRun0_C.sl.v272 c b1 g1 b3 g3 b4 g4 b5 g5 b6 g6 b7 g7 b18 b19 x0 x2 x3 x4 x5 x6)) :: (pS512 (kernelRun0_C.sl.v258 c b1 g1 b3 g3 b4 g4 b5 g5 b6 g6 b7 g7 b18 b19 x0 x2 x3 x4 x5 x6)) :: (pS256 (kernelRun0_C.sl.v244 c b1 g1 b3 g3 b4 g4 b5 g5 b6 g6 b7 g7 b18 b19 x0 x2 x3 x4 x5 x6)) :: (pS0 (kernelRun0_C.sl.v230 c b1 g1 b3 g3 b4 g4 b5 g5 b6 g6 b7 g7 b18 b19 x0 x2 x3 x4 x5 x6)) :: (pSt k0_pay2) :: []) rS512 := rfl

theorem C_sl13 : (kernelRun0_C.sl.v777 c b1 g1 b3 g3 b4 g4 b5 g5 b6 g6 b7 g7 b18 b19 x0 x2 x3 x4 x5 x6) = b19.view.readCov ((pS512 (kernelRun0_C.sl.v776 c b1 g1 b3 g3 b4 g4 b5 g5 b6 g6 b7 g7 b18 b19 x0 x2 x3 x4 x5 x6)) :: (pS256 (kernelRun0_C.sl.v762 c b1 g1 b3 g3 b4 g4 b5 g5 b6 g6 b7 g7 b18 b19 x0 x2 x3 x4 x5 x6)) :: (pS0 (kernelRun0_C.sl.v748 c b1 g1 b3 g3 b4 g4 b5 g5 b6 g6 b7 g7 b18 b19 x0 x2 x3 x4 x5 x6)) :: (pS768 (kernelRun0_C.sl.v272 c b1 g1 b3 g3 b4 g4 b5 g5 b6 g6 b7 g7 b18 b19 x0 x2 x3 x4 x5 x6)) :: (pS512 (kernelRun0_C.sl.v258 c b1 g1 b3 g3 b4 g4 b5 g5 b6 g6 b7 g7 b18 b19 x0 x2 x3 x4 x5 x6)) :: (pS256 (kernelRun0_C.sl.v244 c b1 g1 b3 g3 b4 g4 b5 g5 b6 g6 b7 g7 b18 b19 x0 x2 x3 x4 x5 x6)) :: (pS0 (kernelRun0_C.sl.v230 c b1 g1 b3 g3 b4 g4 b5 g5 b6 g6 b7 g7 b18 b19 x0 x2 x3 x4 x5 x6)) :: (pSt k0_pay2) :: []) rS768 := rfl

end

variable {c : Dev nD} {b1 : Memref sig .tc .vmem S256x2048 .bf16} {g1 : b1.IsWhole} {b2 : Memref sig .tc .vmem S256x1024 .bf16} {g2 : b2.IsWhole} {b3 : Memref sig .tc .vmem S256x128 .f32} {g3 : b3.IsWhole} {b4 : Memref sig .tc .vmem S4x2048 .f32} {g4 : b4.IsWhole} {b5 : Memref sig .tc .vmem S1x2048 .f32} {g5 : b5.IsWhole} {b6 : Memref sig .tc .vmem S1x128 .f32} {g6 : b6.IsWhole} {b7 : Memref sig .tc .vmem S1x128 .f32} {g7 : b7.IsWhole} {b8 : Memref sig .tc .vmem S1x1024 .f32} {g8 : b8.IsWhole} {b9 : Memref sig .tc .vmem S1x1024 .f32} {g9 : b9.IsWhole} {b10 : Memref sig .tc .vmem S256x2048 .f32} {g10 : b10.IsWhole} {b11 : Memref sig .tc .vmem S256x1024 .bf16} {g11 : b11.IsWhole} {b12 : Memref sig .tc .vmem S2048x2048 .bf16} {g12 : b12.IsWhole} {b13 : Memref sig .tc .vmem S1x2048 .f32} {g13 : b13.IsWhole} {b14 : Memref sig .tc .vmem S256x2048 .f32} {g14 : b14.IsWhole} {b15 : Memref sig .tc .vmem S256x2048 .f32} {g15 : b15.IsWhole} {b16 : Memref sig .tc .vmem S256x2048 .bf16} {g16 : b16.IsWhole} {b17 : Memref sig .tc .vmem S256x2048 .bf16} {g17 : b17.IsWhole} {b18 : Memref sig .tc .vmem S136x2048 .f32} {g18 : b18.IsWhole} {b19 : Memref sig .tc .vmem S128x1024 .f32} {g19 : b19.IsWhole} {b20 : Memref sig .tc .vmem S256x1024 .bf16} {g20 : b20.IsWhole} {b21 : Memref sig .tc .vmem S256x1024 .bf16} {g21 : b21.IsWhole} {x0 : Vec Ideal S256x2048 .bf16} {x1 : Vec Ideal S256x1024 .bf16} {x2 : Vec Ideal S256x128 .f32} {x3 : Vec Ideal S4x2048 .f32} {x4 : Vec Ideal S1x2048 .f32} {x5 : Vec Ideal S1x128 .f32} {x6 : Vec Ideal S1x128 .f32} {x7 : Vec Ideal S1x1024 .f32} {x8 : Vec Ideal S1x1024 .f32} {x9 : Vec Ideal S256x2048 .f32} {x10 : Vec Ideal S256x1024 .bf16} {x11 : Vec Ideal S2048x2048 .bf16} {x12 : Vec Ideal S1x2048 .f32} {x13 : Vec Ideal S256x2048 .f32} {xs2 : Vec Ideal S256x1024 .bf16}
  {R D Z W : ℕ → ℕ → ℝ} {Cb B A : ℕ → ℝ} {K N : ℕ → EReal} (T : TileReal x0 x1 x2 x3 x4 x5 x6 x7 x8 R D Z W Cb B A K N)
include T

/-- The first chunk's arrays. -/
theorem C_in0 : ChunkReal (ld256x2048_0 g1 x0) (ld256x128_0 g3 x2) (ld1x128_0 g6 x5) (ld1x128_0 g7 x6) (ld1x2048_0 g5 x4) (ld4x2048_0 g4 x3) (ld4x2048_1 g4 x3) (ld4x2048_2 g4 x3) (ld4x2048_3 g4 x3) (kernelRun0_C.sl.v103 c b1 g1 b18 x0) (kernelRun0_C.sl.v109 c b1 g1 b18 x0) (kernelRun0_C.sl.v115 c b1 g1 b18 x0) (sh 0 (cvR W Cb (upR (fun _ _ => 0) R))) (sh 0 D) B A where
  hv := fun l c => by
    refine conv_sum ((rd (m := 1) (n := 2048) (a := 1) (b := 2048) b5 g5 x4 _ 0 c 0 c rfl (by omega)).trans (T.cb c)) (T.lw g4 3 c _) ?_ (T.lw g4 0 c _) ((congrFun C_t00 (ix2 l c)).trans (tap (o := 0) (gCur (ld256x2048_0 g1 x0)) (k0_pay1 (F := Ideal)) _ (fun _ _ => 0) R (T.cur 0 (by omega) g1 _) (zero_hist R) l c 0 rfl (by omega)))
      (T.lw g4 1 c _) ((congrFun C_t01 (ix2 l c)).trans (tap (o := 0) (gCur (ld256x2048_0 g1 x0)) (k0_pay1 (F := Ideal)) _ (fun _ _ => 0) R (T.cur 0 (by omega) g1 _) (zero_hist R) l c 1 rfl (by omega))) (T.lw g4 2 c _) ((congrFun C_t02 (ix2 l c)).trans (tap (o := 0) (gCur (ld256x2048_0 g1 x0)) (k0_pay1 (F := Ideal)) _ (fun _ _ => 0) R (T.cur 0 (by omega) g1 _) (zero_hist R) l c 2 rfl (by omega)))
    refine (T.lr 0 (by omega) g1 _ l c).trans ?_
    unfold upR
    rw [if_neg (by omega), Nat.add_sub_cancel]
  hd := fun l h => (rd (m := 256) (n := 128) (a := 128) (b := 128) b3 g3 x2 _ l h ⟨0 + l.1, by omega⟩ h rfl (by omega)).trans (T.d _ h)
  hb := fun c => (rd (m := 1) (n := 128) (a := 1) (b := 128) b6 g6 x5 _ 0 c 0 c rfl (by omega)).trans (T.b c)
  ha := fun c => (rd (m := 1) (n := 128) (a := 1) (b := 128) b7 g7 x6 _ 0 c 0 c rfl (by omega)).trans (T.a c)

theorem C_l00 : ∀ (n : Fin 128) (q : Fin 256), ((kernelRun0_C.sl.v217 c b19) : Vec Ideal S128x256 .f32) (ix2 n q) = ((fun _ _ => 0) n (0 + q) : EReal) :=
  by
  intro n c
  refine (congrFun C_sl00 (ix2 n c)).trans ?_
  refine (covS n c n ⟨0 + c.1, by omega⟩ (by omega) rfl).trans ?_
  exact (cn_hit (m := 128) (n := 1024) (a := 128) (b := 1024) _ _ n ⟨0 + c.1, by omega⟩ (by omega) (by first | omega | (dsimp only; omega))).trans (zero_state n _)
theorem C_s00 (n : Fin 128) (c' : Fin 256) : ((kernelRun0_C.sl.v230 c b1 g1 b3 g3 b4 g4 b5 g5 b6 g6 b7 g7 b18 b19 x0 x2 x3 x4 x5 x6) : Vec Ideal S128x256 .f32) (ix2 n c') = ((stO (fun _ _ => 0) R D W Cb B A (fun _ _ => 0)) n (0 + c') : EReal) :=
  (congrFun (C_state00 (F := Ideal) _ _ _ _ _ _ _ _ _ _ _ _ _ _ _ _ _ _ _ _ _) _).trans (st0_c (C_in0 T) _ _ (C_l00 T) n c')

theorem C_l01 : ∀ (n : Fin 128) (q : Fin 256), ((kernelRun0_C.sl.v231 c b1 g1 b3 g3 b4 g4 b5 g5 b6 g6 b7 g7 b18 b19 x0 x2 x3 x4 x5 x6) : Vec Ideal S128x256 .f32) (ix2 n q) = ((fun _ _ => 0) n (256 + q) : EReal) :=
  by
  intro n c
  refine (congrFun C_sl01 (ix2 n c)).trans ?_
  refine (covS n c n ⟨256 + c.1, by omega⟩ (by omega) rfl).trans ?_
  refine (missS _ _ (by first | omega | (dsimp only; omega))).trans ?_
  exact (cn_hit (m := 128) (n := 1024) (a := 128) (b := 1024) _ _ n ⟨256 + c.1, by omega⟩ (by omega) (by first | omega | (dsimp only; omega))).trans (zero_state n _)
theorem C_s01 (n : Fin 128) (c' : Fin 256) : ((kernelRun0_C.sl.v244 c b1 g1 b3 g3 b4 g4 b5 g5 b6 g6 b7 g7 b18 b19 x0 x2 x3 x4 x5 x6) : Vec Ideal S128x256 .f32) (ix2 n c') = ((stO (fun _ _ => 0) R D W Cb B A (fun _ _ => 0)) n (256 + c') : EReal) :=
  (congrFun (C_state01 (F := Ideal) _ _ _ _ _ _ _ _ _ _ _ _ _ _ _ _ _ _ _ _ _) _).trans (st1_c (C_in0 T) _ _ (C_l01 T) n c')

theorem C_l02 : ∀ (n : Fin 128) (q : Fin 256), ((kernelRun0_C.sl.v245 c b1 g1 b3 g3 b4 g4 b5 g5 b6 g6 b7 g7 b18 b19 x0 x2 x3 x4 x5 x6) : Vec Ideal S128x256 .f32) (ix2 n q) = ((fun _ _ => 0) n (512 + q) : EReal) :=
  by
  intro n c
  refine (congrFun C_sl02 (ix2 n c)).trans ?_
  refine (covS n c n ⟨512 + c.1, by omega⟩ (by omega) rfl).trans ?_
  refine (missS _ _ (by first | omega | (dsimp only; omega))).trans ?_
  refine (missS _ _ (by first | omega | (dsimp only; omega))).trans ?_
  exact (cn_hit (m := 128) (n := 1024) (a := 128) (b := 1024) _ _ n ⟨512 + c.1, by omega⟩ (by omega) (by first | omega | (dsimp only; omega))).trans (zero_state n _)
theorem C_s02 (n : Fin 128) (c' : Fin 256) : ((kernelRun0_C.sl.v258 c b1 g1 b3 g3 b4 g4 b5 g5 b6 g6 b7 g7 b18 b19 x0 x2 x3 x4 x5 x6) : Vec Ideal S128x256 .f32) (ix2 n c') = ((stO (fun _ _ => 0) R D W Cb B A (fun _ _ => 0)) n (512 + c') : EReal) :=
  (congrFun (C_state02 (F := Ideal) _ _ _ _ _ _ _ _ _ _ _ _ _ _ _ _ _ _ _ _ _) _).trans (st2_c (C_in0 T) _ _ (C_l02 T) n c')

theorem C_l03 : ∀ (n : Fin 128) (q : Fin 256), ((kernelRun0_C.sl.v259 c b1 g1 b3 g3 b4 g4 b5 g5 b6 g6 b7 g7 b18 b19 x0 x2 x3 x4 x5 x6) : Vec Ideal S128x256 .f32) (ix2 n q) = ((fun _ _ => 0) n (768 + q) : EReal) :=
  by
  intro n c
  refine (congrFun C_sl03 (ix2 n c)).trans ?_
  refine (covS n c n ⟨768 + c.1, by omega⟩ (by omega) rfl).trans ?_
  refine (missS _ _ (by first | omega | (dsimp only; omega))).trans ?_
  refine (missS _ _ (by first | omega | (dsimp only; omega))).trans ?_
  refine (missS _ _ (by first | omega | (dsimp only; omega))).trans ?_
  exact (cn_hit (m := 128) (n := 1024) (a := 128) (b := 1024) _ _ n ⟨768 + c.1, by omega⟩ (by omega) (by first | omega | (dsimp only; omega))).trans (zero_state n _)
theorem C_s03 (n : Fin 128) (c' : Fin 256) : ((kernelRun0_C.sl.v272 c b1 g1 b3 g3 b4 g4 b5 g5 b6 g6 b7 g7 b18 b19 x0 x2 x3 x4 x5 x6) : Vec Ideal S128x256 .f32) (ix2 n c') = ((stO (fun _ _ => 0) R D W Cb B A (fun _ _ => 0)) n (768 + c') : EReal) :=
  (congrFun (C_state03 (F := Ideal) _ _ _ _ _ _ _ _ _ _ _ _ _ _ _ _ _ _ _ _ _) _).trans (st3_c (C_in0 T) _ _ (C_l03 T) n c')

theorem C_y0 (l : Fin 128) (c' : Fin 1024) : ((kernelRun0_C.sl.v561 c b1 g1 b2 g2 b3 g3 b4 g4 b5 g5 b6 g6 b7 g7 b8 g8 b9 g9 b18 b19 x0 x1 x2 x3 x4 x5 x6 x7 x8) : FVec Ideal S128x1024 .bf16) (ix2 l c') = ysR (sh 0 (cvR W Cb (upR (fun _ _ => 0) R))) (sh 0 D) B A (fun _ _ => 0) (sh 0 Z) K N l c' :=
  (congrFun (C_ys0 (F := Ideal) _ _ _ _ _ _ _ _ _ _ _ _ _ _ _ _ _ _ _ _ _ _ _ _ _ _ _ _ _ _) _).trans (ys_c (C_in0 T) _ _ _ _ _ _ _ _ (C_l00 T) (C_l01 T) (C_l02 T) (C_l03 T) _
    (fun l c => (rd (m := 256) (n := 1024) (a := 128) (b := 1024) b2 g2 x1 _ l c ⟨0 + l.1, by omega⟩ c rfl (by omega)).trans (T.z _ c)) _ _
    (fun c => (rd (m := 1) (n := 1024) (a := 1) (b := 1024) b8 g8 x7 _ 0 c 0 c rfl (by omega)).trans (T.k c)) (fun c => (rd (m := 1) (n := 1024) (a := 1) (b := 1024) b9 g9 x8 _ 0 c 0 c rfl (by omega)).trans (T.n c)) l c')

/-- The second chunk's arrays. -/
theorem C_in1 : ChunkReal (ld256x2048_128 g1 x0) (ld256x128_128 g3 x2) (ld1x128_0 g6 x5) (ld1x128_0 g7 x6) (ld1x2048_0 g5 x4) (ld4x2048_0 g4 x3) (ld4x2048_1 g4 x3) (ld4x2048_2 g4 x3) (ld4x2048_3 g4 x3) (kernelRun0_C.sl.v621 c b1 g1 b18 x0) (kernelRun0_C.sl.v627 c b1 g1 b18 x0) (kernelRun0_C.sl.v633 c b1 g1 b18 x0) (sh 128 (cvR W Cb (upR (fun _ _ => 0) R))) (sh 128 D) B A where
  hv := fun l c => by
    refine conv_sum ((rd (m := 1) (n := 2048) (a := 1) (b := 2048) b5 g5 x4 _ 0 c 0 c rfl (by omega)).trans (T.cb c)) (T.lw g4 3 c _) ?_ (T.lw g4 0 c _) ((congrFun C_t10 (ix2 l c)).trans (tap (o := 128) (gCur (ld256x2048_128 g1 x0)) (gHead (ld256x2048_0 g1 x0)) _ (fun _ _ => 0) R (T.cur 128 (by omega) g1 _) (fun i c => (head_val (ld256x2048_0 g1 x0) _ c).trans (((fun l c => T.lr 0 (by omega) g1 _ l c) ⟨120 + (5 + i.1), by omega⟩ c).trans (by unfold upR; rw [if_neg (by omega)]; simp only []; rw [show 0 + (120 + (5 + i.1)) = 128 + i.1 - 3 by omega]))) l c 0 rfl (by omega)))
      (T.lw g4 1 c _) ((congrFun C_t11 (ix2 l c)).trans (tap (o := 128) (gCur (ld256x2048_128 g1 x0)) (gHead (ld256x2048_0 g1 x0)) _ (fun _ _ => 0) R (T.cur 128 (by omega) g1 _) (fun i c => (head_val (ld256x2048_0 g1 x0) _ c).trans (((fun l c => T.lr 0 (by omega) g1 _ l c) ⟨120 + (5 + i.1), by omega⟩ c).trans (by unfold upR; rw [if_neg (by omega)]; simp only []; rw [show 0 + (120 + (5 + i.1)) = 128 + i.1 - 3 by omega]))) l c 1 rfl (by omega))) (T.lw g4 2 c _) ((congrFun C_t12 (ix2 l c)).trans (tap (o := 128) (gCur (ld256x2048_128 g1 x0)) (gHead (ld256x2048_0 g1 x0)) _ (fun _ _ => 0) R (T.cur 128 (by omega) g1 _) (fun i c => (head_val (ld256x2048_0 g1 x0) _ c).trans (((fun l c => T.lr 0 (by omega) g1 _ l c) ⟨120 + (5 + i.1), by omega⟩ c).trans (by unfold upR; rw [if_neg (by omega)]; simp only []; rw [show 0 + (120 + (5 + i.1)) = 128 + i.1 - 3 by omega]))) l c 2 rfl (by omega)))
    refine (T.lr 128 (by omega) g1 _ l c).trans ?_
    unfold upR
    rw [if_neg (by omega), Nat.add_sub_cancel]
  hd := fun l h => (rd (m := 256) (n := 128) (a := 128) (b := 128) b3 g3 x2 _ l h ⟨128 + l.1, by omega⟩ h rfl (by omega)).trans (T.d _ h)
  hb := fun c => (rd (m := 1) (n := 128) (a := 1) (b := 128) b6 g6 x5 _ 0 c 0 c rfl (by omega)).trans (T.b c)
  ha := fun c => (rd (m := 1) (n := 128) (a := 1) (b := 128) b7 g7 x6 _ 0 c 0 c rfl (by omega)).trans (T.a c)

theorem C_l10 : ∀ (n : Fin 128) (q : Fin 256), ((kernelRun0_C.sl.v735 c b1 g1 b3 g3 b4 g4 b5 g5 b6 g6 b7 g7 b18 b19 x0 x2 x3 x4 x5 x6) : Vec Ideal S128x256 .f32) (ix2 n q) = ((stO (fun _ _ => 0) R D W Cb B A (fun _ _ => 0)) n (0 + q) : EReal) :=
  by
  intro n c
  refine (congrFun C_sl10 (ix2 n c)).trans ?_
  refine (covS n c n ⟨0 + c.1, by omega⟩ (by omega) rfl).trans ?_
  refine (missS _ _ (by first | omega | (dsimp only; omega))).trans ?_
  refine (missS _ _ (by first | omega | (dsimp only; omega))).trans ?_
  refine (missS _ _ (by first | omega | (dsimp only; omega))).trans ?_
  exact (hitS _ _ n c (by omega) rfl).trans (C_s00 T n c)
theorem C_s10 (n : Fin 128) (c' : Fin 256) : ((kernelRun0_C.sl.v748 c b1 g1 b3 g3 b4 g4 b5 g5 b6 g6 b7 g7 b18 b19 x0 x2 x3 x4 x5 x6) : Vec Ideal S128x256 .f32) (ix2 n c') = ((stT (fun _ _ => 0) R D W Cb B A (fun _ _ => 0)) n (0 + c') : EReal) :=
  (congrFun (C_state10 (F := Ideal) _ _ _ _ _ _ _ _ _ _ _ _ _ _ _ _ _ _ _ _ _) _).trans (st0_c (C_in1 T) _ _ (C_l10 T) n c')

theorem C_l11 : ∀ (n : Fin 128) (q : Fin 256), ((kernelRun0_C.sl.v749 c b1 g1 b3 g3 b4 g4 b5 g5 b6 g6 b7 g7 b18 b19 x0 x2 x3 x4 x5 x6) : Vec Ideal S128x256 .f32) (ix2 n q) = ((stO (fun _ _ => 0) R D W Cb B A (fun _ _ => 0)) n (256 + q) : EReal) :=
  by
  intro n c
  refine (congrFun C_sl11 (ix2 n c)).trans ?_
  refine (covS n c n ⟨256 + c.1, by omega⟩ (by omega) rfl).trans ?_
  refine (missS _ _ (by first | omega | (dsimp only; omega))).trans ?_
  refine (missS _ _ (by first | omega | (dsimp only; omega))).trans ?_
  refine (missS _ _ (by first | omega | (dsimp only; omega))).trans ?_
  exact (hitS _ _ n c (by omega) rfl).trans (C_s01 T n c)
theorem C_s11 (n : Fin 128) (c' : Fin 256) : ((kernelRun0_C.sl.v762 c b1 g1 b3 g3 b4 g4 b5 g5 b6 g6 b7 g7 b18 b19 x0 x2 x3 x4 x5 x6) : Vec Ideal S128x256 .f32) (ix2 n c') = ((stT (fun _ _ => 0) R D W Cb B A (fun _ _ => 0)) n (256 + c') : EReal) :=
  (congrFun (C_state11 (F := Ideal) _ _ _ _ _ _ _ _ _ _ _ _ _ _ _ _ _ _ _ _ _) _).trans (st1_c (C_in1 T) _ _ (C_l11 T) n c')

theorem C_l12 : ∀ (n : Fin 128) (q : Fin 256), ((kernelRun0_C.sl.v763 c b1 g1 b3 g3 b4 g4 b5 g5 b6 g6 b7 g7 b18 b19 x0 x2 x3 x4 x5 x6) : Vec Ideal S128x256 .f32) (ix2 n q) = ((stO (fun _ _ => 0) R D W Cb B A (fun _ _ => 0)) n (512 + q) : EReal) :=
  by
  intro n c
  refine (congrFun C_sl12 (ix2 n c)).trans ?_
  refine (covS n c n ⟨512 + c.1, by omega⟩ (by omega) rfl).trans ?_
  refine (missS _ _ (by first | omega | (dsimp only; omega))).trans ?_
  refine (missS _ _ (by first | omega | (dsimp only; omega))).trans ?_
  refine (missS _ _ (by first | omega | (dsimp only; omega))).trans ?_
  exact (hitS _ _ n c (by omega) rfl).trans (C_s02 T n c)
theorem C_s12 (n : Fin 128) (c' : Fin 256) : ((kernelRun0_C.sl.v776 c b1 g1 b3 g3 b4 g4 b5 g5 b6 g6 b7 g7 b18 b19 x0 x2 x3 x4 x5 x6) : Vec Ideal S128x256 .f32) (ix2 n c') = ((stT (fun _ _ => 0) R D W Cb B A (fun _ _ => 0)) n (512 + c') : EReal) :=
  (congrFun (C_state12 (F := Ideal) _ _ _ _ _ _ _ _ _ _ _ _ _ _ _ _ _ _ _ _ _) _).trans (st2_c (C_in1 T) _ _ (C_l12 T) n c')

theorem C_l13 : ∀ (n : Fin 128) (q : Fin 256), ((kernelRun0_C.sl.v777 c b1 g1 b3 g3 b4 g4 b5 g5 b6 g6 b7 g7 b18 b19 x0 x2 x3 x4 x5 x6) : Vec Ideal S128x256 .f32) (ix2 n q) = ((stO (fun _ _ => 0) R D W Cb B A (fun _ _ => 0)) n (768 + q) : EReal) :=
  by
  intro n c
  refine (congrFun C_sl13 (ix2 n c)).trans ?_
  refine (covS n c n ⟨768 + c.1, by omega⟩ (by omega) rfl).trans ?_
  refine (missS _ _ (by first | omega | (dsimp only; omega))).trans ?_
  refine (missS _ _ (by first | omega | (dsimp only; omega))).trans ?_
  refine (missS _ _ (by first | omega | (dsimp only; omega))).trans ?_
  exact (hitS _ _ n c (by omega) rfl).trans (C_s03 T n c)
theorem C_s13 (n : Fin 128) (c' : Fin 256) : ((kernelRun0_C.sl.v790 c b1 g1 b3 g3 b4 g4 b5 g5 b6 g6 b7 g7 b18 b19 x0 x2 x3 x4 x5 x6) : Vec Ideal S128x256 .f32) (ix2 n c') = ((stT (fun _ _ => 0) R D W Cb B A (fun _ _ => 0)) n (768 + c') : EReal) :=
  (congrFun (C_state13 (F := Ideal) _ _ _ _ _ _ _ _ _ _ _ _ _ _ _ _ _ _ _ _ _) _).trans (st3_c (C_in1 T) _ _ (C_l13 T) n c')

theorem C_y1 (l : Fin 128) (c' : Fin 1024) : ((kernelRun0_C.sl.v1079 c b1 g1 b2 g2 b3 g3 b4 g4 b5 g5 b6 g6 b7 g7 b8 g8 b9 g9 b18 b19 x0 x1 x2 x3 x4 x5 x6 x7 x8) : FVec Ideal S128x1024 .bf16) (ix2 l c') = ysR (sh 128 (cvR W Cb (upR (fun _ _ => 0) R))) (sh 128 D) B A (stO (fun _ _ => 0) R D W Cb B A (fun _ _ => 0)) (sh 128 Z) K N l c' :=
  (congrFun (C_ys1 (F := Ideal) _ _ _ _ _ _ _ _ _ _ _ _ _ _ _ _ _ _ _ _ _ _ _ _ _ _ _ _ _ _) _).trans (ys_c (C_in1 T) _ _ _ _ _ _ _ _ (C_l10 T) (C_l11 T) (C_l12 T) (C_l13 T) _
    (fun l c => (rd (m := 256) (n := 1024) (a := 128) (b := 1024) b2 g2 x1 _ l c ⟨128 + l.1, by omega⟩ c rfl (by omega)).trans (T.z _ c)) _ _
    (fun c => (rd (m := 1) (n := 1024) (a := 1) (b := 1024) b8 g8 x7 _ 0 c 0 c rfl (by omega)).trans (T.k c)) (fun c => (rd (m := 1) (n := 1024) (a := 1) (b := 1024) b9 g9 x8 _ 0 c 0 c rfl (by omega)).trans (T.n c)) l c')

/-- The history carried on: the tile's last three rows. -/
theorem C_hist (i : grid0.Coords) (hc0 : cond0_0 i) (hc1 : ¬cond0_1 i) (hc2 : cond0_2 i) (hc3 : ¬cond0_3 i) (j : Fin 3) (c' : Fin 2048) : (sout0_C_0 c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs2 : Vec Ideal S136x2048 .f32) (ix2 ⟨5 + j.1, by omega⟩ c') = (R (253 + j) c' : EReal) := by
  unfold sout0_C_0
  refine (congrFun (View.read_writes_junk_eq_canon VS0_0 _) _).trans ?_
  unfold kernelRun0_C
  dsimp only
  refine (cn_hit (m := 136) (n := 2048) (a := 8) (b := 2048) _ _ ⟨5 + j.1, by omega⟩ c' (by first | omega | (dsimp only; omega)) (by omega)).trans ?_
  refine (head_val (ld256x2048_128 g1 x0) _ c').trans ((rd (m := 256) (n := 2048) (a := 128) (b := 2048) b1 g1 x0 _ _ c' ⟨128 + (120 + (5 + j.1)), by omega⟩ c' rfl (by omega)).trans ((T.raw _ c').trans ?_))
  simp only []
  rw [show 128 + (120 + (5 + j.1)) = 253 + j.1 by omega]

/-- The state carried on. -/
theorem C_state (i : grid0.Coords) (hc0 : cond0_0 i) (hc1 : ¬cond0_1 i) (hc2 : cond0_2 i) (hc3 : ¬cond0_3 i) (n : Fin 128) (c' : Fin 1024) : (sout0_C_1 c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs2 : Vec Ideal S128x1024 .f32) (ix2 n c') = ((stR (sh 128 (cvR W Cb (upR (fun _ _ => 0) R))) (sh 128 D) B A (stR (sh 0 (cvR W Cb (upR (fun _ _ => 0) R))) (sh 0 D) B A (fun _ _ => 0))) n c' : EReal) := by
  unfold sout0_C_1
  refine (congrFun (View.read_writes_junk_eq_canon VS0_1 _) _).trans ?_
  unfold kernelRun0_C
  dsimp only
  by_cases h3 : 768 ≤ c'.1
  · refine (hitS _ _ n ⟨c'.1 - 768, by omega⟩ (by omega) (by first | omega | (dsimp only; omega))).trans ((C_s13 T n _).trans ?_)
    simp only []; rw [show 768 + (c'.1 - 768) = c'.1 by omega]
  refine (missS _ _ (by omega)).trans ?_
  by_cases h2 : 512 ≤ c'.1
  · refine (hitS _ _ n ⟨c'.1 - 512, by omega⟩ (by omega) (by first | omega | (dsimp only; omega))).trans ((C_s12 T n _).trans ?_)
    simp only []; rw [show 512 + (c'.1 - 512) = c'.1 by omega]
  refine (missS _ _ (by omega)).trans ?_
  by_cases h1 : 256 ≤ c'.1
  · refine (hitS _ _ n ⟨c'.1 - 256, by omega⟩ (by omega) (by first | omega | (dsimp only; omega))).trans ((C_s11 T n _).trans ?_)
    simp only []; rw [show 256 + (c'.1 - 256) = c'.1 by omega]
  refine (missS _ _ (by omega)).trans ?_
  refine (hitS _ _ n ⟨c'.1 - 0, by omega⟩ (by omega) (by first | omega | (dsimp only; omega))).trans ((C_s10 T n _).trans ?_)
  simp only []; rw [show 0 + (c'.1 - 0) = c'.1 by omega]

/-- The tile's rows. -/
theorem C_rows (i : grid0.Coords) (hc0 : cond0_0 i) (hc1 : ¬cond0_1 i) (hc2 : cond0_2 i) (hc3 : ¬cond0_3 i) (r : Fin 256) (c' : Fin 1024) : (sout0_C_2 c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs2 : Vec Ideal S256x1024 .bf16) (ix2 r c') =
    if r.1 < 128 then ysR (sh 0 (cvR W Cb (upR (fun _ _ => 0) R))) (sh 0 D) B A (fun _ _ => 0) (sh 0 Z) K N r c' else ysR (sh 128 (cvR W Cb (upR (fun _ _ => 0) R))) (sh 128 D) B A (stR (sh 0 (cvR W Cb (upR (fun _ _ => 0) R))) (sh 0 D) B A (fun _ _ => 0)) (sh 128 Z) K N (r - 128) c' := by
  unfold sout0_C_2
  refine (congrFun (View.read_writes_junk_eq_canon VS0_2 _) _).trans ?_
  unfold kernelRun0_C
  dsimp only
  by_cases h : r.1 < 128
  · rw [if_pos h]
    refine (cn_miss (m := 256) (n := 1024) (a := 128) (b := 1024) _ _ (by omega)).trans ?_
    exact (cn_hit (m := 256) (n := 1024) (a := 128) (b := 1024) _ _ ⟨r.1, h⟩ c' (by first | omega | (dsimp only; omega)) (by omega)).trans (C_y0 T _ c')
  · rw [if_neg h]
    exact (cn_hit (m := 256) (n := 1024) (a := 128) (b := 1024) _ _ ⟨r.1 - 128, by omega⟩ c' (by first | omega | (dsimp only; omega)) (by omega)).trans (C_y1 T _ c')

end Cert.KernelIdeal.Ssd
-- ==== Proof.SsdProj.lean ====
/- The output projection of the tile before, its norm and the copy of the down weights, at an index. -/
module

public import proofs.«01_k».proof.Proof.SsdLoad

@[expose] public section

set_option maxRecDepth 16384

noncomputable section

open Idealize.ShloMosaic Idealize.ShloMosaic.TcCoe Idealize.SL.Sem

namespace Cert.KernelIdeal.Ssd

open Cert.KernelIdeal Cert.KernelIdeal.Gen

/-- The joined row: scanned rows, then attention rows. -/
def catV (p y : Vec Ideal S256x1024 .bf16) (r : Fin 256) (k : Fin 2048) : EReal :=
  if h : k.1 < 1024 then p (ix2 r ⟨k.1, h⟩) else y (ix2 r ⟨k.1 - 1024, by omega⟩)
/-- The residual after the projection. -/
def prV (x : Vec Ideal S256x2048 .f32) (p y : Vec Ideal S256x1024 .bf16) (w : Vec Ideal S2048x2048 .bf16) (r : Fin 256) (q : Fin 2048) : EReal :=
  x (ix2 r q) + ∑ k : Fin 2048, catV p y r k * w (ix2 k q)
/-- A row normalised. -/
def nrm (f : Fin 2048 → EReal) (g : EReal) (q : Fin 2048) : EReal :=
  f q * Ideal.rsqrt (Ideal.div (∑ k : Fin 2048, f k * f k) (Ideal.ofBits .f32 1157627904#32) + Ideal.ofBits .f32 925353388#32) * g

theorem cat_val (p y : Vec Ideal S256x1024 .bf16) (r : Fin 256) (k : Fin 2048) : k0_pay318 (F := Ideal) p y (ix2 r k) = catV p y r k := by
  unfold k0_pay318 catV
  pointwise []
theorem out_val (cat : FVec Ideal S256x2048 .bf16) (x : Vec Ideal S256x256 .f32) (w : Vec Ideal S2048x256 .bf16) (r q : Fin 256) :
    k0_pay249 (F := Ideal) cat x w (ix2 r q) = x (ix2 r q) + ∑ k : Fin 2048, cat (ix2 r k) * w (ix2 k q) := by
  unfold k0_pay249
  pointwise [dot_S256x2048_S2048x256_S256x256_1_0_0_1_n_n]
theorem h2_val (x : Vec Ideal S256x2048 .f32) (g : Vec Ideal S1x2048 .f32) (r : Fin 256) (q : Fin 2048) :
    k0_pay316 (F := Ideal) x g (ix2 r q) = nrm (fun k => x (ix2 r k)) (g (ix2 0 q)) q := by
  unfold k0_pay316 nrm
  pointwise []
theorem wd_val (x : Vec Ideal S256x2048 .f32) (r : Fin 256) (q : Fin 2048) : k0_pay315 (F := Ideal) x (ix2 r q) = x (ix2 r q) := by
  unfold k0_pay315
  pointwise []
theorem cpy_val (x : Vec Ideal S256x1024 .bf16) (r : Fin 256) (q : Fin 1024) : k0_pay317 (F := Ideal) x (ix2 r q) = x (ix2 r q) := by
  unfold k0_pay317
  pointwise []

end Cert.KernelIdeal.Ssd
-- ==== Proof.SsdOutVal.lean ====
/- The blocks that the mixer kernel writes at a point, at an index. -/
module

public import proofs.«01_k».proof.Proof.SsdProj
public import proofs.«01_k».proof.Proof.SsdOuts

@[expose] public section

set_option maxRecDepth 16384

noncomputable section

open Idealize.ShloMosaic Idealize.ShloMosaic.TcCoe Idealize.SL.Sem

namespace Cert.KernelIdeal.Ssd

open Cert.KernelIdeal Cert.KernelIdeal.Gen

section
variable {F : FTy → Type} [FloatOps F] [Named F]

/-- The joined rows as the kernel builds them. -/
def prC (b11 : Memref sig .tc .vmem S256x1024 .bf16) (g11 : b11.IsWhole) (b20 : Memref sig .tc .vmem S256x1024 .bf16) (g20 : b20.IsWhole) (b21 : Memref sig .tc .vmem S256x1024 .bf16) (x10 : Vec F S256x1024 .bf16) (xs2 : Vec F S256x1024 .bf16) : FVec F S256x2048 .bf16 :=
  k0_pay318 (F := F) (b21.view.readCov ((⟨Rect.unit (s := S256x1024) ![0, 0] S256x1024.size (by decide), k0_pay317 (F := F) (View.readAt (Elt F) b20.view (Rect.unit (s := S256x1024) ![0, 0] S256x1024.size (by decide)).toLoadRect (g20.unread xs2))⟩ : View.Piece (Elt F) S256x1024 .bf16) :: []) (Rect.unit (s := S256x1024) ![0, 0] S256x1024.size (by decide)).toLoadRect) (View.readAt (Elt F) b11.view (Rect.unit (s := S256x1024) ![0, 0] S256x1024.size (by decide)).toLoadRect (g11.unread x10))

/-- The eight column blocks written, last first. -/
def prL (b10 : Memref sig .tc .vmem S256x2048 .f32) (g10 : b10.IsWhole) (b11 : Memref sig .tc .vmem S256x1024 .bf16) (g11 : b11.IsWhole) (b12 : Memref sig .tc .vmem S2048x2048 .bf16) (g12 : b12.IsWhole) (b20 : Memref sig .tc .vmem S256x1024 .bf16) (g20 : b20.IsWhole) (b21 : Memref sig .tc .vmem S256x1024 .bf16) (x9 : Vec F S256x2048 .f32) (x10 : Vec F S256x1024 .bf16) (x11 : Vec F S2048x2048 .bf16) (xs2 : Vec F S256x1024 .bf16) : List (View.Piece (Elt F) S256x2048 .f32) :=
  [⟨Rect.unit (s := S256x2048) ![0, 1792] S256x256.size (by decide), k0_pay249 (F := F) (prC b11 g11 b20 g20 b21 x10 xs2) (View.readAt (Elt F) b10.view (Rect.unit (s := S256x2048) ![0, 1792] S256x256.size (by decide)).toLoadRect (g10.unread x9)) (View.readAt (Elt F) b12.view (Rect.unit (s := S2048x2048) ![0, 1792] S2048x256.size (by decide)).toLoadRect (g12.unread x11))⟩, ⟨Rect.unit (s := S256x2048) ![0, 1536] S256x256.size (by decide), k0_pay249 (F := F) (prC b11 g11 b20 g20 b21 x10 xs2) (View.readAt (Elt F) b10.view (Rect.unit (s := S256x2048) ![0, 1536] S256x256.size (by decide)).toLoadRect (g10.unread x9)) (View.readAt (Elt F) b12.view (Rect.unit (s := S2048x2048) ![0, 1536] S2048x256.size (by decide)).toLoadRect (g12.unread x11))⟩, ⟨Rect.unit (s := S256x2048) ![0, 1280] S256x256.size (by decide), k0_pay249 (F := F) (prC b11 g11 b20 g20 b21 x10 xs2) (View.readAt (Elt F) b10.view (Rect.unit (s := S256x2048) ![0, 1280] S256x256.size (by decide)).toLoadRect (g10.unread x9)) (View.readAt (Elt F) b12.view (Rect.unit (s := S2048x2048) ![0, 1280] S2048x256.size (by decide)).toLoadRect (g12.unread x11))⟩, ⟨Rect.unit (s := S256x2048) ![0, 1024] S256x256.size (by decide), k0_pay249 (F := F) (prC b11 g11 b20 g20 b21 x10 xs2) (View.readAt (Elt F) b10.view (Rect.unit (s := S256x2048) ![0, 1024] S256x256.size (by decide)).toLoadRect (g10.unread x9)) (View.readAt (Elt F) b12.view (Rect.unit (s := S2048x2048) ![0, 1024] S2048x256.size (by decide)).toLoadRect (g12.unread x11))⟩, ⟨Rect.unit (s := S256x2048) ![0, 768] S256x256.size (by decide), k0_pay249 (F := F) (prC b11 g11 b20 g20 b21 x10 xs2) (View.readAt (Elt F) b10.view (Rect.unit (s := S256x2048) ![0, 768] S256x256.size (by decide)).toLoadRect (g10.unread x9)) (View.readAt (Elt F) b12.view (Rect.unit (s := S2048x2048) ![0, 768] S2048x256.size (by decide)).toLoadRect (g12.unread x11))⟩, ⟨Rect.unit (s := S256x2048) ![0, 512] S256x256.size (by decide), k0_pay249 (F := F) (prC b11 g11 b20 g20 b21 x10 xs2) (View.readAt (Elt F) b10.view (Rect.unit (s := S256x2048) ![0, 512] S256x256.size (by decide)).toLoadRect (g10.unread x9)) (View.readAt (Elt F) b12.view (Rect.unit (s := S2048x2048) ![0, 512] S2048x256.size (by decide)).toLoadRect (g12.unread x11))⟩, ⟨Rect.unit (s := S256x2048) ![0, 256] S256x256.size (by decide), k0_pay249 (F := F) (prC b11 g11 b20 g20 b21 x10 xs2) (View.readAt (Elt F) b10.view (Rect.unit (s := S256x2048) ![0, 256] S256x256.size (by decide)).toLoadRect (g10.unread x9)) (View.readAt (Elt F) b12.view (Rect.unit (s := S2048x2048) ![0, 256] S2048x256.size (by decide)).toLoadRect (g12.unread x11))⟩, ⟨Rect.unit (s := S256x2048) ![0, 0] S256x256.size (by decide), k0_pay249 (F := F) (prC b11 g11 b20 g20 b21 x10 xs2) (View.readAt (Elt F) b10.view (Rect.unit (s := S256x2048) ![0, 0] S256x256.size (by decide)).toLoadRect (g10.unread x9)) (View.readAt (Elt F) b12.view (Rect.unit (s := S2048x2048) ![0, 0] S2048x256.size (by decide)).toLoadRect (g12.unread x11))⟩]

variable {c : Dev nD} {b1 : Memref sig .tc .vmem S256x2048 .bf16} {g1 : b1.IsWhole} {b2 : Memref sig .tc .vmem S256x1024 .bf16} {g2 : b2.IsWhole} {b3 : Memref sig .tc .vmem S256x128 .f32} {g3 : b3.IsWhole} {b4 : Memref sig .tc .vmem S4x2048 .f32} {g4 : b4.IsWhole} {b5 : Memref sig .tc .vmem S1x2048 .f32} {g5 : b5.IsWhole} {b6 : Memref sig .tc .vmem S1x128 .f32} {g6 : b6.IsWhole} {b7 : Memref sig .tc .vmem S1x128 .f32} {g7 : b7.IsWhole} {b8 : Memref sig .tc .vmem S1x1024 .f32} {g8 : b8.IsWhole} {b9 : Memref sig .tc .vmem S1x1024 .f32} {g9 : b9.IsWhole} {b10 : Memref sig .tc .vmem S256x2048 .f32} {g10 : b10.IsWhole} {b11 : Memref sig .tc .vmem S256x1024 .bf16} {g11 : b11.IsWhole} {b12 : Memref sig .tc .vmem S2048x2048 .bf16} {g12 : b12.IsWhole} {b13 : Memref sig .tc .vmem S1x2048 .f32} {g13 : b13.IsWhole} {b14 : Memref sig .tc .vmem S256x2048 .f32} {g14 : b14.IsWhole} {b15 : Memref sig .tc .vmem S256x2048 .f32} {g15 : b15.IsWhole} {b16 : Memref sig .tc .vmem S256x2048 .bf16} {g16 : b16.IsWhole} {b17 : Memref sig .tc .vmem S256x2048 .bf16} {g17 : b17.IsWhole} {b18 : Memref sig .tc .vmem S136x2048 .f32} {g18 : b18.IsWhole} {b19 : Memref sig .tc .vmem S128x1024 .f32} {g19 : b19.IsWhole} {b20 : Memref sig .tc .vmem S256x1024 .bf16} {g20 : b20.IsWhole} {b21 : Memref sig .tc .vmem S256x1024 .bf16} {g21 : b21.IsWhole} {x0 : Vec F S256x2048 .bf16} {x1 : Vec F S256x1024 .bf16} {x2 : Vec F S256x128 .f32} {x3 : Vec F S4x2048 .f32} {x4 : Vec F S1x2048 .f32} {x5 : Vec F S1x128 .f32} {x6 : Vec F S1x128 .f32} {x7 : Vec F S1x1024 .f32} {x8 : Vec F S1x1024 .f32} {x9 : Vec F S256x2048 .f32} {x10 : Vec F S256x1024 .bf16} {x11 : Vec F S2048x2048 .bf16} {x12 : Vec F S1x2048 .f32} {x13 : Vec F S256x2048 .f32} {xs0 : Vec F S136x2048 .f32} {xs1 : Vec F S128x1024 .f32} {xs2 : Vec F S256x1024 .bf16}

theorem B_H14 : (kernelRun0_B.sl.H14_8 c b10 g10 b11 g11 b12 g12 b20 g20 b21 x9 x10 x11 xs2) = (prL b10 g10 b11 g11 b12 g12 b20 g20 b21 x9 x10 x11 xs2) := rfl

theorem B_back : (kernelRun0_B.sl.v1084 c b10 g10 b11 g11 b12 g12 b15 b20 g20 b21 x9 x10 x11 xs2) = b15.view.readCov (kernelRun0_B.sl.H14_8 c b10 g10 b11 g11 b12 g12 b20 g20 b21 x9 x10 x11 xs2) (Rect.unit (s := S256x2048) ![0, 0] S256x2048.size (by decide)).toLoadRect := rfl

theorem B_norm : (kernelRun0_B.sl.r_11 c b10 g10 b11 g11 b12 g12 b13 g13 b15 b20 g20 b21 x9 x10 x11 x12 xs2) = k0_pay316 (kernelRun0_B.sl.v1084 c b10 g10 b11 g11 b12 g12 b15 b20 g20 b21 x9 x10 x11 xs2) (View.readAt (Elt F) b13.view (Rect.unit (s := S1x2048) ![0, 0] S1x2048.size (by decide)).toLoadRect (g13.unread x12)) := rfl

theorem C_H14 : (kernelRun0_C.sl.H14_8 c b10 g10 b11 g11 b12 g12 b20 g20 b21 x9 x10 x11 xs2) = (prL b10 g10 b11 g11 b12 g12 b20 g20 b21 x9 x10 x11 xs2) := rfl

theorem C_back : (kernelRun0_C.sl.v1084 c b10 g10 b11 g11 b12 g12 b15 b20 g20 b21 x9 x10 x11 xs2) = b15.view.readCov (kernelRun0_C.sl.H14_8 c b10 g10 b11 g11 b12 g12 b20 g20 b21 x9 x10 x11 xs2) (Rect.unit (s := S256x2048) ![0, 0] S256x2048.size (by decide)).toLoadRect := rfl

theorem C_norm : (kernelRun0_C.sl.r_11 c b10 g10 b11 g11 b12 g12 b13 g13 b15 b20 g20 b21 x9 x10 x11 x12 xs2) = k0_pay316 (kernelRun0_C.sl.v1084 c b10 g10 b11 g11 b12 g12 b15 b20 g20 b21 x9 x10 x11 xs2) (View.readAt (Elt F) b13.view (Rect.unit (s := S1x2048) ![0, 0] S1x2048.size (by decide)).toLoadRect (g13.unread x12)) := rfl

theorem D_H14 : (kernelRun0_D.sl.H14_8 c b10 g10 b11 g11 b12 g12 b20 g20 b21 x9 x10 x11 xs2) = (prL b10 g10 b11 g11 b12 g12 b20 g20 b21 x9 x10 x11 xs2) := rfl

theorem D_back : (kernelRun0_D.sl.v88 c b10 g10 b11 g11 b12 g12 b15 b20 g20 b21 x9 x10 x11 xs2) = b15.view.readCov (kernelRun0_D.sl.H14_8 c b10 g10 b11 g11 b12 g12 b20 g20 b21 x9 x10 x11 xs2) (Rect.unit (s := S256x2048) ![0, 0] S256x2048.size (by decide)).toLoadRect := rfl

end

variable {c : Dev nD} {b1 : Memref sig .tc .vmem S256x2048 .bf16} {g1 : b1.IsWhole} {b2 : Memref sig .tc .vmem S256x1024 .bf16} {g2 : b2.IsWhole} {b3 : Memref sig .tc .vmem S256x128 .f32} {g3 : b3.IsWhole} {b4 : Memref sig .tc .vmem S4x2048 .f32} {g4 : b4.IsWhole} {b5 : Memref sig .tc .vmem S1x2048 .f32} {g5 : b5.IsWhole} {b6 : Memref sig .tc .vmem S1x128 .f32} {g6 : b6.IsWhole} {b7 : Memref sig .tc .vmem S1x128 .f32} {g7 : b7.IsWhole} {b8 : Memref sig .tc .vmem S1x1024 .f32} {g8 : b8.IsWhole} {b9 : Memref sig .tc .vmem S1x1024 .f32} {g9 : b9.IsWhole} {b10 : Memref sig .tc .vmem S256x2048 .f32} {g10 : b10.IsWhole} {b11 : Memref sig .tc .vmem S256x1024 .bf16} {g11 : b11.IsWhole} {b12 : Memref sig .tc .vmem S2048x2048 .bf16} {g12 : b12.IsWhole} {b13 : Memref sig .tc .vmem S1x2048 .f32} {g13 : b13.IsWhole} {b14 : Memref sig .tc .vmem S256x2048 .f32} {g14 : b14.IsWhole} {b15 : Memref sig .tc .vmem S256x2048 .f32} {g15 : b15.IsWhole} {b16 : Memref sig .tc .vmem S256x2048 .bf16} {g16 : b16.IsWhole} {b17 : Memref sig .tc .vmem S256x2048 .bf16} {g17 : b17.IsWhole} {b18 : Memref sig .tc .vmem S136x2048 .f32} {g18 : b18.IsWhole} {b19 : Memref sig .tc .vmem S128x1024 .f32} {g19 : b19.IsWhole} {b20 : Memref sig .tc .vmem S256x1024 .bf16} {g20 : b20.IsWhole} {b21 : Memref sig .tc .vmem S256x1024 .bf16} {g21 : b21.IsWhole} {x0 : Vec Ideal S256x2048 .bf16} {x1 : Vec Ideal S256x1024 .bf16} {x2 : Vec Ideal S256x128 .f32} {x3 : Vec Ideal S4x2048 .f32} {x4 : Vec Ideal S1x2048 .f32} {x5 : Vec Ideal S1x128 .f32} {x6 : Vec Ideal S1x128 .f32} {x7 : Vec Ideal S1x1024 .f32} {x8 : Vec Ideal S1x1024 .f32} {x9 : Vec Ideal S256x2048 .f32} {x10 : Vec Ideal S256x1024 .bf16} {x11 : Vec Ideal S2048x2048 .bf16} {x12 : Vec Ideal S1x2048 .f32} {x13 : Vec Ideal S256x2048 .f32} {xs0 : Vec Ideal S136x2048 .f32} {xs1 : Vec Ideal S128x1024 .f32} {xs2 : Vec Ideal S256x1024 .bf16}

theorem pr_cat (r : Fin 256) (k : Fin 2048) : (prC (F := Ideal) b11 g11 b20 g20 b21 x10 xs2) (ix2 r k) = catV xs2 x10 r k := by
  unfold prC
  rw [cat_val]
  unfold catV
  split
  · rename_i h
    exact (cov (m := 256) (n := 1024) (a := 256) (b := 1024) r ⟨k.1, h⟩ r ⟨k.1, h⟩ (by omega) (by omega)).trans ((cn_hit (m := 256) (n := 1024) (a := 256) (b := 1024) _ _ r ⟨k.1, h⟩ (by omega) (by omega)).trans
      ((cpy_val _ _ _).trans (rd (m := 256) (n := 1024) (a := 256) (b := 1024) b20 g20 xs2 _ r _ r _ (by omega) (by omega))))
  · exact rd (m := 256) (n := 1024) (a := 256) (b := 1024) b11 g11 x10 _ r _ r _ (by omega) (by omega)

/-- A column block's store, where it holds the index, -/
def hitP := @cn_hit 256 2048 256 256
/-- and where it does not. -/
def missP := @cn_miss 256 2048 256 256
/-- A store of the whole output. -/
def hitW := @cn_hit 256 2048 256 2048

/-- One column block of the projection's sum, at an index. -/
theorem pr_blk (p : ℕ) (r : Fin 256) (q : Fin 2048) (q' : Fin 256) (h : q.1 = p + q'.1) (u : ∀ k, (![0, p] : Fin 2 → ℕ) k + S256x256.size k ≤ S256x2048.size k) (v : ∀ k, (![0, p] : Fin 2 → ℕ) k + S2048x256.size k ≤ S2048x2048.size k) :
    (k0_pay249 (F := Ideal) (prC b11 g11 b20 g20 b21 x10 xs2) (View.readAt (Elt Ideal) b10.view (Rect.unit (s := S256x2048) ![0, p] S256x256.size u).toLoadRect (g10.unread x9)) (View.readAt (Elt Ideal) b12.view (Rect.unit (s := S2048x2048) ![0, p] S2048x256.size v).toLoadRect (g12.unread x11))) (ix2 r q') = prV x9 xs2 x10 x11 r q := by
  refine (out_val _ _ _ _ _).trans ?_
  unfold prV
  exact congrArg₂ (fun a b : EReal => a + b) (rd (m := 256) (n := 2048) (a := 256) (b := 256) b10 g10 x9 _ r _ r q (by omega) h)
    (Finset.sum_congr rfl fun k _ => congrArg₂ (fun a b : EReal => a * b) (pr_cat r k) (rd (m := 2048) (n := 2048) (a := 2048) (b := 256) b12 g12 x11 _ k _ k q (by omega) h))

theorem pr_canon (r : Fin 256) (q : Fin 2048) : View.canon (Val := Elt Ideal) (prL b10 g10 b11 g11 b12 g12 b20 g20 b21 x9 x10 x11 xs2) (ix2 r q) = prV x9 xs2 x10 x11 r q := by
  unfold prL
  by_cases h7 : 1792 ≤ q.1
  · exact (hitP _ _ r ⟨q.1 - 1792, by omega⟩ (by omega) (by first | omega | (dsimp only; omega))).trans (pr_blk _ r q _ (by first | omega | (dsimp only; omega)) _ _)
  refine (missP _ _ (by omega)).trans ?_
  by_cases h6 : 1536 ≤ q.1
  · exact (hitP _ _ r ⟨q.1 - 1536, by omega⟩ (by omega) (by first | omega | (dsimp only; omega))).trans (pr_blk _ r q _ (by first | omega | (dsimp only; omega)) _ _)
  refine (missP _ _ (by omega)).trans ?_
  by_cases h5 : 1280 ≤ q.1
  · exact (hitP _ _ r ⟨q.1 - 1280, by omega⟩ (by omega) (by first | omega | (dsimp only; omega))).trans (pr_blk _ r q _ (by first | omega | (dsimp only; omega)) _ _)
  refine (missP _ _ (by omega)).trans ?_
  by_cases h4 : 1024 ≤ q.1
  · exact (hitP _ _ r ⟨q.1 - 1024, by omega⟩ (by omega) (by first | omega | (dsimp only; omega))).trans (pr_blk _ r q _ (by first | omega | (dsimp only; omega)) _ _)
  refine (missP _ _ (by omega)).trans ?_
  by_cases h3 : 768 ≤ q.1
  · exact (hitP _ _ r ⟨q.1 - 768, by omega⟩ (by omega) (by first | omega | (dsimp only; omega))).trans (pr_blk _ r q _ (by first | omega | (dsimp only; omega)) _ _)
  refine (missP _ _ (by omega)).trans ?_
  by_cases h2 : 512 ≤ q.1
  · exact (hitP _ _ r ⟨q.1 - 512, by omega⟩ (by omega) (by first | omega | (dsimp only; omega))).trans (pr_blk _ r q _ (by first | omega | (dsimp only; omega)) _ _)
  refine (missP _ _ (by omega)).trans ?_
  by_cases h1 : 256 ≤ q.1
  · exact (hitP _ _ r ⟨q.1 - 256, by omega⟩ (by omega) (by first | omega | (dsimp only; omega))).trans (pr_blk _ r q _ (by first | omega | (dsimp only; omega)) _ _)
  refine (missP _ _ (by omega)).trans ?_
  · exact (hitP _ _ r ⟨q.1 - 0, by omega⟩ (by omega) (by first | omega | (dsimp only; omega))).trans (pr_blk _ r q _ (by first | omega | (dsimp only; omega)) _ _)

theorem B_x1 (r : Fin 256) (q : Fin 2048) : ((kernelRun0_B.sl.v1084 c b10 g10 b11 g11 b12 g12 b15 b20 g20 b21 x9 x10 x11 xs2) : Vec Ideal S256x2048 .f32) (ix2 r q) = prV x9 xs2 x10 x11 r q :=
  (congrFun B_back _).trans ((cov (m := 256) (n := 2048) (a := 256) (b := 2048) r q r q (by omega) (by omega)).trans ((congrArg (fun z => View.canon z (ix2 r q)) B_H14).trans (pr_canon r q)))

theorem B_out14 (i : grid0.Coords) (hc0 : ¬cond0_0 i) (hc1 : ¬cond0_1 i) (hc2 : cond0_2 i) (hc3 : ¬cond0_3 i) (r : Fin 256) (q : Fin 2048) : (out0_B_14 c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs0 xs1 xs2 : Vec Ideal S256x2048 .f32) (ix2 r q) = prV x9 xs2 x10 x11 r q := by
  unfold out0_B_14
  refine (congrFun (View.read_writes_junk_eq_canon VO0_14 _) _).trans ?_
  unfold kernelRun0_B
  dsimp only
  exact (congrArg (fun z => View.canon z (ix2 r q)) B_H14).trans (pr_canon r q)

theorem B_out15 (i : grid0.Coords) (hc0 : ¬cond0_0 i) (hc1 : ¬cond0_1 i) (hc2 : cond0_2 i) (hc3 : ¬cond0_3 i) (r : Fin 256) (q : Fin 2048) : (out0_B_15 c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs0 xs1 xs2 : Vec Ideal S256x2048 .bf16) (ix2 r q) = nrm (prV x9 xs2 x10 x11 r) (x12 (ix2 0 q)) q := by
  unfold out0_B_15
  refine (congrFun (View.read_writes_junk_eq_canon VO0_15 _) _).trans ?_
  unfold kernelRun0_B
  dsimp only
  refine (hitW _ _ r q (by omega) (by omega)).trans ?_
  refine (congrFun (B_norm (F := Ideal)) _).trans ((h2_val _ _ r q).trans ?_)
  rw [funext fun k => B_x1 (x9 := x9) (x10 := x10) (x11 := x11) (xs2 := xs2) r k]
  exact congrArg (fun g => nrm (prV x9 xs2 x10 x11 r) g q) (rd (m := 1) (n := 2048) (a := 1) (b := 2048) b13 g13 x12 _ 0 q 0 q rfl (by omega))

theorem C_x1 (r : Fin 256) (q : Fin 2048) : ((kernelRun0_C.sl.v1084 c b10 g10 b11 g11 b12 g12 b15 b20 g20 b21 x9 x10 x11 xs2) : Vec Ideal S256x2048 .f32) (ix2 r q) = prV x9 xs2 x10 x11 r q :=
  (congrFun C_back _).trans ((cov (m := 256) (n := 2048) (a := 256) (b := 2048) r q r q (by omega) (by omega)).trans ((congrArg (fun z => View.canon z (ix2 r q)) C_H14).trans (pr_canon r q)))

theorem C_out14 (i : grid0.Coords) (hc0 : cond0_0 i) (hc1 : ¬cond0_1 i) (hc2 : cond0_2 i) (hc3 : ¬cond0_3 i) (r : Fin 256) (q : Fin 2048) : (out0_C_14 c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs2 : Vec Ideal S256x2048 .f32) (ix2 r q) = prV x9 xs2 x10 x11 r q := by
  unfold out0_C_14
  refine (congrFun (View.read_writes_junk_eq_canon VO0_14 _) _).trans ?_
  unfold kernelRun0_C
  dsimp only
  exact (congrArg (fun z => View.canon z (ix2 r q)) C_H14).trans (pr_canon r q)

theorem C_out15 (i : grid0.Coords) (hc0 : cond0_0 i) (hc1 : ¬cond0_1 i) (hc2 : cond0_2 i) (hc3 : ¬cond0_3 i) (r : Fin 256) (q : Fin 2048) : (out0_C_15 c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs2 : Vec Ideal S256x2048 .bf16) (ix2 r q) = nrm (prV x9 xs2 x10 x11 r) (x12 (ix2 0 q)) q := by
  unfold out0_C_15
  refine (congrFun (View.read_writes_junk_eq_canon VO0_15 _) _).trans ?_
  unfold kernelRun0_C
  dsimp only
  refine (hitW _ _ r q (by omega) (by omega)).trans ?_
  refine (congrFun (C_norm (F := Ideal)) _).trans ((h2_val _ _ r q).trans ?_)
  rw [funext fun k => C_x1 (x9 := x9) (x10 := x10) (x11 := x11) (xs2 := xs2) r k]
  exact congrArg (fun g => nrm (prV x9 xs2 x10 x11 r) g q) (rd (m := 1) (n := 2048) (a := 1) (b := 2048) b13 g13 x12 _ 0 q 0 q rfl (by omega))

theorem D_x1 (r : Fin 256) (q : Fin 2048) : ((kernelRun0_D.sl.v88 c b10 g10 b11 g11 b12 g12 b15 b20 g20 b21 x9 x10 x11 xs2) : Vec Ideal S256x2048 .f32) (ix2 r q) = prV x9 xs2 x10 x11 r q :=
  (congrFun D_back _).trans ((cov (m := 256) (n := 2048) (a := 256) (b := 2048) r q r q (by omega) (by omega)).trans ((congrArg (fun z => View.canon z (ix2 r q)) D_H14).trans (pr_canon r q)))

theorem D_out14 (i : grid0.Coords) (hc0 : cond0_0 i) (hc1 : ¬cond0_1 i) (hc2 : ¬cond0_2 i) (hc3 : cond0_3 i) (r : Fin 256) (q : Fin 2048) : (out0_D_14 c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs2 : Vec Ideal S256x2048 .f32) (ix2 r q) = prV x9 xs2 x10 x11 r q := by
  unfold out0_D_14
  refine (congrFun (View.read_writes_junk_eq_canon VO0_14 _) _).trans ?_
  unfold kernelRun0_D
  dsimp only
  exact (congrArg (fun z => View.canon z (ix2 r q)) D_H14).trans (pr_canon r q)

theorem D_out15 (i : grid0.Coords) (hc0 : cond0_0 i) (hc1 : ¬cond0_1 i) (hc2 : ¬cond0_2 i) (hc3 : cond0_3 i) (r : Fin 256) (q : Fin 2048) : (out0_D_15 c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs2 : Vec Ideal S256x2048 .bf16) (ix2 r q) = nrm (prV x9 xs2 x10 x11 r) (x12 (ix2 0 q)) q := by
  unfold out0_D_15
  refine (congrFun (View.read_writes_junk_eq_canon VO0_15 _) _).trans ?_
  unfold kernelRun0_D
  dsimp only
  refine (hitW _ _ r q (by omega) (by omega)).trans ?_
  refine ((h2_val _ _ r q).trans ?_)
  rw [funext fun k => D_x1 (x9 := x9) (x10 := x10) (x11 := x11) (xs2 := xs2) r k]
  exact congrArg (fun g => nrm (prV x9 xs2 x10 x11 r) g q) (rd (m := 1) (n := 2048) (a := 1) (b := 2048) b13 g13 x12 _ 0 q 0 q rfl (by omega))

theorem A_out16 (i : grid0.Coords) (hc0 : cond0_0 i) (hc1 : cond0_1 i) (hc2 : ¬cond0_2 i) (hc3 : ¬cond0_3 i) (r : Fin 256) (q : Fin 2048) : (out0_A_16 c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 : Vec Ideal S256x2048 .bf16) (ix2 r q) = x13 (ix2 r q) := by
  unfold out0_A_16
  refine (congrFun (View.read_writes_junk_eq_canon VO0_16 _) _).trans ?_
  unfold kernelRun0_A
  dsimp only
  refine (hitW _ _ r q (by omega) (by omega)).trans ?_
  exact (wd_val _ r q).trans (rd (m := 256) (n := 2048) (a := 256) (b := 2048) b14 g14 x13 _ r q r q (by omega) (by omega))

theorem B_out16 (i : grid0.Coords) (hc0 : ¬cond0_0 i) (hc1 : ¬cond0_1 i) (hc2 : cond0_2 i) (hc3 : ¬cond0_3 i) (r : Fin 256) (q : Fin 2048) : (out0_B_16 c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs0 xs1 xs2 : Vec Ideal S256x2048 .bf16) (ix2 r q) = x13 (ix2 r q) := by
  unfold out0_B_16
  refine (congrFun (View.read_writes_junk_eq_canon VO0_16 _) _).trans ?_
  unfold kernelRun0_B
  dsimp only
  refine (hitW _ _ r q (by omega) (by omega)).trans ?_
  exact (wd_val _ r q).trans (rd (m := 256) (n := 2048) (a := 256) (b := 2048) b14 g14 x13 _ r q r q (by omega) (by omega))

theorem C_out16 (i : grid0.Coords) (hc0 : cond0_0 i) (hc1 : ¬cond0_1 i) (hc2 : cond0_2 i) (hc3 : ¬cond0_3 i) (r : Fin 256) (q : Fin 2048) : (out0_C_16 c i b1 g1 b2 g2 b3 g3 b4 g4 b5 g5 b6 g6 b7 g7 b8 g8 b9 g9 b10 g10 b11 g11 b12 g12 b13 g13 b14 g14 b15 g15 b16 g16 b17 g17 b18 g18 b19 g19 b20 g20 b21 g21 hc0 hc1 hc2 hc3 x0 x1 x2 x3 x4 x5 x6 x7 x8 x9 x10 x11 x12 x13 xs2 : Vec Ideal S256x2048 .bf16) (ix2 r q) = x13 (ix2 r q) := by
  unfold out0_C_16
  refine (congrFun (View.read_writes_junk_eq_canon VO0_16 _) _).trans ?_
  unfold kernelRun0_C
  dsimp only
  refine (hitW _ _ r q (by omega) (by omega)).trans ?_
  exact (wd_val _ r q).trans (rd (m := 256) (n := 2048) (a := 256) (b := 2048) b14 g14 x13 _ r q r q (by omega) (by omega))

end Cert.KernelIdeal.Ssd
-- ==== Proof.SsdInd.lean ====
/- What each grid point of the mixer kernel leaves: by induction over the points, the carried scratch holds the sequence's
   last rows, its state and the rows of its tile; the outputs' staging buffers hold the projected rows of the tile before. -/
module

public import proofs.«01_k».proof.Proof.SsdBlk
public import proofs.«01_k».proof.Proof.SsdHost
public import proofs.«01_k».proof.Proof.SsdSeq
public import proofs.«01_k».proof.Proof.SsdTileA
public import proofs.«01_k».proof.Proof.SsdTileB
public import proofs.«01_k».proof.Proof.SsdTileC
public import proofs.«01_k».proof.Proof.SsdOutVal

@[expose] public section

set_option maxRecDepth 16384

noncomputable section

open Idealize.ShloMosaic Idealize.ShloMosaic.TcCoe Idealize.SL.Sem

namespace Cert.KernelIdeal.Ssd

open Cert.KernelIdeal Cert.KernelIdeal.Gen

variable (m : (ℓ : Loc nD τ sig) → Buf (Elt Ideal) ℓ) (c : Dev nD)

/-- The arguments hold the real numbers given. -/
abbrev MemReal (X Z D : ℕ → ℕ → ℕ → ℝ) (W : ℕ → ℕ → ℝ) (Cb B A : ℕ → ℝ) (K N : ℕ → EReal) : Prop :=
  ArgReal (m ((c : Thread nD τ).loc main_arg1)) (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9)) X Z D W Cb B A K N

/-- The point's staged blocks hold the real numbers given. -/
abbrev PtReal (t : Fin cfg0.N) (R D Z W : ℕ → ℕ → ℝ) (Cb B A : ℕ → ℝ) (K N : ℕ → EReal) : Prop :=
  TileReal (iblk m c 0 t : Vec Ideal S256x2048 .bf16) (iblk m c 1 t : Vec Ideal S256x1024 .bf16) (iblk m c 2 t : Vec Ideal S256x128 .f32) (iblk m c 3 t : Vec Ideal S4x2048 .f32) (iblk m c 4 t : Vec Ideal S1x2048 .f32)
      (iblk m c 5 t : Vec Ideal S1x128 .f32) (iblk m c 6 t : Vec Ideal S1x128 .f32) (iblk m c 7 t : Vec Ideal S1x1024 .f32) (iblk m c 8 t : Vec Ideal S1x1024 .f32)
      R D Z W Cb B A K N

section Points
variable {R D Z W : ℕ → ℕ → ℝ} {Cb B A : ℕ → ℝ} {K N : ℕ → EReal}

theorem pt_A_hist (t : Fin cfg0.N) (h0 : t.val % 8 = 0) (h1 : t.val % 33 = 0) (h2 : ¬(1 ≤ t.val % 33 ∧ t.val % 33 ≤ 31)) (h3 : ¬t.val % 33 = 32) (T : PtReal m c t R D Z W Cb B A K N) (j : Fin 3) (q : Fin 2048) :
    ((outsAt0 m c t.val t.isLt).2.2.2.1 : Vec Ideal S136x2048 .f32) (ix2 ⟨5 + j.1, by omega⟩ q) = (R (253 + j) q : EReal) := by
  rw [outsAt0_A m c t h0 h1 h2 h3, atA, outs_A]
  dsimp only
  exact A_hist T (grid0.coords t) ((hcond0_0 t).mpr h0) ((hcond0_1 t).mpr h1) (fun h => h2 ((hcond0_2 t).mp h)) (fun h => h3 ((hcond0_3 t).mp h)) j q

theorem pt_A_state (t : Fin cfg0.N) (h0 : t.val % 8 = 0) (h1 : t.val % 33 = 0) (h2 : ¬(1 ≤ t.val % 33 ∧ t.val % 33 ≤ 31)) (h3 : ¬t.val % 33 = 32) (T : PtReal m c t R D Z W Cb B A K N) (n : Fin 128) (q : Fin 1024) :
    ((outsAt0 m c t.val t.isLt).2.2.2.2.1 : Vec Ideal S128x1024 .f32) (ix2 n q) = (stR (sh 128 (cvR W Cb (upR (fun _ _ => 0) R))) (sh 128 D) B A (stR (sh 0 (cvR W Cb (upR (fun _ _ => 0) R))) (sh 0 D) B A (fun _ _ => 0)) n q : EReal) := by
  rw [outsAt0_A m c t h0 h1 h2 h3, atA, outs_A]
  dsimp only
  exact A_state T (grid0.coords t) ((hcond0_0 t).mpr h0) ((hcond0_1 t).mpr h1) (fun h => h2 ((hcond0_2 t).mp h)) (fun h => h3 ((hcond0_3 t).mp h)) n q

theorem pt_A_rows (t : Fin cfg0.N) (h0 : t.val % 8 = 0) (h1 : t.val % 33 = 0) (h2 : ¬(1 ≤ t.val % 33 ∧ t.val % 33 ≤ 31)) (h3 : ¬t.val % 33 = 32) (T : PtReal m c t R D Z W Cb B A K N) (r : Fin 256) (q : Fin 1024) :
    ((outsAt0 m c t.val t.isLt).2.2.2.2.2 : Vec Ideal S256x1024 .bf16) (ix2 r q) = (if r.1 < 128 then ysR (sh 0 (cvR W Cb (upR (fun _ _ => 0) R))) (sh 0 D) B A (fun _ _ => 0) (sh 0 Z) K N r q else ysR (sh 128 (cvR W Cb (upR (fun _ _ => 0) R))) (sh 128 D) B A (stR (sh 0 (cvR W Cb (upR (fun _ _ => 0) R))) (sh 0 D) B A (fun _ _ => 0)) (sh 128 Z) K N (r - 128) q) := by
  rw [outsAt0_A m c t h0 h1 h2 h3, atA, outs_A]
  dsimp only
  exact A_rows T (grid0.coords t) ((hcond0_0 t).mpr h0) ((hcond0_1 t).mpr h1) (fun h => h2 ((hcond0_2 t).mp h)) (fun h => h3 ((hcond0_3 t).mp h)) r q

theorem pt_B_hist (t : Fin cfg0.N) (h0 : ¬t.val % 8 = 0) (h1 : ¬t.val % 33 = 0) (h2 : (1 ≤ t.val % 33 ∧ t.val % 33 ≤ 31)) (h3 : ¬t.val % 33 = 32) (T : PtReal m c t R D Z W Cb B A K N) {Hd S : ℕ → ℕ → ℝ} (hH : ∀ (j : Fin 3) (q : Fin 2048), ((outsAt0 m c (t.val - 1) (Nat.lt_of_le_of_lt (Nat.sub_le _ _) t.isLt)).2.2.2.1 : Vec Ideal S136x2048 .f32) (ix2 ⟨5 + j.1, by omega⟩ q) = (Hd j q : EReal))
    (hS : ∀ (n : Fin 128) (q : Fin 1024), ((outsAt0 m c (t.val - 1) (Nat.lt_of_le_of_lt (Nat.sub_le _ _) t.isLt)).2.2.2.2.1 : Vec Ideal S128x1024 .f32) (ix2 n q) = (S n q : EReal))
    (j : Fin 3) (q : Fin 2048) :
    ((outsAt0 m c t.val t.isLt).2.2.2.1 : Vec Ideal S136x2048 .f32) (ix2 ⟨5 + j.1, by omega⟩ q) = (R (253 + j) q : EReal) := by
  rw [outsAt0_B m c t h0 h1 h2 h3, atB, outs_B]
  dsimp only
  exact B_hist T hH hS (grid0.coords t) (fun h => h0 ((hcond0_0 t).mp h)) (fun h => h1 ((hcond0_1 t).mp h)) ((hcond0_2 t).mpr h2) (fun h => h3 ((hcond0_3 t).mp h)) j q

theorem pt_B_state (t : Fin cfg0.N) (h0 : ¬t.val % 8 = 0) (h1 : ¬t.val % 33 = 0) (h2 : (1 ≤ t.val % 33 ∧ t.val % 33 ≤ 31)) (h3 : ¬t.val % 33 = 32) (T : PtReal m c t R D Z W Cb B A K N) {Hd S : ℕ → ℕ → ℝ} (hH : ∀ (j : Fin 3) (q : Fin 2048), ((outsAt0 m c (t.val - 1) (Nat.lt_of_le_of_lt (Nat.sub_le _ _) t.isLt)).2.2.2.1 : Vec Ideal S136x2048 .f32) (ix2 ⟨5 + j.1, by omega⟩ q) = (Hd j q : EReal))
    (hS : ∀ (n : Fin 128) (q : Fin 1024), ((outsAt0 m c (t.val - 1) (Nat.lt_of_le_of_lt (Nat.sub_le _ _) t.isLt)).2.2.2.2.1 : Vec Ideal S128x1024 .f32) (ix2 n q) = (S n q : EReal))
    (n : Fin 128) (q : Fin 1024) :
    ((outsAt0 m c t.val t.isLt).2.2.2.2.1 : Vec Ideal S128x1024 .f32) (ix2 n q) = (stR (sh 128 (cvR W Cb (upR Hd R))) (sh 128 D) B A (stR (sh 0 (cvR W Cb (upR Hd R))) (sh 0 D) B A S) n q : EReal) := by
  rw [outsAt0_B m c t h0 h1 h2 h3, atB, outs_B]
  dsimp only
  exact B_state T hH hS (grid0.coords t) (fun h => h0 ((hcond0_0 t).mp h)) (fun h => h1 ((hcond0_1 t).mp h)) ((hcond0_2 t).mpr h2) (fun h => h3 ((hcond0_3 t).mp h)) n q

theorem pt_B_rows (t : Fin cfg0.N) (h0 : ¬t.val % 8 = 0) (h1 : ¬t.val % 33 = 0) (h2 : (1 ≤ t.val % 33 ∧ t.val % 33 ≤ 31)) (h3 : ¬t.val % 33 = 32) (T : PtReal m c t R D Z W Cb B A K N) {Hd S : ℕ → ℕ → ℝ} (hH : ∀ (j : Fin 3) (q : Fin 2048), ((outsAt0 m c (t.val - 1) (Nat.lt_of_le_of_lt (Nat.sub_le _ _) t.isLt)).2.2.2.1 : Vec Ideal S136x2048 .f32) (ix2 ⟨5 + j.1, by omega⟩ q) = (Hd j q : EReal))
    (hS : ∀ (n : Fin 128) (q : Fin 1024), ((outsAt0 m c (t.val - 1) (Nat.lt_of_le_of_lt (Nat.sub_le _ _) t.isLt)).2.2.2.2.1 : Vec Ideal S128x1024 .f32) (ix2 n q) = (S n q : EReal))
    (r : Fin 256) (q : Fin 1024) :
    ((outsAt0 m c t.val t.isLt).2.2.2.2.2 : Vec Ideal S256x1024 .bf16) (ix2 r q) = (if r.1 < 128 then ysR (sh 0 (cvR W Cb (upR Hd R))) (sh 0 D) B A S (sh 0 Z) K N r q else ysR (sh 128 (cvR W Cb (upR Hd R))) (sh 128 D) B A (stR (sh 0 (cvR W Cb (upR Hd R))) (sh 0 D) B A S) (sh 128 Z) K N (r - 128) q) := by
  rw [outsAt0_B m c t h0 h1 h2 h3, atB, outs_B]
  dsimp only
  exact B_rows T hH hS (grid0.coords t) (fun h => h0 ((hcond0_0 t).mp h)) (fun h => h1 ((hcond0_1 t).mp h)) ((hcond0_2 t).mpr h2) (fun h => h3 ((hcond0_3 t).mp h)) r q

theorem pt_C_hist (t : Fin cfg0.N) (h0 : t.val % 8 = 0) (h1 : ¬t.val % 33 = 0) (h2 : (1 ≤ t.val % 33 ∧ t.val % 33 ≤ 31)) (h3 : ¬t.val % 33 = 32) (T : PtReal m c t R D Z W Cb B A K N) (j : Fin 3) (q : Fin 2048) :
    ((outsAt0 m c t.val t.isLt).2.2.2.1 : Vec Ideal S136x2048 .f32) (ix2 ⟨5 + j.1, by omega⟩ q) = (R (253 + j) q : EReal) := by
  rw [outsAt0_C m c t h0 h1 h2 h3, atC, outs_C]
  dsimp only
  exact C_hist T (grid0.coords t) ((hcond0_0 t).mpr h0) (fun h => h1 ((hcond0_1 t).mp h)) ((hcond0_2 t).mpr h2) (fun h => h3 ((hcond0_3 t).mp h)) j q

theorem pt_C_state (t : Fin cfg0.N) (h0 : t.val % 8 = 0) (h1 : ¬t.val % 33 = 0) (h2 : (1 ≤ t.val % 33 ∧ t.val % 33 ≤ 31)) (h3 : ¬t.val % 33 = 32) (T : PtReal m c t R D Z W Cb B A K N) (n : Fin 128) (q : Fin 1024) :
    ((outsAt0 m c t.val t.isLt).2.2.2.2.1 : Vec Ideal S128x1024 .f32) (ix2 n q) = (stR (sh 128 (cvR W Cb (upR (fun _ _ => 0) R))) (sh 128 D) B A (stR (sh 0 (cvR W Cb (upR (fun _ _ => 0) R))) (sh 0 D) B A (fun _ _ => 0)) n q : EReal) := by
  rw [outsAt0_C m c t h0 h1 h2 h3, atC, outs_C]
  dsimp only
  exact C_state T (grid0.coords t) ((hcond0_0 t).mpr h0) (fun h => h1 ((hcond0_1 t).mp h)) ((hcond0_2 t).mpr h2) (fun h => h3 ((hcond0_3 t).mp h)) n q

theorem pt_C_rows (t : Fin cfg0.N) (h0 : t.val % 8 = 0) (h1 : ¬t.val % 33 = 0) (h2 : (1 ≤ t.val % 33 ∧ t.val % 33 ≤ 31)) (h3 : ¬t.val % 33 = 32) (T : PtReal m c t R D Z W Cb B A K N) (r : Fin 256) (q : Fin 1024) :
    ((outsAt0 m c t.val t.isLt).2.2.2.2.2 : Vec Ideal S256x1024 .bf16) (ix2 r q) = (if r.1 < 128 then ysR (sh 0 (cvR W Cb (upR (fun _ _ => 0) R))) (sh 0 D) B A (fun _ _ => 0) (sh 0 Z) K N r q else ysR (sh 128 (cvR W Cb (upR (fun _ _ => 0) R))) (sh 128 D) B A (stR (sh 0 (cvR W Cb (upR (fun _ _ => 0) R))) (sh 0 D) B A (fun _ _ => 0)) (sh 128 Z) K N (r - 128) q) := by
  rw [outsAt0_C m c t h0 h1 h2 h3, atC, outs_C]
  dsimp only
  exact C_rows T (grid0.coords t) ((hcond0_0 t).mpr h0) (fun h => h1 ((hcond0_1 t).mp h)) ((hcond0_2 t).mpr h2) (fun h => h3 ((hcond0_3 t).mp h)) r q

end Points

variable {X Z D : ℕ → ℕ → ℕ → ℝ} {W : ℕ → ℕ → ℝ} {Cb B A : ℕ → ℝ} {K N : ℕ → EReal} (H : MemReal m c X Z D W Cb B A K N)
include H

theorem tile_real (t : Fin cfg0.N) (ht : t.val ≤ 31) :
    TileReal (iblk m c 0 t : Vec Ideal S256x2048 .bf16) (iblk m c 1 t : Vec Ideal S256x1024 .bf16) (iblk m c 2 t : Vec Ideal S256x128 .f32) (iblk m c 3 t : Vec Ideal S4x2048 .f32) (iblk m c 4 t : Vec Ideal S1x2048 .f32)
      (iblk m c 5 t : Vec Ideal S1x128 .f32) (iblk m c 6 t : Vec Ideal S1x128 .f32) (iblk m c 7 t : Vec Ideal S1x1024 .f32) (iblk m c 8 t : Vec Ideal S1x1024 .f32)
      (sh (256 * (t.val % 8)) (X (t.val / 8))) (sh (256 * (t.val % 8)) (D (t.val / 8))) (sh (256 * (t.val % 8)) (Z (t.val / 8))) W Cb B A K N := by
  have e1 : ∀ r : Fin 256, (cur t r).val / 2048 = t.val / 8 := fun r => by show (min t.val 31 * 256 + r.val) / 2048 = _; omega
  have e2 : ∀ r : Fin 256, (cur t r).val % 2048 = 256 * (t.val % 8) + r.val := fun r => by show (min t.val 31 * 256 + r.val) % 2048 = _; omega
  refine ⟨fun r q => ?_, fun r q => ?_, fun r q => ?_, fun r q => ?_, fun q => ?_, fun q => ?_, fun q => ?_, fun q => ?_, fun q => ?_⟩
  · refine (blk0 m c t r q).trans ((v3_apply m c _ q).trans ((H.raw _ _ q).trans ?_))
    show ((X ((cur t r).val / 2048) ((cur t r).val % 2048) q : ℝ) : EReal) = ((X (t.val / 8) (256 * (t.val % 8) + r.val) q : ℝ) : EReal)
    rw [e1, e2]
  · refine (blk1 m c t r q).trans ((v4_apply m c _ q).trans ((H.z _ _ q).trans ?_))
    show ((Z ((cur t r).val / 2048) ((cur t r).val % 2048) q : ℝ) : EReal) = ((Z (t.val / 8) (256 * (t.val % 8) + r.val) q : ℝ) : EReal)
    rw [e1, e2]
  · refine (blk2 m c t r q).trans ((congrFun (v2_eq m c) _).trans ((pdD_apply _ _ q).trans ?_))
    show _ = ((D (t.val / 8) (256 * (t.val % 8) + r.val) q : ℝ) : EReal)
    by_cases g : q.1 < 16
    · rw [dif_pos g]
      refine (H.d _ _ ⟨q.1, g⟩).trans ?_
      show ((D ((cur t r).val / 2048) ((cur t r).val % 2048) q.1 : ℝ) : EReal) = _
      rw [e1, e2]
    · rw [dif_neg g, H.d0 _ _ _ (by omega)]; rfl
  · exact (blk3 m c t r q).trans ((v6_apply m c r q).trans (H.w r q))
  · exact (blk4 m c t 0 q).trans ((v8_apply m c q).trans (H.cb q))
  · refine (blk5 m c t 0 q).trans ((congrFun (v11_eq m c) _).trans ((pdH_apply _ q).trans ?_))
    by_cases g : q.1 < 16
    · rw [dif_pos g]; exact H.b ⟨q.1, g⟩
    · rw [dif_neg g, H.b0 _ (by omega)]; rfl
  · refine (blk6 m c t 0 q).trans ((congrFun (v14_eq m c) _).trans ((pdH_apply _ q).trans ?_))
    by_cases g : q.1 < 16
    · rw [dif_pos g]; exact H.a ⟨q.1, g⟩
    · rw [dif_neg g, H.a0 _ (by omega)]; rfl
  · refine (blk7 m c t 0 q).trans ((v18_apply m c q).trans ((H.k ⟨q.1 / 64, by omega⟩ ⟨q.1 % 64, by omega⟩).trans ?_))
    show K (q.1 / 64 * 64 + q.1 % 64) = K q.1
    rw [show q.1 / 64 * 64 + q.1 % 64 = q.1 by omega]
  · exact (blk8 m c t 0 q).trans ((v20_apply m c q).trans (H.n q))

set_option maxHeartbeats 2000000 in
/-- The carried scratch after point `n`. -/
theorem carried : ∀ (n : ℕ) (hn : n < cfg0.N), n ≤ 31 →
    (∀ (j : Fin 3) (q : Fin 2048), ((outsAt0 m c n hn).2.2.2.1 : Vec Ideal S136x2048 .f32) (ix2 ⟨5 + j.1, by omega⟩ q) = (X (n / 8) (256 * (n % 8) + (253 + j.1)) q : EReal))
    ∧ (∀ (i : Fin 128) (q : Fin 1024), ((outsAt0 m c n hn).2.2.2.2.1 : Vec Ideal S128x1024 .f32) (ix2 i q) = (stB (cvB (X (n / 8)) W Cb) (D (n / 8)) B A (2 * (n % 8) + 2) i q : EReal))
    ∧ (∀ (r : Fin 256) (q : Fin 1024), ((outsAt0 m c n hn).2.2.2.2.2 : Vec Ideal S256x1024 .bf16) (ix2 r q) = ysB (cvB (X (n / 8)) W Cb) (D (n / 8)) B A (Z (n / 8)) K N (256 * (n % 8) + r.1) q) := by
  have hz : ∀ b j, j < 3 → ∀ c, (fun _ _ => 0 : ℕ → ℕ → ℝ) j c = pdR (X b) (256 * 0 + j) c := fun b j hj c => by unfold pdR; rw [if_pos (by omega)]
  intro n
  induction n with
  | zero =>
    intro hn _
    have h0 : (⟨0, hn⟩ : Fin cfg0.N).val % 8 = 0 := rfl
    have h1 : (⟨0, hn⟩ : Fin cfg0.N).val % 33 = 0 := rfl
    have h2 : ¬(1 ≤ (⟨0, hn⟩ : Fin cfg0.N).val % 33 ∧ (⟨0, hn⟩ : Fin cfg0.N).val % 33 ≤ 31) := by dsimp only; omega
    have h3 : ¬(⟨0, hn⟩ : Fin cfg0.N).val % 33 = 32 := by dsimp only; omega
    have T : PtReal m c ⟨0, hn⟩ (sh (256 * 0) (X 0)) (sh (256 * 0) (D 0)) (sh (256 * 0) (Z 0)) W Cb B A K N := by
      have q := tile_real m c H ⟨0, hn⟩ (by dsimp only; omega)
      have hd : (⟨0, hn⟩ : Fin cfg0.N).val / 8 = 0 := Nat.zero_div 8
      rw [h0, hd] at q
      exact q
    rw [Nat.zero_div, Nat.zero_mod]
    refine ⟨fun j q => ?_, fun i q => ?_, fun r q => ?_⟩
    · exact pt_A_hist m c ⟨0, hn⟩ h0 h1 h2 h3 T j q
    · exact (pt_A_state m c ⟨0, hn⟩ h0 h1 h2 h3 T i q).trans
        (congrArg (fun f : ℕ → ℕ → ℝ => ((f i q : ℝ) : EReal)) (st_seq (X 0) W (D 0) Cb B A 0 (fun _ _ => 0) (hz 0)))
    · exact (pt_A_rows m c ⟨0, hn⟩ h0 h1 h2 h3 T r q).trans
        (rows_seq (X 0) W (D 0) (Z 0) Cb B A K N 0 (fun _ _ => 0) (hz 0) r q r.isLt)
  | succ n ih =>
    intro hn hle
    have h1 : ¬(⟨n + 1, hn⟩ : Fin cfg0.N).val % 33 = 0 := by dsimp only; omega
    have h2 : 1 ≤ (⟨n + 1, hn⟩ : Fin cfg0.N).val % 33 ∧ (⟨n + 1, hn⟩ : Fin cfg0.N).val % 33 ≤ 31 := by dsimp only; omega
    have h3 : ¬(⟨n + 1, hn⟩ : Fin cfg0.N).val % 33 = 32 := by dsimp only; omega
    have T : PtReal m c ⟨n + 1, hn⟩ (sh (256 * ((n + 1) % 8)) (X ((n + 1) / 8))) (sh (256 * ((n + 1) % 8)) (D ((n + 1) / 8))) (sh (256 * ((n + 1) % 8)) (Z ((n + 1) / 8))) W Cb B A K N := tile_real m c H ⟨n + 1, hn⟩ hle
    by_cases h0 : (⟨n + 1, hn⟩ : Fin cfg0.N).val % 8 = 0
    · have h0' : (n + 1) % 8 = 0 := h0
      rw [h0'] at T
      rw [h0']
      refine ⟨fun j q => ?_, fun i q => ?_, fun r q => ?_⟩
      · exact pt_C_hist m c ⟨n + 1, hn⟩ h0 h1 h2 h3 T j q
      · exact (pt_C_state m c ⟨n + 1, hn⟩ h0 h1 h2 h3 T i q).trans
          (congrArg (fun f : ℕ → ℕ → ℝ => ((f i q : ℝ) : EReal)) (st_seq (X ((n + 1) / 8)) W (D ((n + 1) / 8)) Cb B A 0 (fun _ _ => 0) (hz _)))
      · exact (pt_C_rows m c ⟨n + 1, hn⟩ h0 h1 h2 h3 T r q).trans
          (rows_seq (X ((n + 1) / 8)) W (D ((n + 1) / 8)) (Z ((n + 1) / 8)) Cb B A K N 0 (fun _ _ => 0) (hz _) r q r.isLt)
    · have h0' : ¬(n + 1) % 8 = 0 := h0
      have ed : n / 8 = (n + 1) / 8 := by omega
      have em : (n + 1) % 8 = n % 8 + 1 := by omega
      obtain ⟨i1, i2, i3⟩ := ih (by omega) (by omega)
      have hH : ∀ (j : Fin 3) (q : Fin 2048), ((outsAt0 m c n (by omega)).2.2.2.1 : Vec Ideal S136x2048 .f32) (ix2 ⟨5 + j.1, by omega⟩ q)
          = ((fun j q => pdR (X ((n + 1) / 8)) (256 * ((n + 1) % 8) + j) q : ℕ → ℕ → ℝ) j q : EReal) := fun j q => (i1 j q).trans (by
        show _ = ((pdR (X ((n + 1) / 8)) (256 * ((n + 1) % 8) + j) q : ℝ) : EReal)
        unfold pdR
        rw [if_neg (by omega), ed, em, show 256 * (n % 8 + 1) + j.1 - 3 = 256 * (n % 8) + (253 + j.1) by omega])
      have hS : ∀ (i : Fin 128) (q : Fin 1024), ((outsAt0 m c n (by omega)).2.2.2.2.1 : Vec Ideal S128x1024 .f32) (ix2 i q)
          = (stB (cvB (X ((n + 1) / 8)) W Cb) (D ((n + 1) / 8)) B A (2 * ((n + 1) % 8)) i q : EReal) := fun i q => (i2 i q).trans (by
        rw [ed, em, show 2 * (n % 8) + 2 = 2 * (n % 8 + 1) by omega])
      refine ⟨fun j q => ?_, fun i q => ?_, fun r q => ?_⟩
      · exact pt_B_hist m c ⟨n + 1, hn⟩ h0 h1 h2 h3 T (Hd := fun j q => pdR (X ((n + 1) / 8)) (256 * ((n + 1) % 8) + j) q) (S := stB (cvB (X ((n + 1) / 8)) W Cb) (D ((n + 1) / 8)) B A (2 * ((n + 1) % 8))) hH hS j q
      · exact (pt_B_state m c ⟨n + 1, hn⟩ h0 h1 h2 h3 T (Hd := fun j q => pdR (X ((n + 1) / 8)) (256 * ((n + 1) % 8) + j) q) (S := stB (cvB (X ((n + 1) / 8)) W Cb) (D ((n + 1) / 8)) B A (2 * ((n + 1) % 8))) hH hS i q).trans
          (congrArg (fun f : ℕ → ℕ → ℝ => ((f i q : ℝ) : EReal)) (st_seq (X ((n + 1) / 8)) W (D ((n + 1) / 8)) Cb B A ((n + 1) % 8) (fun j q => pdR (X ((n + 1) / 8)) (256 * ((n + 1) % 8) + j) q) (fun _ _ _ => rfl)))
      · exact (pt_B_rows m c ⟨n + 1, hn⟩ h0 h1 h2 h3 T (Hd := fun j q => pdR (X ((n + 1) / 8)) (256 * ((n + 1) % 8) + j) q) (S := stB (cvB (X ((n + 1) / 8)) W Cb) (D ((n + 1) / 8)) B A (2 * ((n + 1) % 8))) hH hS r q).trans
          (rows_seq (X ((n + 1) / 8)) W (D ((n + 1) / 8)) (Z ((n + 1) / 8)) Cb B A K N ((n + 1) % 8) (fun j q => pdR (X ((n + 1) / 8)) (256 * ((n + 1) % 8) + j) q) (fun _ _ _ => rfl) r q r.isLt)

end Cert.KernelIdeal.Ssd
-- ==== Proof.SsdTail.lean ====
/- The outputs' staging buffers after a grid point of the mixer kernel: the residual with the projected rows of the tile
   before, its normalised rows, and the rows of the weight that the point copies. -/
module

public import proofs.«01_k».proof.Proof.SsdInd

@[expose] public section

set_option maxRecDepth 16384

noncomputable section

open Idealize.ShloMosaic Idealize.ShloMosaic.TcCoe Idealize.SL.Sem

namespace Cert.KernelIdeal.Ssd

open Cert.KernelIdeal Cert.KernelIdeal.Gen

/-- Row `l` of sequence `b` of the residual stream after the mixer, from the residual, the attention's rows and the weight. -/
def rowV (a0 : FVec Ideal ⟨3, ![4, 2048, 2048]⟩ .f32) (a10 : FVec Ideal ⟨3, ![4, 2048, 1024]⟩ .bf16) (a11 : FVec Ideal ⟨3, ![1, 2048, 2048]⟩ .bf16)
    (X Z D : ℕ → ℕ → ℕ → ℝ) (W : ℕ → ℕ → ℝ) (Cb B A : ℕ → ℝ) (K N : ℕ → EReal) (b : Fin 4) (l q : Fin 2048) : EReal :=
  a0 (ix3 b l q) + (∑ x : Fin 1024, ysB (cvB (X b) W Cb) (D b) B A (Z b) K N l x * (a11 (ix3 0 ⟨x.1, by omega⟩ q) : EReal)
    + ∑ x : Fin 1024, (a10 (ix3 b l x) : EReal) * (a11 (ix3 0 ⟨1024 + x.1, by omega⟩ q) : EReal))

theorem pr_row (a0 : FVec Ideal ⟨3, ![4, 2048, 2048]⟩ .f32) (a10 : FVec Ideal ⟨3, ![4, 2048, 1024]⟩ .bf16) (a11 : FVec Ideal ⟨3, ![1, 2048, 2048]⟩ .bf16)
    (X Z D : ℕ → ℕ → ℕ → ℝ) (W : ℕ → ℕ → ℝ) (Cb B A : ℕ → ℝ) (K N : ℕ → EReal) (b : Fin 4) (l q : Fin 2048)
    (x : Vec Ideal S256x2048 .f32) (p y : Vec Ideal S256x1024 .bf16) (w : Vec Ideal S2048x2048 .bf16) (r : Fin 256)
    (hx : x (ix2 r q) = a0 (ix3 b l q)) (hp : ∀ k : Fin 1024, p (ix2 r k) = ysB (cvB (X b) W Cb) (D b) B A (Z b) K N l k)
    (hy : ∀ k : Fin 1024, y (ix2 r k) = a10 (ix3 b l k)) (hw : ∀ k : Fin 2048, w (ix2 k q) = a11 (ix3 0 k q)) :
    prV x p y w r q = rowV a0 a10 a11 X Z D W Cb B A K N b l q := by
  unfold prV rowV
  refine congrArg₂ (fun a b : EReal => a + b) hx ?_
  refine (Fin.sum_univ_add (a := 1024) (b := 1024) fun k : Fin 2048 => (catV p y r k * w (ix2 k q) : EReal)).trans ?_
  refine congrArg₂ (fun a b : EReal => a + b) (Finset.sum_congr rfl fun k _ => ?_) (Finset.sum_congr rfl fun k _ => ?_)
  · refine congrArg₂ (fun a b : EReal => a * b) ?_ (hw _)
    unfold catV
    rw [dif_pos (show (Fin.castAdd 1024 k).1 < 1024 from k.2)]
    exact hp _
  · refine congrArg₂ (fun a b : EReal => a * b) ?_ (hw _)
    unfold catV
    rw [dif_neg (show ¬(Fin.natAdd 1024 k).1 < 1024 by show ¬(1024 + k.1 < 1024); omega)]
    refine (congrArg (fun j : Fin 1024 => y (ix2 r j)) (Fin.ext ?_)).trans (hy k)
    show 1024 + k.1 - 1024 = k.1
    omega

variable (m : (ℓ : Loc nD τ sig) → Buf (Elt Ideal) ℓ) (c : Dev nD)

theorem pt_A_w (t : Fin cfg0.N) (h0 : t.val % 8 = 0) (h1 : t.val % 33 = 0) (h2 : ¬(1 ≤ t.val % 33 ∧ t.val % 33 ≤ 31)) (h3 : ¬t.val % 33 = 32) (r : Fin 256) (q : Fin 2048) :
    ((outsAt0 m c t.val t.isLt).2.2.1 : Vec Ideal S256x2048 .bf16) (ix2 r q) = (iblk m c 13 t : Vec Ideal S256x2048 .f32) (ix2 r q) := by
  rw [outsAt0_A m c t h0 h1 h2 h3, atA, outs_A]
  dsimp only
  exact A_out16 (grid0.coords t) ((hcond0_0 t).mpr h0) ((hcond0_1 t).mpr h1) (fun h => h2 ((hcond0_2 t).mp h)) (fun h => h3 ((hcond0_3 t).mp h)) r q

theorem pt_B_x1 (t : Fin cfg0.N) (h0 : ¬t.val % 8 = 0) (h1 : ¬t.val % 33 = 0) (h2 : (1 ≤ t.val % 33 ∧ t.val % 33 ≤ 31)) (h3 : ¬t.val % 33 = 32) (r : Fin 256) (q : Fin 2048) :
    ((outsAt0 m c t.val t.isLt).1 : Vec Ideal S256x2048 .f32) (ix2 r q) = prV (iblk m c 9 t : Vec Ideal S256x2048 .f32) ((outsAt0 m c (t.val - 1) (Nat.lt_of_le_of_lt (Nat.sub_le _ _) t.isLt)).2.2.2.2.2 : Vec Ideal S256x1024 .bf16) (iblk m c 10 t : Vec Ideal S256x1024 .bf16) (iblk m c 11 t : Vec Ideal S2048x2048 .bf16) r q := by
  rw [outsAt0_B m c t h0 h1 h2 h3, atB, outs_B]
  dsimp only
  exact B_out14 (grid0.coords t) (fun h => h0 ((hcond0_0 t).mp h)) (fun h => h1 ((hcond0_1 t).mp h)) ((hcond0_2 t).mpr h2) (fun h => h3 ((hcond0_3 t).mp h)) r q

theorem pt_B_h2 (t : Fin cfg0.N) (h0 : ¬t.val % 8 = 0) (h1 : ¬t.val % 33 = 0) (h2 : (1 ≤ t.val % 33 ∧ t.val % 33 ≤ 31)) (h3 : ¬t.val % 33 = 32) (r : Fin 256) (q : Fin 2048) :
    ((outsAt0 m c t.val t.isLt).2.1 : Vec Ideal S256x2048 .bf16) (ix2 r q) = nrm (prV (iblk m c 9 t : Vec Ideal S256x2048 .f32) ((outsAt0 m c (t.val - 1) (Nat.lt_of_le_of_lt (Nat.sub_le _ _) t.isLt)).2.2.2.2.2 : Vec Ideal S256x1024 .bf16) (iblk m c 10 t : Vec Ideal S256x1024 .bf16) (iblk m c 11 t : Vec Ideal S2048x2048 .bf16) r) ((iblk m c 12 t : Vec Ideal S1x2048 .f32) (ix2 0 q)) q := by
  rw [outsAt0_B m c t h0 h1 h2 h3, atB, outs_B]
  dsimp only
  exact B_out15 (grid0.coords t) (fun h => h0 ((hcond0_0 t).mp h)) (fun h => h1 ((hcond0_1 t).mp h)) ((hcond0_2 t).mpr h2) (fun h => h3 ((hcond0_3 t).mp h)) r q

theorem pt_B_w (t : Fin cfg0.N) (h0 : ¬t.val % 8 = 0) (h1 : ¬t.val % 33 = 0) (h2 : (1 ≤ t.val % 33 ∧ t.val % 33 ≤ 31)) (h3 : ¬t.val % 33 = 32) (r : Fin 256) (q : Fin 2048) :
    ((outsAt0 m c t.val t.isLt).2.2.1 : Vec Ideal S256x2048 .bf16) (ix2 r q) = (iblk m c 13 t : Vec Ideal S256x2048 .f32) (ix2 r q) := by
  rw [outsAt0_B m c t h0 h1 h2 h3, atB, outs_B]
  dsimp only
  exact B_out16 (grid0.coords t) (fun h => h0 ((hcond0_0 t).mp h)) (fun h => h1 ((hcond0_1 t).mp h)) ((hcond0_2 t).mpr h2) (fun h => h3 ((hcond0_3 t).mp h)) r q

theorem pt_C_x1 (t : Fin cfg0.N) (h0 : t.val % 8 = 0) (h1 : ¬t.val % 33 = 0) (h2 : (1 ≤ t.val % 33 ∧ t.val % 33 ≤ 31)) (h3 : ¬t.val % 33 = 32) (r : Fin 256) (q : Fin 2048) :
    ((outsAt0 m c t.val t.isLt).1 : Vec Ideal S256x2048 .f32) (ix2 r q) = prV (iblk m c 9 t : Vec Ideal S256x2048 .f32) ((outsAt0 m c (t.val - 1) (Nat.lt_of_le_of_lt (Nat.sub_le _ _) t.isLt)).2.2.2.2.2 : Vec Ideal S256x1024 .bf16) (iblk m c 10 t : Vec Ideal S256x1024 .bf16) (iblk m c 11 t : Vec Ideal S2048x2048 .bf16) r q := by
  rw [outsAt0_C m c t h0 h1 h2 h3, atC, outs_C]
  dsimp only
  exact C_out14 (grid0.coords t) ((hcond0_0 t).mpr h0) (fun h => h1 ((hcond0_1 t).mp h)) ((hcond0_2 t).mpr h2) (fun h => h3 ((hcond0_3 t).mp h)) r q

theorem pt_C_h2 (t : Fin cfg0.N) (h0 : t.val % 8 = 0) (h1 : ¬t.val % 33 = 0) (h2 : (1 ≤ t.val % 33 ∧ t.val % 33 ≤ 31)) (h3 : ¬t.val % 33 = 32) (r : Fin 256) (q : Fin 2048) :
    ((outsAt0 m c t.val t.isLt).2.1 : Vec Ideal S256x2048 .bf16) (ix2 r q) = nrm (prV (iblk m c 9 t : Vec Ideal S256x2048 .f32) ((outsAt0 m c (t.val - 1) (Nat.lt_of_le_of_lt (Nat.sub_le _ _) t.isLt)).2.2.2.2.2 : Vec Ideal S256x1024 .bf16) (iblk m c 10 t : Vec Ideal S256x1024 .bf16) (iblk m c 11 t : Vec Ideal S2048x2048 .bf16) r) ((iblk m c 12 t : Vec Ideal S1x2048 .f32) (ix2 0 q)) q := by
  rw [outsAt0_C m c t h0 h1 h2 h3, atC, outs_C]
  dsimp only
  exact C_out15 (grid0.coords t) ((hcond0_0 t).mpr h0) (fun h => h1 ((hcond0_1 t).mp h)) ((hcond0_2 t).mpr h2) (fun h => h3 ((hcond0_3 t).mp h)) r q

theorem pt_C_w (t : Fin cfg0.N) (h0 : t.val % 8 = 0) (h1 : ¬t.val % 33 = 0) (h2 : (1 ≤ t.val % 33 ∧ t.val % 33 ≤ 31)) (h3 : ¬t.val % 33 = 32) (r : Fin 256) (q : Fin 2048) :
    ((outsAt0 m c t.val t.isLt).2.2.1 : Vec Ideal S256x2048 .bf16) (ix2 r q) = (iblk m c 13 t : Vec Ideal S256x2048 .f32) (ix2 r q) := by
  rw [outsAt0_C m c t h0 h1 h2 h3, atC, outs_C]
  dsimp only
  exact C_out16 (grid0.coords t) ((hcond0_0 t).mpr h0) (fun h => h1 ((hcond0_1 t).mp h)) ((hcond0_2 t).mpr h2) (fun h => h3 ((hcond0_3 t).mp h)) r q

theorem pt_D_x1 (t : Fin cfg0.N) (h0 : t.val % 8 = 0) (h1 : ¬t.val % 33 = 0) (h2 : ¬(1 ≤ t.val % 33 ∧ t.val % 33 ≤ 31)) (h3 : t.val % 33 = 32) (r : Fin 256) (q : Fin 2048) :
    ((outsAt0 m c t.val t.isLt).1 : Vec Ideal S256x2048 .f32) (ix2 r q) = prV (iblk m c 9 t : Vec Ideal S256x2048 .f32) ((outsAt0 m c (t.val - 1) (Nat.lt_of_le_of_lt (Nat.sub_le _ _) t.isLt)).2.2.2.2.2 : Vec Ideal S256x1024 .bf16) (iblk m c 10 t : Vec Ideal S256x1024 .bf16) (iblk m c 11 t : Vec Ideal S2048x2048 .bf16) r q := by
  rw [outsAt0_D m c t h0 h1 h2 h3, atD, outs_D]
  dsimp only
  exact D_out14 (grid0.coords t) ((hcond0_0 t).mpr h0) (fun h => h1 ((hcond0_1 t).mp h)) (fun h => h2 ((hcond0_2 t).mp h)) ((hcond0_3 t).mpr h3) r q

theorem pt_D_h2 (t : Fin cfg0.N) (h0 : t.val % 8 = 0) (h1 : ¬t.val % 33 = 0) (h2 : ¬(1 ≤ t.val % 33 ∧ t.val % 33 ≤ 31)) (h3 : t.val % 33 = 32) (r : Fin 256) (q : Fin 2048) :
    ((outsAt0 m c t.val t.isLt).2.1 : Vec Ideal S256x2048 .bf16) (ix2 r q) = nrm (prV (iblk m c 9 t : Vec Ideal S256x2048 .f32) ((outsAt0 m c (t.val - 1) (Nat.lt_of_le_of_lt (Nat.sub_le _ _) t.isLt)).2.2.2.2.2 : Vec Ideal S256x1024 .bf16) (iblk m c 10 t : Vec Ideal S256x1024 .bf16) (iblk m c 11 t : Vec Ideal S2048x2048 .bf16) r) ((iblk m c 12 t : Vec Ideal S1x2048 .f32) (ix2 0 q)) q := by
  rw [outsAt0_D m c t h0 h1 h2 h3, atD, outs_D]
  dsimp only
  exact D_out15 (grid0.coords t) ((hcond0_0 t).mpr h0) (fun h => h1 ((hcond0_1 t).mp h)) (fun h => h2 ((hcond0_2 t).mp h)) ((hcond0_3 t).mpr h3) r q

theorem pt_D_w (t : Fin cfg0.N) (h0 : t.val % 8 = 0) (h1 : ¬t.val % 33 = 0) (h2 : ¬(1 ≤ t.val % 33 ∧ t.val % 33 ≤ 31)) (h3 : t.val % 33 = 32) (r : Fin 256) (q : Fin 2048) :
    ((outsAt0 m c t.val t.isLt).2.2.1 : Vec Ideal S256x2048 .bf16) (ix2 r q) = ((outsAt0 m c (t.val - 1) (Nat.lt_of_le_of_lt (Nat.sub_le _ _) t.isLt)).2.2.1 : Vec Ideal S256x2048 .bf16) (ix2 r q) := by
  rw [outsAt0_D m c t h0 h1 h2 h3, atD, outs_D]

/-- A row of the weight, copied. -/
theorem out_w : ∀ (n : ℕ) (hn : n < cfg0.N) (r : Fin 256) (q : Fin 2048),
    ((outsAt0 m c n hn).2.2.1 : Vec Ideal S256x2048 .bf16) (ix2 r q) = m ((c : Thread nD τ).loc main_arg13) (ix3 0 (cur ⟨n, hn⟩ r) q) := by
  have lt : ∀ (n : ℕ) (hn : n < cfg0.N), n ≤ 31 → ∀ (r : Fin 256) (q : Fin 2048),
      ((outsAt0 m c n hn).2.2.1 : Vec Ideal S256x2048 .bf16) (ix2 r q) = m ((c : Thread nD τ).loc main_arg13) (ix3 0 (cur ⟨n, hn⟩ r) q) := by
    intro n hn hle r q
    have h3 : ¬(⟨n, hn⟩ : Fin cfg0.N).val % 33 = 32 := by dsimp only; omega
    have hv := (blk13 m c ⟨n, hn⟩ r q).trans (v24_apply m c _ q)
    by_cases h1 : (⟨n, hn⟩ : Fin cfg0.N).val % 33 = 0
    · have h0 : (⟨n, hn⟩ : Fin cfg0.N).val % 8 = 0 := by dsimp only at h1 ⊢; omega
      have h2 : ¬(1 ≤ (⟨n, hn⟩ : Fin cfg0.N).val % 33 ∧ (⟨n, hn⟩ : Fin cfg0.N).val % 33 ≤ 31) := by dsimp only at h1 ⊢; omega
      exact (pt_A_w m c ⟨n, hn⟩ h0 h1 h2 h3 r q).trans hv
    · have h2 : 1 ≤ (⟨n, hn⟩ : Fin cfg0.N).val % 33 ∧ (⟨n, hn⟩ : Fin cfg0.N).val % 33 ≤ 31 := by dsimp only at h1 ⊢; omega
      by_cases h0 : (⟨n, hn⟩ : Fin cfg0.N).val % 8 = 0
      · exact (pt_C_w m c ⟨n, hn⟩ h0 h1 h2 h3 r q).trans hv
      · exact (pt_B_w m c ⟨n, hn⟩ h0 h1 h2 h3 r q).trans hv
  intro n hn r q
  have hN : n < 33 := lt_of_lt_of_eq hn N_0
  by_cases hle : n ≤ 31
  · exact lt n hn hle r q
  · have key : ∀ t : Fin cfg0.N, t.val = 32 →
        ((outsAt0 m c t.val t.isLt).2.2.1 : Vec Ideal S256x2048 .bf16) (ix2 r q) = m ((c : Thread nD τ).loc main_arg13) (ix3 0 (cur t r) q) := by
      intro t ht
      refine (pt_D_w m c t (by omega) (by omega) (by omega) (by omega) r q).trans
        ((lt (t.val - 1) (Nat.lt_of_le_of_lt (Nat.sub_le _ _) t.isLt) (by omega) r q).trans ?_)
      have e : cur ⟨t.val - 1, Nat.lt_of_le_of_lt (Nat.sub_le _ _) t.isLt⟩ r = cur t r := Fin.ext (by
        show min (t.val - 1) 31 * 256 + r.val = min t.val 31 * 256 + r.val
        omega)
      rw [e]
    exact key ⟨n, hn⟩ (by dsimp only; omega)

variable {X Z D : ℕ → ℕ → ℕ → ℝ} {W : ℕ → ℕ → ℝ} {Cb B A : ℕ → ℝ} {K N : ℕ → EReal} (H : MemReal m c X Z D W Cb B A K N)
include H

/-- The projected rows, from the rows that the point before left. -/
theorem pr_point (n : ℕ) (hn : n < cfg0.N) (h1 : 1 ≤ n) (r : Fin 256) (q : Fin 2048) (hp : n - 1 < cfg0.N) :
    prV (iblk m c 9 ⟨n, hn⟩ : Vec Ideal S256x2048 .f32) ((outsAt0 m c (n - 1) hp).2.2.2.2.2 : Vec Ideal S256x1024 .bf16) (iblk m c 10 ⟨n, hn⟩ : Vec Ideal S256x1024 .bf16) (iblk m c 11 ⟨n, hn⟩ : Vec Ideal S2048x2048 .bf16) r q
      = rowV (m ((c : Thread nD τ).loc main_arg0)) (m ((c : Thread nD τ).loc main_arg10)) (m ((c : Thread nD τ).loc main_arg11)) X Z D W Cb B A K N (bt (prev ⟨n, hn⟩ r)) (tk (prev ⟨n, hn⟩ r)) q := by
  have hN : n < 33 := lt_of_lt_of_eq hn N_0
  have e1 : (prev ⟨n, hn⟩ r).val / 2048 = (n - 1) / 8 := by show ((n - 1) * 256 + r.val) / 2048 = _; omega
  have e2 : (prev ⟨n, hn⟩ r).val % 2048 = 256 * ((n - 1) % 8) + r.val := by show ((n - 1) * 256 + r.val) % 2048 = _; omega
  refine pr_row _ _ _ X Z D W Cb B A K N _ _ _ _ _ _ _ r ?_ (fun k => ?_) (fun k => ?_) (fun k => ?_)
  · exact (blk9 m c ⟨n, hn⟩ r q).trans (v0_apply m c _ q)
  · refine ((carried m c H (n - 1) hp (by omega)).2.2 r k).trans ?_
    show _ = ysB (cvB (X ((prev ⟨n, hn⟩ r).val / 2048)) W Cb) (D ((prev ⟨n, hn⟩ r).val / 2048)) B A (Z ((prev ⟨n, hn⟩ r).val / 2048)) K N ((prev ⟨n, hn⟩ r).val % 2048) k.1
    rw [e1, e2]
  · exact (blk10 m c ⟨n, hn⟩ r k).trans (v5_apply m c _ k)
  · exact (blk11 m c ⟨n, hn⟩ k q).trans (v21_apply m c k q)

/-- The residual's rows and their normalised rows, after a point that projects. -/
theorem out_rows (n : ℕ) (hn : n < cfg0.N) (h1 : 1 ≤ n) (r : Fin 256) (q : Fin 2048) :
    ((outsAt0 m c n hn).1 : Vec Ideal S256x2048 .f32) (ix2 r q)
      = rowV (m ((c : Thread nD τ).loc main_arg0)) (m ((c : Thread nD τ).loc main_arg10)) (m ((c : Thread nD τ).loc main_arg11)) X Z D W Cb B A K N (bt (prev ⟨n, hn⟩ r)) (tk (prev ⟨n, hn⟩ r)) q
    ∧ ((outsAt0 m c n hn).2.1 : Vec Ideal S256x2048 .bf16) (ix2 r q)
      = nrm (rowV (m ((c : Thread nD τ).loc main_arg0)) (m ((c : Thread nD τ).loc main_arg10)) (m ((c : Thread nD τ).loc main_arg11)) X Z D W Cb B A K N (bt (prev ⟨n, hn⟩ r)) (tk (prev ⟨n, hn⟩ r)))
          (m ((c : Thread nD τ).loc main_arg12) (ix2 0 q)) q := by
  have hN : n < 33 := lt_of_lt_of_eq hn N_0
  have k1 : ¬(⟨n, hn⟩ : Fin cfg0.N).val % 33 = 0 := by dsimp only; omega
  have hp : n - 1 < cfg0.N := by omega
  have hrow : prV (iblk m c 9 ⟨n, hn⟩ : Vec Ideal S256x2048 .f32) ((outsAt0 m c (n - 1) hp).2.2.2.2.2 : Vec Ideal S256x1024 .bf16) (iblk m c 10 ⟨n, hn⟩ : Vec Ideal S256x1024 .bf16) (iblk m c 11 ⟨n, hn⟩ : Vec Ideal S2048x2048 .bf16) r
      = rowV (m ((c : Thread nD τ).loc main_arg0)) (m ((c : Thread nD τ).loc main_arg10)) (m ((c : Thread nD τ).loc main_arg11)) X Z D W Cb B A K N (bt (prev ⟨n, hn⟩ r)) (tk (prev ⟨n, hn⟩ r)) :=
    funext fun k => pr_point m c H n hn h1 r k hp
  have hg : (iblk m c 12 ⟨n, hn⟩ : Vec Ideal S1x2048 .f32) (ix2 0 q) = m ((c : Thread nD τ).loc main_arg12) (ix2 0 q) := (blk12 m c ⟨n, hn⟩ 0 q).trans (v23_apply m c q)
  have hnrm := congrArg₂ (fun f g => nrm f g q) hrow hg
  by_cases h3 : (⟨n, hn⟩ : Fin cfg0.N).val % 33 = 32
  · have h0 : (⟨n, hn⟩ : Fin cfg0.N).val % 8 = 0 := by dsimp only at h3 ⊢; omega
    have h2 : ¬(1 ≤ (⟨n, hn⟩ : Fin cfg0.N).val % 33 ∧ (⟨n, hn⟩ : Fin cfg0.N).val % 33 ≤ 31) := by dsimp only at h3 ⊢; omega
    exact ⟨(pt_D_x1 m c ⟨n, hn⟩ h0 k1 h2 h3 r q).trans (congrFun hrow q),
      (pt_D_h2 m c ⟨n, hn⟩ h0 k1 h2 h3 r q).trans hnrm⟩
  · have h2 : 1 ≤ (⟨n, hn⟩ : Fin cfg0.N).val % 33 ∧ (⟨n, hn⟩ : Fin cfg0.N).val % 33 ≤ 31 := by dsimp only at h3 ⊢; omega
    by_cases h0 : (⟨n, hn⟩ : Fin cfg0.N).val % 8 = 0
    · exact ⟨(pt_C_x1 m c ⟨n, hn⟩ h0 k1 h2 h3 r q).trans (congrFun hrow q),
        (pt_C_h2 m c ⟨n, hn⟩ h0 k1 h2 h3 r q).trans hnrm⟩
    · exact ⟨(pt_B_x1 m c ⟨n, hn⟩ h0 k1 h2 h3 r q).trans (congrFun hrow q),
        (pt_B_h2 m c ⟨n, hn⟩ h0 k1 h2 h3 r q).trans hnrm⟩

end Cert.KernelIdeal.Ssd
-- ==== Proof.SsdFinal.lean ====
/- The three result arrays of the mixer kernel after its run, index by index. -/
module

public import proofs.«01_k».proof.Proof.SsdTail
public import proofs.«01_k».proof.Proof.SsdBody

@[expose] public section

set_option maxRecDepth 16384

noncomputable section

open Idealize.ShloMosaic Idealize.ShloMosaic.TcCoe Idealize.SL.Sem
open Idealize.ShloMosaic.Pipeline (Dat)

namespace Cert.KernelIdeal.Ssd

open Cert.KernelIdeal Cert.KernelIdeal.Gen

theorem fl14 : ∀ t : Fin grid0.N, win0_14.flush t = true ↔ 1 ≤ t.val := by decide +kernel
theorem fl15 : ∀ t : Fin grid0.N, win0_15.flush t = true ↔ 1 ≤ t.val := by decide +kernel
theorem fl16 : ∀ t : Fin grid0.N, win0_16.flush t = true ↔ t.val ≠ 31 := by decide +kernel

variable (m : (ℓ : Loc nD τ sig) → Buf (Elt Ideal) ℓ) (c : Dev nD)

theorem flushed14 (t : Fin cfg0.N) : (dats m 0 c).flushed 14 t = (cfg0.win 14).cut (grid0.coords t) ((outsAt0 m c t.val t.isLt).1) := by
  show (cfg0.win 14).cut (grid0.coords t) ((dats m 0 c).after 14 t) = _
  rw [after0_14]
theorem flushed15 (t : Fin cfg0.N) : (dats m 0 c).flushed 15 t = (cfg0.win 15).cut (grid0.coords t) ((outsAt0 m c t.val t.isLt).2.1) := by
  show (cfg0.win 15).cut (grid0.coords t) ((dats m 0 c).after 15 t) = _
  rw [after0_15]
theorem flushed16 (t : Fin cfg0.N) : (dats m 0 c).flushed 16 t = (cfg0.win 16).cut (grid0.coords t) ((outsAt0 m c t.val t.isLt).2.2.1) := by
  show (cfg0.win 16).cut (grid0.coords t) ((dats m 0 c).after 16 t) = _
  rw [after0_16]

theorem mem14 (t : Fin cfg0.N) (i : S8192x2048.Idx) (h : (i 0).val / 256 = t.val - 1) : i ∈ ((cfg0.win 14).blk t).view.set := by
  show i ∈ ((View.whole main_v25_0).slice (win0_14.rect t)).set
  rw [View.set_slice_whole, Rect.mem_set_unit]
  have h0 : (i 0).val < 8192 := (i 0).isLt
  have h1 : (i 1).val < 2048 := (i 1).isLt
  have e := idx14 t
  intro a
  match a with
  | ⟨0, _⟩ => show win0_14.index t 0 * 256 ≤ (i 0).val ∧ (i 0).val < win0_14.index t 0 * 256 + 256; rw [e.1]; omega
  | ⟨1, _⟩ => show win0_14.index t 1 * 2048 ≤ (i 1).val ∧ (i 1).val < win0_14.index t 1 * 2048 + 2048; rw [e.2]; omega
theorem mem15 (t : Fin cfg0.N) (i : S8192x2048.Idx) (h : (i 0).val / 256 = t.val - 1) : i ∈ ((cfg0.win 15).blk t).view.set := by
  show i ∈ ((View.whole main_v25_1).slice (win0_15.rect t)).set
  rw [View.set_slice_whole, Rect.mem_set_unit]
  have h0 : (i 0).val < 8192 := (i 0).isLt
  have h1 : (i 1).val < 2048 := (i 1).isLt
  have e := idx15 t
  intro a
  match a with
  | ⟨0, _⟩ => show win0_15.index t 0 * 256 ≤ (i 0).val ∧ (i 0).val < win0_15.index t 0 * 256 + 256; rw [e.1]; omega
  | ⟨1, _⟩ => show win0_15.index t 1 * 2048 ≤ (i 1).val ∧ (i 1).val < win0_15.index t 1 * 2048 + 2048; rw [e.2]; omega
theorem mem16 (t : Fin cfg0.N) (i : S8192x2048.Idx) (h : (i 0).val / 256 = min t.val 31) : i ∈ ((cfg0.win 16).blk t).view.set := by
  show i ∈ ((View.whole main_v25_2).slice (win0_16.rect t)).set
  rw [View.set_slice_whole, Rect.mem_set_unit]
  have h0 : (i 0).val < 8192 := (i 0).isLt
  have h1 : (i 1).val < 2048 := (i 1).isLt
  have e := idx16 t
  intro a
  match a with
  | ⟨0, _⟩ => show win0_16.index t 0 * 256 ≤ (i 0).val ∧ (i 0).val < win0_16.index t 0 * 256 + 256; rw [e.1]; omega
  | ⟨1, _⟩ => show win0_16.index t 1 * 2048 ≤ (i 1).val ∧ (i 1).val < win0_16.index t 1 * 2048 + 2048; rw [e.2]; omega

theorem ix_ex (j : S256x2048.Idx) : ∃ (r : Fin 256) (q : Fin 2048), j = ix2 r q := ⟨j 0, j 1, by funext a; match a with | ⟨0, _⟩ => rfl | ⟨1, _⟩ => rfl⟩

theorem emb14 (t : Fin cfg0.N) (r : Fin 256) (q : Fin 2048) : ((cfg0.win 14).blk t).view.emb (ix2 r q) = (ix2 (prev t r) q : S8192x2048.Idx) := by
  funext a
  apply Fin.ext
  match a with
  | ⟨0, _⟩ => show win0_14.index t 0 * 256 + 1 * r.val = (t.val - 1) * 256 + r.val; rw [(idx14 t).1]; omega
  | ⟨1, _⟩ => show win0_14.index t 1 * 2048 + 1 * q.val = q.val; rw [(idx14 t).2]; omega
theorem emb15 (t : Fin cfg0.N) (r : Fin 256) (q : Fin 2048) : ((cfg0.win 15).blk t).view.emb (ix2 r q) = (ix2 (prev t r) q : S8192x2048.Idx) := by
  funext a
  apply Fin.ext
  match a with
  | ⟨0, _⟩ => show win0_15.index t 0 * 256 + 1 * r.val = (t.val - 1) * 256 + r.val; rw [(idx15 t).1]; omega
  | ⟨1, _⟩ => show win0_15.index t 1 * 2048 + 1 * q.val = q.val; rw [(idx15 t).2]; omega
theorem emb16 (t : Fin cfg0.N) (r : Fin 256) (q : Fin 2048) : ((cfg0.win 16).blk t).view.emb (ix2 r q) = (ix2 (cur t r) q : S8192x2048.Idx) := by
  funext a
  apply Fin.ext
  match a with
  | ⟨0, _⟩ => show win0_16.index t 0 * 256 + 1 * r.val = min t.val 31 * 256 + r.val; rw [(idx16 t).1]; omega
  | ⟨1, _⟩ => show win0_16.index t 1 * 2048 + 1 * q.val = q.val; rw [(idx16 t).2]; omega

/-- The weight's rows. -/
def resW : Buf (Elt Ideal) ((c : Thread nD τ).loc main_v25_2) :=
  fun i : S8192x2048.Idx => m ((c : Thread nD τ).loc main_arg13) (ix3 0 (i 0) (i 1))

theorem final16 : (dats m 0 c).arrAt 16 cfg0.N = resW m c :=
  (dats m 0 c).arrAt_eq_of_cover 16 (resW m c) (fun t _ => by
    rw [flushed16]
    funext j
    rw [View.read_apply]
    obtain ⟨r, q, rfl⟩ := ix_ex j
    show ((outsAt0 m c t.val t.isLt).2.2.1 : Vec Ideal S256x2048 .bf16) (ix2 r q) = _
    exact (out_w m c t.val t.isLt r q).trans (congrArg (resW m c) (emb16 t r q)).symm) fun i => by
    have h0 : (i 0).val < 8192 := (i 0).isLt
    have hN : cfg0.N = 33 := N_0
    by_cases h : (i 0).val / 256 = 31
    · exact ⟨⟨32, by omega⟩, (fl16 _).mpr (by dsimp only; omega), mem16 _ i (by dsimp only; omega)⟩
    · exact ⟨⟨(i 0).val / 256, by omega⟩, (fl16 _).mpr h, mem16 _ i (by dsimp only; omega)⟩

section
variable (X Z D : ℕ → ℕ → ℕ → ℝ) (W : ℕ → ℕ → ℝ) (Cb B A : ℕ → ℝ) (K N : ℕ → EReal)

/-- The residual stream's rows after the mixer. -/
def resX : Buf (Elt Ideal) ((c : Thread nD τ).loc main_v25_0) :=
  fun i : S8192x2048.Idx => rowV (m ((c : Thread nD τ).loc main_arg0)) (m ((c : Thread nD τ).loc main_arg10)) (m ((c : Thread nD τ).loc main_arg11)) X Z D W Cb B A K N (bt (i 0)) (tk (i 0)) (i 1)
/-- The normalised rows. -/
def resH : Buf (Elt Ideal) ((c : Thread nD τ).loc main_v25_1) :=
  fun i : S8192x2048.Idx => nrm (rowV (m ((c : Thread nD τ).loc main_arg0)) (m ((c : Thread nD τ).loc main_arg10)) (m ((c : Thread nD τ).loc main_arg11)) X Z D W Cb B A K N (bt (i 0)) (tk (i 0))) (m ((c : Thread nD τ).loc main_arg12) (ix2 0 (i 1))) (i 1)
end

variable {X Z D : ℕ → ℕ → ℕ → ℝ} {W : ℕ → ℕ → ℝ} {Cb B A : ℕ → ℝ} {K N : ℕ → EReal} (H : MemReal m c X Z D W Cb B A K N)
include H

theorem final14 : (dats m 0 c).arrAt 14 cfg0.N = resX m c X Z D W Cb B A K N :=
  (dats m 0 c).arrAt_eq_of_cover 14 (resX m c X Z D W Cb B A K N) (fun t hf => by
    rw [flushed14]
    have h1 := (fl14 t).mp hf
    funext j
    rw [View.read_apply]
    obtain ⟨r, q, rfl⟩ := ix_ex j
    show ((outsAt0 m c t.val t.isLt).1 : Vec Ideal S256x2048 .f32) (ix2 r q) = _
    exact (out_rows m c H t.val t.isLt h1 r q).1.trans (congrArg (resX m c X Z D W Cb B A K N) (emb14 t r q)).symm) fun i => by
    have h0 : (i 0).val < 8192 := (i 0).isLt
    have hN : cfg0.N = 33 := N_0
    exact ⟨⟨(i 0).val / 256 + 1, by omega⟩, (fl14 _).mpr (by dsimp only; omega), mem14 _ i (by dsimp only; omega)⟩

theorem final15 : (dats m 0 c).arrAt 15 cfg0.N = resH m c X Z D W Cb B A K N :=
  (dats m 0 c).arrAt_eq_of_cover 15 (resH m c X Z D W Cb B A K N) (fun t hf => by
    rw [flushed15]
    have h1 := (fl15 t).mp hf
    funext j
    rw [View.read_apply]
    obtain ⟨r, q, rfl⟩ := ix_ex j
    show ((outsAt0 m c t.val t.isLt).2.1 : Vec Ideal S256x2048 .bf16) (ix2 r q) = _
    exact (out_rows m c H t.val t.isLt h1 r q).2.trans (congrArg (resH m c X Z D W Cb B A K N) (emb15 t r q)).symm) fun i => by
    have h0 : (i 0).val < 8192 := (i 0).isLt
    have hN : cfg0.N = 33 := N_0
    exact ⟨⟨(i 0).val / 256 + 1, by omega⟩, (fl15 _).mpr (by dsimp only; omega), mem15 _ i (by dsimp only; omega)⟩

end Cert.KernelIdeal.Ssd
-- ==== Proof.SsdPre.lean ====
/- The precondition says that the arguments hold real numbers: their readings. -/
module

public import proofs.«01_k».proof.Proof.SsdSpec
public import proofs.«01_k».proof.Proof.Gen.Pre_finite
public import Idealize.ShloMosaic.Lib.ReduceAll

@[expose] public section

set_option maxRecDepth 16384

noncomputable section

open Idealize.ShloMosaic Idealize.ShloMosaic.TcCoe Idealize.SL.Sem

namespace Cert.KernelIdeal.Ssd

/-- A value below plus infinity in size is a real number. -/
theorem real_of (x : Ideal .f32) (h : FloatOps.cmpf .olt (FloatOps.hostAbsf x) (FloatOps.ofBits (F := Ideal) .f32 0x7F800000#32) = 1#1) :
    x = ((x : EReal).toReal : EReal) := by
  have e : FloatOps.cmpf .olt (FloatOps.hostAbsf x) (FloatOps.ofBits (F := Ideal) .f32 0x7F800000#32) = BitVec.ofBool (decide (max (x : EReal) (-(x : EReal)) < Ideal.ofBits .f32 0x7F800000#32)) := rfl
  have hi : Ideal.ofBits .f32 0x7F800000#32 = (⊤ : EReal) := by simp [Ideal.ofBits, Ideal.ieee]
  rw [e, hi] at h
  have hl : max (x : EReal) (-(x : EReal)) < ⊤ := by
    by_contra hn
    rw [decide_eq_false hn] at h
    exact absurd h (by decide)
  have h1 : (x : EReal) ≠ ⊤ := fun g => by rw [g] at hl; exact absurd hl (by simp)
  have h2 : (x : EReal) ≠ ⊥ := fun g => by rw [g] at hl; exact absurd hl (by simp)
  exact (EReal.coe_toReal h1 h2).symm

theorem and_one (a b : BitVec 1) (h : a &&& b = 1#1) : a = 1#1 ∧ b = 1#1 := by revert a b; decide

instance : Subsingleton Cert.Pre_finite.S_.Idx := ⟨fun a b => funext fun i => i.elim0⟩

section
open Cert.Pre_finite

variable {a0 : FVec Ideal S4x2048x2048 .f32} {a1 : FVec Ideal S4x2048x1024 .bf16} {a2 : FVec Ideal S4x2048x2048 .bf16} {a3 : FVec Ideal S4x2048x16 .f32} {a4 : FVec Ideal S1x4x2048 .f32} {a5 : FVec Ideal S1x2048 .f32}
  {a6 a7 a8 : FVec Ideal S1x16 .f32} {a9 : FVec Ideal S1x1024 .f32} {a10 : FVec Ideal S4x2048x1024 .bf16} {a11 : FVec Ideal S1x2048x2048 .bf16} {a12 : FVec Ideal S1x2048 .f32} {a13 : FVec Ideal S1x8192x2048 .f32}

theorem reals [hP : Cert.Pre_finite.Facts] (h : Cert.Pre_finite.fn (F := Ideal) a0 a1 a2 a3 a4 a5 a6 a7 a8 a9 a10 a11 a12 a13 = fun _ => 1#1) :
    (∀ i, a1 i = ((a1 i : EReal).toReal : EReal)) ∧ (∀ i, a2 i = ((a2 i : EReal).toReal : EReal)) ∧ (∀ i, a3 i = ((a3 i : EReal).toReal : EReal))
    ∧ (∀ i, a4 i = ((a4 i : EReal).toReal : EReal)) ∧ (∀ i, a5 i = ((a5 i : EReal).toReal : EReal)) ∧ (∀ i, a6 i = ((a6 i : EReal).toReal : EReal)) ∧ (∀ i, a7 i = ((a7 i : EReal).toReal : EReal)) := by
  have h := congrFun h (fun i => i.elim0)
  unfold Cert.Pre_finite.fn Cert.Pre_finite.fn_part1 Cert.Pre_finite.fn_part2 at h
  dsimp only at h
  obtain ⟨h, h7⟩ := and_one _ _ h
  obtain ⟨h, h6⟩ := and_one _ _ h
  obtain ⟨h, h5⟩ := and_one _ _ h
  obtain ⟨h, h4⟩ := and_one _ _ h
  obtain ⟨h, h3⟩ := and_one _ _ h
  obtain ⟨h1, h2⟩ := and_one _ _ h
  exact ⟨fun i => real_of _ (Host.reduce_andi_all _ _ _ _ _ h1 i), fun i => real_of _ (Host.reduce_andi_all _ _ _ _ _ h2 i), fun i => real_of _ (Host.reduce_andi_all _ _ _ _ _ h3 i),
    fun i => real_of _ (Host.reduce_andi_all _ _ _ _ _ h4 i), fun i => real_of _ (Host.reduce_andi_all _ _ _ _ _ h5 i), fun i => real_of _ (Host.reduce_andi_all _ _ _ _ _ h6 i), fun i => real_of _ (Host.reduce_andi_all _ _ _ _ _ h7 i)⟩

end

/-- The readings of the arguments at natural-number indices. -/
def argX {n : ℕ} (φ : FTy) (a : FVec Ideal ⟨3, ![4, 2048, n]⟩ φ) (b l q : ℕ) : ℝ :=
  if h : b < 4 ∧ l < 2048 ∧ q < n then (a (ix3 ⟨b, h.1⟩ ⟨l, h.2.1⟩ ⟨q, h.2.2⟩) : EReal).toReal else 0
def argW (a : Vec Ideal ⟨3, ![1, 4, 2048]⟩ .f32) (r q : ℕ) : ℝ := if h : r < 4 ∧ q < 2048 then (a (ix3 0 ⟨r, h.1⟩ ⟨q, h.2⟩) : EReal).toReal else 0
def argR {n : ℕ} (a : Vec Ideal ⟨2, ![1, n]⟩ .f32) (q : ℕ) : ℝ := if h : q < n then (a (ix2 0 ⟨q, h⟩) : EReal).toReal else 0
def argE {n : ℕ} (a : Vec Ideal ⟨2, ![1, n]⟩ .f32) (q : ℕ) : EReal := if h : q < n then a (ix2 0 ⟨q, h⟩) else 0

variable {a1 : Vec Ideal ⟨3, ![4, 2048, 1024]⟩ .bf16} {a2 : Vec Ideal ⟨3, ![4, 2048, 2048]⟩ .bf16} {a3 : Vec Ideal ⟨3, ![4, 2048, 16]⟩ .f32}
  {a4 : Vec Ideal ⟨3, ![1, 4, 2048]⟩ .f32} {a5 : Vec Ideal ⟨2, ![1, 2048]⟩ .f32} {a6 a7 a8 : Vec Ideal ⟨2, ![1, 16]⟩ .f32} {a9 : Vec Ideal ⟨2, ![1, 1024]⟩ .f32}

theorem arg_real (h : (∀ i, a1 i = ((a1 i : EReal).toReal : EReal)) ∧ (∀ i, a2 i = ((a2 i : EReal).toReal : EReal)) ∧ (∀ i, a3 i = ((a3 i : EReal).toReal : EReal))
    ∧ (∀ i, a4 i = ((a4 i : EReal).toReal : EReal)) ∧ (∀ i, a5 i = ((a5 i : EReal).toReal : EReal)) ∧ (∀ i, a6 i = ((a6 i : EReal).toReal : EReal)) ∧ (∀ i, a7 i = ((a7 i : EReal).toReal : EReal))) :
    ArgReal a1 a2 a3 a4 a5 a6 a7 a8 a9 (argX .bf16 a2) (argX .bf16 a1) (argX .f32 a3) (argW a4) (argR a5) (argR a6) (argR a7) (fun c => argE a8 (c / 64)) (argE a9) := by
  obtain ⟨h1, h2, h3, h4, h5, h6, h7⟩ := h
  refine ⟨fun b l q => ?_, fun b l q => ?_, fun b l q => ?_, fun r q => ?_, fun q => ?_, fun q => ?_, fun q => ?_, fun g p => ?_, fun q => ?_, fun b l g hg => ?_, fun g hg => ?_, fun g hg => ?_⟩
  · unfold argX; rw [dif_pos ⟨b.2, l.2, q.2⟩]; exact h1 _
  · unfold argX; rw [dif_pos ⟨b.2, l.2, q.2⟩]; exact h2 _
  · unfold argX; rw [dif_pos ⟨b.2, l.2, q.2⟩]; exact h3 _
  · unfold argW; rw [dif_pos ⟨r.2, q.2⟩]; exact h4 _
  · unfold argR; rw [dif_pos q.2]; exact h5 _
  · unfold argR; rw [dif_pos q.2]; exact h6 _
  · unfold argR; rw [dif_pos q.2]; exact h7 _
  · show _ = argE a8 ((g.1 * 64 + p.1) / 64)
    rw [show (g.1 * 64 + p.1) / 64 = g.1 by omega]
    unfold argE; rw [dif_pos g.2]
  · unfold argE; rw [dif_pos q.2]
  · unfold argX; rw [dif_neg (by omega)]
  · unfold argR; rw [dif_neg (by omega)]
  · unfold argR; rw [dif_neg (by omega)]

end Cert.KernelIdeal.Ssd
-- ==== Proof.SsdRefDefs.lean ====
/- The reference stages as functions of the stages they read. -/
module

public import proofs.«01_k».proof.Proof.Gen.ReferenceIdeal.Run
public import Idealize.ShloMosaic.Lib.Pointwise
public import Idealize.ShloMosaic.Lib.Claim
public import Idealize.ShloMosaic.Lib.Pipeline.Value
public import Idealize.ShloMosaic.Lib.ValueIdx
public import Idealize.ShloMosaic.Lib.ValueIdxRank6
public import Idealize.ShloMosaic.PureOps.Ideal.Laws

@[expose] public section

set_option maxRecDepth 16384

noncomputable section

open Idealize.ShloMosaic Idealize.ShloMosaic.TcCoe Idealize.SL.Sem Idealize.ShloMosaic.StableHlo

namespace Cert.ReferenceIdeal.Ssd

open Cert.ReferenceIdeal Cert.ReferenceIdeal.Gen Cert.ReferenceIdeal.Value

def q8 (a2 : FVec Ideal S4x2048x2048 .bf16) : FVec Ideal S4x2051x2048 .f32 :=
  pad S4x2051x2048 ![0, 3, 0] ![0, 0, 0] ![0, 0, 0] (extf .f32 a2 bitsLt_bf16_f32) (sitofp .f32 (constantI S_ 32 0#32)) pads_S4x2048x2048_S4x2051x2048_000_300_000 h_S_

def q38 (v8 : FVec Ideal S4x2051x2048 .f32) (a4 : FVec Ideal S1x4x2048 .f32) (a5 : FVec Ideal S1x2048 .f32) : FVec Ideal S4x2048x2048 .f32 :=
  addf (addf (addf (addf (mulf (extractStridedSlice S4x2048x2048 ![0, 0, 0] v8 slices_S4x2051x2048_S4x2048x2048_0_0_0) (broadcastInDim S4x2048x2048 ![0, 1, 2] bcast_S1x1x2048_S4x2048x2048_0_1_2 (broadcastInDim S1x1x2048 ![2] bcast_S2048_S1x1x2048_2 (shapeCast _ (extractStridedSlice S1x2048 ![0, 0] (shapeCast S4x2048 a4 shapeCasts_S1x4x2048_S4x2048) slices_S4x2048_S1x2048_0_0) shapeCasts_S1x2048_S2048)))) (mulf (extractStridedSlice S4x2048x2048 ![0, 1, 0] v8 slices_S4x2051x2048_S4x2048x2048_0_1_0) (broadcastInDim S4x2048x2048 ![0, 1, 2] bcast_S1x1x2048_S4x2048x2048_0_1_2 (broadcastInDim S1x1x2048 ![2] bcast_S2048_S1x1x2048_2 (shapeCast _ (extractStridedSlice S1x2048 ![1, 0] (shapeCast S4x2048 a4 shapeCasts_S1x4x2048_S4x2048) slices_S4x2048_S1x2048_1_0) shapeCasts_S1x2048_S2048))))) (mulf (extractStridedSlice S4x2048x2048 ![0, 2, 0] v8 slices_S4x2051x2048_S4x2048x2048_0_2_0) (broadcastInDim S4x2048x2048 ![0, 1, 2] bcast_S1x1x2048_S4x2048x2048_0_1_2 (broadcastInDim S1x1x2048 ![2] bcast_S2048_S1x1x2048_2 (shapeCast _ (extractStridedSlice S1x2048 ![2, 0] (shapeCast S4x2048 a4 shapeCasts_S1x4x2048_S4x2048) slices_S4x2048_S1x2048_2_0) shapeCasts_S1x2048_S2048))))) (mulf (extractStridedSlice S4x2048x2048 ![0, 3, 0] v8 slices_S4x2051x2048_S4x2048x2048_0_3_0) (broadcastInDim S4x2048x2048 ![0, 1, 2] bcast_S1x1x2048_S4x2048x2048_0_1_2 (broadcastInDim S1x1x2048 ![2] bcast_S2048_S1x1x2048_2 (shapeCast _ (extractStridedSlice S1x2048 ![3, 0] (shapeCast S4x2048 a4 shapeCasts_S1x4x2048_S4x2048) slices_S4x2048_S1x2048_3_0) shapeCasts_S1x2048_S2048))))) (broadcastInDim S4x2048x2048 ![0, 1, 2] bcast_S1x1x2048_S4x2048x2048_0_1_2 (broadcastInDim S1x1x2048 ![2] bcast_S2048_S1x1x2048_2 (shapeCast _ a5 shapeCasts_S1x2048_S2048)))

def q39 (v38 : FVec Ideal S4x2048x2048 .f32) : FVec Ideal S4x2048x2048 .f32 :=
  mulf v38 (Host.divf (broadcastInDim S4x2048x2048 ![] bcast_S_S4x2048x2048 (constant S_ .f32 0x3F800000#32)) (addf (broadcastInDim S4x2048x2048 ![] bcast_S_S4x2048x2048 (constant S_ .f32 0x3F800000#32)) (Host.exp (Host.negf v38))))

def q41 (v39 : FVec Ideal S4x2048x2048 .f32) : FVec Ideal S4x2048x16x64 .f32 :=
  shapeCast _ (extractStridedSlice S4x2048x1024 ![0, 0, 0] v39 slices_S4x2048x2048_S4x2048x1024_0_0_0) shapeCasts_S4x2048x1024_S4x2048x16x64

def q49 (a3 : FVec Ideal S4x2048x16 .f32) (a6 : FVec Ideal S1x16 .f32) : FVec Ideal S4x2048x16 .f32 :=
  select (cmpf .une (subf (addf a3 (broadcastInDim S4x2048x16 ![0, 1, 2] bcast_S1x1x16_S4x2048x16_0_1_2 (broadcastInDim S1x1x16 ![2] bcast_S16_S1x1x16_2 (shapeCast _ a6 shapeCasts_S1x16_S16)))) (broadcastInDim S4x2048x16 ![] bcast_S_S4x2048x16 (constant S_ .f32 0x00000000#32))) (subf (addf a3 (broadcastInDim S4x2048x16 ![0, 1, 2] bcast_S1x1x16_S4x2048x16_0_1_2 (broadcastInDim S1x1x16 ![2] bcast_S16_S1x1x16_2 (shapeCast _ a6 shapeCasts_S1x16_S16)))) (broadcastInDim S4x2048x16 ![] bcast_S_S4x2048x16 (constant S_ .f32 0x00000000#32)))) (addf (addf a3 (broadcastInDim S4x2048x16 ![0, 1, 2] bcast_S1x1x16_S4x2048x16_0_1_2 (broadcastInDim S1x1x16 ![2] bcast_S16_S1x1x16_2 (shapeCast _ a6 shapeCasts_S1x16_S16)))) (broadcastInDim S4x2048x16 ![] bcast_S_S4x2048x16 (constant S_ .f32 0x00000000#32))) (addf (maximumf (addf a3 (broadcastInDim S4x2048x16 ![0, 1, 2] bcast_S1x1x16_S4x2048x16_0_1_2 (broadcastInDim S1x1x16 ![2] bcast_S16_S1x1x16_2 (shapeCast _ a6 shapeCasts_S1x16_S16)))) (broadcastInDim S4x2048x16 ![] bcast_S_S4x2048x16 (constant S_ .f32 0x00000000#32))) (Host.log1p (Host.exp (Host.negf (Host.absf (subf (addf a3 (broadcastInDim S4x2048x16 ![0, 1, 2] bcast_S1x1x16_S4x2048x16_0_1_2 (broadcastInDim S1x1x16 ![2] bcast_S16_S1x1x16_2 (shapeCast _ a6 shapeCasts_S1x16_S16)))) (broadcastInDim S4x2048x16 ![] bcast_S_S4x2048x16 (constant S_ .f32 0x00000000#32))))))))

def q55 (v41 : FVec Ideal S4x2048x16x64 .f32) (v49 : FVec Ideal S4x2048x16 .f32) : FVec Ideal S4x16x128x4x4x64 .f32 :=
  shapeCast _ (mulf v41 (broadcastInDim S4x2048x16x64 ![0, 1, 2, 3] bcast_S4x2048x16x1_S4x2048x16x64_0_1_2_3 (broadcastInDim S4x2048x16x1 ![0, 1, 2] bcast_S4x2048x16_S4x2048x16x1_0_1_2 v49))) shapeCasts_S4x2048x16x64_S4x16x128x4x4x64

def q61 (v49 : FVec Ideal S4x2048x16 .f32) (a7 : FVec Ideal S1x16 .f32) : FVec Ideal S4x16x4x4x128 .f32 :=
  Host.reduceWindowAdd ![1, 1, 1, 1, 128] ![1, 1, 1, 1, 1] ![0, 0, 0, 0, 127] ![0, 0, 0, 0, 0] (transpose S4x16x4x4x128 [0, 1, 3, 4, 2] (shapeCast _ (mulf v49 (broadcastInDim S4x2048x16 ![0, 1, 2] bcast_S1x1x16_S4x2048x16_0_1_2 (broadcastInDim S1x1x16 ![2] bcast_S16_S1x1x16_2 (Host.negf (Host.exp (shapeCast _ a7 shapeCasts_S1x16_S16)))))) shapeCasts_S4x2048x16_S4x16x128x4x4) transposes_S4x16x128x4x4_S4x16x4x4x128_0_1_3_4_2) (broadcastInDim S_ ![] bcast_S_S_ (constant S_ .f32 0x00000000#32)) reduceWindows_S4x16x4x4x128_S4x16x4x4x128_w1s1p0_0_w1s1p0_0_w1s1p0_0_w1s1p0_0_w128s1p127_0 h_S_

def q62 (v39 : FVec Ideal S4x2048x2048 .f32) : FVec Ideal S4x16x128x4x128 .f32 :=
  shapeCast _ (shapeCast _ (extractStridedSlice S4x2048x512 ![0, 0, 1024] v39 slices_S4x2048x2048_S4x2048x512_0_0_1024) shapeCasts_S4x2048x512_S4x2048x4x128) shapeCasts_S4x2048x4x128_S4x16x128x4x128

def q63 (v39 : FVec Ideal S4x2048x2048 .f32) : FVec Ideal S4x16x128x4x128 .f32 :=
  shapeCast _ (shapeCast _ (extractStridedSlice S4x2048x512 ![0, 0, 1536] v39 slices_S4x2048x2048_S4x2048x512_0_0_1536) shapeCasts_S4x2048x512_S4x2048x4x128) shapeCasts_S4x2048x4x128_S4x16x128x4x128

def q90 (v61 : FVec Ideal S4x16x4x4x128 .f32) (v55 : FVec Ideal S4x16x128x4x4x64 .f32) : FVec Ideal S4x16x128x4x4x64 .f32 :=
  mulf (broadcastInDim S4x16x128x4x4x64 ![0, 1, 2, 3, 4, 5] bcast_S4x16x128x4x4x1_S4x16x128x4x4x64_0_1_2_3_4_5 (broadcastInDim S4x16x128x4x4x1 ![0, 1, 2, 3, 4] bcast_S4x16x128x4x4_S4x16x128x4x4x1_0_1_2_3_4 (transpose S4x16x128x4x4 [0, 1, 4, 2, 3] (Host.exp (subf (broadcastInDim S4x16x4x4x128 ![0, 1, 2, 3, 4] bcast_S4x16x4x4x1_S4x16x4x4x128_0_1_2_3_4 (extractStridedSlice S4x16x4x4x1 ![0, 0, 0, 0, 127] v61 slices_S4x16x4x4x128_S4x16x4x4x1_0_0_0_0_127)) v61)) transposes_S4x16x4x4x128_S4x16x128x4x4_0_1_4_2_3))) v55

def q96 (v61 : FVec Ideal S4x16x4x4x128 .f32) : FVec Ideal S4x16x4x4x64x128 .f32 :=
  broadcastInDim S4x16x4x4x64x128 ![0, 1, 2, 3, 4, 5] bcast_S4x16x4x4x1x1_S4x16x4x4x64x128_0_1_2_3_4_5 (broadcastInDim S4x16x4x4x1x1 ![0, 1, 2, 3] bcast_S4x16x4x4_S4x16x4x4x1x1_0_1_2_3 (Host.exp (shapeCast _ (extractStridedSlice S4x16x4x4x1 ![0, 0, 0, 0, 127] v61 slices_S4x16x4x4x128_S4x16x4x4x1_0_0_0_0_127) shapeCasts_S4x16x4x4x1_S4x16x4x4)))

def q180 (v176 : FVec Ideal S4x2048x16x64 .f32) (a1 : FVec Ideal S4x2048x1024 .bf16) : FVec Ideal S4x2048x4x256 .f32 :=
  shapeCast _ (mulf (shapeCast _ v176 shapeCasts_S4x2048x16x64_S4x2048x1024) (mulf (extf .f32 a1 bitsLt_bf16_f32) (Host.divf (broadcastInDim S4x2048x1024 ![] bcast_S_S4x2048x1024 (constant S_ .f32 0x3F800000#32)) (addf (broadcastInDim S4x2048x1024 ![] bcast_S_S4x2048x1024 (constant S_ .f32 0x3F800000#32)) (Host.exp (Host.negf (extf .f32 a1 bitsLt_bf16_f32))))))) shapeCasts_S4x2048x1024_S4x2048x4x256

def q200 (a0 : FVec Ideal S4x2048x2048 .f32) (v180 : FVec Ideal S4x2048x4x256 .f32) (a9 : FVec Ideal S1x1024 .f32) (a10 : FVec Ideal S4x2048x1024 .bf16) (a11 : FVec Ideal S1x2048x2048 .bf16) : FVec Ideal S4x2048x2048 .f32 :=
  addf a0 (Host.dotGeneral dot_S4x2048x2048_S2048x2048_S4x2048x2048_2_0_01_1_n_n none (concatenate S4x2048x2048 2 [⟨S4x2048x1024, (mulf (shapeCast _ (mulf v180 (broadcastInDim S4x2048x4x256 ![0, 1, 2, 3] bcast_S4x2048x4x1_S4x2048x4x256_0_1_2_3 (Host.rsqrt (addf (Host.divf (broadcastInDim S4x2048x4x1 ![0, 1, 2] bcast_S4x2048x4_S4x2048x4x1_0_1_2 (Host.reduceAdd (mulf v180 v180) (constant S_ .f32 0x00000000#32) reducesTo_S4x2048x4x256_S4x2048x4_d3 h_S_)) (broadcastInDim S4x2048x4x1 ![] bcast_S_S4x2048x4x1 (constant S_ .f32 0x43800000#32))) (broadcastInDim S4x2048x4x1 ![] bcast_S_S4x2048x4x1 (constant S_ .f32 0x3727C5AC#32)))))) shapeCasts_S4x2048x4x256_S4x2048x1024) (broadcastInDim S4x2048x1024 ![0, 1, 2] bcast_S1x1x1024_S4x2048x1024_0_1_2 (broadcastInDim S1x1x1024 ![2] bcast_S1024_S1x1x1024_2 (shapeCast _ a9 shapeCasts_S1x1024_S1024))))⟩, ⟨S4x2048x1024, (extf .f32 a10 bitsLt_bf16_f32)⟩] concatenates_S4x2048x1024_S4x2048x1024_S4x2048x2048_d2) (extf .f32 (shapeCast _ a11 shapeCasts_S1x2048x2048_S2048x2048) bitsLt_bf16_f32))

def q76 (v61 : FVec Ideal S4x16x4x4x128 .f32) : FVec Ideal S4x16x4x4x128x128 .f32 :=
  Host.exp (select (broadcastInDim S4x16x4x4x128x128 ![4, 5] bcast_S128x128_S4x16x4x4x128x128_4_5 (cmpi .sge (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0))))) (subf (broadcastInDim S4x16x4x4x128x128 ![0, 1, 2, 3, 4, 5] bcast_S4x16x4x4x128x1_S4x16x4x4x128x128_0_1_2_3_4_5 (broadcastInDim S4x16x4x4x128x1 ![0, 1, 2, 3, 4] bcast_S4x16x4x4x128_S4x16x4x4x128x1_0_1_2_3_4 v61)) (broadcastInDim S4x16x4x4x128x128 ![0, 1, 2, 3, 4, 5] bcast_S4x16x4x4x1x128_S4x16x4x4x128x128_0_1_2_3_4_5 (broadcastInDim S4x16x4x4x1x128 ![0, 1, 2, 3, 5] bcast_S4x16x4x4x128_S4x16x4x4x1x128_0_1_2_3_5 v61))) (broadcastInDim S4x16x4x4x128x128 ![] bcast_S_S4x16x4x4x128x128 (id (constant S_ .f32 0xFF800000#32))))

def q80 (v77 : FVec Ideal S4x16x4x128x128 .f32) (v76 : FVec Ideal S4x16x4x4x128x128 .f32) : FVec Ideal S4x16x4x4x128x128 .f32 :=
  mulf (broadcastInDim S4x16x4x4x128x128 ![0, 1, 2, 3, 4, 5] bcast_S4x16x4x1x128x128_S4x16x4x4x128x128_0_1_2_3_4_5 (broadcastInDim S4x16x4x1x128x128 ![0, 1, 2, 4, 5] bcast_S4x16x4x128x128_S4x16x4x1x128x128_0_1_2_4_5 v77)) v76

def q162 (v97 : FVec Ideal S4x1x4x4x64x128 .f32) (v101 : FVec Ideal S4x1x4x4x64x128 .f32) (v105 : FVec Ideal S4x1x4x4x64x128 .f32) (v109 : FVec Ideal S4x1x4x4x64x128 .f32) (v113 : FVec Ideal S4x1x4x4x64x128 .f32) (v117 : FVec Ideal S4x1x4x4x64x128 .f32) (v121 : FVec Ideal S4x1x4x4x64x128 .f32) (v125 : FVec Ideal S4x1x4x4x64x128 .f32) (v129 : FVec Ideal S4x1x4x4x64x128 .f32) (v133 : FVec Ideal S4x1x4x4x64x128 .f32) (v137 : FVec Ideal S4x1x4x4x64x128 .f32) (v141 : FVec Ideal S4x1x4x4x64x128 .f32) (v145 : FVec Ideal S4x1x4x4x64x128 .f32) (v149 : FVec Ideal S4x1x4x4x64x128 .f32) (v153 : FVec Ideal S4x1x4x4x64x128 .f32) (v157 : FVec Ideal S4x1x4x4x64x128 .f32) : FVec Ideal S4x16x4x4x64x128 .f32 :=
  concatenate S4x16x4x4x64x128 1 [⟨S4x1x4x4x64x128, v97⟩, ⟨S4x1x4x4x64x128, v101⟩, ⟨S4x1x4x4x64x128, v105⟩, ⟨S4x1x4x4x64x128, v109⟩, ⟨S4x1x4x4x64x128, v113⟩, ⟨S4x1x4x4x64x128, v117⟩, ⟨S4x1x4x4x64x128, v121⟩, ⟨S4x1x4x4x64x128, v125⟩, ⟨S4x1x4x4x64x128, v129⟩, ⟨S4x1x4x4x64x128, v133⟩, ⟨S4x1x4x4x64x128, v137⟩, ⟨S4x1x4x4x64x128, v141⟩, ⟨S4x1x4x4x64x128, v145⟩, ⟨S4x1x4x4x64x128, v149⟩, ⟨S4x1x4x4x64x128, v153⟩, ⟨S4x1x4x4x64x128, v157⟩] concatenates_S4x1x4x4x64x128_S4x1x4x4x64x128_S4x1x4x4x64x128_S4x1x4x4x64x128_S4x1x4x4x64x128_S4x1x4x4x64x128_S4x1x4x4x64x128_S4x1x4x4x64x128_S4x1x4x4x64x128_S4x1x4x4x64x128_S4x1x4x4x64x128_S4x1x4x4x64x128_S4x1x4x4x64x128_S4x1x4x4x64x128_S4x1x4x4x64x128_S4x1x4x4x64x128_S4x16x4x4x64x128_d1

def q170 (v81 : FVec Ideal S4x16x4x4x64x128 .f32) (v163 : FVec Ideal S4x16x4x4x64x128 .f32) (v61 : FVec Ideal S4x16x4x4x128 .f32) : FVec Ideal S4x16x128x4x4x64 .f32 :=
  addf (transpose S4x16x128x4x4x64 [0, 1, 5, 2, 3, 4] v81 transposes_S4x16x4x4x64x128_S4x16x128x4x4x64_0_1_5_2_3_4) (mulf (transpose S4x16x128x4x4x64 [0, 1, 5, 2, 3, 4] v163 transposes_S4x16x4x4x64x128_S4x16x128x4x4x64_0_1_5_2_3_4) (broadcastInDim S4x16x128x4x4x64 ![0, 1, 2, 3, 4, 5] bcast_S4x16x128x4x4x1_S4x16x128x4x4x64_0_1_2_3_4_5 (broadcastInDim S4x16x128x4x4x1 ![0, 1, 2, 3, 4] bcast_S4x16x128x4x4_S4x16x128x4x4x1_0_1_2_3_4 (transpose S4x16x128x4x4 [0, 1, 4, 2, 3] (Host.exp v61) transposes_S4x16x4x4x128_S4x16x128x4x4_0_1_4_2_3))))

def q176 (v170 : FVec Ideal S4x16x128x4x4x64 .f32) (v41 : FVec Ideal S4x2048x16x64 .f32) (a8 : FVec Ideal S1x16 .f32) : FVec Ideal S4x2048x16x64 .f32 :=
  addf (shapeCast _ v170 shapeCasts_S4x16x128x4x4x64_S4x2048x16x64) (mulf v41 (broadcastInDim S4x2048x16x64 ![0, 1, 2, 3] bcast_S1x1x16x1_S4x2048x16x64_0_1_2_3 (broadcastInDim S1x1x16x1 ![2, 3] bcast_S16x1_S1x1x16x1_2_3 (broadcastInDim S16x1 ![0] bcast_S16_S16x1_0 (shapeCast _ a8 shapeCasts_S1x16_S16)))))

/-- One step of the recurrence over the chunks. -/
def qst (o : ℕ) (h : S4x16x4x4x64x128.Slices ![0, o, 0, 0, 0, 0] S4x1x4x4x64x128) (v96 v91 : FVec Ideal S4x16x4x4x64x128 .f32) (p : FVec Ideal S4x1x4x4x64x128 .f32) : FVec Ideal S4x1x4x4x64x128 .f32 :=
  addf (mulf (extractStridedSlice S4x1x4x4x64x128 ![0, o, 0, 0, 0, 0] v96 h) p) (extractStridedSlice S4x1x4x4x64x128 ![0, o, 0, 0, 0, 0] v91 h)

end Cert.ReferenceIdeal.Ssd
-- ==== Proof.SsdRefDots.lean ====
/- The four contractions of the scan, read at an index. -/
module

public import proofs.«01_k».proof.Proof.Gen.ReferenceIdeal.Run
public import Idealize.ShloMosaic.Lib.Pointwise
public import Idealize.ShloMosaic.Lib.Claim
public import Idealize.ShloMosaic.Lib.Pipeline.Value
public import Idealize.ShloMosaic.Lib.ValueIdx
public import Idealize.ShloMosaic.Lib.ValueIdxRank6
public import Idealize.ShloMosaic.PureOps.Ideal.Laws

@[expose] public section

set_option maxRecDepth 16384

noncomputable section

open Idealize.ShloMosaic Idealize.ShloMosaic.TcCoe Idealize.SL.Sem Idealize.ShloMosaic.StableHlo

namespace Cert.ReferenceIdeal.Ssd

open Cert.ReferenceIdeal Cert.ReferenceIdeal.Gen Cert.ReferenceIdeal.Value
open Cert.ReferenceIdeal renaming dot_S4x16x128x4x128_S4x16x128x4x128_S4x16x4x128x128_4_4_2_2_013_013 → dSc, dot_S4x16x128x4x4x64_S4x16x4x4x128x128_S4x16x4x4x64x128_2_5_5_4_0134_0123 → dIn, dot_S4x16x128x4x4x64_S4x16x128x4x128_S4x16x4x4x64x128_2_2_45_4_013_013 → dSt, dot_S4x16x4x4x64x128_S4x16x128x4x128_S4x16x4x4x64x128_5_4_34_2_012_013 → dOu

theorem lhs_77_0 (i : S4x16x4x128x128.Idx) (q : dSc.contr.Idx) :
    (dSc.lhsIdx i q 0).val = (i 0).val := by
  unfold DotDims.lhsIdx
  rw [dif_pos (show (0 : Fin S4x16x128x4x128.rank) ∈ dSc.lhsBatch by decide)]
  rfl
theorem lhs_77_1 (i : S4x16x4x128x128.Idx) (q : dSc.contr.Idx) :
    (dSc.lhsIdx i q 1).val = (i 1).val := by
  unfold DotDims.lhsIdx
  rw [dif_pos (show (1 : Fin S4x16x128x4x128.rank) ∈ dSc.lhsBatch by decide)]
  rfl
theorem lhs_77_2 (i : S4x16x4x128x128.Idx) (q : dSc.contr.Idx) :
    (dSc.lhsIdx i q 2).val = (i 3).val := by
  unfold DotDims.lhsIdx
  rw [dif_neg (show ¬(2 : Fin S4x16x128x4x128.rank) ∈ dSc.lhsBatch by decide), dif_pos (show (2 : Fin S4x16x128x4x128.rank) ∈ dSc.lhsNonContracting by decide)]
  rfl
theorem lhs_77_3 (i : S4x16x4x128x128.Idx) (q : dSc.contr.Idx) :
    (dSc.lhsIdx i q 3).val = (i 2).val := by
  unfold DotDims.lhsIdx
  rw [dif_pos (show (3 : Fin S4x16x128x4x128.rank) ∈ dSc.lhsBatch by decide)]
  rfl
theorem lhs_77_4 (i : S4x16x4x128x128.Idx) (q : dSc.contr.Idx) :
    (dSc.lhsIdx i q 4).val = (q ⟨0, by decide⟩).val :=
  dSc.lhsIdx_val_of_single rfl i q
theorem rhs_77_0 (i : S4x16x4x128x128.Idx) (q : dSc.contr.Idx) :
    (dSc.rhsIdx i q 0).val = (i 0).val := by
  unfold DotDims.rhsIdx
  rw [dif_pos (show (0 : Fin S4x16x128x4x128.rank) ∈ dSc.rhsBatch by decide)]
  rfl
theorem rhs_77_1 (i : S4x16x4x128x128.Idx) (q : dSc.contr.Idx) :
    (dSc.rhsIdx i q 1).val = (i 1).val := by
  unfold DotDims.rhsIdx
  rw [dif_pos (show (1 : Fin S4x16x128x4x128.rank) ∈ dSc.rhsBatch by decide)]
  rfl
theorem rhs_77_2 (i : S4x16x4x128x128.Idx) (q : dSc.contr.Idx) :
    (dSc.rhsIdx i q 2).val = (i 4).val := by
  unfold DotDims.rhsIdx
  rw [dif_neg (show ¬(2 : Fin S4x16x128x4x128.rank) ∈ dSc.rhsBatch by decide), dif_pos (show (2 : Fin S4x16x128x4x128.rank) ∈ dSc.rhsNonContracting by decide)]
  rfl
theorem rhs_77_3 (i : S4x16x4x128x128.Idx) (q : dSc.contr.Idx) :
    (dSc.rhsIdx i q 3).val = (i 2).val := by
  unfold DotDims.rhsIdx
  rw [dif_pos (show (3 : Fin S4x16x128x4x128.rank) ∈ dSc.rhsBatch by decide)]
  rfl
theorem rhs_77_4 (i : S4x16x4x128x128.Idx) (q : dSc.contr.Idx) :
    (dSc.rhsIdx i q 4).val = (q ⟨0, by decide⟩).val :=
  dSc.rhsIdx_val_of_single rfl i q
abbrev lidx_77 (i : S4x16x4x128x128.Idx) (k : Fin 128) : S4x16x128x4x128.Idx := fun a => match a with
  | ⟨0, _⟩ => ⟨(i 0).val, (i 0).isLt⟩
  | ⟨1, _⟩ => ⟨(i 1).val, (i 1).isLt⟩
  | ⟨2, _⟩ => ⟨(i 3).val, (i 3).isLt⟩
  | ⟨3, _⟩ => ⟨(i 2).val, (i 2).isLt⟩
  | ⟨4, _⟩ => ⟨k.val, k.isLt⟩
abbrev ridx_77 (i : S4x16x4x128x128.Idx) (k : Fin 128) : S4x16x128x4x128.Idx := fun a => match a with
  | ⟨0, _⟩ => ⟨(i 0).val, (i 0).isLt⟩
  | ⟨1, _⟩ => ⟨(i 1).val, (i 1).isLt⟩
  | ⟨2, _⟩ => ⟨(i 4).val, (i 4).isLt⟩
  | ⟨3, _⟩ => ⟨(i 2).val, (i 2).isLt⟩
  | ⟨4, _⟩ => ⟨k.val, k.isLt⟩

theorem dot_77 (y0 : FVec Ideal S4x16x128x4x128 .f32) (y1 : FVec Ideal S4x16x128x4x128 .f32) (i : S4x16x4x128x128.Idx) :
    (Host.dotGeneral (φ₁ := .f32) (φ₂ := .f32) dSc none y0 y1 : FVec Ideal S4x16x4x128x128 .f32) i = ∑ k : Fin 128, y0 (lidx_77 i k) * y1 (ridx_77 i k) := by
  simp only [Host.dotGeneral]
  rw [Ideal.dotGeneral_apply, ← Equiv.sum_comp (ValueIdx.contrEquiv1 dSc 128 rfl rfl).symm]
  refine Finset.sum_congr rfl fun k _ => ?_
  have hk := ValueIdx.contrEquiv1_symm_val dSc 128 rfl rfl k
  have el : dSc.lhsIdx i ((ValueIdx.contrEquiv1 dSc 128 rfl rfl).symm k) = lidx_77 i k := funext fun a => Fin.ext (by
    match a with
    | ⟨0, _⟩ => exact lhs_77_0 _ _
    | ⟨1, _⟩ => exact lhs_77_1 _ _
    | ⟨2, _⟩ => exact lhs_77_2 _ _
    | ⟨3, _⟩ => exact lhs_77_3 _ _
    | ⟨4, _⟩ => exact (lhs_77_4 _ _).trans hk)
  have er : dSc.rhsIdx i ((ValueIdx.contrEquiv1 dSc 128 rfl rfl).symm k) = ridx_77 i k := funext fun a => Fin.ext (by
    match a with
    | ⟨0, _⟩ => exact rhs_77_0 _ _
    | ⟨1, _⟩ => exact rhs_77_1 _ _
    | ⟨2, _⟩ => exact rhs_77_2 _ _
    | ⟨3, _⟩ => exact rhs_77_3 _ _
    | ⟨4, _⟩ => exact (rhs_77_4 _ _).trans hk)
  rw [el, er]

theorem lhs_81_0 (i : S4x16x4x4x64x128.Idx) (q : dIn.contr.Idx) :
    (dIn.lhsIdx i q 0).val = (i 0).val := by
  unfold DotDims.lhsIdx
  rw [dif_pos (show (0 : Fin S4x16x128x4x4x64.rank) ∈ dIn.lhsBatch by decide)]
  rfl
theorem lhs_81_1 (i : S4x16x4x4x64x128.Idx) (q : dIn.contr.Idx) :
    (dIn.lhsIdx i q 1).val = (i 1).val := by
  unfold DotDims.lhsIdx
  rw [dif_pos (show (1 : Fin S4x16x128x4x4x64.rank) ∈ dIn.lhsBatch by decide)]
  rfl
theorem lhs_81_2 (i : S4x16x4x4x64x128.Idx) (q : dIn.contr.Idx) :
    (dIn.lhsIdx i q 2).val = (q ⟨0, by decide⟩).val :=
  dIn.lhsIdx_val_of_single rfl i q
theorem lhs_81_3 (i : S4x16x4x4x64x128.Idx) (q : dIn.contr.Idx) :
    (dIn.lhsIdx i q 3).val = (i 2).val := by
  unfold DotDims.lhsIdx
  rw [dif_pos (show (3 : Fin S4x16x128x4x4x64.rank) ∈ dIn.lhsBatch by decide)]
  rfl
theorem lhs_81_4 (i : S4x16x4x4x64x128.Idx) (q : dIn.contr.Idx) :
    (dIn.lhsIdx i q 4).val = (i 3).val := by
  unfold DotDims.lhsIdx
  rw [dif_pos (show (4 : Fin S4x16x128x4x4x64.rank) ∈ dIn.lhsBatch by decide)]
  rfl
theorem lhs_81_5 (i : S4x16x4x4x64x128.Idx) (q : dIn.contr.Idx) :
    (dIn.lhsIdx i q 5).val = (i 4).val := by
  unfold DotDims.lhsIdx
  rw [dif_neg (show ¬(5 : Fin S4x16x128x4x4x64.rank) ∈ dIn.lhsBatch by decide), dif_pos (show (5 : Fin S4x16x128x4x4x64.rank) ∈ dIn.lhsNonContracting by decide)]
  rfl
theorem rhs_81_0 (i : S4x16x4x4x64x128.Idx) (q : dIn.contr.Idx) :
    (dIn.rhsIdx i q 0).val = (i 0).val := by
  unfold DotDims.rhsIdx
  rw [dif_pos (show (0 : Fin S4x16x4x4x128x128.rank) ∈ dIn.rhsBatch by decide)]
  rfl
theorem rhs_81_1 (i : S4x16x4x4x64x128.Idx) (q : dIn.contr.Idx) :
    (dIn.rhsIdx i q 1).val = (i 1).val := by
  unfold DotDims.rhsIdx
  rw [dif_pos (show (1 : Fin S4x16x4x4x128x128.rank) ∈ dIn.rhsBatch by decide)]
  rfl
theorem rhs_81_2 (i : S4x16x4x4x64x128.Idx) (q : dIn.contr.Idx) :
    (dIn.rhsIdx i q 2).val = (i 2).val := by
  unfold DotDims.rhsIdx
  rw [dif_pos (show (2 : Fin S4x16x4x4x128x128.rank) ∈ dIn.rhsBatch by decide)]
  rfl
theorem rhs_81_3 (i : S4x16x4x4x64x128.Idx) (q : dIn.contr.Idx) :
    (dIn.rhsIdx i q 3).val = (i 3).val := by
  unfold DotDims.rhsIdx
  rw [dif_pos (show (3 : Fin S4x16x4x4x128x128.rank) ∈ dIn.rhsBatch by decide)]
  rfl
theorem rhs_81_4 (i : S4x16x4x4x64x128.Idx) (q : dIn.contr.Idx) :
    (dIn.rhsIdx i q 4).val = (i 5).val := by
  unfold DotDims.rhsIdx
  rw [dif_neg (show ¬(4 : Fin S4x16x4x4x128x128.rank) ∈ dIn.rhsBatch by decide), dif_pos (show (4 : Fin S4x16x4x4x128x128.rank) ∈ dIn.rhsNonContracting by decide)]
  rfl
theorem rhs_81_5 (i : S4x16x4x4x64x128.Idx) (q : dIn.contr.Idx) :
    (dIn.rhsIdx i q 5).val = (q ⟨0, by decide⟩).val :=
  dIn.rhsIdx_val_of_single rfl i q
abbrev lidx_81 (i : S4x16x4x4x64x128.Idx) (k : Fin 128) : S4x16x128x4x4x64.Idx := fun a => match a with
  | ⟨0, _⟩ => ⟨(i 0).val, (i 0).isLt⟩
  | ⟨1, _⟩ => ⟨(i 1).val, (i 1).isLt⟩
  | ⟨2, _⟩ => ⟨k.val, k.isLt⟩
  | ⟨3, _⟩ => ⟨(i 2).val, (i 2).isLt⟩
  | ⟨4, _⟩ => ⟨(i 3).val, (i 3).isLt⟩
  | ⟨5, _⟩ => ⟨(i 4).val, (i 4).isLt⟩
abbrev ridx_81 (i : S4x16x4x4x64x128.Idx) (k : Fin 128) : S4x16x4x4x128x128.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨(i 5).val, (i 5).isLt⟩
  | ⟨5, _⟩ => ⟨k.val, k.isLt⟩

theorem dot_81 (y0 : FVec Ideal S4x16x128x4x4x64 .f32) (y1 : FVec Ideal S4x16x4x4x128x128 .f32) (i : S4x16x4x4x64x128.Idx) :
    (Host.dotGeneral (φ₁ := .f32) (φ₂ := .f32) dIn none y0 y1 : FVec Ideal S4x16x4x4x64x128 .f32) i = ∑ k : Fin 128, y0 (lidx_81 i k) * y1 (ridx_81 i k) := by
  simp only [Host.dotGeneral]
  rw [Ideal.dotGeneral_apply, ← Equiv.sum_comp (ValueIdx.contrEquiv1 dIn 128 rfl rfl).symm]
  refine Finset.sum_congr rfl fun k _ => ?_
  have hk := ValueIdx.contrEquiv1_symm_val dIn 128 rfl rfl k
  have el : dIn.lhsIdx i ((ValueIdx.contrEquiv1 dIn 128 rfl rfl).symm k) = lidx_81 i k := funext fun a => Fin.ext (by
    match a with
    | ⟨0, _⟩ => exact lhs_81_0 _ _
    | ⟨1, _⟩ => exact lhs_81_1 _ _
    | ⟨2, _⟩ => exact (lhs_81_2 _ _).trans hk
    | ⟨3, _⟩ => exact lhs_81_3 _ _
    | ⟨4, _⟩ => exact lhs_81_4 _ _
    | ⟨5, _⟩ => exact lhs_81_5 _ _)
  have er : dIn.rhsIdx i ((ValueIdx.contrEquiv1 dIn 128 rfl rfl).symm k) = ridx_81 i k := funext fun a => Fin.ext (by
    match a with
    | ⟨0, _⟩ => exact rhs_81_0 _ _
    | ⟨1, _⟩ => exact rhs_81_1 _ _
    | ⟨2, _⟩ => exact rhs_81_2 _ _
    | ⟨3, _⟩ => exact rhs_81_3 _ _
    | ⟨4, _⟩ => exact rhs_81_4 _ _
    | ⟨5, _⟩ => exact (rhs_81_5 _ _).trans hk)
  rw [el, er]

theorem lhs_91_0 (i : S4x16x4x4x64x128.Idx) (q : dSt.contr.Idx) :
    (dSt.lhsIdx i q 0).val = (i 0).val := by
  unfold DotDims.lhsIdx
  rw [dif_pos (show (0 : Fin S4x16x128x4x4x64.rank) ∈ dSt.lhsBatch by decide)]
  rfl
theorem lhs_91_1 (i : S4x16x4x4x64x128.Idx) (q : dSt.contr.Idx) :
    (dSt.lhsIdx i q 1).val = (i 1).val := by
  unfold DotDims.lhsIdx
  rw [dif_pos (show (1 : Fin S4x16x128x4x4x64.rank) ∈ dSt.lhsBatch by decide)]
  rfl
theorem lhs_91_2 (i : S4x16x4x4x64x128.Idx) (q : dSt.contr.Idx) :
    (dSt.lhsIdx i q 2).val = (q ⟨0, by decide⟩).val :=
  dSt.lhsIdx_val_of_single rfl i q
theorem lhs_91_3 (i : S4x16x4x4x64x128.Idx) (q : dSt.contr.Idx) :
    (dSt.lhsIdx i q 3).val = (i 2).val := by
  unfold DotDims.lhsIdx
  rw [dif_pos (show (3 : Fin S4x16x128x4x4x64.rank) ∈ dSt.lhsBatch by decide)]
  rfl
theorem lhs_91_4 (i : S4x16x4x4x64x128.Idx) (q : dSt.contr.Idx) :
    (dSt.lhsIdx i q 4).val = (i 3).val := by
  unfold DotDims.lhsIdx
  rw [dif_neg (show ¬(4 : Fin S4x16x128x4x4x64.rank) ∈ dSt.lhsBatch by decide), dif_pos (show (4 : Fin S4x16x128x4x4x64.rank) ∈ dSt.lhsNonContracting by decide)]
  rfl
theorem lhs_91_5 (i : S4x16x4x4x64x128.Idx) (q : dSt.contr.Idx) :
    (dSt.lhsIdx i q 5).val = (i 4).val := by
  unfold DotDims.lhsIdx
  rw [dif_neg (show ¬(5 : Fin S4x16x128x4x4x64.rank) ∈ dSt.lhsBatch by decide), dif_pos (show (5 : Fin S4x16x128x4x4x64.rank) ∈ dSt.lhsNonContracting by decide)]
  rfl
theorem rhs_91_0 (i : S4x16x4x4x64x128.Idx) (q : dSt.contr.Idx) :
    (dSt.rhsIdx i q 0).val = (i 0).val := by
  unfold DotDims.rhsIdx
  rw [dif_pos (show (0 : Fin S4x16x128x4x128.rank) ∈ dSt.rhsBatch by decide)]
  rfl
theorem rhs_91_1 (i : S4x16x4x4x64x128.Idx) (q : dSt.contr.Idx) :
    (dSt.rhsIdx i q 1).val = (i 1).val := by
  unfold DotDims.rhsIdx
  rw [dif_pos (show (1 : Fin S4x16x128x4x128.rank) ∈ dSt.rhsBatch by decide)]
  rfl
theorem rhs_91_2 (i : S4x16x4x4x64x128.Idx) (q : dSt.contr.Idx) :
    (dSt.rhsIdx i q 2).val = (q ⟨0, by decide⟩).val :=
  dSt.rhsIdx_val_of_single rfl i q
theorem rhs_91_3 (i : S4x16x4x4x64x128.Idx) (q : dSt.contr.Idx) :
    (dSt.rhsIdx i q 3).val = (i 2).val := by
  unfold DotDims.rhsIdx
  rw [dif_pos (show (3 : Fin S4x16x128x4x128.rank) ∈ dSt.rhsBatch by decide)]
  rfl
theorem rhs_91_4 (i : S4x16x4x4x64x128.Idx) (q : dSt.contr.Idx) :
    (dSt.rhsIdx i q 4).val = (i 5).val := by
  unfold DotDims.rhsIdx
  rw [dif_neg (show ¬(4 : Fin S4x16x128x4x128.rank) ∈ dSt.rhsBatch by decide), dif_pos (show (4 : Fin S4x16x128x4x128.rank) ∈ dSt.rhsNonContracting by decide)]
  rfl
abbrev lidx_91 (i : S4x16x4x4x64x128.Idx) (k : Fin 128) : S4x16x128x4x4x64.Idx := fun a => match a with
  | ⟨0, _⟩ => ⟨(i 0).val, (i 0).isLt⟩
  | ⟨1, _⟩ => ⟨(i 1).val, (i 1).isLt⟩
  | ⟨2, _⟩ => ⟨k.val, k.isLt⟩
  | ⟨3, _⟩ => ⟨(i 2).val, (i 2).isLt⟩
  | ⟨4, _⟩ => ⟨(i 3).val, (i 3).isLt⟩
  | ⟨5, _⟩ => ⟨(i 4).val, (i 4).isLt⟩
abbrev ridx_91 (i : S4x16x4x4x64x128.Idx) (k : Fin 128) : S4x16x128x4x128.Idx := fun a => match a with
  | ⟨0, _⟩ => ⟨(i 0).val, (i 0).isLt⟩
  | ⟨1, _⟩ => ⟨(i 1).val, (i 1).isLt⟩
  | ⟨2, _⟩ => ⟨k.val, k.isLt⟩
  | ⟨3, _⟩ => ⟨(i 2).val, (i 2).isLt⟩
  | ⟨4, _⟩ => ⟨(i 5).val, (i 5).isLt⟩

theorem dot_91 (y0 : FVec Ideal S4x16x128x4x4x64 .f32) (y1 : FVec Ideal S4x16x128x4x128 .f32) (i : S4x16x4x4x64x128.Idx) :
    (Host.dotGeneral (φ₁ := .f32) (φ₂ := .f32) dSt none y0 y1 : FVec Ideal S4x16x4x4x64x128 .f32) i = ∑ k : Fin 128, y0 (lidx_91 i k) * y1 (ridx_91 i k) := by
  simp only [Host.dotGeneral]
  rw [Ideal.dotGeneral_apply, ← Equiv.sum_comp (ValueIdx.contrEquiv1 dSt 128 rfl rfl).symm]
  refine Finset.sum_congr rfl fun k _ => ?_
  have hk := ValueIdx.contrEquiv1_symm_val dSt 128 rfl rfl k
  have el : dSt.lhsIdx i ((ValueIdx.contrEquiv1 dSt 128 rfl rfl).symm k) = lidx_91 i k := funext fun a => Fin.ext (by
    match a with
    | ⟨0, _⟩ => exact lhs_91_0 _ _
    | ⟨1, _⟩ => exact lhs_91_1 _ _
    | ⟨2, _⟩ => exact (lhs_91_2 _ _).trans hk
    | ⟨3, _⟩ => exact lhs_91_3 _ _
    | ⟨4, _⟩ => exact lhs_91_4 _ _
    | ⟨5, _⟩ => exact lhs_91_5 _ _)
  have er : dSt.rhsIdx i ((ValueIdx.contrEquiv1 dSt 128 rfl rfl).symm k) = ridx_91 i k := funext fun a => Fin.ext (by
    match a with
    | ⟨0, _⟩ => exact rhs_91_0 _ _
    | ⟨1, _⟩ => exact rhs_91_1 _ _
    | ⟨2, _⟩ => exact (rhs_91_2 _ _).trans hk
    | ⟨3, _⟩ => exact rhs_91_3 _ _
    | ⟨4, _⟩ => exact rhs_91_4 _ _)
  rw [el, er]

theorem lhs_163_0 (i : S4x16x4x4x64x128.Idx) (q : dOu.contr.Idx) :
    (dOu.lhsIdx i q 0).val = (i 0).val := by
  unfold DotDims.lhsIdx
  rw [dif_pos (show (0 : Fin S4x16x4x4x64x128.rank) ∈ dOu.lhsBatch by decide)]
  rfl
theorem lhs_163_1 (i : S4x16x4x4x64x128.Idx) (q : dOu.contr.Idx) :
    (dOu.lhsIdx i q 1).val = (i 1).val := by
  unfold DotDims.lhsIdx
  rw [dif_pos (show (1 : Fin S4x16x4x4x64x128.rank) ∈ dOu.lhsBatch by decide)]
  rfl
theorem lhs_163_2 (i : S4x16x4x4x64x128.Idx) (q : dOu.contr.Idx) :
    (dOu.lhsIdx i q 2).val = (i 2).val := by
  unfold DotDims.lhsIdx
  rw [dif_pos (show (2 : Fin S4x16x4x4x64x128.rank) ∈ dOu.lhsBatch by decide)]
  rfl
theorem lhs_163_3 (i : S4x16x4x4x64x128.Idx) (q : dOu.contr.Idx) :
    (dOu.lhsIdx i q 3).val = (i 3).val := by
  unfold DotDims.lhsIdx
  rw [dif_neg (show ¬(3 : Fin S4x16x4x4x64x128.rank) ∈ dOu.lhsBatch by decide), dif_pos (show (3 : Fin S4x16x4x4x64x128.rank) ∈ dOu.lhsNonContracting by decide)]
  rfl
theorem lhs_163_4 (i : S4x16x4x4x64x128.Idx) (q : dOu.contr.Idx) :
    (dOu.lhsIdx i q 4).val = (i 4).val := by
  unfold DotDims.lhsIdx
  rw [dif_neg (show ¬(4 : Fin S4x16x4x4x64x128.rank) ∈ dOu.lhsBatch by decide), dif_pos (show (4 : Fin S4x16x4x4x64x128.rank) ∈ dOu.lhsNonContracting by decide)]
  rfl
theorem lhs_163_5 (i : S4x16x4x4x64x128.Idx) (q : dOu.contr.Idx) :
    (dOu.lhsIdx i q 5).val = (q ⟨0, by decide⟩).val :=
  dOu.lhsIdx_val_of_single rfl i q
theorem rhs_163_0 (i : S4x16x4x4x64x128.Idx) (q : dOu.contr.Idx) :
    (dOu.rhsIdx i q 0).val = (i 0).val := by
  unfold DotDims.rhsIdx
  rw [dif_pos (show (0 : Fin S4x16x128x4x128.rank) ∈ dOu.rhsBatch by decide)]
  rfl
theorem rhs_163_1 (i : S4x16x4x4x64x128.Idx) (q : dOu.contr.Idx) :
    (dOu.rhsIdx i q 1).val = (i 1).val := by
  unfold DotDims.rhsIdx
  rw [dif_pos (show (1 : Fin S4x16x128x4x128.rank) ∈ dOu.rhsBatch by decide)]
  rfl
theorem rhs_163_2 (i : S4x16x4x4x64x128.Idx) (q : dOu.contr.Idx) :
    (dOu.rhsIdx i q 2).val = (i 5).val := by
  unfold DotDims.rhsIdx
  rw [dif_neg (show ¬(2 : Fin S4x16x128x4x128.rank) ∈ dOu.rhsBatch by decide), dif_pos (show (2 : Fin S4x16x128x4x128.rank) ∈ dOu.rhsNonContracting by decide)]
  rfl
theorem rhs_163_3 (i : S4x16x4x4x64x128.Idx) (q : dOu.contr.Idx) :
    (dOu.rhsIdx i q 3).val = (i 2).val := by
  unfold DotDims.rhsIdx
  rw [dif_pos (show (3 : Fin S4x16x128x4x128.rank) ∈ dOu.rhsBatch by decide)]
  rfl
theorem rhs_163_4 (i : S4x16x4x4x64x128.Idx) (q : dOu.contr.Idx) :
    (dOu.rhsIdx i q 4).val = (q ⟨0, by decide⟩).val :=
  dOu.rhsIdx_val_of_single rfl i q
abbrev lidx_163 (i : S4x16x4x4x64x128.Idx) (k : Fin 128) : S4x16x4x4x64x128.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨(i 4).val, (i 4).isLt⟩
  | ⟨5, _⟩ => ⟨k.val, k.isLt⟩
abbrev ridx_163 (i : S4x16x4x4x64x128.Idx) (k : Fin 128) : S4x16x128x4x128.Idx := fun a => match a with
  | ⟨0, _⟩ => ⟨(i 0).val, (i 0).isLt⟩
  | ⟨1, _⟩ => ⟨(i 1).val, (i 1).isLt⟩
  | ⟨2, _⟩ => ⟨(i 5).val, (i 5).isLt⟩
  | ⟨3, _⟩ => ⟨(i 2).val, (i 2).isLt⟩
  | ⟨4, _⟩ => ⟨k.val, k.isLt⟩

theorem dot_163 (y0 : FVec Ideal S4x16x4x4x64x128 .f32) (y1 : FVec Ideal S4x16x128x4x128 .f32) (i : S4x16x4x4x64x128.Idx) :
    (Host.dotGeneral (φ₁ := .f32) (φ₂ := .f32) dOu none y0 y1 : FVec Ideal S4x16x4x4x64x128 .f32) i = ∑ k : Fin 128, y0 (lidx_163 i k) * y1 (ridx_163 i k) := by
  simp only [Host.dotGeneral]
  rw [Ideal.dotGeneral_apply, ← Equiv.sum_comp (ValueIdx.contrEquiv1 dOu 128 rfl rfl).symm]
  refine Finset.sum_congr rfl fun k _ => ?_
  have hk := ValueIdx.contrEquiv1_symm_val dOu 128 rfl rfl k
  have el : dOu.lhsIdx i ((ValueIdx.contrEquiv1 dOu 128 rfl rfl).symm k) = lidx_163 i k := funext fun a => Fin.ext (by
    match a with
    | ⟨0, _⟩ => exact lhs_163_0 _ _
    | ⟨1, _⟩ => exact lhs_163_1 _ _
    | ⟨2, _⟩ => exact lhs_163_2 _ _
    | ⟨3, _⟩ => exact lhs_163_3 _ _
    | ⟨4, _⟩ => exact lhs_163_4 _ _
    | ⟨5, _⟩ => exact (lhs_163_5 _ _).trans hk)
  have er : dOu.rhsIdx i ((ValueIdx.contrEquiv1 dOu 128 rfl rfl).symm k) = ridx_163 i k := funext fun a => Fin.ext (by
    match a with
    | ⟨0, _⟩ => exact rhs_163_0 _ _
    | ⟨1, _⟩ => exact rhs_163_1 _ _
    | ⟨2, _⟩ => exact rhs_163_2 _ _
    | ⟨3, _⟩ => exact rhs_163_3 _ _
    | ⟨4, _⟩ => exact (rhs_163_4 _ _).trans hk)
  rw [el, er]

end Cert.ReferenceIdeal.Ssd
-- ==== Proof.SsdRefOps.lean ====
/- Each stage of the reference, read at an index. -/
module

public import proofs.«01_k».proof.Proof.SsdRefDefs
public import proofs.«01_k».proof.Proof.SsdRefDots
public import Idealize.ShloMosaic.Lib.Pointwise
public import Idealize.ShloMosaic.Lib.Claim
public import Idealize.ShloMosaic.Lib.Pipeline.Value
public import Idealize.ShloMosaic.Lib.ValueIdx
public import Idealize.ShloMosaic.Lib.ValueIdxRank6
public import Idealize.ShloMosaic.PureOps.Ideal.Laws

@[expose] public section

set_option maxRecDepth 16384

noncomputable section

open Idealize.ShloMosaic Idealize.ShloMosaic.TcCoe Idealize.SL.Sem Idealize.ShloMosaic.StableHlo

namespace Cert.ReferenceIdeal.Ssd

open Cert.ReferenceIdeal Cert.ReferenceIdeal.Gen Cert.ReferenceIdeal.Value

theorem sitofp_zero : FloatOps.sitofp (F := Ideal) FTy.f32 (0#32) = 0 := by
  show (((0#32 : BitVec 32).toInt : ℝ) : EReal) = 0
  simp
theorem a8 (x : FVec Ideal S4x2048x2048 .bf16) (b : Fin 4) (l : Fin 2051) (c : Fin 2048) : q8 x (ix3 b l c) = if h : 3 ≤ l.1 then x (ix3 b ⟨l.1 - 3, by omega⟩ c) else 0 := by
  unfold q8
  pointwise
  split
  · rename_i h
    rw [dif_pos h.1]
  · rename_i h
    rw [dif_neg (fun h3 => h ⟨h3, by omega⟩)]
    exact sitofp_zero

theorem a38 (y : FVec Ideal S4x2051x2048 .f32) (a4 : FVec Ideal S1x4x2048 .f32) (a5 : FVec Ideal S1x2048 .f32) (b : Fin 4) (l c : Fin 2048) :
    q38 y a4 a5 (ix3 b l c) = y (ix3 b ⟨l.1, by omega⟩ c) * a4 (ix3 0 0 c) + y (ix3 b ⟨1 + l.1, by omega⟩ c) * a4 (ix3 0 1 c) + y (ix3 b ⟨2 + l.1, by omega⟩ c) * a4 (ix3 0 2 c)
      + y (ix3 b ⟨3 + l.1, by omega⟩ c) * a4 (ix3 0 3 c) + a5 (ix2 0 c) := by
  unfold q38
  pointwise

theorem a39 (y : FVec Ideal S4x2048x2048 .f32) (b : Fin 4) (l c : Fin 2048) : q39 y (ix3 b l c) = y (ix3 b l c) * Ideal.div 1 (1 + Ideal.exp (-(y (ix3 b l c)))) := by
  unfold q39
  pointwise
theorem a41 (y : FVec Ideal S4x2048x2048 .f32) (b : Fin 4) (l : Fin 2048) (h : Fin 16) (p : Fin 64) : q41 y (ix4 b l h p) = y (ix3 b l ⟨h.1 * 64 + p.1, by omega⟩) := by
  unfold q41
  pointwise

theorem a49 (x : FVec Ideal S4x2048x16 .f32) (b6 : FVec Ideal S1x16 .f32) (b : Fin 4) (l : Fin 2048) (h : Fin 16) :
    q49 x b6 (ix3 b l h) = max (x (ix3 b l h) + b6 (ix2 0 h)) 0 + Ideal.log1p (Ideal.exp (-FloatOps.absf (F := Ideal) (φ := .f32) (x (ix3 b l h) + b6 (ix2 0 h)))) := by
  unfold q49
  pointwise
  rw [if_neg (fun h => h rfl)]

theorem a55 (v : FVec Ideal S4x2048x16x64 .f32) (d : FVec Ideal S4x2048x16 .f32) (b : Fin 4) (k : Fin 16) (l : Fin 128) (g r : Fin 4) (p : Fin 64) :
    q55 v d (ix6 b k l g r p) = v (ix4 b ⟨k.1 * 128 + l.1, by omega⟩ ⟨g.1 * 4 + r.1, by omega⟩ p) * d (ix3 b ⟨k.1 * 128 + l.1, by omega⟩ ⟨g.1 * 4 + r.1, by omega⟩) := by
  unfold q55
  refine (shapeCast_apply _ _ _ (ix4 b ⟨k.1 * 128 + l.1, by omega⟩ ⟨g.1 * 4 + r.1, by omega⟩ p) ?_).trans ?_
  · rw [Shape.rowMajor_val_four, Shape.rowMajor_val_six]
    show ((b.1 * 2048 + (k.1 * 128 + l.1)) * 16 + (g.1 * 4 + r.1)) * 64 + p.1 = ((((b.1 * 16 + k.1) * 128 + l.1) * 4 + g.1) * 4 + r.1) * 64 + p.1
    omega
  · pointwise

theorem foldl_sum (n : ℕ) (f : Fin n → EReal) : ((List.finRange n).foldl (fun r i => r + f i) (0 : EReal)) = ∑ i, f i := by
  rw [Fin.sum_univ_def]
  generalize List.finRange n = L
  rw [List.sum_eq_foldl, List.foldl_map]
/-- The running sum along the last axis. -/
theorem cum (x : FVec Ideal S4x16x4x4x128 .f32) (z : EReal) (hz : z = 0) (h : S4x16x4x4x128.ReduceWindows ![1, 1, 1, 1, 128] ![1, 1, 1, 1, 1] ![0, 0, 0, 0, 127] ![0, 0, 0, 0, 0] S4x16x4x4x128)
    (b : Fin 4) (k : Fin 16) (g r : Fin 4) (l : Fin 128) :
    Ideal.hostReduceWindowAdd ![1, 1, 1, 1, 128] ![1, 1, 1, 1, 1] ![0, 0, 0, 0, 127] ![0, 0, 0, 0, 0] h x z (ix5 b k g r l) = ∑ j : Fin 128, if j.1 ≤ l.1 then x (ix5 b k g r j) else 0 := by
  subst hz
  unfold Ideal.hostReduceWindowAdd Host.reduceWindow
  dsimp only
  rw [foldl_sum]
  let f : (⟨5, ![1, 1, 1, 1, 128]⟩ : Shape).Idx → EReal := fun w => if h : 127 ≤ l.1 + (w 4).1 then x (ix5 b k g r ⟨l.1 + (w 4).1 - 127, by have : (w 4).1 < 128 := (w 4).2; omega⟩) else 0
  have hf : ∀ w, f w = if h : 127 ≤ l.1 + (w 4).1 then x (ix5 b k g r ⟨l.1 + (w 4).1 - 127, by have : (w 4).1 < 128 := (w 4).2; omega⟩) else 0 := fun w => rfl
  refine (Finset.sum_congr rfl fun n _ => (?_ : _ = f ((⟨5, ![1, 1, 1, 1, 128]⟩ : Shape).rowMajor.symm n))).trans ((Equiv.sum_comp (⟨5, ![1, 1, 1, 1, 128]⟩ : Shape).rowMajor.symm f).trans ?_)
  · have w0 : ((⟨5, ![1, 1, 1, 1, 128]⟩ : Shape).rowMajor.symm n 0).1 < 1 := ((⟨5, ![1, 1, 1, 1, 128]⟩ : Shape).rowMajor.symm n 0).2
    have w1 : ((⟨5, ![1, 1, 1, 1, 128]⟩ : Shape).rowMajor.symm n 1).1 < 1 := ((⟨5, ![1, 1, 1, 1, 128]⟩ : Shape).rowMajor.symm n 1).2
    have w2 : ((⟨5, ![1, 1, 1, 1, 128]⟩ : Shape).rowMajor.symm n 2).1 < 1 := ((⟨5, ![1, 1, 1, 1, 128]⟩ : Shape).rowMajor.symm n 2).2
    have w3 : ((⟨5, ![1, 1, 1, 1, 128]⟩ : Shape).rowMajor.symm n 3).1 < 1 := ((⟨5, ![1, 1, 1, 1, 128]⟩ : Shape).rowMajor.symm n 3).2
    have w4 : ((⟨5, ![1, 1, 1, 1, 128]⟩ : Shape).rowMajor.symm n 4).1 < 128 := ((⟨5, ![1, 1, 1, 1, 128]⟩ : Shape).rowMajor.symm n 4).2
    rw [hf]
    split
    · rename_i hin
      have h4 : 127 ≤ l.1 * 1 + ((⟨5, ![1, 1, 1, 1, 128]⟩ : Shape).rowMajor.symm n 4).1 := (hin 4).1
      rw [dif_pos (by omega)]
      congr 1
      funext a
      apply Fin.ext
      match a with
      | ⟨0, _⟩ => show b.1 * 1 + ((⟨5, ![1, 1, 1, 1, 128]⟩ : Shape).rowMajor.symm n 0).1 - 0 = b.1; omega
      | ⟨1, _⟩ => show k.1 * 1 + ((⟨5, ![1, 1, 1, 1, 128]⟩ : Shape).rowMajor.symm n 1).1 - 0 = k.1; omega
      | ⟨2, _⟩ => show g.1 * 1 + ((⟨5, ![1, 1, 1, 1, 128]⟩ : Shape).rowMajor.symm n 2).1 - 0 = g.1; omega
      | ⟨3, _⟩ => show r.1 * 1 + ((⟨5, ![1, 1, 1, 1, 128]⟩ : Shape).rowMajor.symm n 3).1 - 0 = r.1; omega
      | ⟨4, _⟩ => show l.1 * 1 + ((⟨5, ![1, 1, 1, 1, 128]⟩ : Shape).rowMajor.symm n 4).1 - 127 = l.1 + ((⟨5, ![1, 1, 1, 1, 128]⟩ : Shape).rowMajor.symm n 4).1 - 127; omega
    · rename_i hin
      rw [dif_neg]
      intro h
      apply hin
      intro a
      match a with
      | ⟨0, _⟩ => exact ⟨Nat.zero_le _, by show b.1 * 1 + ((⟨5, ![1, 1, 1, 1, 128]⟩ : Shape).rowMajor.symm n 0).1 - 0 < 4; omega⟩
      | ⟨1, _⟩ => exact ⟨Nat.zero_le _, by show k.1 * 1 + ((⟨5, ![1, 1, 1, 1, 128]⟩ : Shape).rowMajor.symm n 1).1 - 0 < 16; omega⟩
      | ⟨2, _⟩ => exact ⟨Nat.zero_le _, by show g.1 * 1 + ((⟨5, ![1, 1, 1, 1, 128]⟩ : Shape).rowMajor.symm n 2).1 - 0 < 4; omega⟩
      | ⟨3, _⟩ => exact ⟨Nat.zero_le _, by show r.1 * 1 + ((⟨5, ![1, 1, 1, 1, 128]⟩ : Shape).rowMajor.symm n 3).1 - 0 < 4; omega⟩
      | ⟨4, _⟩ => exact ⟨by show 127 ≤ l.1 * 1 + ((⟨5, ![1, 1, 1, 1, 128]⟩ : Shape).rowMajor.symm n 4).1; omega, by show l.1 * 1 + ((⟨5, ![1, 1, 1, 1, 128]⟩ : Shape).rowMajor.symm n 4).1 - 127 < 128; omega⟩
  let e : (⟨5, ![1, 1, 1, 1, 128]⟩ : Shape).Idx ≃ Fin 128 := ⟨fun w => w 4, fun j => ix5 0 0 0 0 j, fun w => by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => exact Subsingleton.elim (α := Fin 1) _ _
    | ⟨4, _⟩ => rfl, fun j => rfl⟩
  rw [← Equiv.sum_comp e.symm]
  have key : ∀ w : Fin 128, f (e.symm w) = if h : 127 ≤ l.1 + w.1 then x (ix5 b k g r ⟨l.1 + w.1 - 127, by omega⟩) else 0 := fun w => rfl
  rw [Finset.sum_congr rfl fun w _ => key w]
  rw [← Finset.sum_filter_add_sum_filter_not Finset.univ (fun w : Fin 128 => 127 ≤ l.1 + w.1), ← Finset.sum_filter_add_sum_filter_not Finset.univ (fun j : Fin 128 => j.1 ≤ l.1) (fun j => if j.1 ≤ l.1 then x (ix5 b k g r j) else 0)]
  rw [Finset.sum_eq_zero (s := Finset.univ.filter fun w : Fin 128 => ¬127 ≤ l.1 + w.1) (fun w hw => dif_neg (Finset.mem_filter.mp hw).2),
    Finset.sum_eq_zero (s := Finset.univ.filter fun j : Fin 128 => ¬j.1 ≤ l.1) (fun j hj => if_neg (Finset.mem_filter.mp hj).2)]
  congr 1
  refine Finset.sum_bij (fun w hw => ⟨l.1 + w.1 - 127, by omega⟩) ?_ ?_ ?_ ?_
  · intro w hw
    exact Finset.mem_filter.mpr ⟨Finset.mem_univ _, by dsimp only; omega⟩
  · intro w hw w' hw' he
    have h1 := (Finset.mem_filter.mp hw).2
    have h2 := (Finset.mem_filter.mp hw').2
    have h3 : l.1 + w.1 - 127 = l.1 + w'.1 - 127 := congrArg Fin.val he
    exact Fin.ext (by omega)
  · intro j hj
    have h1 := (Finset.mem_filter.mp hj).2
    exact ⟨⟨j.1 + 127 - l.1, by omega⟩, Finset.mem_filter.mpr ⟨Finset.mem_univ _, by dsimp only; omega⟩, Fin.ext (by dsimp only; omega)⟩
  · intro w hw
    have h1 := (Finset.mem_filter.mp hw).2
    rw [dif_pos h1, if_pos (by dsimp only; omega)]
/-- The log decays of a chunk, before summing. -/
def qa (v49 : FVec Ideal S4x2048x16 .f32) (a7 : FVec Ideal S1x16 .f32) : FVec Ideal S4x16x4x4x128 .f32 :=
  transpose S4x16x4x4x128 [0, 1, 3, 4, 2] (shapeCast _ (mulf v49 (broadcastInDim S4x2048x16 ![0, 1, 2] bcast_S1x1x16_S4x2048x16_0_1_2 (broadcastInDim S1x1x16 ![2] bcast_S16_S1x1x16_2 (Host.negf (Host.exp (shapeCast _ a7 shapeCasts_S1x16_S16)))))) shapeCasts_S4x2048x16_S4x16x128x4x4) transposes_S4x16x128x4x4_S4x16x4x4x128_0_1_3_4_2
theorem aa (d : FVec Ideal S4x2048x16 .f32) (a7 : FVec Ideal S1x16 .f32) (b : Fin 4) (k : Fin 16) (g r : Fin 4) (l : Fin 128) :
    qa d a7 (ix5 b k g r l) = d (ix3 b ⟨k.1 * 128 + l.1, by omega⟩ ⟨g.1 * 4 + r.1, by omega⟩) * -Ideal.exp (a7 (ix2 0 ⟨g.1 * 4 + r.1, by omega⟩)) := by
  unfold qa
  pointwise
theorem a61 (d : FVec Ideal S4x2048x16 .f32) (a7 : FVec Ideal S1x16 .f32) (b : Fin 4) (k : Fin 16) (g r : Fin 4) (l : Fin 128) :
    q61 d a7 (ix5 b k g r l) = ∑ j : Fin 128, if j.1 ≤ l.1 then d (ix3 b ⟨k.1 * 128 + j.1, by omega⟩ ⟨g.1 * 4 + r.1, by omega⟩) * -Ideal.exp (a7 (ix2 0 ⟨g.1 * 4 + r.1, by omega⟩)) else 0 := by
  refine (cum (qa d a7) _ Ideal.ofBits_zero_f32 (by decide) b k g r l).trans ?_
  exact Finset.sum_congr rfl fun j _ => by rw [aa]

theorem a62 (y : FVec Ideal S4x2048x2048 .f32) (b : Fin 4) (k : Fin 16) (l : Fin 128) (g : Fin 4) (n : Fin 128) : q62 y (ix5 b k l g n) = y (ix3 b ⟨k.1 * 128 + l.1, by omega⟩ ⟨1024 + (g.1 * 128 + n.1), by omega⟩) := by
  unfold q62
  pointwise
theorem a63 (y : FVec Ideal S4x2048x2048 .f32) (b : Fin 4) (k : Fin 16) (l : Fin 128) (g : Fin 4) (n : Fin 128) : q63 y (ix5 b k l g n) = y (ix3 b ⟨k.1 * 128 + l.1, by omega⟩ ⟨1536 + (g.1 * 128 + n.1), by omega⟩) := by
  unfold q63
  pointwise

theorem a90 (cs : FVec Ideal S4x16x4x4x128 .f32) (xd : FVec Ideal S4x16x128x4x4x64 .f32) (b : Fin 4) (k : Fin 16) (l : Fin 128) (g r : Fin 4) (p : Fin 64) :
    q90 cs xd (ix6 b k l g r p) = Ideal.exp (cs (ix5 b k g r 127) - cs (ix5 b k g r l)) * xd (ix6 b k l g r p) := by
  unfold q90
  pointwise
theorem a96 (cs : FVec Ideal S4x16x4x4x128 .f32) (b : Fin 4) (k : Fin 16) (g r : Fin 4) (p : Fin 64) (n : Fin 128) :
    q96 cs (ix6 b k g r p n) = Ideal.exp (cs (ix5 b k g r 127)) := by
  unfold q96
  pointwise

theorem ast (o : ℕ) (ho : o < 16) (h : S4x16x4x4x64x128.Slices ![0, o, 0, 0, 0, 0] S4x1x4x4x64x128) (v96 v91 : FVec Ideal S4x16x4x4x64x128 .f32) (q : FVec Ideal S4x1x4x4x64x128 .f32) (b g r : Fin 4) (p : Fin 64) (n : Fin 128) :
    qst o h v96 v91 q (ix6 b 0 g r p n) = v96 (ix6 b ⟨o, ho⟩ g r p n) * q (ix6 b 0 g r p n) + v91 (ix6 b ⟨o, ho⟩ g r p n) := by
  unfold qst
  pointwise

theorem ge_bit : ∀ l s : Fin 128, IntOp.cmpi CmpIPredicate.sge (BitVec.ofNat 32 l.1) (BitVec.ofNat 32 s.1) = if s.1 ≤ l.1 then 1#1 else 0#1 := by decide +kernel
theorem ninf : Ideal.ofBits .f32 4286578688#32 = ⊥ := by
  simp [Ideal.ofBits, Ideal.ieee]
theorem a76 (cs : FVec Ideal S4x16x4x4x128 .f32) (b : Fin 4) (k : Fin 16) (g r : Fin 4) (l s : Fin 128) :
    q76 cs (ix6 b k g r l s) = Ideal.exp (if s.1 ≤ l.1 then cs (ix5 b k g r l) - cs (ix5 b k g r s) else ⊥) := by
  unfold q76
  pointwise
  rw [ge_bit]
  show Ideal.exp (Scalar.select _ _ (Ideal.ofBits .f32 4286578688#32)) = _
  rw [ninf]
  split <;> rfl
theorem a80 (cb : FVec Ideal S4x16x4x128x128 .f32) (L : FVec Ideal S4x16x4x4x128x128 .f32) (b : Fin 4) (k : Fin 16) (g r : Fin 4) (l s : Fin 128) :
    q80 cb L (ix6 b k g r l s) = cb (ix5 b k g l s) * L (ix6 b k g r l s) := by
  unfold q80
  pointwise

theorem a162 (v97 v101 v105 v109 v113 v117 v121 v125 v129 v133 v137 v141 v145 v149 v153 v157 : FVec Ideal S4x1x4x4x64x128 .f32) (b : Fin 4) (g r : Fin 4) (p : Fin 64) (n : Fin 128) (f : ℕ → EReal)
    (h0 : v97 (ix6 b 0 g r p n) = f 0) (h1 : v101 (ix6 b 0 g r p n) = f 1) (h2 : v105 (ix6 b 0 g r p n) = f 2) (h3 : v109 (ix6 b 0 g r p n) = f 3) (h4 : v113 (ix6 b 0 g r p n) = f 4) (h5 : v117 (ix6 b 0 g r p n) = f 5) (h6 : v121 (ix6 b 0 g r p n) = f 6) (h7 : v125 (ix6 b 0 g r p n) = f 7) (h8 : v129 (ix6 b 0 g r p n) = f 8) (h9 : v133 (ix6 b 0 g r p n) = f 9) (h10 : v137 (ix6 b 0 g r p n) = f 10) (h11 : v141 (ix6 b 0 g r p n) = f 11) (h12 : v145 (ix6 b 0 g r p n) = f 12) (h13 : v149 (ix6 b 0 g r p n) = f 13) (h14 : v153 (ix6 b 0 g r p n) = f 14) (h15 : v157 (ix6 b 0 g r p n) = f 15) (k : Fin 16) :
    q162 v97 v101 v105 v109 v113 v117 v121 v125 v129 v133 v137 v141 v145 v149 v153 v157 (ix6 b k g r p n) = f k := by
  unfold q162
  match k with
  | ⟨0, _⟩ => pointwise; exact h0
  | ⟨1, _⟩ => pointwise; exact h1
  | ⟨2, _⟩ => pointwise; exact h2
  | ⟨3, _⟩ => pointwise; exact h3
  | ⟨4, _⟩ => pointwise; exact h4
  | ⟨5, _⟩ => pointwise; exact h5
  | ⟨6, _⟩ => pointwise; exact h6
  | ⟨7, _⟩ => pointwise; exact h7
  | ⟨8, _⟩ => pointwise; exact h8
  | ⟨9, _⟩ => pointwise; exact h9
  | ⟨10, _⟩ => pointwise; exact h10
  | ⟨11, _⟩ => pointwise; exact h11
  | ⟨12, _⟩ => pointwise; exact h12
  | ⟨13, _⟩ => pointwise; exact h13
  | ⟨14, _⟩ => pointwise; exact h14
  | ⟨15, _⟩ => pointwise; exact h15
  | ⟨q + 16, hq⟩ => exact absurd hq (by omega)

theorem a170 (d e : FVec Ideal S4x16x4x4x64x128 .f32) (cs : FVec Ideal S4x16x4x4x128 .f32) (b : Fin 4) (k : Fin 16) (l : Fin 128) (g r : Fin 4) (p : Fin 64) :
    q170 d e cs (ix6 b k l g r p) = d (ix6 b k g r p l) + e (ix6 b k g r p l) * Ideal.exp (cs (ix5 b k g r l)) := by
  unfold q170
  pointwise

theorem a176 (y : FVec Ideal S4x16x128x4x4x64 .f32) (x : FVec Ideal S4x2048x16x64 .f32) (a8 : FVec Ideal S1x16 .f32) (b : Fin 4) (k : Fin 16) (l : Fin 128) (g r : Fin 4) (p : Fin 64) :
    q176 y x a8 (ix4 b ⟨k.1 * 128 + l.1, by omega⟩ ⟨g.1 * 4 + r.1, by omega⟩ p) = y (ix6 b k l g r p) + x (ix4 b ⟨k.1 * 128 + l.1, by omega⟩ ⟨g.1 * 4 + r.1, by omega⟩ p) * a8 (ix2 0 ⟨g.1 * 4 + r.1, by omega⟩) := by
  unfold q176
  refine congrArg₂ (fun a b : EReal => a + b) (shapeCast_apply _ _ _ (ix6 b k l g r p) ?_) ?_
  · rw [Shape.rowMajor_val_four, Shape.rowMajor_val_six]
    show ((((b.1 * 16 + k.1) * 128 + l.1) * 4 + g.1) * 4 + r.1) * 64 + p.1 = ((b.1 * 2048 + (k.1 * 128 + l.1)) * 16 + (g.1 * 4 + r.1)) * 64 + p.1
    omega
  · pointwise

theorem a180 (y : FVec Ideal S4x2048x16x64 .f32) (z : FVec Ideal S4x2048x1024 .bf16) (b : Fin 4) (l : Fin 2048) (g : Fin 4) (x : Fin 256) :
    q180 y z (ix4 b l g x) = y (ix4 b l ⟨(g.1 * 256 + x.1) / 64, by omega⟩ ⟨(g.1 * 256 + x.1) % 64, by omega⟩) * (z (ix3 b l ⟨g.1 * 256 + x.1, by omega⟩) * Ideal.div 1 (1 + Ideal.exp (-z (ix3 b l ⟨g.1 * 256 + x.1, by omega⟩)))) := by
  unfold q180
  pointwise

theorem a200 (a0 : FVec Ideal S4x2048x2048 .f32) (y : FVec Ideal S4x2048x4x256 .f32) (a9 : FVec Ideal S1x1024 .f32) (a10 : FVec Ideal S4x2048x1024 .bf16) (a11 : FVec Ideal S1x2048x2048 .bf16) (b : Fin 4) (l q : Fin 2048) :
    q200 a0 y a9 a10 a11 (ix3 b l q) = a0 (ix3 b l q) + (∑ x : Fin 1024,
      y (ix4 b l ⟨x.1 / 256, by omega⟩ ⟨x.1 % 256, by omega⟩) * Ideal.rsqrt (Ideal.div (∑ u : Fin 256, y (ix4 b l ⟨x.1 / 256, by omega⟩ u) * y (ix4 b l ⟨x.1 / 256, by omega⟩ u)) (Ideal.ofBits .f32 1132462080#32) + Ideal.ofBits .f32 925353388#32) * a9 (ix2 0 x) * a11 (ix3 0 ⟨x.1, by omega⟩ q)
      + ∑ x : Fin 1024, a10 (ix3 b l x) * a11 (ix3 0 ⟨1024 + x.1, by omega⟩ q)) := by
  unfold q200
  pointwise [dot_S4x2048x2048_S2048x2048_S4x2048x2048_2_0_01_1_n_n]

end Cert.ReferenceIdeal.Ssd
-- ==== Proof.SsdRefEqs.lean ====
/- Each named stage of the reference run is its function. -/
module

public import proofs.«01_k».proof.Proof.SsdRefDefs
public import Idealize.ShloMosaic.Lib.Pointwise
public import Idealize.ShloMosaic.Lib.Claim
public import Idealize.ShloMosaic.Lib.Pipeline.Value
public import Idealize.ShloMosaic.Lib.ValueIdx
public import Idealize.ShloMosaic.Lib.ValueIdxRank6
public import Idealize.ShloMosaic.PureOps.Ideal.Laws

@[expose] public section

set_option maxRecDepth 16384

noncomputable section

open Idealize.ShloMosaic Idealize.ShloMosaic.TcCoe Idealize.SL.Sem Idealize.ShloMosaic.StableHlo

namespace Cert.ReferenceIdeal.Ssd

open Cert.ReferenceIdeal Cert.ReferenceIdeal.Gen Cert.ReferenceIdeal.Value

section
variable (V0 : Valuation τ sig (Elt Ideal))

theorem e8 : res_main_v8 V0 = q8 (V0 (Proc.devRef .tc main_arg2)) := rfl
theorem e38 : res_main_v38 V0 = q38 (res_main_v8 V0) (V0 (Proc.devRef .tc main_arg4)) (V0 (Proc.devRef .tc main_arg5)) := rfl
theorem e39 : res_main_v39 V0 = q39 (res_main_v38 V0) := rfl
theorem e41 : res_main_v41 V0 = q41 (res_main_v39 V0) := rfl
theorem e49 : res_main_v49 V0 = q49 (V0 (Proc.devRef .tc main_arg3)) (V0 (Proc.devRef .tc main_arg6)) := rfl
theorem e55 : res_main_v55 V0 = q55 (res_main_v41 V0) (res_main_v49 V0) := rfl
theorem e61 : res_main_v61 V0 = q61 (res_main_v49 V0) (V0 (Proc.devRef .tc main_arg7)) := rfl
theorem e62 : res_main_v62 V0 = q62 (res_main_v39 V0) := rfl
theorem e63 : res_main_v63 V0 = q63 (res_main_v39 V0) := rfl
theorem e96 : res_main_v96 V0 = q96 (res_main_v61 V0) := rfl
theorem e180 : res_main_v180 V0 = q180 (res_main_v176 V0) (V0 (Proc.devRef .tc main_arg1)) := rfl
theorem e200 : res_main_v200 V0 = q200 (V0 (Proc.devRef .tc main_arg0)) (res_main_v180 V0) (V0 (Proc.devRef .tc main_arg9)) (V0 (Proc.devRef .tc main_arg10)) (V0 (Proc.devRef .tc main_arg11)) := rfl
theorem e91 : res_main_v91 V0 = (Host.dotGeneral (φ₁ := .f32) (φ₂ := .f32) dot_S4x16x128x4x4x64_S4x16x128x4x128_S4x16x4x4x64x128_2_2_45_4_013_013 none (q90 (res_main_v61 V0) (res_main_v55 V0)) (res_main_v62 V0 : FVec Ideal S4x16x128x4x128 .f32) : FVec Ideal S4x16x4x4x64x128 .f32) := rfl
theorem est0 : res_main_v101 V0 = qst 0 (by decide) (res_main_v96 V0) (res_main_v91 V0) (res_main_v97 V0) := rfl
theorem est1 : res_main_v105 V0 = qst 1 (by decide) (res_main_v96 V0) (res_main_v91 V0) (res_main_v101 V0) := rfl
theorem est2 : res_main_v109 V0 = qst 2 (by decide) (res_main_v96 V0) (res_main_v91 V0) (res_main_v105 V0) := rfl
theorem est3 : res_main_v113 V0 = qst 3 (by decide) (res_main_v96 V0) (res_main_v91 V0) (res_main_v109 V0) := rfl
theorem est4 : res_main_v117 V0 = qst 4 (by decide) (res_main_v96 V0) (res_main_v91 V0) (res_main_v113 V0) := rfl
theorem est5 : res_main_v121 V0 = qst 5 (by decide) (res_main_v96 V0) (res_main_v91 V0) (res_main_v117 V0) := rfl
theorem est6 : res_main_v125 V0 = qst 6 (by decide) (res_main_v96 V0) (res_main_v91 V0) (res_main_v121 V0) := rfl
theorem est7 : res_main_v129 V0 = qst 7 (by decide) (res_main_v96 V0) (res_main_v91 V0) (res_main_v125 V0) := rfl
theorem est8 : res_main_v133 V0 = qst 8 (by decide) (res_main_v96 V0) (res_main_v91 V0) (res_main_v129 V0) := rfl
theorem est9 : res_main_v137 V0 = qst 9 (by decide) (res_main_v96 V0) (res_main_v91 V0) (res_main_v133 V0) := rfl
theorem est10 : res_main_v141 V0 = qst 10 (by decide) (res_main_v96 V0) (res_main_v91 V0) (res_main_v137 V0) := rfl
theorem est11 : res_main_v145 V0 = qst 11 (by decide) (res_main_v96 V0) (res_main_v91 V0) (res_main_v141 V0) := rfl
theorem est12 : res_main_v149 V0 = qst 12 (by decide) (res_main_v96 V0) (res_main_v91 V0) (res_main_v145 V0) := rfl
theorem est13 : res_main_v153 V0 = qst 13 (by decide) (res_main_v96 V0) (res_main_v91 V0) (res_main_v149 V0) := rfl
theorem est14 : res_main_v157 V0 = qst 14 (by decide) (res_main_v96 V0) (res_main_v91 V0) (res_main_v153 V0) := rfl
theorem e176 : res_main_v176 V0 = q176 (q170 (Host.dotGeneral (φ₁ := .f32) (φ₂ := .f32) dot_S4x16x128x4x4x64_S4x16x4x4x128x128_S4x16x4x4x64x128_2_5_5_4_0134_0123 none (res_main_v55 V0 : FVec Ideal S4x16x128x4x4x64 .f32) (q80 (Host.dotGeneral (φ₁ := .f32) (φ₂ := .f32) dot_S4x16x128x4x128_S4x16x128x4x128_S4x16x4x128x128_4_4_2_2_013_013 none (res_main_v63 V0 : FVec Ideal S4x16x128x4x128 .f32) (res_main_v62 V0 : FVec Ideal S4x16x128x4x128 .f32) : FVec Ideal S4x16x4x128x128 .f32) (q76 (res_main_v61 V0))) : FVec Ideal S4x16x4x4x64x128 .f32) (Host.dotGeneral (φ₁ := .f32) (φ₂ := .f32) dot_S4x16x4x4x64x128_S4x16x128x4x128_S4x16x4x4x64x128_5_4_34_2_012_013 none (q162 (res_main_v97 V0) (res_main_v101 V0) (res_main_v105 V0) (res_main_v109 V0) (res_main_v113 V0) (res_main_v117 V0) (res_main_v121 V0) (res_main_v125 V0) (res_main_v129 V0) (res_main_v133 V0) (res_main_v137 V0) (res_main_v141 V0) (res_main_v145 V0) (res_main_v149 V0) (res_main_v153 V0) (res_main_v157 V0)) (res_main_v63 V0 : FVec Ideal S4x16x128x4x128 .f32) : FVec Ideal S4x16x4x4x64x128 .f32) (res_main_v61 V0)) (res_main_v41 V0) (V0 (Proc.devRef .tc main_arg8)) := rfl
end

end Cert.ReferenceIdeal.Ssd
-- ==== Proof.SsdRefVal.lean ====
/- The reference's stages as the specification of `SsdSpec`, where the arguments hold real numbers. -/
module

public import proofs.«01_k».proof.Proof.SsdRefOps
public import proofs.«01_k».proof.Proof.SsdRefEqs
public import proofs.«01_k».proof.Proof.SsdSpec

@[expose] public section

set_option maxRecDepth 16384

noncomputable section

open Idealize.ShloMosaic Idealize.ShloMosaic.TcCoe Idealize.SL.Sem Idealize.ShloMosaic.StableHlo

namespace Cert.ReferenceIdeal.Ssd

open Cert.ReferenceIdeal Cert.ReferenceIdeal.Gen Cert.ReferenceIdeal.Value
open Cert.KernelIdeal.Ssd (pdR cvB stB ysB ArgReal sh cvR stR yR gaR ysR xcR xdR csR aR sp silu coe_sum ere_max)

theorem silu_ref (x : ℝ) : (x : EReal) * Ideal.div 1 (1 + Ideal.exp (-(x : EReal))) = (silu x : EReal) := by
  have h1 : (1 : EReal) = ((1 : ℝ) : EReal) := rfl
  have hp : 1 + Real.exp (-x) ≠ 0 := by positivity
  rw [← EReal.coe_neg, Ideal.exp_coe, h1, ← EReal.coe_add, Ideal.div_coe hp]
  unfold silu
  rw [one_div, EReal.coe_mul, EReal.coe_one, one_mul]

theorem sp_ref (x y : ℝ) : max ((x : EReal) + (y : EReal)) 0 + Ideal.log1p (Ideal.exp (-FloatOps.absf (F := Ideal) (φ := .f32) ((x : EReal) + (y : EReal)))) = (sp (x + y) : EReal) := by
  rw [← EReal.coe_add]
  have habs : FloatOps.absf (F := Ideal) (φ := .f32) ((x + y : ℝ) : EReal) = ((|x + y| : ℝ) : EReal) := by
    show max ((x + y : ℝ) : EReal) (-((x + y : ℝ) : EReal)) = _
    rw [← EReal.coe_neg, ere_max]; rfl
  have h1 : (1 : EReal) = ((1 : ℝ) : EReal) := rfl
  have hp : 0 < 1 + Real.exp (-|x + y|) := by positivity
  rw [habs, ← EReal.coe_neg, Ideal.exp_coe]
  show _ + Ideal.log (1 + _) = _
  rw [h1, ← EReal.coe_add, Ideal.log_coe, if_neg (not_le.mpr hp), ← EReal.coe_zero, ere_max, ← EReal.coe_add]
  rfl

section
variable {a1 : FVec Ideal S4x2048x1024 .bf16} {a2 : FVec Ideal S4x2048x2048 .bf16} {a3 : FVec Ideal S4x2048x16 .f32} {a4 : FVec Ideal S1x4x2048 .f32} {a5 : FVec Ideal S1x2048 .f32}
  {a6 a7 a8 : FVec Ideal S1x16 .f32} {a9 : FVec Ideal S1x1024 .f32} {X Z D : ℕ → ℕ → ℕ → ℝ} {W : ℕ → ℕ → ℝ} {Cb B A : ℕ → ℝ} {K N : ℕ → EReal}
  (H : ArgReal a1 a2 a3 a4 a5 a6 a7 a8 a9 X Z D W Cb B A K N)
include H

theorem x8 (b : Fin 4) (l : Fin 2051) (c : Fin 2048) : q8 a2 (ix3 b l c) = (pdR (X b) l c : EReal) := by
  rw [Cert.ReferenceIdeal.Ssd.a8]; unfold pdR
  by_cases h : 3 ≤ l.1
  · rw [dif_pos h, if_neg (by omega)]; exact H.raw b ⟨l.1 - 3, by omega⟩ c
  · rw [dif_neg h, if_pos (by omega)]; rfl

theorem x39 (b : Fin 4) (l c : Fin 2048) : q39 (q38 (q8 a2) a4 a5) (ix3 b l c) = (xcR (cvB (X b) W Cb) l c : EReal) := by
  have h : q38 (q8 a2) a4 a5 (ix3 b l c) = (cvB (X b) W Cb l c : EReal) := by
    rw [a38, x8 H, x8 H, x8 H, x8 H, H.w 0, H.w 1, H.w 2, H.w 3, H.cb]
    simp only [← EReal.coe_mul, ← EReal.coe_add]
    congr 1
    unfold cvB cvR
    show pdR (X b) l c * W 0 c + pdR (X b) (1 + l) c * W 1 c + pdR (X b) (2 + l) c * W 2 c + pdR (X b) (3 + l) c * W 3 c + Cb c = _
    rw [Nat.add_comm 1, Nat.add_comm 2, Nat.add_comm 3]; ring
  rw [a39, h, silu_ref]; rfl

theorem x49 (b : Fin 4) (l : Fin 2048) (h : Fin 16) : q49 a3 a6 (ix3 b l h) = (sp (D b l h + B h) : EReal) := by
  rw [a49, H.d, H.b, sp_ref]

theorem x61 (y : FVec Ideal S4x2048x16 .f32) (hy : ∀ (b : Fin 4) (l : Fin 2048) (h : Fin 16), y (ix3 b l h) = (sp (D b l h + B h) : EReal)) (b : Fin 4) (k : Fin 16) (g r : Fin 4) (l : Fin 128) :
    q61 y a7 (ix5 b k g r l) = (csR (sh (k.1 * 128) (D b)) B A l (g.1 * 4 + r.1) : EReal) := by
  rw [a61]; unfold csR; rw [coe_sum]
  refine Finset.sum_congr rfl fun j _ => ?_
  split
  · rw [hy, H.a, Ideal.exp_coe, ← EReal.coe_neg, ← EReal.coe_mul]; congr 1; unfold aR sh; ring
  · rfl
end

section
variable (V D : ℕ → ℕ → ℕ → ℝ) (B A : ℕ → ℝ)

theorem x55 (v : FVec Ideal S4x2048x16x64 .f32) (d : FVec Ideal S4x2048x16 .f32)
    (hv : ∀ (b : Fin 4) (l : Fin 2048) (h : Fin 16) (p : Fin 64), v (ix4 b l h p) = (xcR (V b) l (h.1 * 64 + p.1) : EReal))
    (hd : ∀ (b : Fin 4) (l : Fin 2048) (h : Fin 16), d (ix3 b l h) = (sp (D b l h + B h) : EReal)) (b : Fin 4) (k : Fin 16) (l : Fin 128) (g r : Fin 4) (p : Fin 64) :
    q55 v d (ix6 b k l g r p) = (xdR (sh (k.1 * 128) (V b)) (sh (k.1 * 128) (D b)) B l (g.1 * 256 + r.1 * 64 + p.1) : EReal) := by
  rw [a55, hv, hd, ← EReal.coe_mul]; congr 1; unfold xdR xcR sh
  rw [show (g.1 * 256 + r.1 * 64 + p.1) / 64 = g.1 * 4 + r.1 by omega, show g.1 * 256 + r.1 * 64 + p.1 = (g.1 * 4 + r.1) * 64 + p.1 by omega]

variable (cs : FVec Ideal S4x16x4x4x128 .f32) (xd : FVec Ideal S4x16x128x4x4x64 .f32) (bb cc : FVec Ideal S4x16x128x4x128 .f32)
  (hcs : ∀ (b : Fin 4) (k : Fin 16) (g r : Fin 4) (l : Fin 128), cs (ix5 b k g r l) = (csR (sh (k.1 * 128) (D b)) B A l (g.1 * 4 + r.1) : EReal))
  (hxd : ∀ (b : Fin 4) (k : Fin 16) (l : Fin 128) (g r : Fin 4) (p : Fin 64), xd (ix6 b k l g r p) = (xdR (sh (k.1 * 128) (V b)) (sh (k.1 * 128) (D b)) B l (g.1 * 256 + r.1 * 64 + p.1) : EReal))
  (hbb : ∀ (b : Fin 4) (k : Fin 16) (l : Fin 128) (g : Fin 4) (n : Fin 128), bb (ix5 b k l g n) = (xcR (sh (k.1 * 128) (V b)) l (1024 + 128 * g.1 + n.1) : EReal))
  (hcc : ∀ (b : Fin 4) (k : Fin 16) (l : Fin 128) (g : Fin 4) (n : Fin 128), cc (ix5 b k l g n) = (xcR (sh (k.1 * 128) (V b)) l (1536 + 128 * g.1 + n.1) : EReal))

include hcs hxd hbb in
theorem x91 (b : Fin 4) (k : Fin 16) (g r : Fin 4) (p : Fin 64) (n : Fin 128) :
    (Host.dotGeneral (φ₁ := .f32) (φ₂ := .f32) dot_S4x16x128x4x4x64_S4x16x128x4x128_S4x16x4x4x64x128_2_2_45_4_013_013 none (q90 cs xd) bb : FVec Ideal S4x16x4x4x64x128 .f32) (ix6 b k g r p n)
      = ((∑ s : Fin 128, xcR (sh (k.1 * 128) (V b)) s (1024 + 128 * g.1 + n.1) * (xdR (sh (k.1 * 128) (V b)) (sh (k.1 * 128) (D b)) B s (g.1 * 256 + r.1 * 64 + p.1) * Real.exp (csR (sh (k.1 * 128) (D b)) B A 127 (g.1 * 4 + r.1) - csR (sh (k.1 * 128) (D b)) B A s (g.1 * 4 + r.1))) : ℝ) : EReal) := by
  refine (dot_91 _ _ _).trans ?_
  rw [coe_sum]
  refine Finset.sum_congr rfl fun s _ => ?_
  rw [show lidx_91 (ix6 b k g r p n) s = ix6 b k s g r p from funext fun a => match a with | ⟨0, _⟩ => rfl | ⟨1, _⟩ => rfl | ⟨2, _⟩ => rfl | ⟨3, _⟩ => rfl | ⟨4, _⟩ => rfl | ⟨5, _⟩ => rfl,
    show ridx_91 (ix6 b k g r p n) s = ix5 b k s g n from funext fun a => match a with | ⟨0, _⟩ => rfl | ⟨1, _⟩ => rfl | ⟨2, _⟩ => rfl | ⟨3, _⟩ => rfl | ⟨4, _⟩ => rfl,
    a90, hcs, hcs, hxd, hbb, ← EReal.coe_sub, Ideal.exp_coe, ← EReal.coe_mul, ← EReal.coe_mul]
  congr 1
  show Real.exp (csR _ B A 127 _ - _) * _ * _ = _
  ring

include hbb hcc in
theorem x77 (b : Fin 4) (k : Fin 16) (g : Fin 4) (l s : Fin 128) :
    (Host.dotGeneral (φ₁ := .f32) (φ₂ := .f32) dot_S4x16x128x4x128_S4x16x128x4x128_S4x16x4x128x128_4_4_2_2_013_013 none cc bb : FVec Ideal S4x16x4x128x128 .f32) (ix5 b k g l s)
      = ((∑ n : Fin 128, xcR (sh (k.1 * 128) (V b)) l (1536 + 128 * g.1 + n.1) * xcR (sh (k.1 * 128) (V b)) s (1024 + 128 * g.1 + n.1) : ℝ) : EReal) := by
  refine (dot_77 _ _ _).trans ?_
  rw [coe_sum]
  refine Finset.sum_congr rfl fun n _ => ?_
  rw [show lidx_77 (ix5 b k g l s) n = ix5 b k l g n from funext fun a => match a with | ⟨0, _⟩ => rfl | ⟨1, _⟩ => rfl | ⟨2, _⟩ => rfl | ⟨3, _⟩ => rfl | ⟨4, _⟩ => rfl,
    show ridx_77 (ix5 b k g l s) n = ix5 b k s g n from funext fun a => match a with | ⟨0, _⟩ => rfl | ⟨1, _⟩ => rfl | ⟨2, _⟩ => rfl | ⟨3, _⟩ => rfl | ⟨4, _⟩ => rfl,
    hbb, hcc, ← EReal.coe_mul]

include hcs in
theorem x76 (b : Fin 4) (k : Fin 16) (g r : Fin 4) (l s : Fin 128) :
    q76 cs (ix6 b k g r l s) = ((if s.1 ≤ l.1 then Real.exp (csR (sh (k.1 * 128) (D b)) B A l (g.1 * 4 + r.1) - csR (sh (k.1 * 128) (D b)) B A s (g.1 * 4 + r.1)) else 0 : ℝ) : EReal) := by
  rw [a76]
  split
  · rw [hcs, hcs, ← EReal.coe_sub, Ideal.exp_coe]
  · rw [Ideal.exp_bot]; rfl

theorem xst (o : ℕ) (ho : o < 16) (h : S4x16x4x4x64x128.Slices ![0, o, 0, 0, 0, 0] S4x1x4x4x64x128) (v96 v91 : FVec Ideal S4x16x4x4x64x128 .f32) (q : FVec Ideal S4x1x4x4x64x128 .f32)
    (h96 : ∀ (b : Fin 4) (k : Fin 16) (g r : Fin 4) (p : Fin 64) (n : Fin 128), v96 (ix6 b k g r p n) = (Real.exp (csR (sh (k.1 * 128) (D b)) B A 127 (g.1 * 4 + r.1)) : EReal))
    (h91 : ∀ (b : Fin 4) (k : Fin 16) (g r : Fin 4) (p : Fin 64) (n : Fin 128), v91 (ix6 b k g r p n)
      = ((∑ s : Fin 128, xcR (sh (k.1 * 128) (V b)) s (1024 + 128 * g.1 + n.1) * (xdR (sh (k.1 * 128) (V b)) (sh (k.1 * 128) (D b)) B s (g.1 * 256 + r.1 * 64 + p.1) * Real.exp (csR (sh (k.1 * 128) (D b)) B A 127 (g.1 * 4 + r.1) - csR (sh (k.1 * 128) (D b)) B A s (g.1 * 4 + r.1))) : ℝ) : EReal))
    (hq : ∀ (b g r : Fin 4) (p : Fin 64) (n : Fin 128), q (ix6 b 0 g r p n) = (stB (V b) (D b) B A o n (g.1 * 256 + r.1 * 64 + p.1) : EReal)) (b g r : Fin 4) (p : Fin 64) (n : Fin 128) :
    qst o h v96 v91 q (ix6 b 0 g r p n) = (stB (V b) (D b) B A (o + 1) n (g.1 * 256 + r.1 * 64 + p.1) : EReal) := by
  rw [ast o ho, h96, h91, hq, ← EReal.coe_mul, ← EReal.coe_add]
  congr 1
  show _ = stR (sh (o * 128) (V b)) (sh (o * 128) (D b)) B A (stB (V b) (D b) B A o) n (g.1 * 256 + r.1 * 64 + p.1)
  unfold stR
  rw [show (g.1 * 256 + r.1 * 64 + p.1) / 64 = g.1 * 4 + r.1 by omega, show (g.1 * 256 + r.1 * 64 + p.1) / 256 = g.1 by omega]

include hcs hxd hbb hcc in
theorem x170 (st : FVec Ideal S4x16x4x4x64x128 .f32)
    (hst : ∀ (b : Fin 4) (k : Fin 16) (g r : Fin 4) (p : Fin 64) (n : Fin 128), st (ix6 b k g r p n) = (stB (V b) (D b) B A k n (g.1 * 256 + r.1 * 64 + p.1) : EReal))
    (b : Fin 4) (k : Fin 16) (l : Fin 128) (g r : Fin 4) (p : Fin 64) :
    q170 (Host.dotGeneral (φ₁ := .f32) (φ₂ := .f32) dot_S4x16x128x4x4x64_S4x16x4x4x128x128_S4x16x4x4x64x128_2_5_5_4_0134_0123 none xd
        (q80 (Host.dotGeneral (φ₁ := .f32) (φ₂ := .f32) dot_S4x16x128x4x128_S4x16x128x4x128_S4x16x4x128x128_4_4_2_2_013_013 none cc bb : FVec Ideal S4x16x4x128x128 .f32) (q76 cs)) : FVec Ideal S4x16x4x4x64x128 .f32)
      (Host.dotGeneral (φ₁ := .f32) (φ₂ := .f32) dot_S4x16x4x4x64x128_S4x16x128x4x128_S4x16x4x4x64x128_5_4_34_2_012_013 none st cc : FVec Ideal S4x16x4x4x64x128 .f32) cs (ix6 b k l g r p)
      = (yR (sh (k.1 * 128) (V b)) (sh (k.1 * 128) (D b)) B A (stB (V b) (D b) B A k) l (g.1 * 256 + r.1 * 64 + p.1) : EReal) := by
  rw [a170, dot_81, dot_163, hcs, Ideal.exp_coe]
  unfold yR
  rw [show (g.1 * 256 + r.1 * 64 + p.1) / 64 = g.1 * 4 + r.1 by omega, show (g.1 * 256 + r.1 * 64 + p.1) / 256 = g.1 by omega, EReal.coe_add, EReal.coe_mul, coe_sum, coe_sum]
  congr 1
  · refine Finset.sum_congr rfl fun s _ => ?_
    rw [show lidx_81 (ix6 b k g r p l) s = ix6 b k s g r p from funext fun a => match a with | ⟨0, _⟩ => rfl | ⟨1, _⟩ => rfl | ⟨2, _⟩ => rfl | ⟨3, _⟩ => rfl | ⟨4, _⟩ => rfl | ⟨5, _⟩ => rfl,
      show ridx_81 (ix6 b k g r p l) s = ix6 b k g r l s from funext fun a => match a with | ⟨0, _⟩ => rfl | ⟨1, _⟩ => rfl | ⟨2, _⟩ => rfl | ⟨3, _⟩ => rfl | ⟨4, _⟩ => rfl | ⟨5, _⟩ => rfl,
      a80, x77 V bb cc hbb hcc, x76 D B A cs hcs, hxd, ← EReal.coe_mul, ← EReal.coe_mul]
    congr 1
    ring
  · congr 1
    refine Finset.sum_congr rfl fun n _ => ?_
    rw [show lidx_163 (ix6 b k g r p l) n = ix6 b k g r p n from funext fun a => match a with | ⟨0, _⟩ => rfl | ⟨1, _⟩ => rfl | ⟨2, _⟩ => rfl | ⟨3, _⟩ => rfl | ⟨4, _⟩ => rfl | ⟨5, _⟩ => rfl,
      show ridx_163 (ix6 b k g r p l) n = ix5 b k l g n from funext fun a => match a with | ⟨0, _⟩ => rfl | ⟨1, _⟩ => rfl | ⟨2, _⟩ => rfl | ⟨3, _⟩ => rfl | ⟨4, _⟩ => rfl,
      hst, hcc, ← EReal.coe_mul]
    congr 1
    ring
end

section
variable {a1 : FVec Ideal S4x2048x1024 .bf16} {a2 : FVec Ideal S4x2048x2048 .bf16} {a3 : FVec Ideal S4x2048x16 .f32} {a4 : FVec Ideal S1x4x2048 .f32} {a5 : FVec Ideal S1x2048 .f32}
  {a6 a7 a8 : FVec Ideal S1x16 .f32} {a9 : FVec Ideal S1x1024 .f32} {X Z D : ℕ → ℕ → ℕ → ℝ} {W : ℕ → ℕ → ℝ} {Cb B A : ℕ → ℝ} {K N : ℕ → EReal}
  (H : ArgReal a1 a2 a3 a4 a5 a6 a7 a8 a9 X Z D W Cb B A K N)
include H

theorem x180 (y : FVec Ideal S4x16x128x4x4x64 .f32) (x : FVec Ideal S4x2048x16x64 .f32)
    (hy : ∀ (b : Fin 4) (k : Fin 16) (l : Fin 128) (g r : Fin 4) (p : Fin 64), y (ix6 b k l g r p)
      = (yR (sh (k.1 * 128) (cvB (X b) W Cb)) (sh (k.1 * 128) (D b)) B A (stB (cvB (X b) W Cb) (D b) B A k) l (g.1 * 256 + r.1 * 64 + p.1) : EReal))
    (hx : ∀ (b : Fin 4) (l : Fin 2048) (h : Fin 16) (p : Fin 64), x (ix4 b l h p) = (xcR (cvB (X b) W Cb) l (h.1 * 64 + p.1) : EReal))
    (b : Fin 4) (l : Fin 2048) (g : Fin 4) (u : Fin 256) :
    q180 (q176 y x a8) a1 (ix4 b l g u) = gaR (sh (l / 128 * 128) (cvB (X b) W Cb)) (sh (l / 128 * 128) (D b)) B A (stB (cvB (X b) W Cb) (D b) B A (l / 128)) (sh (l / 128 * 128) (Z b)) K (l % 128) (256 * g.1 + u.1) := by
  rw [a180, H.z, silu_ref]
  have e : (ix4 b l (⟨(g.1 * 256 + u.1) / 64, by omega⟩ : Fin 16) (⟨(g.1 * 256 + u.1) % 64, by omega⟩ : Fin 64) : S4x2048x16x64.Idx)
      = ix4 b (⟨(⟨l.1 / 128, by omega⟩ : Fin 16).1 * 128 + (⟨l.1 % 128, by omega⟩ : Fin 128).1, by dsimp only; omega⟩ : Fin 2048)
          (⟨g.1 * 4 + (⟨u.1 / 64, by omega⟩ : Fin 4).1, by dsimp only; omega⟩ : Fin 16) (⟨u.1 % 64, by omega⟩ : Fin 64) := by
    funext a
    apply Fin.ext
    match a with
    | ⟨0, _⟩ => rfl
    | ⟨1, _⟩ => show l.1 = l.1 / 128 * 128 + l.1 % 128; omega
    | ⟨2, _⟩ => show (g.1 * 256 + u.1) / 64 = g.1 * 4 + u.1 / 64; omega
    | ⟨3, _⟩ => show (g.1 * 256 + u.1) % 64 = u.1 % 64; omega
  rw [e, a176, hy, hx, H.k _ (⟨u.1 % 64, by omega⟩ : Fin 64)]
  unfold gaR
  have e1 : g.1 * 256 + u.1 / 64 * 64 + u.1 % 64 = 256 * g.1 + u.1 := by omega
  have e2 : (g.1 * 4 + u.1 / 64) * 64 + u.1 % 64 = 256 * g.1 + u.1 := by omega
  have e3 : l.1 / 128 * 128 + l.1 % 128 = l.1 := by omega
  have e4 : g.1 * 256 + u.1 = 256 * g.1 + u.1 := by omega
  show ((yR _ _ B A _ (l.1 % 128) (g.1 * 256 + u.1 / 64 * 64 + u.1 % 64) : ℝ) + (xcR (cvB (X b) W Cb) (l.1 / 128 * 128 + l.1 % 128) ((g.1 * 4 + u.1 / 64) * 64 + u.1 % 64) : EReal) * K ((g.1 * 4 + u.1 / 64) * 64 + u.1 % 64)) * (silu (Z b l.1 (g.1 * 256 + u.1)) : EReal)
    = (_ + ((xcR (sh (l.1 / 128 * 128) (cvB (X b) W Cb)) (l.1 % 128) (256 * g.1 + u.1) : ℝ) : EReal) * K (256 * g.1 + u.1)) * (silu (sh (l.1 / 128 * 128) (Z b) (l.1 % 128) (256 * g.1 + u.1)) : EReal)
  unfold xcR
  show _ = (_ + (silu (cvB (X b) W Cb (l.1 / 128 * 128 + l.1 % 128) (256 * g.1 + u.1)) : EReal) * _) * (silu (Z b (l.1 / 128 * 128 + l.1 % 128) (256 * g.1 + u.1)) : EReal)
  rw [e1, e2, e3, e4]

theorem x200 (a0 : FVec Ideal S4x2048x2048 .f32) (a10 : FVec Ideal S4x2048x1024 .bf16) (a11 : FVec Ideal S1x2048x2048 .bf16) (y : FVec Ideal S4x2048x4x256 .f32)
    (hy : ∀ (b : Fin 4) (l : Fin 2048) (g : Fin 4) (u : Fin 256), y (ix4 b l g u) = gaR (sh (l / 128 * 128) (cvB (X b) W Cb)) (sh (l / 128 * 128) (D b)) B A (stB (cvB (X b) W Cb) (D b) B A (l / 128)) (sh (l / 128 * 128) (Z b)) K (l % 128) (256 * g.1 + u.1))
    (b : Fin 4) (l q : Fin 2048) :
    q200 a0 y a9 a10 a11 (ix3 b l q) = a0 (ix3 b l q) + (∑ x : Fin 1024, ysB (cvB (X b) W Cb) (D b) B A (Z b) K N l x * a11 (ix3 0 ⟨x.1, by omega⟩ q) + ∑ x : Fin 1024, a10 (ix3 b l x) * a11 (ix3 0 ⟨1024 + x.1, by omega⟩ q)) := by
  rw [a200]
  congr 2
  refine Finset.sum_congr rfl fun x _ => ?_
  congr 1
  rw [H.n]
  simp only [hy]
  unfold ysB ysR
  have e1 : 256 * (x.1 / 256) + x.1 % 256 = x.1 := by omega
  show gaR _ _ B A _ _ K (l.1 % 128) (256 * (x.1 / 256) + x.1 % 256) * _ * _ = _
  rw [e1]

end

section
variable (V0 : Valuation τ sig (Elt Ideal)) {X Z D : ℕ → ℕ → ℕ → ℝ} {W : ℕ → ℕ → ℝ} {Cb B A : ℕ → ℝ} {K N : ℕ → EReal}

abbrev g0 : FVec Ideal S4x2048x2048 .f32 := V0 (Proc.devRef .tc main_arg0)
abbrev g10 : FVec Ideal S4x2048x1024 .bf16 := V0 (Proc.devRef .tc main_arg10)
abbrev g11 : FVec Ideal S1x2048x2048 .bf16 := V0 (Proc.devRef .tc main_arg11)
abbrev r97 : FVec Ideal S4x1x4x4x64x128 .f32 := res_main_v97 V0
abbrev r200 : FVec Ideal S4x2048x2048 .f32 := res_main_v200 V0

theorem v97_zero (i : S4x1x4x4x64x128.Idx) : r97 V0 i = 0 := Ideal.ofBits_zero_f32

variable (H : ArgReal (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) X Z D W Cb B A K N)
include H

theorem ref_rows (b : Fin 4) (l q : Fin 2048) :
    r200 V0 (ix3 b l q) = g0 V0 (ix3 b l q)
      + (∑ x : Fin 1024, ysB (cvB (X b) W Cb) (D b) B A (Z b) K N l x * g11 V0 (ix3 0 ⟨x.1, by omega⟩ q)
        + ∑ x : Fin 1024, g10 V0 (ix3 b l x) * g11 V0 (ix3 0 ⟨1024 + x.1, by omega⟩ q)) := by
  have h39 : ∀ (b : Fin 4) (l c : Fin 2048), (res_main_v39 V0 : FVec Ideal S4x2048x2048 .f32) (ix3 b l c) = (xcR (cvB (X b) W Cb) l c : EReal) := fun b l c =>
    (congrFun ((e39 V0).trans (congrArg q39 ((e38 V0).trans (congrArg (fun v => q38 v _ _) (e8 V0))))) _).trans (x39 H b l c)
  have h41 : ∀ (b : Fin 4) (l : Fin 2048) (h : Fin 16) (p : Fin 64), (res_main_v41 V0 : FVec Ideal S4x2048x16x64 .f32) (ix4 b l h p) = (xcR (cvB (X b) W Cb) l (h.1 * 64 + p.1) : EReal) := fun b l h p =>
    (congrFun (e41 V0) _).trans ((a41 _ b l h p).trans (h39 b l ⟨h.1 * 64 + p.1, by omega⟩))
  have h49 : ∀ (b : Fin 4) (l : Fin 2048) (h : Fin 16), (res_main_v49 V0 : FVec Ideal S4x2048x16 .f32) (ix3 b l h) = (sp (D b l h + B h) : EReal) := fun b l h =>
    (congrFun (e49 V0) _).trans (x49 H b l h)
  have h55 := fun b k l g r p => (congrFun (e55 V0) (ix6 b k l g r p)).trans (x55 (fun b => cvB (X b) W Cb) D B _ _ h41 h49 b k l g r p)
  have h61 := fun b k g r l => (congrFun (e61 V0) (ix5 b k g r l)).trans (x61 H _ h49 b k g r l)
  have h62 : ∀ (b : Fin 4) (k : Fin 16) (l : Fin 128) (g : Fin 4) (n : Fin 128), (res_main_v62 V0 : FVec Ideal S4x16x128x4x128 .f32) (ix5 b k l g n) = (xcR (sh (k.1 * 128) (cvB (X b) W Cb)) l (1024 + 128 * g.1 + n.1) : EReal) := fun b k l g n =>
    (congrFun (e62 V0) _).trans ((a62 _ b k l g n).trans ((h39 _ _ _).trans (by
      show ((silu (cvB (X b) W Cb (k.1 * 128 + l.1) (1024 + (g.1 * 128 + n.1))) : ℝ) : EReal) = (silu (cvB (X b) W Cb (k.1 * 128 + l.1) (1024 + 128 * g.1 + n.1)) : EReal)
      rw [show 1024 + (g.1 * 128 + n.1) = 1024 + 128 * g.1 + n.1 by omega])))
  have h63 : ∀ (b : Fin 4) (k : Fin 16) (l : Fin 128) (g : Fin 4) (n : Fin 128), (res_main_v63 V0 : FVec Ideal S4x16x128x4x128 .f32) (ix5 b k l g n) = (xcR (sh (k.1 * 128) (cvB (X b) W Cb)) l (1536 + 128 * g.1 + n.1) : EReal) := fun b k l g n =>
    (congrFun (e63 V0) _).trans ((a63 _ b k l g n).trans ((h39 _ _ _).trans (by
      show ((silu (cvB (X b) W Cb (k.1 * 128 + l.1) (1536 + (g.1 * 128 + n.1))) : ℝ) : EReal) = (silu (cvB (X b) W Cb (k.1 * 128 + l.1) (1536 + 128 * g.1 + n.1)) : EReal)
      rw [show 1536 + (g.1 * 128 + n.1) = 1536 + 128 * g.1 + n.1 by omega])))
  have h91 := fun b k g r p n => (congrFun (e91 V0) (ix6 b k g r p n)).trans (x91 (fun b => cvB (X b) W Cb) D B A _ _ _ h61 h55 h62 b k g r p n)
  have h96 : ∀ (b : Fin 4) (k : Fin 16) (g r : Fin 4) (p : Fin 64) (n : Fin 128), (res_main_v96 V0 : FVec Ideal S4x16x4x4x64x128 .f32) (ix6 b k g r p n) = (Real.exp (csR (sh (k.1 * 128) (D b)) B A 127 (g.1 * 4 + r.1)) : EReal) := fun b k g r p n =>
    (congrFun (e96 V0) _).trans ((a96 _ b k g r p n).trans ((congrArg Ideal.exp (h61 b k g r 127)).trans (Ideal.exp_coe _)))
  have t0 : ∀ (b g r : Fin 4) (p : Fin 64) (n : Fin 128), (res_main_v97 V0 : FVec Ideal S4x1x4x4x64x128 .f32) (ix6 b 0 g r p n) = (stB (cvB (X b) W Cb) (D b) B A 0 n (g.1 * 256 + r.1 * 64 + p.1) : EReal) := fun b g r p n => v97_zero V0 _
  have t1 := fun b g r p n => (congrFun (est0 V0) (ix6 b 0 g r p n)).trans (xst (fun b => cvB (X b) W Cb) D B A 0 (by decide) (by decide) _ _ _ h96 h91 t0 b g r p n)
  have t2 := fun b g r p n => (congrFun (est1 V0) (ix6 b 0 g r p n)).trans (xst (fun b => cvB (X b) W Cb) D B A 1 (by decide) (by decide) _ _ _ h96 h91 t1 b g r p n)
  have t3 := fun b g r p n => (congrFun (est2 V0) (ix6 b 0 g r p n)).trans (xst (fun b => cvB (X b) W Cb) D B A 2 (by decide) (by decide) _ _ _ h96 h91 t2 b g r p n)
  have t4 := fun b g r p n => (congrFun (est3 V0) (ix6 b 0 g r p n)).trans (xst (fun b => cvB (X b) W Cb) D B A 3 (by decide) (by decide) _ _ _ h96 h91 t3 b g r p n)
  have t5 := fun b g r p n => (congrFun (est4 V0) (ix6 b 0 g r p n)).trans (xst (fun b => cvB (X b) W Cb) D B A 4 (by decide) (by decide) _ _ _ h96 h91 t4 b g r p n)
  have t6 := fun b g r p n => (congrFun (est5 V0) (ix6 b 0 g r p n)).trans (xst (fun b => cvB (X b) W Cb) D B A 5 (by decide) (by decide) _ _ _ h96 h91 t5 b g r p n)
  have t7 := fun b g r p n => (congrFun (est6 V0) (ix6 b 0 g r p n)).trans (xst (fun b => cvB (X b) W Cb) D B A 6 (by decide) (by decide) _ _ _ h96 h91 t6 b g r p n)
  have t8 := fun b g r p n => (congrFun (est7 V0) (ix6 b 0 g r p n)).trans (xst (fun b => cvB (X b) W Cb) D B A 7 (by decide) (by decide) _ _ _ h96 h91 t7 b g r p n)
  have t9 := fun b g r p n => (congrFun (est8 V0) (ix6 b 0 g r p n)).trans (xst (fun b => cvB (X b) W Cb) D B A 8 (by decide) (by decide) _ _ _ h96 h91 t8 b g r p n)
  have t10 := fun b g r p n => (congrFun (est9 V0) (ix6 b 0 g r p n)).trans (xst (fun b => cvB (X b) W Cb) D B A 9 (by decide) (by decide) _ _ _ h96 h91 t9 b g r p n)
  have t11 := fun b g r p n => (congrFun (est10 V0) (ix6 b 0 g r p n)).trans (xst (fun b => cvB (X b) W Cb) D B A 10 (by decide) (by decide) _ _ _ h96 h91 t10 b g r p n)
  have t12 := fun b g r p n => (congrFun (est11 V0) (ix6 b 0 g r p n)).trans (xst (fun b => cvB (X b) W Cb) D B A 11 (by decide) (by decide) _ _ _ h96 h91 t11 b g r p n)
  have t13 := fun b g r p n => (congrFun (est12 V0) (ix6 b 0 g r p n)).trans (xst (fun b => cvB (X b) W Cb) D B A 12 (by decide) (by decide) _ _ _ h96 h91 t12 b g r p n)
  have t14 := fun b g r p n => (congrFun (est13 V0) (ix6 b 0 g r p n)).trans (xst (fun b => cvB (X b) W Cb) D B A 13 (by decide) (by decide) _ _ _ h96 h91 t13 b g r p n)
  have t15 := fun b g r p n => (congrFun (est14 V0) (ix6 b 0 g r p n)).trans (xst (fun b => cvB (X b) W Cb) D B A 14 (by decide) (by decide) _ _ _ h96 h91 t14 b g r p n)
  have hst := fun (b : Fin 4) (k : Fin 16) (g r : Fin 4) (p : Fin 64) (n : Fin 128) => a162 _ _ _ _ _ _ _ _ _ _ _ _ _ _ _ _ b g r p n (fun k => (stB (cvB (X b) W Cb) (D b) B A k n (g.1 * 256 + r.1 * 64 + p.1) : EReal))
    (t0 b g r p n) (t1 b g r p n) (t2 b g r p n) (t3 b g r p n) (t4 b g r p n) (t5 b g r p n) (t6 b g r p n) (t7 b g r p n) (t8 b g r p n) (t9 b g r p n) (t10 b g r p n) (t11 b g r p n) (t12 b g r p n) (t13 b g r p n) (t14 b g r p n) (t15 b g r p n) k
  have h170 := fun b k l g r p => x170 (fun b => cvB (X b) W Cb) D B A _ _ _ _ h61 h55 h62 h63 _ hst b k l g r p
  have h180 := fun b l g u => (congrFun ((e180 V0).trans (congrArg (fun v => q180 v _) (e176 V0))) (ix4 b l g u)).trans (x180 H _ _ h170 h41 b l g u)
  exact (congrFun (e200 V0) _).trans (x200 H _ _ _ _ h180 b l q)
end

end Cert.ReferenceIdeal.Ssd
-- ==== Proof.SsdRefOut.lean ====
/- The reference's three results read at an index: the residual's rows, their normalised rows, and the weight's rows. -/
module

public import proofs.«01_k».proof.Proof.SsdRefVal
public import proofs.«01_k».proof.Proof.SsdProj
public import Idealize.ShloMosaic.Lib.Pointwise
public import Idealize.ShloMosaic.Lib.Tactic

@[expose] public section

set_option maxRecDepth 16384

noncomputable section

open Idealize.ShloMosaic Idealize.ShloMosaic.TcCoe Idealize.SL.Sem Idealize.ShloMosaic.StableHlo

namespace Cert.ReferenceIdeal.Ssd

open Cert.ReferenceIdeal Cert.ReferenceIdeal.Gen Cert.ReferenceIdeal.Value
open Cert.KernelIdeal.Ssd (nrm)

abbrev bt (R : Fin 8192) : Fin 4 := ⟨R.val / 2048, by omega⟩
abbrev tk (R : Fin 8192) : Fin 2048 := ⟨R.val % 2048, by omega⟩

/-- The reference's normalised rows. -/
def q217 (x : FVec Ideal S4x2048x2048 .f32) (g : FVec Ideal S1x2048 .f32) : FVec Ideal S8192x2048 .bf16 :=
  truncf .bf16 (shapeCast _ (mulf (mulf x (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf x x) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x3727C5AC#32)))))) (broadcastInDim S4x2048x2048 ![0, 1, 2] bcast_S1x1x2048_S4x2048x2048_0_1_2 (broadcastInDim S1x1x2048 ![2] bcast_S2048_S1x1x2048_2 (shapeCast _ g shapeCasts_S1x2048_S2048)))) shapeCasts_S4x2048x2048_S8192x2048) bitsLt_bf16_f32

theorem q217_apply (x : FVec Ideal S4x2048x2048 .f32) (g : FVec Ideal S1x2048 .f32) (R : Fin 8192) (n : Fin 2048) :
    q217 x g (ix2 R n) = nrm (fun k => x (ix3 (bt R) (tk R) k)) (g (ix2 0 n)) n := by
  unfold nrm q217
  pointwise

theorem q215_apply (x : FVec Ideal S4x2048x2048 .f32) (R : Fin 8192) (n : Fin 2048) :
    shapeCast S8192x2048 x shapeCasts_S4x2048x2048_S8192x2048 (ix2 R n) = x (ix3 (bt R) (tk R) n) := by
  pointwise

def q219 (x : FVec Ideal S1x8192x2048 .f32) : FVec Ideal S8192x2048 .bf16 := truncf .bf16 (shapeCast _ x shapeCasts_S1x8192x2048_S8192x2048) bitsLt_bf16_f32

theorem q219_apply (x : FVec Ideal S1x8192x2048 .f32) (R : Fin 8192) (n : Fin 2048) : q219 x (ix2 R n) = x (ix3 0 R n) := by
  unfold q219
  pointwise

end Cert.ReferenceIdeal.Ssd
-- ==== Proof.SsdClaim.lean ====
/- The state-space mixer: the kernel's results are the reference's, index by index, where the arguments of the recurrence
   hold real numbers. -/
module

public import proofs.«01_k».proof.Proof.SsdFinal
public import proofs.«01_k».proof.Proof.SsdPre
public import proofs.«01_k».proof.Proof.SsdRefOut
public import proofs.«01_k».proof.Proof.SsdFrame
public import proofs.«01_k».proof.Proof.Gen.ReferenceIdeal.Run
public import proofs.«01_k».proof.Defs

@[expose] public section

set_option maxRecDepth 16384

noncomputable section

open Idealize.ShloMosaic Idealize.ShloMosaic.TcCoe Idealize.SL.Sem Idealize.ShloMosaic.StableHlo

namespace Cert.KernelIdeal.Ssd

open Cert.KernelIdeal Cert.KernelIdeal.Gen

variable (m : (ℓ : Loc nD τ sig) → Buf (Elt Ideal) ℓ) (ρ : Dev nD → PrngReg)

/-- The run with each result array named, the arguments unchanged. -/
theorem run_named : θ_run defs (onTc (τ := τ) (main (F := Ideal))) ⟨m, fun _ => 0, ρ⟩ fun r => ∀ c : Dev nD,
    r.2.mem ((c.tc : Thread nD τ).loc main_v25_0) = (dats m 0 c).arrAt 14 cfg0.N
    ∧ r.2.mem ((c.tc : Thread nD τ).loc main_v25_1) = (dats m 0 c).arrAt 15 cfg0.N
    ∧ r.2.mem ((c.tc : Thread nD τ).loc main_v25_2) = (dats m 0 c).arrAt 16 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13) :=
  (θ_run defs _ _).mono (fun r h c => ⟨(h c).1 14, (h c).1 15, (h c).1 16,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c)⟩) (run_main m ρ)

end Cert.KernelIdeal.Ssd

namespace Cert.Proof.Ssd

open Cert.KernelIdeal.Ssd
open Cert.ReferenceIdeal.Ssd (r200 ref_rows q215_apply q217_apply q219_apply)

theorem ix_ex' (j : Cert.KernelIdeal.S8192x2048.Idx) : ∃ (r : Fin 8192) (q : Fin 2048), j = ix2 r q := ⟨j 0, j 1, by funext a; match a with | ⟨0, _⟩ => rfl | ⟨1, _⟩ => rfl⟩

section
variable (V0 : Valuation Cert.ReferenceIdeal.τ Cert.ReferenceIdeal.sig (Elt Ideal)) {X Z D : ℕ → ℕ → ℕ → ℝ} {W : ℕ → ℕ → ℝ} {Cb B A : ℕ → ℝ} {K N : ℕ → EReal}

/-- The reference's rows are the specification's, with the argument arrays given. -/
theorem ref_row {a0 : FVec Ideal ⟨3, ![4, 2048, 2048]⟩ .f32} {a10 : FVec Ideal ⟨3, ![4, 2048, 1024]⟩ .bf16} {a11 : FVec Ideal ⟨3, ![1, 2048, 2048]⟩ .bf16}
    {a1 : Vec Ideal ⟨3, ![4, 2048, 1024]⟩ .bf16} {a2 : Vec Ideal ⟨3, ![4, 2048, 2048]⟩ .bf16} {a3 : Vec Ideal ⟨3, ![4, 2048, 16]⟩ .f32}
    {a4 : Vec Ideal ⟨3, ![1, 4, 2048]⟩ .f32} {a5 : Vec Ideal ⟨2, ![1, 2048]⟩ .f32} {a6 a7 a8 : Vec Ideal ⟨2, ![1, 16]⟩ .f32} {a9 : Vec Ideal ⟨2, ![1, 1024]⟩ .f32}
    (H : ArgReal a1 a2 a3 a4 a5 a6 a7 a8 a9 X Z D W Cb B A K N)
    (e0 : V0 (Proc.devRef .tc Cert.ReferenceIdeal.main_arg0) = a0) (e1 : V0 (Proc.devRef .tc Cert.ReferenceIdeal.main_arg1) = a1) (e2 : V0 (Proc.devRef .tc Cert.ReferenceIdeal.main_arg2) = a2)
    (e3 : V0 (Proc.devRef .tc Cert.ReferenceIdeal.main_arg3) = a3) (e4 : V0 (Proc.devRef .tc Cert.ReferenceIdeal.main_arg4) = a4) (e5 : V0 (Proc.devRef .tc Cert.ReferenceIdeal.main_arg5) = a5)
    (e6 : V0 (Proc.devRef .tc Cert.ReferenceIdeal.main_arg6) = a6) (e7 : V0 (Proc.devRef .tc Cert.ReferenceIdeal.main_arg7) = a7) (e8 : V0 (Proc.devRef .tc Cert.ReferenceIdeal.main_arg8) = a8)
    (e9 : V0 (Proc.devRef .tc Cert.ReferenceIdeal.main_arg9) = a9) (e10 : V0 (Proc.devRef .tc Cert.ReferenceIdeal.main_arg10) = a10) (e11 : V0 (Proc.devRef .tc Cert.ReferenceIdeal.main_arg11) = a11)
    (b : Fin 4) (l q : Fin 2048) : r200 V0 (ix3 b l q) = rowV a0 a10 a11 X Z D W Cb B A K N b l q := by
  subst e0; subst e1; subst e2; subst e3; subst e4; subst e5; subst e6; subst e7; subst e8; subst e9; subst e10; subst e11
  exact ref_rows V0 H b l q

end

set_option maxHeartbeats 2000000 in
theorem algebraic : Cert.algebraic_KernelIdeal_ReferenceIdeal_pre_finite := by
  intro m ρ m' ρ' hpre hagree
  have HR : ∀ c, MemReal m c (argX .bf16 (m ((c.tc : Thread Cert.KernelIdeal.nD Cert.KernelIdeal.τ).loc Cert.KernelIdeal.main_arg2))) (argX .bf16 (m ((c.tc : Thread Cert.KernelIdeal.nD Cert.KernelIdeal.τ).loc Cert.KernelIdeal.main_arg1))) (argX .f32 (m ((c.tc : Thread Cert.KernelIdeal.nD Cert.KernelIdeal.τ).loc Cert.KernelIdeal.main_arg3))) (argW (m ((c.tc : Thread Cert.KernelIdeal.nD Cert.KernelIdeal.τ).loc Cert.KernelIdeal.main_arg4))) (argR (m ((c.tc : Thread Cert.KernelIdeal.nD Cert.KernelIdeal.τ).loc Cert.KernelIdeal.main_arg5))) (argR (m ((c.tc : Thread Cert.KernelIdeal.nD Cert.KernelIdeal.τ).loc Cert.KernelIdeal.main_arg6))) (argR (m ((c.tc : Thread Cert.KernelIdeal.nD Cert.KernelIdeal.τ).loc Cert.KernelIdeal.main_arg7))) (fun j => argE (m ((c.tc : Thread Cert.KernelIdeal.nD Cert.KernelIdeal.τ).loc Cert.KernelIdeal.main_arg8)) (j / 64)) (argE (m ((c.tc : Thread Cert.KernelIdeal.nD Cert.KernelIdeal.τ).loc Cert.KernelIdeal.main_arg9))) := fun c => arg_real (reals (hpre c))
  refine ⟨fun c => resX m c (argX .bf16 (m ((c.tc : Thread Cert.KernelIdeal.nD Cert.KernelIdeal.τ).loc Cert.KernelIdeal.main_arg2))) (argX .bf16 (m ((c.tc : Thread Cert.KernelIdeal.nD Cert.KernelIdeal.τ).loc Cert.KernelIdeal.main_arg1))) (argX .f32 (m ((c.tc : Thread Cert.KernelIdeal.nD Cert.KernelIdeal.τ).loc Cert.KernelIdeal.main_arg3))) (argW (m ((c.tc : Thread Cert.KernelIdeal.nD Cert.KernelIdeal.τ).loc Cert.KernelIdeal.main_arg4))) (argR (m ((c.tc : Thread Cert.KernelIdeal.nD Cert.KernelIdeal.τ).loc Cert.KernelIdeal.main_arg5))) (argR (m ((c.tc : Thread Cert.KernelIdeal.nD Cert.KernelIdeal.τ).loc Cert.KernelIdeal.main_arg6))) (argR (m ((c.tc : Thread Cert.KernelIdeal.nD Cert.KernelIdeal.τ).loc Cert.KernelIdeal.main_arg7))) (fun j => argE (m ((c.tc : Thread Cert.KernelIdeal.nD Cert.KernelIdeal.τ).loc Cert.KernelIdeal.main_arg8)) (j / 64)) (argE (m ((c.tc : Thread Cert.KernelIdeal.nD Cert.KernelIdeal.τ).loc Cert.KernelIdeal.main_arg9))), fun c => resH m c (argX .bf16 (m ((c.tc : Thread Cert.KernelIdeal.nD Cert.KernelIdeal.τ).loc Cert.KernelIdeal.main_arg2))) (argX .bf16 (m ((c.tc : Thread Cert.KernelIdeal.nD Cert.KernelIdeal.τ).loc Cert.KernelIdeal.main_arg1))) (argX .f32 (m ((c.tc : Thread Cert.KernelIdeal.nD Cert.KernelIdeal.τ).loc Cert.KernelIdeal.main_arg3))) (argW (m ((c.tc : Thread Cert.KernelIdeal.nD Cert.KernelIdeal.τ).loc Cert.KernelIdeal.main_arg4))) (argR (m ((c.tc : Thread Cert.KernelIdeal.nD Cert.KernelIdeal.τ).loc Cert.KernelIdeal.main_arg5))) (argR (m ((c.tc : Thread Cert.KernelIdeal.nD Cert.KernelIdeal.τ).loc Cert.KernelIdeal.main_arg6))) (argR (m ((c.tc : Thread Cert.KernelIdeal.nD Cert.KernelIdeal.τ).loc Cert.KernelIdeal.main_arg7))) (fun j => argE (m ((c.tc : Thread Cert.KernelIdeal.nD Cert.KernelIdeal.τ).loc Cert.KernelIdeal.main_arg8)) (j / 64)) (argE (m ((c.tc : Thread Cert.KernelIdeal.nD Cert.KernelIdeal.τ).loc Cert.KernelIdeal.main_arg9))), fun c => resW m c, ?_, ?_⟩
  · exact (θ_run Cert.KernelIdeal.defs _ _).mono (fun _ h c => ⟨(h c).1.trans (final14 m c (HR c)), (h c).2.1.trans (final15 m c (HR c)), (h c).2.2.1.trans (final16 m c), (h c).2.2.2⟩) (run_named m ρ)
  · refine (θ_run Cert.ReferenceIdeal.defs _ _).mono (fun _ h c => ⟨(h c).1.trans ?_, (h c).2.1.trans ?_, (h c).2.2.1.trans ?_, (h c).2.2.2⟩) (Cert.ReferenceIdeal.Value.run (F := Ideal) m' ρ')
    · obtain ⟨e0, e1, e2, e3, e4, e5, e6, e7, e8, e9, e10, e11, e12, e13⟩ := hagree c
      funext i
      obtain ⟨R, q, rfl⟩ := ix_ex' i
      refine (q215_apply (r200 (launchContents m' c)) R q).trans ?_
      exact ref_row (launchContents m' c) (HR c) e0 e1 e2 e3 e4 e5 e6 e7 e8 e9 e10 e11 _ _ q
    · obtain ⟨e0, e1, e2, e3, e4, e5, e6, e7, e8, e9, e10, e11, e12, e13⟩ := hagree c
      funext i
      obtain ⟨R, q, rfl⟩ := ix_ex' i
      refine (q217_apply (r200 (launchContents m' c)) (launchContents m' c (Proc.devRef .tc Cert.ReferenceIdeal.main_arg12)) R q).trans ?_
      refine congrArg₂ (fun f g => nrm f g q) (funext fun k => ?_) (congrFun e12 _)
      exact ref_row (launchContents m' c) (HR c) e0 e1 e2 e3 e4 e5 e6 e7 e8 e9 e10 e11 _ _ k
    · obtain ⟨e0, e1, e2, e3, e4, e5, e6, e7, e8, e9, e10, e11, e12, e13⟩ := hagree c
      funext i
      obtain ⟨R, q, rfl⟩ := ix_ex' i
      exact (q219_apply (launchContents m' c (Proc.devRef .tc Cert.ReferenceIdeal.main_arg13)) R q).trans (congrFun e13 _)

end Cert.Proof.Ssd

end
-- ==== Proof.lean ====
module

public import proofs.«01_k».proof.Defs
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpIdeal.Value
public import proofs.«01_k».proof.Proof.Gen.MlpRefIdeal
public import proofs.«01_k».proof.Proof.Gen.MlpRefIdeal.Run
public import proofs.«01_k».proof.Proof.Gen.MlpRefIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.MlpClaim
public import proofs.«01_k».proof.Proof.SsdFrame
public import proofs.«01_k».proof.Proof.SsdClaim
public import Idealize.ShloMosaic.Adequacy
public import Idealize.ShloMosaic.Init

@[expose] public section

noncomputable section

namespace Cert.Proof

open Idealize.ShloMosaic Idealize.SL.Sem Cert.Mlp

theorem claim : Cert.Claim := ⟨Cert.Mlp.Gen.facts, Cert.MlpIdeal.Gen.facts, Cert.MlpRefIdeal.Gen.facts, Cert.Kernel.Gen.facts, Cert.KernelIdeal.Gen.facts, Cert.ReferenceIdeal.Gen.facts, Cert.Pre_finite.Gen.facts,
  Mixer.frame_bits, Mixer.frame_ideal, Mixer.frame_reference, Ssd.frame_bits, Ssd.frame_ideal, Ssd.frame_ideal_finite,
  Ssd.frame_reference, Ssd.frame_reference_finite, Mixer.preserves, Mixer.algebraic, Ssd.preserves, Ssd.algebraic⟩

end Cert.Proof

end
